-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "gelu_c1" .f32 0x3D372713#32 ((8943 / 200000 : ℝ) : EReal)
  ∧ IdealRules.named_const.Statement Cert.Kernel3Ideal.κ "gelu_3c1" .f32 0x3E095D4F#32 ((26829 / 200000 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)) (v7 : (c : Dev Cert.Kernel3Ideal.nD) → Buf (Elt Ideal) ((c.tc : Thread Cert.Kernel3Ideal.nD Cert.Kernel3Ideal.τ).loc Cert.Kernel3Ideal.main_v0_7)) (v8 : (c : Dev Cert.Kernel3Ideal.nD) → Buf (Elt Ideal) ((c.tc : Thread Cert.Kernel3Ideal.nD Cert.Kernel3Ideal.τ).loc Cert.Kernel3Ideal.main_v0_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_v0_7) = v7 c
          ∧ r.2.mem ((c.tc : Thread Cert.Kernel3Ideal.nD Cert.Kernel3Ideal.τ).loc Cert.Kernel3Ideal.main_v0_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v239) = v0 c
          ∧ r.2.mem ((c.tc : Thread Cert.Reference3Ideal.nD Cert.Reference3Ideal.τ).loc Cert.Reference3Ideal.main_v240) = v1 c
          ∧ r.2.mem ((c.tc : Thread Cert.Reference3Ideal.nD Cert.Reference3Ideal.τ).loc Cert.Reference3Ideal.main_v235) = v2 c
          ∧ r.2.mem ((c.tc : Thread Cert.Reference3Ideal.nD Cert.Reference3Ideal.τ).loc Cert.Reference3Ideal.main_v236) = v3 c
          ∧ r.2.mem ((c.tc : Thread Cert.Reference3Ideal.nD Cert.Reference3Ideal.τ).loc Cert.Reference3Ideal.main_v188) = v4 c
          ∧ r.2.mem ((c.tc : Thread Cert.Reference3Ideal.nD Cert.Reference3Ideal.τ).loc Cert.Reference3Ideal.main_v181) = v5 c
          ∧ r.2.mem ((c.tc : Thread Cert.Reference3Ideal.nD Cert.Reference3Ideal.τ).loc Cert.Reference3Ideal.main_v176) = v6 c
          ∧ r.2.mem ((c.tc : Thread Cert.Reference3Ideal.nD Cert.Reference3Ideal.τ).loc Cert.Reference3Ideal.main_v170) = v7 c
          ∧ r.2.mem ((c.tc : Thread Cert.Reference3Ideal.nD Cert.Reference3Ideal.τ).loc Cert.Reference3Ideal.main_v165) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v10)) (v1 : (c : Dev Cert.Kernel4Ideal.nD) → Buf (Elt Ideal) ((c.tc : Thread Cert.Kernel4Ideal.nD Cert.Kernel4Ideal.τ).loc Cert.Kernel4Ideal.main_v15)) (v2 : (c : Dev Cert.Kernel4Ideal.nD) → Buf (Elt Ideal) ((c.tc : Thread Cert.Kernel4Ideal.nD Cert.Kernel4Ideal.τ).loc Cert.Kernel4Ideal.main_v14)) (v3 : (c : Dev Cert.Kernel4Ideal.nD) → Buf (Elt Ideal) ((c.tc : Thread Cert.Kernel4Ideal.nD Cert.Kernel4Ideal.τ).loc Cert.Kernel4Ideal.main_v13)) (v4 : (c : Dev Cert.Kernel4Ideal.nD) → Buf (Elt Ideal) ((c.tc : Thread Cert.Kernel4Ideal.nD Cert.Kernel4Ideal.τ).loc Cert.Kernel4Ideal.main_v11)) (v5 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_v15) = v1 c
          ∧ r.2.mem ((c.tc : Thread Cert.Kernel4Ideal.nD Cert.Kernel4Ideal.τ).loc Cert.Kernel4Ideal.main_v14) = v2 c
          ∧ r.2.mem ((c.tc : Thread Cert.Kernel4Ideal.nD Cert.Kernel4Ideal.τ).loc Cert.Kernel4Ideal.main_v13) = v3 c
          ∧ r.2.mem ((c.tc : Thread Cert.Kernel4Ideal.nD Cert.Kernel4Ideal.τ).loc Cert.Kernel4Ideal.main_v11) = v4 c
          ∧ r.2.mem ((c.tc : Thread Cert.Kernel4Ideal.nD Cert.Kernel4Ideal.τ).loc Cert.Kernel4Ideal.main_v12) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v4) = v2 c
          ∧ r.2.mem ((c.tc : Thread Cert.Reference4Ideal.nD Cert.Reference4Ideal.τ).loc Cert.Reference4Ideal.main_v16) = v3 c
          ∧ r.2.mem ((c.tc : Thread Cert.Reference4Ideal.nD Cert.Reference4Ideal.τ).loc Cert.Reference4Ideal.main_v17) = v4 c
          ∧ r.2.mem ((c.tc : Thread Cert.Reference4Ideal.nD Cert.Reference4Ideal.τ).loc Cert.Reference4Ideal.main_v18) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_v19) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S5632x2048 .f32) (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  let main_v19 : FVec F S5632x2048 .f32 := Host.absf main_arg4
  let main_cst_6 : FVec F S_ .f32 := constant S_ .f32 0x7F800000#32
  let main_v20 : FVec F S5632x2048 .f32 := broadcastInDim S5632x2048 ![] bcast_S_S5632x2048 main_cst_6
  let main_v21 : IVec S5632x2048 1 := cmpf .olt main_v19 main_v20
  let main_c_7 : IVec S_ 1 := constantI S_ 1 1#1
  let main_v22 : IVec S_ 1 := (fun x v => Host.reduce IntOp.andi x v reducesTo_S5632x2048_S_d0_1 h_S_) main_v21 main_c_7
  let main_v23 : IVec S_ 1 := andi main_v18 main_v22
  main_v23

def fn {F : FTy → Type} [FloatOps F] (main_arg0 : FVec F S8192x2048 .f32) (main_arg1 : FVec F S8192x2048 .f32) (main_arg2 : FVec F S2048x5632 .f32) (main_arg3 : FVec F S2048x5632 .f32) (main_arg4 : FVec F S5632x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_arg4 main_v13 main_v16
-- ==== Pre_finite3.lean ====
abbrev S8192x5632 : Shape := ⟨2, ![8192, 5632]⟩
abbrev S8192x1536 : Shape := ⟨2, ![8192, 1536]⟩
abbrev S8192x2048 : Shape := ⟨2, ![8192, 2048]⟩
abbrev S4x1536 : Shape := ⟨2, ![4, 1536]⟩
abbrev S1x1536 : Shape := ⟨2, ![1, 1536]⟩
abbrev S12x128x128 : Shape := ⟨3, ![12, 128, 128]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S8192x1536 : S_.BroadcastsInDim S8192x1536 (![] : Fin 0 → Fin S8192x1536.rank)
  reducesTo_S8192x1536_S_d0_1 : S8192x1536.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S4x1536 : S_.BroadcastsInDim S4x1536 (![] : Fin 0 → Fin S4x1536.rank)
  reducesTo_S4x1536_S_d0_1 : S4x1536.ReducesTo [0, 1] S_
  bcast_S_S1x1536 : S_.BroadcastsInDim S1x1536 (![] : Fin 0 → Fin S1x1536.rank)
  reducesTo_S1x1536_S_d0_1 : S1x1536.ReducesTo [0, 1] S_
  bcast_S_S12x128x128 : S_.BroadcastsInDim S12x128x128 (![] : Fin 0 → Fin S12x128x128.rank)
  reducesTo_S12x128x128_S_d0_1_2 : S12x128x128.ReducesTo [0, 1, 2] S_

variable [Facts]

def fn_part2 {F : FTy → Type} [FloatOps F] (main_arg7 : FVec F S12x128x128 .f32) (main_arg8 : FVec F S1x1536 .f32) (main_arg9 : FVec F S1x1536 .f32) (main_v33 : IVec S_ 1) : IVec S_ 1 :=
  let main_v34 : FVec F S12x128x128 .f32 := Host.absf main_arg7
  let main_cst_12 : FVec F S_ .f32 := constant S_ .f32 0x7F800000#32
  let main_v35 : FVec F S12x128x128 .f32 := broadcastInDim S12x128x128 ![] bcast_S_S12x128x128 main_cst_12
  let main_v36 : IVec S12x128x128 1 := cmpf .olt main_v34 main_v35
  let main_c_13 : IVec S_ 1 := constantI S_ 1 1#1
  let main_v37 : IVec S_ 1 := (fun x v => Host.reduce IntOp.andi x v reducesTo_S12x128x128_S_d0_1_2 h_S_) main_v36 main_c_13
  let main_v38 : IVec S_ 1 := andi main_v33 main_v37
  let main_v39 : FVec F S1x1536 .f32 := Host.absf main_arg8
  let main_cst_14 : FVec F S_ .f32 := constant S_ .f32 0x7F800000#32
  let main_v40 : FVec F S1x1536 .f32 := broadcastInDim S1x1536 ![] bcast_S_S1x1536 main_cst_14
  let main_v41 : IVec S1x1536 1 := cmpf .olt main_v39 main_v40
  let main_c_15 : IVec S_ 1 := constantI S_ 1 1#1
  let main_v42 : IVec S_ 1 := (fun x v => Host.reduce IntOp.andi x v reducesTo_S1x1536_S_d0_1 h_S_) main_v41 main_c_15
  let main_v43 : IVec S_ 1 := andi main_v38 main_v42
  let main_v44 : FVec F S1x1536 .f32 := Host.absf main_arg9
  let main_cst_16 : FVec F S_ .f32 := constant S_ .f32 0x7F800000#32
  let main_v45 : FVec F S1x1536 .f32 := broadcastInDim S1x1536 ![] bcast_S_S1x1536 main_cst_16
  let main_v46 : IVec S1x1536 1 := cmpf .olt main_v44 main_v45
  let main_c_17 : IVec S_ 1 := constantI S_ 1 1#1
  let main_v47 : IVec S_ 1 := (fun x v => Host.reduce IntOp.andi x v reducesTo_S1x1536_S_d0_1 h_S_) main_v46 main_c_17
  let main_v48 : IVec S_ 1 := andi main_v43 main_v47
  main_v48

def fn_part1 {F : FTy → Type} [FloatOps F] (main_arg4 : FVec F S1x1536 .f32) (main_arg5 : FVec F S12x128x128 .f32) (main_arg6 : FVec F S1x1536 .f32) (main_arg7 : FVec F S12x128x128 .f32) (main_arg8 : FVec F S1x1536 .f32) (main_arg9 : FVec F S1x1536 .f32) (main_v13 : IVec S_ 1) (main_v16 : IVec S4x1536 1) : IVec S_ 1 :=
  let main_c_5 : IVec S_ 1 := constantI S_ 1 1#1
  let main_v17 : IVec S_ 1 := (fun x v => Host.reduce IntOp.andi x v reducesTo_S4x1536_S_d0_1 h_S_) main_v16 main_c_5
  let main_v18 : IVec S_ 1 := andi main_v13 main_v17
  let main_v19 : FVec F S1x1536 .f32 := Host.absf main_arg4
  let main_cst_6 : FVec F S_ .f32 := constant S_ .f32 0x7F800000#32
  let main_v20 : FVec F S1x1536 .f32 := broadcastInDim S1x1536 ![] bcast_S_S1x1536 main_cst_6
  let main_v21 : IVec S1x1536 1 := cmpf .olt main_v19 main_v20
  let main_c_7 : IVec S_ 1 := constantI S_ 1 1#1
  let main_v22 : IVec S_ 1 := (fun x v => Host.reduce IntOp.andi x v reducesTo_S1x1536_S_d0_1 h_S_) main_v21 main_c_7
  let main_v23 : IVec S_ 1 := andi main_v18 main_v22
  let main_v24 : FVec F S12x128x128 .f32 := Host.absf main_arg5
  let main_cst_8 : FVec F S_ .f32 := constant S_ .f32 0x7F800000#32
  let main_v25 : FVec F S12x128x128 .f32 := broadcastInDim S12x128x128 ![] bcast_S_S12x128x128 main_cst_8
  let main_v26 : IVec S12x128x128 1 := cmpf .olt main_v24 main_v25
  let main_c_9 : IVec S_ 1 := constantI S_ 1 1#1
  let main_v27 : IVec S_ 1 := (fun x v => Host.reduce IntOp.andi x v reducesTo_S12x128x128_S_d0_1_2 h_S_) main_v26 main_c_9
  let main_v28 : IVec S_ 1 := andi main_v23 main_v27
  let main_v29 : FVec F S1x1536 .f32 := Host.absf main_arg6
  let main_cst_10 : FVec F S_ .f32 := constant S_ .f32 0x7F800000#32
  let main_v30 : FVec F S1x1536 .f32 := broadcastInDim S1x1536 ![] bcast_S_S1x1536 main_cst_10
  let main_v31 : IVec S1x1536 1 := cmpf .olt main_v29 main_v30
  let main_c_11 : IVec S_ 1 := constantI S_ 1 1#1
  let main_v32 : IVec S_ 1 := (fun x v => Host.reduce IntOp.andi x v reducesTo_S1x1536_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x5632 .f32) (main_arg1 : FVec F S8192x1536 .f32) (main_arg2 : FVec F S8192x2048 .f32) (main_arg3 : FVec F S4x1536 .f32) (main_arg4 : FVec F S1x1536 .f32) (main_arg5 : FVec F S12x128x128 .f32) (main_arg6 : FVec F S1x1536 .f32) (main_arg7 : FVec F S12x128x128 .f32) (main_arg8 : FVec F S1x1536 .f32) (main_arg9 : FVec F S1x1536 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S8192x1536 .f32 := Host.absf main_arg1
  let main_cst_0 : FVec F S_ .f32 := constant S_ .f32 0x7F800000#32
  let main_v5 : FVec F S8192x1536 .f32 := broadcastInDim S8192x1536 ![] bcast_S_S8192x1536 main_cst_0
  let main_v6 : IVec S8192x1536 1 := cmpf .olt main_v4 main_v5
  let main_c_1 : IVec S_ 1 := constantI S_ 1 1#1
  let main_v7 : IVec S_ 1 := (fun x v => Host.reduce IntOp.andi x v reducesTo_S8192x1536_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S4x1536 .f32 := Host.absf main_arg3
  let main_cst_4 : FVec F S_ .f32 := constant S_ .f32 0x7F800000#32
  let main_v15 : FVec F S4x1536 .f32 := broadcastInDim S4x1536 ![] bcast_S_S4x1536 main_cst_4
  let main_v16 : IVec S4x1536 1 := cmpf .olt main_v14 main_v15
  fn_part1 (F := F) main_arg4 main_arg5 main_arg6 main_arg7 main_arg8 main_arg9 main_v13 main_v16
-- ==== Kernel.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S8192x512 : Shape := ⟨2, ![8192, 512]⟩
abbrev S512x512 : Shape := ⟨2, ![512, 512]⟩
abbrev S2048x2048 : Shape := ⟨2, ![2048, 2048]⟩
abbrev S2048x512 : Shape := ⟨2, ![2048, 512]⟩
abbrev S256x2048 : Shape := ⟨2, ![256, 2048]⟩
abbrev S256x512 : Shape := ⟨2, ![256, 512]⟩
abbrev S8192x1024 : Shape := ⟨2, ![8192, 1024]⟩

abbrev nBuf : Space → Nat
  | .hbm => 20
  | .vmem => 42
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .bf16⟩
  | .hbm, ⟨6, _⟩ => ⟨S8192x2048, .bf16⟩
  | .hbm, ⟨7, _⟩ => ⟨S5632x2048, .f32⟩
  | .hbm, ⟨8, _⟩ => ⟨S5632x2048, .bf16⟩
  | .hbm, ⟨9, _⟩ => ⟨S5632x2048, .f32⟩
  | .hbm, ⟨10, _⟩ => ⟨S5632x2048, .bf16⟩
  | .hbm, ⟨11, _⟩ => ⟨S5632x2048, .bf16⟩
  | .hbm, ⟨12, _⟩ => ⟨S8192x5632, .bf16⟩
  | .hbm, ⟨13, _⟩ => ⟨S8192x5632, .bf16⟩
  | .hbm, ⟨14, _⟩ => ⟨S8192x5632, .bf16⟩
  | .hbm, ⟨15, _⟩ => ⟨S5632x2048, .bf16⟩
  | .hbm, ⟨16, _⟩ => ⟨S8192x5632, .bf16⟩
  | .hbm, ⟨17, _⟩ => ⟨S8192x5632, .bf16⟩
  | .hbm, ⟨18, _⟩ => ⟨S2048x5632, .bf16⟩
  | .hbm, ⟨19, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S8192x512, .bf16⟩
  | .local _ .vmem, ⟨13, _⟩ => ⟨S8192x512, .bf16⟩
  | .local _ .vmem, ⟨14, _⟩ => ⟨S8192x512, .bf16⟩
  | .local _ .vmem, ⟨15, _⟩ => ⟨S8192x512, .bf16⟩
  | .local _ .vmem, ⟨16, _⟩ => ⟨S512x512, .bf16⟩
  | .local _ .vmem, ⟨17, _⟩ => ⟨S512x512, .bf16⟩
  | .local _ .vmem, ⟨18, _⟩ => ⟨S2048x2048, .bf16⟩
  | .local _ .vmem, ⟨19, _⟩ => ⟨S2048x2048, .bf16⟩
  | .local _ .vmem, ⟨20, _⟩ => ⟨S512x2048, .bf16⟩
  | .local _ .vmem, ⟨21, _⟩ => ⟨S512x2048, .bf16⟩
  | .local _ .vmem, ⟨22, _⟩ => ⟨S2048x512, .bf16⟩
  | .local _ .vmem, ⟨23, _⟩ => ⟨S2048x512, .bf16⟩
  | .local _ .vmem, ⟨24, _⟩ => ⟨S2048x512, .bf16⟩
  | .local _ .vmem, ⟨25, _⟩ => ⟨S2048x512, .bf16⟩
  | .local _ .vmem, ⟨26, _⟩ => ⟨S2048x512, .bf16⟩
  | .local _ .vmem, ⟨27, _⟩ => ⟨S2048x512, .bf16⟩
  | .local _ .vmem, ⟨28, _⟩ => ⟨S2048x512, .bf16⟩
  | .local _ .vmem, ⟨29, _⟩ => ⟨S2048x512, .bf16⟩
  | .local _ .vmem, ⟨30, _⟩ => ⟨S8192x1024, .bf16⟩
  | .local _ .vmem, ⟨31, _⟩ => ⟨S8192x1024, .bf16⟩
  | .local _ .vmem, ⟨32, _⟩ => ⟨S8192x512, .bf16⟩
  | .local _ .vmem, ⟨33, _⟩ => ⟨S8192x512, .bf16⟩
  | .local _ .vmem, ⟨34, _⟩ => ⟨S1024x512, .bf16⟩
  | .local _ .vmem, ⟨35, _⟩ => ⟨S1024x512, .bf16⟩
  | .local _ .vmem, ⟨36, _⟩ => ⟨S8192x1024, .bf16⟩
  | .local _ .vmem, ⟨37, _⟩ => ⟨S8192x1024, .bf16⟩
  | .local _ .vmem, ⟨38, _⟩ => ⟨S8192x512, .bf16⟩
  | .local _ .vmem, ⟨39, _⟩ => ⟨S8192x512, .bf16⟩
  | .local _ .vmem, ⟨40, _⟩ => ⟨S1024x512, .bf16⟩
  | .local _ .vmem, ⟨41, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![11, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S8192x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S8192x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S2048x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨3, ![2, 11, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S8192x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S8192x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S8192x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S8192x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== ReferenceIdeal.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩
abbrev S8192x5632 : Shape := ⟨2, ![8192, 5632]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S2048x5632, .f32⟩
  | .hbm, ⟨35, _⟩ => ⟨S5632x2048, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S5632x2048, .f32⟩
  | .hbm, ⟨40, _⟩ => ⟨S2048x5632, .f32⟩
  | .hbm, ⟨41, _⟩ => ⟨S8192x2048, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S5632x2048, .f32⟩
  | .hbm, ⟨47, _⟩ => ⟨S2048x5632, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S2048x5632, .bf16⟩
  | .hbm, ⟨55, _⟩ => ⟨S2048x5632, .bf16⟩
  | .hbm, ⟨56, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Kernel2.lean ====
abbrev S8192x5632 : Shape := ⟨2, ![8192, 5632]⟩
abbrev S2048x5632 : Shape := ⟨2, ![2048, 5632]⟩
abbrev S8192x2048 : Shape := ⟨2, ![8192, 2048]⟩
abbrev S5632x2048 : Shape := ⟨2, ![5632, 2048]⟩
abbrev S1024x2816 : Shape := ⟨2, ![1024, 2816]⟩
abbrev S2816x512 : Shape := ⟨2, ![2816, 512]⟩
abbrev S1024x512 : Shape := ⟨2, ![1024, 512]⟩
abbrev S4x1024x512 : Shape := ⟨3, ![4, 1024, 512]⟩
abbrev S1x1024x512 : Shape := ⟨3, ![1, 1024, 512]⟩

abbrev nBuf : Space → Nat
  | .hbm => 12
  | .vmem => 13
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x5632, .f32⟩
  | .hbm, ⟨3, _⟩ => ⟨S2048x5632, .f32⟩
  | .hbm, ⟨4, _⟩ => ⟨S8192x2048, .f32⟩
  | .hbm, ⟨5, _⟩ => ⟨S8192x5632, .bf16⟩
  | .hbm, ⟨6, _⟩ => ⟨S8192x5632, .bf16⟩
  | .hbm, ⟨7, _⟩ => ⟨S5632x2048, .f32⟩
  | .hbm, ⟨8, _⟩ => ⟨S5632x2048, .bf16⟩
  | .hbm, ⟨9, _⟩ => ⟨S5632x2048, .f32⟩
  | .hbm, ⟨10, _⟩ => ⟨S5632x2048, .bf16⟩
  | .hbm, ⟨11, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S4x1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_8 : BitVec 32 := 0#32
  let v13 : BitVec 1 := Scalar.cmpi .ne v12 c0_i32_8
  v13

def k0_off1 (i : grid0.Coords) : Fin 3 → Nat :=
  let arg2 : BitVec 32 := BitVec.ofNat 32 (i 2).val
  let v17 : Index := Scalar.indexCast arg2
  let c0_10 : Index := 0#32
  let c0_11 : Index := 0#32
  ![v17.toNat, 0, 0]
def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_9 : BitVec 32 := 0#32
  let v16 : BitVec 1 := Scalar.cmpi .ne v15 c0_i32_9
  v16

def k0_off2 (i : grid0.Coords) : Fin 3 → Nat :=
  let arg2 : BitVec 32 := BitVec.ofNat 32 (i 2).val
  let v20 : Index := Scalar.indexCast arg2
  let c0_13 : Index := 0#32
  let c0_14 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  ![arg0.toNat, v0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S8192x5632 : Shape := ⟨2, ![8192, 5632]⟩
abbrev S2048x5632 : Shape := ⟨2, ![2048, 5632]⟩
abbrev S8192x2048 : Shape := ⟨2, ![8192, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x5632, .f32⟩
  | .hbm, ⟨3, _⟩ => ⟨S2048x5632, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel3.lean ====
abbrev S8192x5632 : Shape := ⟨2, ![8192, 5632]⟩
abbrev S8192x1536 : Shape := ⟨2, ![8192, 1536]⟩
abbrev S8192x2048 : Shape := ⟨2, ![8192, 2048]⟩
abbrev S4x1536 : Shape := ⟨2, ![4, 1536]⟩
abbrev S1x1536 : Shape := ⟨2, ![1, 1536]⟩
abbrev S12x128x128 : Shape := ⟨3, ![12, 128, 128]⟩
abbrev S512x128 : Shape := ⟨2, ![512, 128]⟩
abbrev S8x128 : Shape := ⟨2, ![8, 128]⟩
abbrev S4x128 : Shape := ⟨2, ![4, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 19
  | .vmem => 47
  | .smem => 0
  | _ => 0

abbrev bufTy : (tb : Table) → Fin (tcTables nBuf tb) → BufTy
  | .hbm, ⟨0, _⟩ => ⟨S8192x5632, .f32⟩
  | .hbm, ⟨1, _⟩ => ⟨S8192x1536, .f32⟩
  | .hbm, ⟨2, _⟩ => ⟨S8192x2048, .f32⟩
  | .hbm, ⟨3, _⟩ => ⟨S4x1536, .f32⟩
  | .hbm, ⟨4, _⟩ => ⟨S1x1536, .f32⟩
  | .hbm, ⟨5, _⟩ => ⟨S12x128x128, .f32⟩
  | .hbm, ⟨6, _⟩ => ⟨S1x1536, .f32⟩
  | .hbm, ⟨7, _⟩ => ⟨S12x128x128, .f32⟩
  | .hbm, ⟨8, _⟩ => ⟨S1x1536, .f32⟩
  | .hbm, ⟨9, _⟩ => ⟨S1x1536, .f32⟩
  | .hbm, ⟨10, _⟩ => ⟨S8192x1536, .bf16⟩
  | .hbm, ⟨11, _⟩ => ⟨S8192x1536, .bf16⟩
  | .hbm, ⟨12, _⟩ => ⟨S4x1536, .f32⟩
  | .hbm, ⟨13, _⟩ => ⟨S1x1536, .f32⟩
  | .hbm, ⟨14, _⟩ => ⟨S12x128x128, .f32⟩
  | .hbm, ⟨15, _⟩ => ⟨S1x1536, .f32⟩
  | .hbm, ⟨16, _⟩ => ⟨S12x128x128, .f32⟩
  | .hbm, ⟨17, _⟩ => ⟨S1x1536, .f32⟩
  | .hbm, ⟨18, _⟩ => ⟨S1x1536, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S8x128, .f32⟩
  | .local _ .vmem, ⟨9, _⟩ => ⟨S8x128, .f32⟩
  | .local _ .vmem, ⟨10, _⟩ => ⟨S512x128, .f32⟩
  | .local _ .vmem, ⟨11, _⟩ => ⟨S512x128, .f32⟩
  | .local _ .vmem, ⟨12, _⟩ => ⟨S4x128, .f32⟩
  | .local _ .vmem, ⟨13, _⟩ => ⟨S4x128, .f32⟩
  | .local _ .vmem, ⟨14, _⟩ => ⟨S1x128, .f32⟩
  | .local _ .vmem, ⟨15, _⟩ => ⟨S1x128, .f32⟩
  | .local _ .vmem, ⟨16, _⟩ => ⟨S1x128x128, .f32⟩
  | .local _ .vmem, ⟨17, _⟩ => ⟨S1x128x128, .f32⟩
  | .local _ .vmem, ⟨18, _⟩ => ⟨S1x128, .f32⟩
  | .local _ .vmem, ⟨19, _⟩ => ⟨S1x128, .f32⟩
  | .local _ .vmem, ⟨20, _⟩ => ⟨S1x128x128, .f32⟩
  | .local _ .vmem, ⟨21, _⟩ => ⟨S1x128x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | .local _ .vmem, ⟨29, _⟩ => ⟨S512x128, .bf16⟩
  | .local _ .vmem, ⟨30, _⟩ => ⟨S4x128, .f32⟩
  | .local _ .vmem, ⟨31, _⟩ => ⟨S4x128, .f32⟩
  | .local _ .vmem, ⟨32, _⟩ => ⟨S1x128, .f32⟩
  | .local _ .vmem, ⟨33, _⟩ => ⟨S1x128, .f32⟩
  | .local _ .vmem, ⟨34, _⟩ => ⟨S1x128x128, .f32⟩
  | .local _ .vmem, ⟨35, _⟩ => ⟨S1x128x128, .f32⟩
  | .local _ .vmem, ⟨36, _⟩ => ⟨S1x128, .f32⟩
  | .local _ .vmem, ⟨37, _⟩ => ⟨S1x128, .f32⟩
  | .local _ .vmem, ⟨38, _⟩ => ⟨S1x128x128, .f32⟩
  | .local _ .vmem, ⟨39, _⟩ => ⟨S1x128x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S512x128, .f32⟩
  | .local _ .vmem, ⟨45, _⟩ => ⟨S8x128, .f32⟩
  | .local _ .vmem, ⟨46, _⟩ => ⟨S8x128, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c20_i32 : BitVec 32 := 20#32
  let v1 : BitVec 32 := Scalar.addi c20_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi c14_i32 arg1
  let c0_i32 : BitVec 32 := 0#32
  let v1 : BitVec 32 := Scalar.maxsi v0 c0_i32
  let c20_i32 : BitVec 32 := 20#32
  let v2 : BitVec 32 := Scalar.addi c20_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.addi c32_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== Kernel3Ideal.lean ====
variable {F : FTy → Type} [FloatOps F] [Named F]
def κ : String → Option EReal := fun
  | "gelu_3c1" => some ((26829 / 200000 : ℝ) : EReal)
  | "gelu_c1" => some ((8943 / 200000 : ℝ) : EReal)
  | _ => none
-- ==== Reference3Ideal.lean ====
abbrev S8192x5632 : Shape := ⟨2, ![8192, 5632]⟩
abbrev S8192x1536 : Shape := ⟨2, ![8192, 1536]⟩
abbrev S8192x2048 : Shape := ⟨2, ![8192, 2048]⟩
abbrev S4x1536 : Shape := ⟨2, ![4, 1536]⟩
abbrev S1x1536 : Shape := ⟨2, ![1, 1536]⟩
abbrev S12x128x128 : Shape := ⟨3, ![12, 128, 128]⟩
abbrev S_ : Shape := ⟨0, ![]⟩
abbrev S3x1536 : Shape := ⟨2, ![3, 1536]⟩
abbrev S8195x1536 : Shape := ⟨2, ![8195, 1536]⟩
abbrev S1536 : Shape := ⟨1, ![1536]⟩
abbrev S8192x12x128 : Shape := ⟨3, ![8192, 12, 128]⟩
abbrev S12x128x8192 : Shape := ⟨3, ![12, 128, 8192]⟩
abbrev S8191x1536 : Shape := ⟨2, ![8191, 1536]⟩
abbrev S12x8192x128 : Shape := ⟨3, ![12, 8192, 128]⟩

abbrev nBuf : Space → Nat
  | .hbm => 374
  | .vmem => 0
  | .smem => 0
  | _ => 0

abbrev hbmTy0_0 (i : Nat) : BufTy := match i % 128 with
  | 0 => ⟨S8192x5632, .f32⟩
  | 1 => ⟨S8192x1536, .f32⟩
  | 2 => ⟨S8192x2048, .f32⟩
  | 3 => ⟨S4x1536, .f32⟩
  | 4 => ⟨S1x1536, .f32⟩
  | 5 => ⟨S12x128x128, .f32⟩
  | 6 => ⟨S1x1536, .f32⟩
  | 7 => ⟨S12x128x128, .f32⟩
  | 8 => ⟨S1x1536, .f32⟩
  | 9 => ⟨S1x1536, .f32⟩
  | 10 => ⟨S8192x1536, .f32⟩
  | 11 => ⟨S8192x1536, .f32⟩
  | 12 => ⟨S_, .f32⟩
  | 13 => ⟨S3x1536, .f32⟩
  | 14 => ⟨S8195x1536, .f32⟩
  | 15 => ⟨S_, .f32⟩
  | 16 => ⟨S3x1536, .f32⟩
  | 17 => ⟨S1536, .f32⟩
  | 18 => ⟨S1x1536, .f32⟩
  | 19 => ⟨S1536, .f32⟩
  | 20 => ⟨S8192x1536, .f32⟩
  | 21 => ⟨S1x1536, .f32⟩
  | 22 => ⟨S8192x1536, .f32⟩
  | 23 => ⟨S8192x1536, .f32⟩
  | 24 => ⟨S1x1536, .f32⟩
  | 25 => ⟨S8192x1536, .f32⟩
  | 26 => ⟨S8192x1536, .f32⟩
  | 27 => ⟨S1x1536, .f32⟩
  | 28 => ⟨S1536, .f32⟩
  | 29 => ⟨S8192x1536, .f32⟩
  | 30 => ⟨S1x1536, .f32⟩
  | 31 => ⟨S8192x1536, .f32⟩
  | 32 => ⟨S8192x1536, .f32⟩
  | 33 => ⟨S8192x1536, .f32⟩
  | 34 => ⟨S1x1536, .f32⟩
  | 35 => ⟨S1536, .f32⟩
  | 36 => ⟨S8192x1536, .f32⟩
  | 37 => ⟨S1x1536, .f32⟩
  | 38 => ⟨S8192x1536, .f32⟩
  | 39 => ⟨S8192x1536, .f32⟩
  | 40 => ⟨S8192x1536, .f32⟩
  | 41 => ⟨S1x1536, .f32⟩
  | 42 => ⟨S1536, .f32⟩
  | 43 => ⟨S8192x1536, .f32⟩
  | 44 => ⟨S1x1536, .f32⟩
  | 45 => ⟨S8192x1536, .f32⟩
  | 46 => ⟨S8192x1536, .f32⟩
  | 47 => ⟨S8192x1536, .f32⟩
  | 48 => ⟨S8192x12x128, .f32⟩
  | 49 => ⟨S12x128x8192, .f32⟩
  | 50 => ⟨S8192x12x128, .f32⟩
  | 51 => ⟨S8192x1536, .f32⟩
  | 52 => ⟨S1536, .f32⟩
  | 53 => ⟨S1x1536, .f32⟩
  | 54 => ⟨S8192x1536, .f32⟩
  | 55 => ⟨S8192x1536, .f32⟩
  | 56 => ⟨S8192x1536, .f32⟩
  | 57 => ⟨S8192x1536, .f32⟩
  | 58 => ⟨S_, .f32⟩
  | 59 => ⟨S8192x1536, .f32⟩
  | 60 => ⟨S8192x1536, .f32⟩
  | 61 => ⟨S_, .f32⟩
  | 62 => ⟨S8192x1536, .f32⟩
  | 63 => ⟨S8192x1536, .f32⟩
  | 64 => ⟨S_, .f32⟩
  | 65 => ⟨S8192x1536, .f32⟩
  | 66 => ⟨S8192x1536, .f32⟩
  | 67 => ⟨S8192x1536, .f32⟩
  | 68 => ⟨S12x128x8192, .f32⟩
  | 69 => ⟨S8192x12x128, .f32⟩
  | 70 => ⟨S8192x1536, .f32⟩
  | 71 => ⟨S1536, .f32⟩
  | 72 => ⟨S1x1536, .f32⟩
  | 73 => ⟨S8192x1536, .f32⟩
  | 74 => ⟨S8192x1536, .f32⟩
  | 75 => ⟨S8192x1536, .f32⟩
  | 76 => ⟨S8192x1536, .f32⟩
  | 77 => ⟨S_, .f32⟩
  | 78 => ⟨S8192x1536, .f32⟩
  | 79 => ⟨S8192x1536, .f32⟩
  | 80 => ⟨S_, .f32⟩
  | 81 => ⟨S8192x1536, .f32⟩
  | 82 => ⟨S8192x1536, .f32⟩
  | 83 => ⟨S_, .f32⟩
  | 84 => ⟨S8192x1536, .f32⟩
  | 85 => ⟨S8192x1536, .f32⟩
  | 86 => ⟨S8192x1536, .f32⟩
  | 87 => ⟨S1536, .f32⟩
  | 88 => ⟨S1536, .f32⟩
  | 89 => ⟨S_, .f32⟩
  | 90 => ⟨S1536, .f32⟩
  | 91 => ⟨S1536, .f32⟩
  | 92 => ⟨S1536, .f32⟩
  | 93 => ⟨S1536, .f32⟩
  | 94 => ⟨S1536, .i1⟩
  | 95 => ⟨S1536, .f32⟩
  | 96 => ⟨S1536, .f32⟩
  | 97 => ⟨S1536, .f32⟩
  | 98 => ⟨S1536, .f32⟩
  | 99 => ⟨S1536, .f32⟩
  | 100 => ⟨S1536, .f32⟩
  | 101 => ⟨S1536, .f32⟩
  | 102 => ⟨S1536, .f32⟩
  | 103 => ⟨S_, .f32⟩
  | 104 => ⟨S1536, .f32⟩
  | 105 => ⟨S1536, .i1⟩
  | 106 => ⟨S_, .f32⟩
  | 107 => ⟨S1536, .f32⟩
  | 108 => ⟨S1536, .f32⟩
  | 109 => ⟨S_, .f32⟩
  | 110 => ⟨S1536, .f32⟩
  | 111 => ⟨S1536, .i1⟩
  | 112 => ⟨S_, .f32⟩
  | 113 => ⟨S1536, .f32⟩
  | 114 => ⟨S1536, .f32⟩
  | 115 => ⟨S1536, .f32⟩
  | 116 => ⟨S1536, .f32⟩
  | 117 => ⟨S_, .f32⟩
  | 118 => ⟨S_, .f32⟩
  | 119 => ⟨S_, .i1⟩
  | 120 => ⟨S_, .f32⟩
  | 121 => ⟨S_, .f32⟩
  | 122 => ⟨S_, .f32⟩
  | 123 => ⟨S_, .f32⟩
  | 124 => ⟨S1536, .f32⟩
  | 125 => ⟨S1536, .i1⟩
  | 126 => ⟨S_, .f32⟩
  | 127 => ⟨S1536, .f32⟩
  | _ => ⟨S8192x5632, .f32⟩

abbrev hbmTy0_1 (i : Nat) : BufTy := match i % 128 with
  | 0 => ⟨S1536, .f32⟩
  | 1 => ⟨S1536, .f32⟩
  | 2 => ⟨S1536, .f32⟩
  | 3 => ⟨S1536, .f32⟩
  | 4 => ⟨S_, .f32⟩
  | 5 => ⟨S1536, .f32⟩
  | 6 => ⟨S1536, .f32⟩
  | 7 => ⟨S_, .f32⟩
  | 8 => ⟨S1536, .f32⟩
  | 9 => ⟨S1536, .f32⟩
  | 10 => ⟨S1x1536, .f32⟩
  | 11 => ⟨S8192x1536, .f32⟩
  | 12 => ⟨S8192x1536, .f32⟩
  | 13 => ⟨S8192x1536, .f32⟩
  | 14 => ⟨S_, .f32⟩
  | 15 => ⟨S8192x1536, .f32⟩
  | 16 => ⟨S8192x1536, .f32⟩
  | 17 => ⟨S8192x1536, .f32⟩
  | 18 => ⟨S8192x1536, .f32⟩
  | 19 => ⟨S8192x1536, .f32⟩
  | 20 => ⟨S8192x1536, .f32⟩
  | 21 => ⟨S_, .f32⟩
  | 22 => ⟨S8192x1536, .f32⟩
  | 23 => ⟨S8192x1536, .f32⟩
  | 24 => ⟨S8192x1536, .f32⟩
  | 25 => ⟨S8192x1536, .f32⟩
  | 26 => ⟨S_, .f32⟩
  | 27 => ⟨S1x1536, .f32⟩
  | 28 => ⟨S_, .f32⟩
  | 29 => ⟨S1x1536, .f32⟩
  | 30 => ⟨S8191x1536, .f32⟩
  | 31 => ⟨S8192x1536, .f32⟩
  | 32 => ⟨S8192x1536, .f32⟩
  | 33 => ⟨S8192x1536, .f32⟩
  | 34 => ⟨S_, .f32⟩
  | 35 => ⟨S8192x1536, .f32⟩
  | 36 => ⟨S8192x1536, .f32⟩
  | 37 => ⟨S8192x1536, .f32⟩
  | 38 => ⟨S8192x1536, .f32⟩
  | 39 => ⟨S8192x1536, .f32⟩
  | 40 => ⟨S_, .f32⟩
  | 41 => ⟨S8192x1536, .f32⟩
  | 42 => ⟨S8192x1536, .f32⟩
  | 43 => ⟨S_, .f32⟩
  | 44 => ⟨S8192x1536, .f32⟩
  | 45 => ⟨S8192x1536, .f32⟩
  | 46 => ⟨S_, .f32⟩
  | 47 => ⟨S8192x1536, .f32⟩
  | 48 => ⟨S8192x1536, .f32⟩
  | 49 => ⟨S8192x1536, .f32⟩
  | 50 => ⟨S_, .f32⟩
  | 51 => ⟨S8192x1536, .f32⟩
  | 52 => ⟨S8192x1536, .f32⟩
  | 53 => ⟨S8192x1536, .f32⟩
  | 54 => ⟨S_, .f32⟩
  | 55 => ⟨S8192x1536, .f32⟩
  | 56 => ⟨S8192x1536, .f32⟩
  | 57 => ⟨S_, .f32⟩
  | 58 => ⟨S8192x1536, .f32⟩
  | 59 => ⟨S8192x1536, .f32⟩
  | 60 => ⟨S8192x1536, .f32⟩
  | 61 => ⟨S_, .f32⟩
  | 62 => ⟨S8192x1536, .f32⟩
  | 63 => ⟨S8192x1536, .f32⟩
  | 64 => ⟨S8192x1536, .f32⟩
  | 65 => ⟨S8192x1536, .f32⟩
  | 66 => ⟨S8192x1536, .f32⟩
  | 67 => ⟨S8192x1536, .f32⟩
  | 68 => ⟨S8192x1536, .f32⟩
  | 69 => ⟨S8192x1536, .f32⟩
  | 70 => ⟨S8192x1536, .f32⟩
  | 71 => ⟨S8192x1536, .f32⟩
  | 72 => ⟨S_, .f32⟩
  | 73 => ⟨S8192x1536, .f32⟩
  | 74 => ⟨S8192x1536, .f32⟩
  | 75 => ⟨S_, .f32⟩
  | 76 => ⟨S8192x1536, .f32⟩
  | 77 => ⟨S8192x1536, .f32⟩
  | 78 => ⟨S_, .f32⟩
  | 79 => ⟨S8192x1536, .f32⟩
  | 80 => ⟨S8192x1536, .f32⟩
  | 81 => ⟨S8192x1536, .f32⟩
  | 82 => ⟨S8192x1536, .f32⟩
  | 83 => ⟨S_, .f32⟩
  | 84 => ⟨S8192x1536, .f32⟩
  | 85 => ⟨S8192x1536, .f32⟩
  | 86 => ⟨S8192x1536, .f32⟩
  | 87 => ⟨S8191x1536, .f32⟩
  | 88 => ⟨S_, .f32⟩
  | 89 => ⟨S1x1536, .f32⟩
  | 90 => ⟨S8192x1536, .f32⟩
  | 91 => ⟨S_, .f32⟩
  | 92 => ⟨S1536, .f32⟩
  | 93 => ⟨S_, .f32⟩
  | 94 => ⟨S8192x1536, .f32⟩
  | 95 => ⟨S_, .i32⟩
  | 96 => ⟨S8192x1536, .f32⟩
  | 97 => ⟨S8192x1536, .f32⟩
  | 98 => ⟨S_, .i32⟩
  | 99 => ⟨S1536, .f32⟩
  | 100 => ⟨S8192x1536, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S1x1536, .f32⟩
  | 109 => ⟨S1536, .f32⟩
  | 110 => ⟨S_, .i32⟩
  | 111 => ⟨S1x1536, .f32⟩
  | 112 => ⟨S1536, .f32⟩
  | 113 => ⟨S1536, .f32⟩
  | 114 => ⟨S1536, .f32⟩
  | 115 => ⟨S1x1536, .f32⟩
  | 116 => ⟨S_, .i32⟩
  | 117 => ⟨S8192x1536, .f32⟩
  | 118 => ⟨S_, .i32⟩
  | 119 => ⟨S_, .i32⟩
  | 120 => ⟨S8192x1536, .f32⟩
  | 121 => ⟨S8192x1536, .f32⟩
  | 122 => ⟨S8192x1536, .f32⟩
  | 123 => ⟨S8192x1536, .f32⟩
  | 124 => ⟨S8192x1536, .f32⟩
  | 125 => ⟨S8192x1536, .f32⟩
  | 126 => ⟨S8192x1536, .f32⟩
  | 127 => ⟨S8192x1536, .f32⟩
  | _ => ⟨S8192x5632, .f32⟩

abbrev hbmTy0_2 (i : Nat) : BufTy := match i % 128 with
  | 0 => ⟨S8192x1536, .f32⟩
  | 1 => ⟨S8192x1536, .f32⟩
  | 2 => ⟨S_, .f32⟩
  | 3 => ⟨S8192x1536, .f32⟩
  | 4 => ⟨S8192x1536, .f32⟩
  | 5 => ⟨S8192x1536, .f32⟩
  | 6 => ⟨S8192x1536, .f32⟩
  | 7 => ⟨S8192x1536, .f32⟩
  | 8 => ⟨S8192x1536, .f32⟩
  | 9 => ⟨S8192x1536, .f32⟩
  | 10 => ⟨S_, .f32⟩
  | 11 => ⟨S1536, .f32⟩
  | 12 => ⟨S1x1536, .f32⟩
  | 13 => ⟨S_, .f32⟩
  | 14 => ⟨S1536, .f32⟩
  | 15 => ⟨S_, .f32⟩
  | 16 => ⟨S1536, .f32⟩
  | 17 => ⟨S1536, .f32⟩
  | 18 => ⟨S1536, .f32⟩
  | 19 => ⟨S1536, .f32⟩
  | 20 => ⟨S1x1536, .f32⟩
  | 21 => ⟨S8192x1536, .f32⟩
  | 22 => ⟨S_, .f32⟩
  | 23 => ⟨S1536, .f32⟩
  | 24 => ⟨S1x1536, .f32⟩
  | 25 => ⟨S_, .f32⟩
  | 26 => ⟨S1536, .f32⟩
  | 27 => ⟨S1x1536, .f32⟩
  | 28 => ⟨S8192x12x128, .f32⟩
  | 29 => ⟨S12x128x8192, .f32⟩
  | 30 => ⟨S12x8192x128, .f32⟩
  | 31 => ⟨S8192x12x128, .f32⟩
  | 32 => ⟨S12x128x128, .f32⟩
  | 33 => ⟨S12x128x128, .f32⟩
  | 34 => ⟨S8192x1536, .f32⟩
  | 35 => ⟨S_, .f32⟩
  | 36 => ⟨S1536, .f32⟩
  | 37 => ⟨S1x1536, .f32⟩
  | 38 => ⟨S_, .f32⟩
  | 39 => ⟨S1536, .f32⟩
  | 40 => ⟨S1x1536, .f32⟩
  | 41 => ⟨S8192x12x128, .f32⟩
  | 42 => ⟨S12x128x8192, .f32⟩
  | 43 => ⟨S12x8192x128, .f32⟩
  | 44 => ⟨S8192x12x128, .f32⟩
  | 45 => ⟨S8192x12x128, .f32⟩
  | 46 => ⟨S12x128x128, .f32⟩
  | 47 => ⟨S12x128x128, .f32⟩
  | 48 => ⟨S8192x1536, .f32⟩
  | 49 => ⟨S8192x1536, .f32⟩
  | 50 => ⟨S8192x1536, .f32⟩
  | 51 => ⟨S8192x1536, .f32⟩
  | 52 => ⟨S8192x1536, .f32⟩
  | 53 => ⟨S_, .f32⟩
  | 54 => ⟨S1536, .f32⟩
  | 55 => ⟨S1x1536, .f32⟩
  | 56 => ⟨S_, .f32⟩
  | 57 => ⟨S1536, .f32⟩
  | 58 => ⟨S_, .f32⟩
  | 59 => ⟨S8195x1536, .f32⟩
  | 60 => ⟨S1x1536, .f32⟩
  | 61 => ⟨S_, .f32⟩
  | 62 => ⟨S4x1536, .f32⟩
  | 63 => ⟨S8192x1536, .f32⟩
  | 64 => ⟨S8192x1536, .f32⟩
  | 65 => ⟨S8192x1536, .f32⟩
  | 66 => ⟨S_, .f32⟩
  | 67 => ⟨S1536, .f32⟩
  | 68 => ⟨S1x1536, .f32⟩
  | 69 => ⟨S_, .f32⟩
  | 70 => ⟨S1536, .f32⟩
  | 71 => ⟨S_, .f32⟩
  | 72 => ⟨S8195x1536, .f32⟩
  | 73 => ⟨S8195x1536, .f32⟩
  | 74 => ⟨S1x1536, .f32⟩
  | 75 => ⟨S_, .f32⟩
  | 76 => ⟨S4x1536, .f32⟩
  | 77 => ⟨S4x1536, .f32⟩
  | 78 => ⟨S8192x1536, .f32⟩
  | 79 => ⟨S8192x1536, .f32⟩
  | 80 => ⟨S8192x1536, .f32⟩
  | 81 => ⟨S_, .f32⟩
  | 82 => ⟨S1536, .f32⟩
  | 83 => ⟨S1x1536, .f32⟩
  | 84 => ⟨S_, .f32⟩
  | 85 => ⟨S1536, .f32⟩
  | 86 => ⟨S_, .f32⟩
  | 87 => ⟨S8195x1536, .f32⟩
  | 88 => ⟨S8195x1536, .f32⟩
  | 89 => ⟨S1x1536, .f32⟩
  | 90 => ⟨S_, .f32⟩
  | 91 => ⟨S4x1536, .f32⟩
  | 92 => ⟨S4x1536, .f32⟩
  | 93 => ⟨S_, .f32⟩
  | 94 => ⟨S1536, .f32⟩
  | 95 => ⟨S1x1536, .f32⟩
  | 96 => ⟨S_, .f32⟩
  | 97 => ⟨S1536, .f32⟩
  | 98 => ⟨S8192x1536, .f32⟩
  | 99 => ⟨S8192x1536, .f32⟩
  | 100 => ⟨S8192x1536, .f32⟩
  | 101 => ⟨S_, .f32⟩
  | 102 => ⟨S1536, .f32⟩
  | 103 => ⟨S1x1536, .f32⟩
  | 104 => ⟨S_, .f32⟩
  | 105 => ⟨S1536, .f32⟩
  | 106 => ⟨S_, .f32⟩
  | 107 => ⟨S8195x1536, .f32⟩
  | 108 => ⟨S8195x1536, .f32⟩
  | 109 => ⟨S1x1536, .f32⟩
  | 110 => ⟨S_, .f32⟩
  | 111 => ⟨S4x1536, .f32⟩
  | 112 => ⟨S4x1536, .f32⟩
  | 113 => ⟨S1x1536, .f32⟩
  | 114 => ⟨S3x1536, .f32⟩
  | 115 => ⟨S8192x1536, .f32⟩
  | 116 => ⟨S8192x1536, .bf16⟩
  | 117 => ⟨S8192x1536, .bf16⟩
  | _ => ⟨S8192x5632, .f32⟩

abbrev hbmTy (i : Nat) : BufTy := match i / 128 with
  | 0 => hbmTy0_0 i
  | 1 => hbmTy0_1 i
  | 2 => hbmTy0_2 i
  | _ => ⟨S8192x5632, .f32⟩

abbrev bufTy : (tb : Table) → Fin (tcTables nBuf tb) → BufTy
  | .hbm, ⟨i, _⟩ => hbmTy i
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_cst_3 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_4 : Ref sig .tc := ⟨.hbm, 77, rfl⟩
abbrev main_v62 : Ref sig .tc := ⟨.hbm, 78, rfl⟩
abbrev main_v63 : Ref sig .tc := ⟨.hbm, 79, rfl⟩
abbrev main_cst_5 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_v71_0 : Ref sig .tc := ⟨.hbm, 102, rfl⟩
abbrev main_call0_cst_0 : Ref sig .tc := ⟨.hbm, 103, rfl⟩
abbrev main_call0_v13 : Ref sig .tc := ⟨.hbm, 104, rfl⟩
abbrev main_call0_v14 : Ref sig .tc := ⟨.hbm, 105, rfl⟩
abbrev main_call0_cst_1 : Ref sig .tc := ⟨.hbm, 106, rfl⟩
abbrev main_call0_v15 : Ref sig .tc := ⟨.hbm, 107, rfl⟩
abbrev main_call0_v16 : Ref sig .tc := ⟨.hbm, 108, rfl⟩
abbrev main_call0_cst_2 : Ref sig .tc := ⟨.hbm, 109, rfl⟩
abbrev main_call0_v17 : Ref sig .tc := ⟨.hbm, 110, rfl⟩
abbrev main_call0_v18 : Ref sig .tc := ⟨.hbm, 111, rfl⟩
abbrev main_call0_cst_3 : Ref sig .tc := ⟨.hbm, 112, rfl⟩
abbrev main_call0_v19 : Ref sig .tc := ⟨.hbm, 113, rfl⟩
abbrev main_call0_v20 : Ref sig .tc := ⟨.hbm, 114, rfl⟩
abbrev main_call0_v21 : Ref sig .tc := ⟨.hbm, 115, rfl⟩
abbrev main_v71_1 : Ref sig .tc := ⟨.hbm, 116, rfl⟩
abbrev main_call0_cst_4 : Ref sig .tc := ⟨.hbm, 117, rfl⟩
abbrev main_call0_cst_5 : Ref sig .tc := ⟨.hbm, 118, rfl⟩
abbrev main_call0_v23 : Ref sig .tc := ⟨.hbm, 119, rfl⟩
abbrev main_call0_cst_6 : Ref sig .tc := ⟨.hbm, 120, rfl⟩
abbrev main_call0_cst_7 : Ref sig .tc := ⟨.hbm, 121, rfl⟩
abbrev main_call0_v24 : Ref sig .tc := ⟨.hbm, 122, rfl⟩
abbrev main_call0_cst_8 : Ref sig .tc := ⟨.hbm, 123, rfl⟩
abbrev main_call0_v25 : Ref sig .tc := ⟨.hbm, 124, rfl⟩
abbrev main_call0_v26 : Ref sig .tc := ⟨.hbm, 125, rfl⟩
abbrev main_call0_cst_9 : Ref sig .tc := ⟨.hbm, 126, rfl⟩
abbrev main_call0_v27 : Ref sig .tc := ⟨.hbm, 127, rfl⟩
abbrev main_call0_v28 : Ref sig .tc := ⟨.hbm, 128, rfl⟩
abbrev main_call0_v29 : Ref sig .tc := ⟨.hbm, 129, rfl⟩
abbrev main_call0_v30 : Ref sig .tc := ⟨.hbm, 130, rfl⟩
abbrev main_call0_v31 : Ref sig .tc := ⟨.hbm, 131, rfl⟩
abbrev main_call0_cst_10 : Ref sig .tc := ⟨.hbm, 132, rfl⟩
abbrev main_call0_v32 : Ref sig .tc := ⟨.hbm, 133, rfl⟩
abbrev main_v71_2 : Ref sig .tc := ⟨.hbm, 134, rfl⟩
abbrev main_cst_7 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_cst_8 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_cst_9 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_cst_10 : Ref sig .tc := ⟨.hbm, 154, rfl⟩
abbrev main_v88 : Ref sig .tc := ⟨.hbm, 155, rfl⟩
abbrev main_cst_11 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_cst_12 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_cst_13 : Ref sig .tc := ⟨.hbm, 168, rfl⟩
abbrev main_v99 : Ref sig .tc := ⟨.hbm, 169, rfl⟩
abbrev main_v100 : Ref sig .tc := ⟨.hbm, 170, rfl⟩
abbrev main_cst_14 : Ref sig .tc := ⟨.hbm, 171, rfl⟩
abbrev main_v101 : Ref sig .tc := ⟨.hbm, 172, rfl⟩
abbrev main_v102 : Ref sig .tc := ⟨.hbm, 173, rfl⟩
abbrev main_cst_15 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_cst_16 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_cst_17 : Ref sig .tc := ⟨.hbm, 182, rfl⟩
abbrev main_v109 : Ref sig .tc := ⟨.hbm, 183, rfl⟩
abbrev main_v110 : Ref sig .tc := ⟨.hbm, 184, rfl⟩
abbrev main_cst_18 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_cst_19 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_20 : Ref sig .tc := ⟨.hbm, 200, rfl⟩
abbrev main_v124 : Ref sig .tc := ⟨.hbm, 201, rfl⟩
abbrev main_v125 : Ref sig .tc := ⟨.hbm, 202, rfl⟩
abbrev main_cst_21 : Ref sig .tc := ⟨.hbm, 203, rfl⟩
abbrev main_v126 : Ref sig .tc := ⟨.hbm, 204, rfl⟩
abbrev main_v127 : Ref sig .tc := ⟨.hbm, 205, rfl⟩
abbrev main_cst_22 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_cst_23 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_cst_24 : Ref sig .tc := ⟨.hbm, 216, rfl⟩
abbrev main_v136 : Ref sig .tc := ⟨.hbm, 217, rfl⟩
abbrev main_v137 : Ref sig .tc := ⟨.hbm, 218, rfl⟩
abbrev main_cst_25 : Ref sig .tc := ⟨.hbm, 219, rfl⟩
abbrev main_v138 : Ref sig .tc := ⟨.hbm, 220, rfl⟩
abbrev main_cst_26 : Ref sig .tc := ⟨.hbm, 221, rfl⟩
abbrev main_v139 : Ref sig .tc := ⟨.hbm, 222, rfl⟩
abbrev main_c : Ref sig .tc := ⟨.hbm, 223, rfl⟩
abbrev main_v140_0 : Ref sig .tc := ⟨.hbm, 224, rfl⟩
abbrev main_v140_1 : Ref sig .tc := ⟨.hbm, 225, rfl⟩
abbrev main_v140_2 : Ref sig .tc := ⟨.hbm, 226, rfl⟩
abbrev main_v140_3 : Ref sig .tc := ⟨.hbm, 227, rfl⟩
abbrev main_v140_4 : Ref sig .tc := ⟨.hbm, 228, rfl⟩
abbrev main_while0c_c_57 : Ref sig .tc := ⟨.hbm, 229, rfl⟩
abbrev main_while0c_v241 : Ref sig .tc := ⟨.hbm, 230, rfl⟩
abbrev main_while0b_c_57 : Ref sig .tc := ⟨.hbm, 231, rfl⟩
abbrev main_while0b_v241 : Ref sig .tc := ⟨.hbm, 232, rfl⟩
abbrev main_while0b_c_58 : Ref sig .tc := ⟨.hbm, 233, rfl⟩
abbrev main_while0b_v242 : Ref sig .tc := ⟨.hbm, 234, rfl⟩
abbrev main_while0b_call1_c : Ref sig .tc := ⟨.hbm, 235, rfl⟩
abbrev main_while0b_call1_v0 : Ref sig .tc := ⟨.hbm, 236, rfl⟩
abbrev main_while0b_v243 : Ref sig .tc := ⟨.hbm, 237, rfl⟩
abbrev main_while0b_call2_c : Ref sig .tc := ⟨.hbm, 238, rfl⟩
abbrev main_while0b_call2_v0 : Ref sig .tc := ⟨.hbm, 239, rfl⟩
abbrev main_while0b_v244 : Ref sig .tc := ⟨.hbm, 240, rfl⟩
abbrev main_while0b_v245 : Ref sig .tc := ⟨.hbm, 241, rfl⟩
abbrev main_while0b_v246 : Ref sig .tc := ⟨.hbm, 242, rfl⟩
abbrev main_while0b_call3_v0 : Ref sig .tc := ⟨.hbm, 243, rfl⟩
abbrev main_while0b_call3_c : Ref sig .tc := ⟨.hbm, 244, rfl⟩
abbrev main_while0b_v247 : Ref sig .tc := ⟨.hbm, 245, rfl⟩
abbrev main_while0b_c_59 : Ref sig .tc := ⟨.hbm, 246, rfl⟩
abbrev main_while0b_v248 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_cst_27 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_cst_28 : Ref sig .tc := ⟨.hbm, 266, rfl⟩
abbrev main_v158 : Ref sig .tc := ⟨.hbm, 267, rfl⟩
abbrev main_v159 : Ref sig .tc := ⟨.hbm, 268, rfl⟩
abbrev main_cst_29 : Ref sig .tc := ⟨.hbm, 269, rfl⟩
abbrev main_v160 : Ref sig .tc := ⟨.hbm, 270, rfl⟩
abbrev main_cst_30 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_cst_31 : Ref sig .tc := ⟨.hbm, 278, rfl⟩
abbrev main_v167 : Ref sig .tc := ⟨.hbm, 279, rfl⟩
abbrev main_v168 : Ref sig .tc := ⟨.hbm, 280, rfl⟩
abbrev main_cst_32 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_cst_33 : Ref sig .tc := ⟨.hbm, 291, rfl⟩
abbrev main_v178 : Ref sig .tc := ⟨.hbm, 292, rfl⟩
abbrev main_v179 : Ref sig .tc := ⟨.hbm, 293, rfl⟩
abbrev main_cst_34 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_cst_35 : Ref sig .tc := ⟨.hbm, 309, rfl⟩
abbrev main_v194 : Ref sig .tc := ⟨.hbm, 310, rfl⟩
abbrev main_v195 : Ref sig .tc := ⟨.hbm, 311, rfl⟩
abbrev main_cst_36 : Ref sig .tc := ⟨.hbm, 312, rfl⟩
abbrev main_v196 : Ref sig .tc := ⟨.hbm, 313, rfl⟩
abbrev main_cst_37 : Ref sig .tc := ⟨.hbm, 314, rfl⟩
abbrev main_v197 : Ref sig .tc := ⟨.hbm, 315, rfl⟩
abbrev main_v198 : Ref sig .tc := ⟨.hbm, 316, rfl⟩
abbrev main_cst_38 : Ref sig .tc := ⟨.hbm, 317, rfl⟩
abbrev main_v199 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_cst_39 : Ref sig .tc := ⟨.hbm, 322, rfl⟩
abbrev main_v203 : Ref sig .tc := ⟨.hbm, 323, rfl⟩
abbrev main_v204 : Ref sig .tc := ⟨.hbm, 324, rfl⟩
abbrev main_cst_40 : Ref sig .tc := ⟨.hbm, 325, rfl⟩
abbrev main_v205 : Ref sig .tc := ⟨.hbm, 326, rfl⟩
abbrev main_cst_41 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_cst_42 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_cst_43 : Ref sig .tc := ⟨.hbm, 337, rfl⟩
abbrev main_v214 : Ref sig .tc := ⟨.hbm, 338, rfl⟩
abbrev main_v215 : Ref sig .tc := ⟨.hbm, 339, rfl⟩
abbrev main_cst_44 : Ref sig .tc := ⟨.hbm, 340, rfl⟩
abbrev main_v216 : Ref sig .tc := ⟨.hbm, 341, rfl⟩
abbrev main_cst_45 : Ref sig .tc := ⟨.hbm, 342, rfl⟩
abbrev main_v217 : Ref sig .tc := ⟨.hbm, 343, rfl⟩
abbrev main_v218 : Ref sig .tc := ⟨.hbm, 344, rfl⟩
abbrev main_v219 : Ref sig .tc := ⟨.hbm, 345, rfl⟩
abbrev main_cst_46 : Ref sig .tc := ⟨.hbm, 346, rfl⟩
abbrev main_v220 : Ref sig .tc := ⟨.hbm, 347, rfl⟩
abbrev main_v221 : Ref sig .tc := ⟨.hbm, 348, rfl⟩
abbrev main_cst_47 : Ref sig .tc := ⟨.hbm, 349, rfl⟩
abbrev main_v222 : Ref sig .tc := ⟨.hbm, 350, rfl⟩
abbrev main_v223 : Ref sig .tc := ⟨.hbm, 351, rfl⟩
abbrev main_cst_48 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_cst_49 : Ref sig .tc := ⟨.hbm, 357, rfl⟩
abbrev main_v228 : Ref sig .tc := ⟨.hbm, 358, rfl⟩
abbrev main_v229 : Ref sig .tc := ⟨.hbm, 359, rfl⟩
abbrev main_cst_50 : Ref sig .tc := ⟨.hbm, 360, rfl⟩
abbrev main_v230 : Ref sig .tc := ⟨.hbm, 361, rfl⟩
abbrev main_cst_51 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_cst_52 : Ref sig .tc := ⟨.hbm, 366, rfl⟩
abbrev main_v234 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_v238 : Ref sig .tc := ⟨.hbm, 371, rfl⟩
abbrev main_v239 : Ref sig .tc := ⟨.hbm, 372, rfl⟩
abbrev main_v240 : Ref sig .tc := ⟨.hbm, 373, rfl⟩

abbrev nD : Nat := 1
abbrev τ : Topo := Topo.v7x

variable {F : FTy → Type} [FloatOps F]

abbrev main_while0_count : Scf.Loop 32 := ⟨0#32, 8192#32, 1#32⟩
-- ==== Kernel4.lean ====
abbrev S8192x2048 : Shape := ⟨2, ![8192, 2048]⟩
abbrev S2048x5632 : Shape := ⟨2, ![2048, 5632]⟩
abbrev S8192x5632 : Shape := ⟨2, ![8192, 5632]⟩
abbrev S2048x2048 : Shape := ⟨2, ![2048, 2048]⟩
abbrev S8192x256 : Shape := ⟨2, ![8192, 256]⟩
abbrev S5632x2048 : Shape := ⟨2, ![5632, 2048]⟩
abbrev S1024x2048 : Shape := ⟨2, ![1024, 2048]⟩
abbrev S512x2048 : Shape := ⟨2, ![512, 2048]⟩
abbrev S1024x512 : Shape := ⟨2, ![1024, 512]⟩
abbrev S8192x1024 : Shape := ⟨2, ![8192, 1024]⟩
abbrev S8192x512 : Shape := ⟨2, ![8192, 512]⟩
abbrev S256x2048 : Shape := ⟨2, ![256, 2048]⟩
abbrev S256x512 : Shape := ⟨2, ![256, 512]⟩

abbrev nBuf : Space → Nat
  | .hbm => 26
  | .vmem => 35
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x256, .f32⟩
  | .hbm, ⟨9, _⟩ => ⟨S8192x2048, .f32⟩
  | .hbm, ⟨10, _⟩ => ⟨S8192x2048, .bf16⟩
  | .hbm, ⟨11, _⟩ => ⟨S5632x2048, .f32⟩
  | .hbm, ⟨12, _⟩ => ⟨S5632x2048, .bf16⟩
  | .hbm, ⟨13, _⟩ => ⟨S8192x5632, .bf16⟩
  | .hbm, ⟨14, _⟩ => ⟨S8192x2048, .bf16⟩
  | .hbm, ⟨15, _⟩ => ⟨S2048x2048, .bf16⟩
  | .hbm, ⟨16, _⟩ => ⟨S8192x2048, .bf16⟩
  | .hbm, ⟨17, _⟩ => ⟨S8192x2048, .bf16⟩
  | .hbm, ⟨18, _⟩ => ⟨S8192x2048, .bf16⟩
  | .hbm, ⟨19, _⟩ => ⟨S8192x2048, .bf16⟩
  | .hbm, ⟨20, _⟩ => ⟨S8192x5632, .f32⟩
  | .hbm, ⟨21, _⟩ => ⟨S2048x2048, .bf16⟩
  | .hbm, ⟨22, _⟩ => ⟨S256x2048, .bf16⟩
  | .hbm, ⟨23, _⟩ => ⟨S2048x2048, .bf16⟩
  | .hbm, ⟨24, _⟩ => ⟨S8192x2048, .f32⟩
  | .hbm, ⟨25, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S8192x1024, .bf16⟩
  | .local _ .vmem, ⟨7, _⟩ => ⟨S8192x1024, .bf16⟩
  | .local _ .vmem, ⟨8, _⟩ => ⟨S8192x512, .bf16⟩
  | .local _ .vmem, ⟨9, _⟩ => ⟨S8192x512, .bf16⟩
  | .local _ .vmem, ⟨10, _⟩ => ⟨S1024x512, .bf16⟩
  | .local _ .vmem, ⟨11, _⟩ => ⟨S1024x512, .bf16⟩
  | .local _ .vmem, ⟨12, _⟩ => ⟨S8192x256, .f32⟩
  | .local _ .vmem, ⟨13, _⟩ => ⟨S8192x512, .bf16⟩
  | .local _ .vmem, ⟨14, _⟩ => ⟨S8192x512, .bf16⟩
  | .local _ .vmem, ⟨15, _⟩ => ⟨S256x512, .bf16⟩
  | .local _ .vmem, ⟨16, _⟩ => ⟨S256x512, .bf16⟩
  | .local _ .vmem, ⟨17, _⟩ => ⟨S8192x1024, .bf16⟩
  | .local _ .vmem, ⟨18, _⟩ => ⟨S8192x1024, .bf16⟩
  | .local _ .vmem, ⟨19, _⟩ => ⟨S8192x512, .bf16⟩
  | .local _ .vmem, ⟨20, _⟩ => ⟨S8192x512, .bf16⟩
  | .local _ .vmem, ⟨21, _⟩ => ⟨S1024x512, .bf16⟩
  | .local _ .vmem, ⟨22, _⟩ => ⟨S1024x512, .bf16⟩
  | .local _ .vmem, ⟨23, _⟩ => ⟨S1024x2048, .bf16⟩
  | .local _ .vmem, ⟨24, _⟩ => ⟨S1024x2048, .bf16⟩
  | .local _ .vmem, ⟨25, _⟩ => ⟨S512x2048, .bf16⟩
  | .local _ .vmem, ⟨26, _⟩ => ⟨S512x2048, .bf16⟩
  | .local _ .vmem, ⟨27, _⟩ => ⟨S1024x512, .f32⟩
  | .local _ .vmem, ⟨28, _⟩ => ⟨S1024x512, .f32⟩
  | .local _ .vmem, ⟨29, _⟩ => ⟨S8192x1024, .bf16⟩
  | .local _ .vmem, ⟨30, _⟩ => ⟨S8192x1024, .bf16⟩
  | .local _ .vmem, ⟨31, _⟩ => ⟨S8192x512, .bf16⟩
  | .local _ .vmem, ⟨32, _⟩ => ⟨S8192x512, .bf16⟩
  | .local _ .vmem, ⟨33, _⟩ => ⟨S1024x512, .bf16⟩
  | .local _ .vmem, ⟨34, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S8192x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S8192x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S8192x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S8192x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S256x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S8192x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S8192x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 11, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S8192x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S8192x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference4Ideal.lean ====
abbrev S8192x2048 : Shape := ⟨2, ![8192, 2048]⟩
abbrev S2048x5632 : Shape := ⟨2, ![2048, 5632]⟩
abbrev S8192x5632 : Shape := ⟨2, ![8192, 5632]⟩
abbrev S2048x2048 : Shape := ⟨2, ![2048, 2048]⟩
abbrev S8192x256 : Shape := ⟨2, ![8192, 256]⟩
abbrev S_ : Shape := ⟨0, ![]⟩
abbrev S256x2048 : Shape := ⟨2, ![256, 2048]⟩
abbrev S2048x256 : Shape := ⟨2, ![2048, 256]⟩
abbrev S5632x2048 : Shape := ⟨2, ![5632, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x256, .f32⟩
  | .hbm, ⟨9, _⟩ => ⟨S8192x2048, .f32⟩
  | .hbm, ⟨10, _⟩ => ⟨S8192x5632, .f32⟩
  | .hbm, ⟨11, _⟩ => ⟨S8192x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S_, .f32⟩
  | .hbm, ⟨16, _⟩ => ⟨S2048x2048, .f32⟩
  | .hbm, ⟨17, _⟩ => ⟨S_, .f32⟩
  | .hbm, ⟨18, _⟩ => ⟨S256x2048, .f32⟩
  | .hbm, ⟨19, _⟩ => ⟨S8192x2048, .f32⟩
  | .hbm, ⟨20, _⟩ => ⟨S8192x2048, .f32⟩
  | .hbm, ⟨21, _⟩ => ⟨S2048x256, .f32⟩
  | .hbm, ⟨22, _⟩ => ⟨S256x2048, .f32⟩
  | .hbm, ⟨23, _⟩ => ⟨S2048x2048, .f32⟩
  | .hbm, ⟨24, _⟩ => ⟨S2048x2048, .f32⟩
  | .hbm, ⟨25, _⟩ => ⟨S5632x2048, .f32⟩
  | .hbm, ⟨26, _⟩ => ⟨S2048x5632, .f32⟩
  | .hbm, ⟨27, _⟩ => ⟨S2048x5632, .bf16⟩
  | .hbm, ⟨28, _⟩ => ⟨S2048x2048, .bf16⟩
  | .hbm, ⟨29, _⟩ => ⟨S2048x2048, .bf16⟩
  | .hbm, ⟨30, _⟩ => ⟨S256x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Kernel5.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S8192x1 : Shape := ⟨2, ![8192, 1]⟩
abbrev S512x5632 : Shape := ⟨2, ![512, 5632]⟩
abbrev S5632x512 : Shape := ⟨2, ![5632, 512]⟩
abbrev S512x2048 : Shape := ⟨2, ![512, 2048]⟩
abbrev S512x1 : Shape := ⟨2, ![512, 1]⟩
abbrev S4x512x512 : Shape := ⟨3, ![4, 512, 512]⟩
abbrev S512x512 : Shape := ⟨2, ![512, 512]⟩
abbrev S1x512x512 : Shape := ⟨3, ![1, 512, 512]⟩
abbrev S64x2048 : Shape := ⟨2, ![64, 2048]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩

abbrev nBuf : Space → Nat
  | .hbm => 11
  | .vmem => 17
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x5632, .bf16⟩
  | .hbm, ⟨6, _⟩ => ⟨S5632x2048, .bf16⟩
  | .hbm, ⟨7, _⟩ => ⟨S8192x2048, .f32⟩
  | .hbm, ⟨8, _⟩ => ⟨S8192x2048, .bf16⟩
  | .hbm, ⟨9, _⟩ => ⟨S8192x2048, .f32⟩
  | .hbm, ⟨10, _⟩ => ⟨S8192x1, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S512x1, .f32⟩
  | .local _ .vmem, ⟨15, _⟩ => ⟨S512x1, .f32⟩
  | .local _ .vmem, ⟨16, _⟩ => ⟨S4x512x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v5 : Index := Scalar.indexCast arg1
  let c0_3 : Index := 0#32
  let c0_4 : Index := 0#32
  ![v5.toNat, 0, 0]
def k0_cond1 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32 : BitVec 32 := 0#32
  let v11 : BitVec 1 := Scalar.cmpi .ne v10 c0_i32
  v11

@[reducible] def k0_t1_loop : Scf.Loop 32 :=
  let c0_i32_5 : BitVec 32 := 0#32
  let c8_i32 : BitVec 32 := 8#32
  let v12 : BitVec 32 := Scalar.addi c0_i32_5 c8_i32
  let c1_i32 : BitVec 32 := 1#32
  ⟨c0_i32_5, v12, c1_i32⟩
def k0_mult1 (k0_t1 : Fin k0_t1_loop.trips) : BitVec 32 :=
  let c0_i32_5 : BitVec 32 := 0#32
  let c1_i32 : BitVec 32 := 1#32
  let arg12 : BitVec 32 := Scf.iv c0_i32_5 c1_i32 k0_t1
  let c64_i32 : BitVec 32 := 64#32
  let v13 : BitVec 32 := Scalar.muli arg12 c64_i32
  v13
def k0_off2 (k0_t1 : Fin k0_t1_loop.trips) : Fin 2 → Nat :=
  let c0_i32_5 : BitVec 32 := 0#32
  let c1_i32 : BitVec 32 := 1#32
  let arg12 : BitVec 32 := Scf.iv c0_i32_5 c1_i32 k0_t1
  let c64_i32 : BitVec 32 := 64#32
  let v13 : BitVec 32 := Scalar.muli arg12 c64_i32
  let v14 : BitVec 32 := v13
  let v15 : Index := Scalar.indexCast v14
  let c0_7 : Index := 0#32
  ![v15.toNat, 0]
def k0_off3 (k0_t1 : Fin k0_t1_loop.trips) : Fin 3 → Nat :=
  let c0_9 : Index := 0#32
  let c0_i32_5 : BitVec 32 := 0#32
  let c1_i32 : BitVec 32 := 1#32
  let arg12 : BitVec 32 := Scf.iv c0_i32_5 c1_i32 k0_t1
  let c64_i32 : BitVec 32 := 64#32
  let v13 : BitVec 32 := Scalar.muli arg12 c64_i32
  let v14 : BitVec 32 := v13
  let v19 : Index := Scalar.indexCast v14
  let c0_10 : Index := 0#32
  ![0, v19.toNat, 0]
def k0_off4 (k0_t1 : Fin k0_t1_loop.trips) : Fin 3 → Nat :=
  let c1 : Index := 1#32
  let c0_i32_5 : BitVec 32 := 0#32
  let c1_i32 : BitVec 32 := 1#32
  let arg12 : BitVec 32 := Scf.iv c0_i32_5 c1_i32 k0_t1
  let c64_i32 : BitVec 32 := 64#32
  let v13 : BitVec 32 := Scalar.muli arg12 c64_i32
  let v14 : BitVec 32 := v13
  let v22 : Index := Scalar.indexCast v14
  let c0_11 : Index := 0#32
  ![1, v22.toNat, 0]
def k0_off5 (k0_t1 : Fin k0_t1_loop.trips) : Fin 3 → Nat :=
  let c2 : Index := 2#32
  let c0_i32_5 : BitVec 32 := 0#32
  let c1_i32 : BitVec 32 := 1#32
  let arg12 : BitVec 32 := Scf.iv c0_i32_5 c1_i32 k0_t1
  let c64_i32 : BitVec 32 := 64#32
  let v13 : BitVec 32 := Scalar.muli arg12 c64_i32
  let v14 : BitVec 32 := v13
  let v25 : Index := Scalar.indexCast v14
  let c0_12 : Index := 0#32
  ![2, v25.toNat, 0]
def k0_off6 (k0_t1 : Fin k0_t1_loop.trips) : Fin 3 → Nat :=
  let c3 : Index := 3#32
  let c0_i32_5 : BitVec 32 := 0#32
  let c1_i32 : BitVec 32 := 1#32
  let arg12 : BitVec 32 := Scf.iv c0_i32_5 c1_i32 k0_t1
  let c64_i32 : BitVec 32 := 64#32
  let v13 : BitVec 32 := Scalar.muli arg12 c64_i32
  let v14 : BitVec 32 := v13
  let v28 : Index := Scalar.indexCast v14
  let c0_13 : Index := 0#32
  ![3, v28.toNat, 0]
def k0_off7 (k0_t1 : Fin k0_t1_loop.trips) : Fin 2 → Nat :=
  let c0_i32_5 : BitVec 32 := 0#32
  let c1_i32 : BitVec 32 := 1#32
  let arg12 : BitVec 32 := Scf.iv c0_i32_5 c1_i32 k0_t1
  let c64_i32 : BitVec 32 := 64#32
  let v13 : BitVec 32 := Scalar.muli arg12 c64_i32
  let v14 : BitVec 32 := v13
  let v64 : Index := Scalar.indexCast v14
  let c0_27 : Index := 0#32
  ![v64.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Dx.lean ====
/- The input gradient's launch: the carried buffer holds the first half's partial products, which the second half's points add. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.WritesUnit
public import Idealize.ShloMosaic.Lib.VecWindow
public import Idealize.ShloMosaic.Lib.Claim

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- `S'` is the carried buffer `S` with slice `j` replaced by `p`. -/
def Filled (S S' : Vec F S4x1024x512 .f32) (j : ℕ) (p : Vec F S1x1024x512 .f32) : Prop :=
  (∀ y : S4x1024x512.Idx, (y 0).val ≠ j → S' y = S y)
    ∧ ∀ (y : S4x1024x512.Idx) (x : S1x1024x512.Idx), (y 0).val = j → (y 1).val = (x 1).val → (y 2).val = (x 2).val → S' y = p x

set_option maxHeartbeats 1000000 in
/-- A point of the first half: the partial product goes to its slice of the carried buffer, the output is left alone. -/
theorem run_first (c : Dev nD) (i : grid0.Coords) (arg3 : Memref sig .tc .vmem S1024x2816 .bf16) (h3 : arg3.IsWhole) (arg4 : Memref sig .tc .vmem S1024x2816 .bf16) (h4 : arg4.IsWhole)
    (arg5 : Memref sig .tc .vmem S2816x512 .bf16) (h5 : arg5.IsWhole) (arg6 : Memref sig .tc .vmem S2816x512 .bf16) (h6 : arg6.IsWhole)
    (arg7 : Memref sig .tc .vmem S1024x512 .f32) (h7 : arg7.IsWhole) (arg8 : Memref sig .tc .vmem S1024x512 .f32) (h8 : arg8.IsWhole)
    (arg9 : Memref sig .tc .vmem S4x1024x512 .f32) (h9 : arg9.IsWhole)
    (hc1 : k0_cond1 i = 1#1) (hc2 : ¬ k0_cond2 i = 1#1)
    (x0 x1 : Vec F S1024x2816 .bf16) (x2 x3 : Vec F S2816x512 .bf16) (x4 y : Vec F S1024x512 .f32) (S : Vec F S4x1024x512 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare y
        ∗ owns (c : Thread nD τ) arg9 fullShare S
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare y
          ∗ (∃ S', ⌜Filled S S' (k0_off1 i 0) (k0_pay2 x0 x2 x1 x3)⌝ ∗ owns (c : Thread nD τ) arg9 fullShare S')) -∗ K ⟨⟩))
      ⊢ wp frame (wpE (defs₀ (F := F)) Variants.none c none) E
          (cc0_ffn_dx i arg3 h3 arg4 h4 arg5 h5 arg6 h6 arg7 h7 arg8 h8 arg9 h9) K := by
  simp only [cc0_ffn_dx_eq_skeleton]; unfold cc0_ffn_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := h3.eq_unread hf0; obtain rfl := h4.eq_unread hf1; obtain rfl := h5.eq_unread hf2
  obtain rfl := h6.eq_unread hf3; obtain rfl := h7.eq_unread hf4; obtain rfl := h8.eq_unread hf5; obtain rfl := h9.eq_unread hf6
  sl_exec (disch := first | sl_exact hc1 | sl_exact hc2)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr; · ipureintro; exact h8.read_unread _
    iexact H5
  iexists _; isplitr
  swap
  · iexists _; isplitr
    swap; · iexact H6
    ipureintro; rfl
  ipureintro
  rw [View.readAt_full arg3.view, View.readAt_full arg4.view, View.readAt_full arg5.view, View.readAt_full arg6.view, hf0, hf1, hf2, hf3]
  refine ⟨fun z hz => ?_, fun z x e0 e1 e2 => ?_⟩
  · rw [View.read_writes_cons_unit_of_not_mem _ _ _ _ _ z rfl 0 (by
      show (z 0).val < k0_off1 i 0 ∨ k0_off1 i 0 + 1 ≤ (z 0).val
      omega)]
    exact congrFun hf6 z
  · refine View.read_writes_cons_unit_of_mem _ _ _ _ _ z x rfl fun a => ?_
    fin_cases a
    · have : (x 0).val < 1 := (x 0).isLt
      show (z 0).val = k0_off1 i 0 + (x 0).val
      omega
    · show (z 1).val = 0 + (x 1).val
      omega
    · show (z 2).val = 0 + (x 2).val
      omega

set_option maxHeartbeats 1000000 in
/-- A point of the second half: the slice of the first half is read back and the output stored whole. -/
theorem run_second (c : Dev nD) (i : grid0.Coords) (arg3 : Memref sig .tc .vmem S1024x2816 .bf16) (h3 : arg3.IsWhole) (arg4 : Memref sig .tc .vmem S1024x2816 .bf16) (h4 : arg4.IsWhole)
    (arg5 : Memref sig .tc .vmem S2816x512 .bf16) (h5 : arg5.IsWhole) (arg6 : Memref sig .tc .vmem S2816x512 .bf16) (h6 : arg6.IsWhole)
    (arg7 : Memref sig .tc .vmem S1024x512 .f32) (h7 : arg7.IsWhole) (arg8 : Memref sig .tc .vmem S1024x512 .f32) (h8 : arg8.IsWhole)
    (arg9 : Memref sig .tc .vmem S4x1024x512 .f32) (h9 : arg9.IsWhole)
    (hc1 : ¬ k0_cond1 i = 1#1) (hc2 : k0_cond2 i = 1#1)
    (x0 x1 : Vec F S1024x2816 .bf16) (x2 x3 : Vec F S2816x512 .bf16) (x4 y : Vec F S1024x512 .f32) (S : Vec F S4x1024x512 .f32)
    (p : Vec F S1x1024x512 .f32)
    (hS : ∀ (z : S4x1024x512.Idx) (x : S1x1024x512.Idx), (z 0).val = k0_off2 i 0 → (z 1).val = (x 1).val → (z 2).val = (x 2).val → S z = p x)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare y
        ∗ owns (c : Thread nD τ) arg9 fullShare S
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ owns (c : Thread nD τ) arg8 fullShare (k0_pay3 x0 x2 x1 x3 x4 p)
          ∗ owns (c : Thread nD τ) arg9 fullShare S) -∗ K ⟨⟩))
      ⊢ wp frame (wpE (defs₀ (F := F)) Variants.none c none) E
          (cc0_ffn_dx i arg3 h3 arg4 h4 arg5 h5 arg6 h6 arg7 h7 arg8 h8 arg9 h9) K := by
  simp only [cc0_ffn_dx_eq_skeleton]; unfold cc0_ffn_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := h3.eq_unread hf0; obtain rfl := h4.eq_unread hf1; obtain rfl := h5.eq_unread hf2
  obtain rfl := h6.eq_unread hf3; obtain rfl := h7.eq_unread hf4; obtain rfl := h8.eq_unread hf5; obtain rfl := h9.eq_unread hf6
  sl_exec (disch := first | sl_exact hc1 | sl_exact hc2)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr
    swap; · iexact H5
    ipureintro
    have hp : View.readAt (Elt F) arg9.view (Rect.unit (s := S4x1024x512) (k0_off2 i) S1x1024x512.size (k0_off2_inb i hc2)).toLoadRect (h9.unread S) = p := by
      funext x
      refine (congrFun hf6 _).trans (hS _ x ?_ ?_ ?_)
      · have : (x 0).val < 1 := (x 0).isLt
        show k0_off2 i 0 + 1 * (x 0).val = k0_off2 i 0
        omega
      · show 0 + 1 * (x 1).val = (x 1).val
        omega
      · show 0 + 1 * (x 2).val = (x 2).val
        omega
    rw [View.readAt_full arg3.view, View.readAt_full arg4.view, View.readAt_full arg5.view, View.readAt_full arg6.view, View.readAt_full arg7.view,
      hf0, hf1, hf2, hf3, hf4, hp, View.read_writes_full]
  iexists _; isplitr; · ipureintro; exact h9.read_unread _
  iexact H6

/-! ## The proof data -/

variable (m : (ℓ : Loc nD τ sig) → Buf (Elt F) ℓ) (ρ : Dev nD → PrngReg)

/-- The partial product of a point. -/
def part (c : Dev nD) (t : Fin cfg0.N) : Vec F S1x1024x512 .f32 := k0_pay2 (iblk m c 0 t) (iblk m c 2 t) (iblk m c 1 t) (iblk m c 3 t)

/-- The point of the first half with the same rows and columns, for a point of the second half. -/
def mate (t : Fin cfg0.N) : Fin cfg0.N := ⟨t.val - 4, Nat.lt_of_le_of_lt (Nat.sub_le _ _) t.isLt⟩

/-- What a point of the second half leaves in the output's buffer. -/
def outAt (c : Dev nD) (t : Fin cfg0.N) : Vec F S1024x512 .f32 :=
  k0_pay3 (iblk m c 0 t) (iblk m c 2 t) (iblk m c 1 t) (iblk m c 3 t) (iblk m c 4 t) (part m c (mate t))

/-- What is known of the carried buffer before point `n`: the slices of the last round's first-half points. -/
def Kept (c : Dev nD) (n : ℕ) (S : Vec F S4x1024x512 .f32) : Prop :=
  ∀ t : Fin cfg0.N, t.val % 8 < 4 → t.val < n → n ≤ t.val + 8 → ∀ (z : S4x1024x512.Idx) (x : S1x1024x512.Idx),
    (z 0).val = t.val % 4 → (z 1).val = (x 1).val → (z 2).val = (x 2).val → S z = part m c t x

/-- The carried buffer whole. -/
abbrev carry : Memref sig .tc .vmem S4x1024x512 .f32 := Memref.whole cc0_scratch0

/-- The invariant before point `n`. -/
def Inv (c : Dev nD) (n : ℕ) : sProp 𝕄 :=
  iprop((∃ S, ⌜Kept m c n S⌝ ∗ owns (c : Thread nD τ) carry fullShare S) ∗ (∃ r, prngReg c r))

theorem rest_eq (c : Dev nD) :
    (Pipeline.ΦA spec0 c : sProp 𝕄) = iprop((∃ d, owns (c : Thread nD τ) carry fullShare d) ∗ (∃ r, prngReg c r)) := by
  unfold Pipeline.ΦA; rw [scopedRest0_eq]; simp only [carry, owns_whole]; try rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ n := Inv m c n.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d
theorem before_4 (c : Dev nD) (t : Fin cfg0.N) (d) : (dats m 0 c).before 4 t d = iblk m c 4 t := before0_4_of m _ (A_eq m c 4) (after_4 m c) t d

/-! ## The points' cases -/

theorem first_cases : ∀ t : Fin cfg0.N, t.val % 8 < 4 → k0_cond1 (grid0.coords t) = 1#1 ∧ ¬ k0_cond2 (grid0.coords t) = 1#1
    ∧ k0_off1 (grid0.coords t) 0 = t.val % 4 ∧ cfg0.idle 5 (cfg0.grid.coords t) = true ∧ (cfg0.win 5).flush t = false :=
  (by decide +kernel : ∀ t : Fin grid0.N, t.val % 8 < 4 → k0_cond1 (grid0.coords t) = 1#1 ∧ ¬ k0_cond2 (grid0.coords t) = 1#1
    ∧ k0_off1 (grid0.coords t) 0 = t.val % 4 ∧ idle0 5 (grid0.coords t) = true ∧ win0_5.flush t = false)

theorem second_cases : ∀ t : Fin cfg0.N, ¬ t.val % 8 < 4 → ¬ k0_cond1 (grid0.coords t) = 1#1 ∧ k0_cond2 (grid0.coords t) = 1#1
    ∧ k0_off2 (grid0.coords t) 0 = t.val % 4 ∧ cfg0.idle 5 (cfg0.grid.coords t) = false :=
  (by decide +kernel : ∀ t : Fin grid0.N, ¬ t.val % 8 < 4 → ¬ k0_cond1 (grid0.coords t) = 1#1 ∧ k0_cond2 (grid0.coords t) = 1#1
    ∧ k0_off2 (grid0.coords t) 0 = t.val % 4 ∧ idle0 5 (grid0.coords t) = false)

/-- The invariant's step at a first-half point. -/
theorem Kept.first {c : Dev nD} {t : Fin cfg0.N} (ht : t.val % 8 < 4) {S S' : Vec F S4x1024x512 .f32} (h : Kept m c t.val S)
    (hS : Filled S S' (t.val % 4) (part m c t)) : Kept m c (t.val + 1) S' := by
  intro t' h1 h2 h3 z x e0 e1 e2
  by_cases he : t' = t
  · subst he; exact hS.2 z x e0 e1 e2
  · have hne : t'.val ≠ t.val := fun h => he (Fin.ext h)
    rw [hS.1 z (by omega)]
    exact h t' h1 (by omega) (by omega) z x e0 e1 e2

/-- The invariant's step at a second-half point. -/
theorem Kept.second {c : Dev nD} {t : Fin cfg0.N} (ht : ¬ t.val % 8 < 4) {S : Vec F S4x1024x512 .f32} (h : Kept m c t.val S) :
    Kept m c (t.val + 1) S := by
  intro t' h1 h2 h3
  refine h t' h1 ?_ (by omega)
  rcases Nat.lt_or_ge t'.val t.val with h | h
  · exact h
  · exact absurd h1 (by have : t'.val = t.val := by omega
                        rw [this]; exact ht)

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem leaves_live (c : Dev nD) (t : Fin cfg0.N) (h : cfg0.idle 5 (cfg0.grid.coords t) = false) :
    (dats m 0 c).leavesExact 5 t = owns (c : Thread nD τ) (st0_5 t) fullShare (outAt m c t) := by
  unfold Dat.leavesExact; rw [h, ← after_5 m c t]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4,
    show (dats m 0 c).Φ t.castSucc = Inv m c t.val from rfl, show (dats m 0 c).Φ t.succ = Inv m c (t.val + 1) from rfl]
  unfold Inv
  by_cases ht : t.val % 8 < 4
  · obtain ⟨hc1, hc2, ho, hi, hf⟩ := first_cases t ht
    rw [Dat.leavesExact_idle _ _ _ hi hf]
    iintro ⟨⟨⟨%S, %hS, HS⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ hc1 hc2 (iblk m c 0 t) (iblk m c 1 t) (iblk m c 2 t) (iblk m c 3 t) (iblk m c 4 t) ((dats m 0 c).before 5 t d5) S Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%S', %hS', HS⟩⟩
    isplitl [HS Hg]
    · isplitl [HS]
      · iexists S'; isplitr
        · ipureintro; exact Kept.first m ht hS (ho ▸ hS')
        iexact HS
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5
  · obtain ⟨hc1, hc2, ho, hi⟩ := second_cases t ht
    rw [leaves_live m c t hi]
    iintro ⟨⟨⟨%S, %hS, HS⟩, Hg⟩, Ho, ⟨%d0, H0⟩, ⟨%d1, H1⟩, ⟨%d2, H2⟩, ⟨%d3, H3⟩, ⟨%d4, H4⟩, ⟨%d5, H5⟩⟩
    have hp : ∀ (z : S4x1024x512.Idx) (x : S1x1024x512.Idx), (z 0).val = k0_off2 (grid0.coords t) 0 → (z 1).val = (x 1).val → (z 2).val = (x 2).val → S z = part m c (mate t) x := by
      intro z x e0 e1 e2
      have hm : (mate t).val = t.val - 4 := rfl
      exact hS (mate t) (by omega) (by omega) (by omega) z x (by omega) e1 e2
    iapply (run_second c (grid0.coords t) _ _ _ _ _ _ _ _ _ _ _ _ _ _ hc1 hc2 (iblk m c 0 t) (iblk m c 1 t) (iblk m c 2 t) (iblk m c 3 t) (iblk m c 4 t) ((dats m 0 c).before 5 t d5) S (part m c (mate t)) hp Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]
      · iexists S; isplitr
        · ipureintro; exact Kept.second m ht hS
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem enter (c : Dev nD) : Pipeline.ΦA spec0 c ⊢ (dats m 0 c).Φ 0 := by
  rw [show (dats m 0 c).Φ 0 = Inv m c 0 from rfl, rest_eq]; unfold Inv
  iintro ⟨⟨%d, H⟩, Hg⟩
  isplitl [H]
  · iexists d; isplitr
    · ipureintro; exact fun _ _ h => absurd h (Nat.not_lt_zero _)
    iexact H
  iexact Hg

theorem leave (c : Dev nD) : (dats m 0 c).Φ (Fin.last cfg0.N) ⊢ Pipeline.ΦA spec0 c := by
  rw [show (dats m 0 c).Φ (Fin.last cfg0.N) = Inv m c cfg0.N from rfl, rest_eq]; unfold Inv
  iintro ⟨⟨%S, -, H⟩, Hg⟩
  isplitl [H]
  · iexists S; iexact H
  iexact Hg

/-- Every window holds its array whole. -/
theorem full_share (c : Dev nD) (w : Fin cfg0.W) : (dats m 0 c).share w = fullShare := by
  unfold Dat.share; split <;> rfl

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => full_share m c w)
    (howed := fun _ _ => rfl) (V := V m) (hmain := hmain m Variants.none) (hA := A_eq m) (hin := enter m) (hout := leave m)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel2Ideal.Own

end
-- ==== Proof.DxValue.lean ====
/- The input gradient's final array: the two halves of the contraction together are the whole products. -/
module

public import proofs.«01_k».proof.Proof.Dx
public import Idealize.ShloMosaic.Lib.Pipeline.ValueKit
public import Idealize.ShloMosaic.Lib.Pointwise
public import proofs.«01_k».proof.Proof.Gen.Reference2Ideal.Run

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL Idealize.SL.Sem
open Idealize.ShloMosaic.Pipeline (Dat Cfg Window)
open scoped BigOperators

variable (m : (ℓ : Loc nD τ sig) → Buf (Elt Ideal) ℓ) (ρ : Dev nD → PrngReg)

/-- A sum over the hidden width is the sum over its two halves. -/
theorem sum_halves (f : Fin 5632 → EReal) : ∑ k, f k
    = ∑ k : Fin 2816, f ⟨k.val, by omega⟩ + ∑ k : Fin 2816, f ⟨2816 + k.val, by omega⟩ :=
  Fin.sum_univ_add (a := 2816) (b := 2816) f

/-- The input gradient over the arrays the region finds. -/
def dxOf (g u : FVec Ideal S8192x5632 .bf16) (wg wu : FVec Ideal S5632x2048 .bf16) (z : FVec Ideal S8192x2048 .f32) : FVec Ideal S8192x2048 .f32 :=
  fun i => Ideal.ofBits .f32 0x3F9837F0#32 * z i
    + (∑ k : Fin 5632, g (ix2 (i 0) k) * wg (ix2 k (i 1)) + ∑ k : Fin 5632, u (ix2 (i 0) k) * wu (ix2 k (i 1)))

theorem idx : ∀ t : Fin cfg0.N, ¬ t.val % 8 < 4 → (win0_0.index t = ![t.val / 8, 1] ∧ win0_1.index t = ![t.val / 8, 1]
    ∧ win0_2.index t = ![1, t.val % 4] ∧ win0_3.index t = ![1, t.val % 4] ∧ win0_4.index t = ![t.val / 8, t.val % 4]
    ∧ win0_5.index t = ![t.val / 8, t.val % 4]) ∧ win0_0.index (mate t) = ![t.val / 8, 0] ∧ win0_1.index (mate t) = ![t.val / 8, 0]
    ∧ win0_2.index (mate t) = ![0, t.val % 4] ∧ win0_3.index (mate t) = ![0, t.val % 4] :=
  (by decide +kernel : ∀ t : Fin grid0.N, _)

theorem point (c : Dev nD) (t : Fin cfg0.N) (ht : ¬ t.val % 8 < 4) (y) : outAt m c t y
    = dxOf (V m c main_v0) (V m c main_v1) (V m c main_v3) (V m c main_v5) (V m c main_arg4) (((cfg0.win 5).blk t).view.emb y) := by
  pointwise [outAt, part, k0_pay3, k0_pay2, k0_pay1, dxOf]
  rw [sum_halves, sum_halves, add_add_add_comm]
  obtain ⟨⟨h0, h1, h2, h3, h4, h5⟩, g0, g1, g2, g3⟩ := idx t ht
  blk_point [iblk, h0, h1, h2, h3, h4, h5, g0, g1, g2, g3]

theorem final (c : Dev nD) : (dats m 0 c).arrAt 5 cfg0.N
    = dxOf (V m c main_v0) (V m c main_v1) (V m c main_v3) (V m c main_v5) (V m c main_arg4) := by
  refine (dats m 0 c).arrAt_eq_of_covers 5 _ (by decide +kernel) fun t hf y => ?_
  blk_simp
  rw [after_5]
  refine point m c t (fun h => ?_) y
  have := (first_cases t h).2.2.2.2
  rw [this] at hf; exact absurd hf (by decide)

/-! ## The arrays the region finds, over the arguments -/

abbrev rows (x : FVec Ideal S8192x5632 .f32) : FVec Ideal S8192x5632 .bf16 := truncf .bf16 x bitsLt_bf16_f32
abbrev turned (w : FVec Ideal S2048x5632 .f32) : FVec Ideal S5632x2048 .bf16 :=
  truncf .bf16 (transpose S5632x2048 [1, 0] w transposes_S2048x5632_S5632x2048_1_0) bitsLt_bf16_f32

theorem at_v0 (c : Dev nD) : V m c main_v0 = rows (m ((c : Thread nD τ).loc main_arg0)) := by
  unfold V; after_results_simp <;> rfl
theorem at_v1 (c : Dev nD) : V m c main_v1 = rows (m ((c : Thread nD τ).loc main_arg1)) := by
  unfold V; after_results_simp <;> rfl
theorem at_v3 (c : Dev nD) : V m c main_v3 = turned (m ((c : Thread nD τ).loc main_arg2)) := by
  unfold V; after_results_simp <;> rfl
theorem at_v5 (c : Dev nD) : V m c main_v5 = turned (m ((c : Thread nD τ).loc main_arg3)) := by
  unfold V; after_results_simp <;> rfl

/-! ## The reference's term -/

section
open Cert.Reference2Ideal Cert.Reference2Ideal.Gen
variable (x0 x1 : FVec Ideal S8192x5632 .f32) (x2 x3 : FVec Ideal S2048x5632 .f32) (x4 : FVec Ideal S8192x2048 .f32)

/-- The reference's input gradient. -/
abbrev refDx : FVec Ideal S8192x2048 .f32 :=
  addf (addf (mulf (broadcastInDim S8192x2048 ![] bcast_S_S8192x2048 (constant S_ .f32 0x3F9837F0#32)) x4)
    (Host.dotGeneral dot_S8192x5632_S2048x5632_S8192x2048_1_1_0_0_n_n none x1 x3))
    (Host.dotGeneral dot_S8192x5632_S2048x5632_S8192x2048_1_1_0_0_n_n none x0 x2)

theorem dx_eq : dxOf (rows x0) (rows x1) (turned x2) (turned x3) x4 = refDx x0 x1 x2 x3 x4 := by
  funext i
  pointwise [refDx, dxOf]
  rw [add_assoc]; congr 1
  exact add_comm _ _

end

/-- The final array over the arguments. -/
theorem final_args (c : Dev nD) : (dats m 0 c).arrAt 5 cfg0.N
    = refDx (m ((c : Thread nD τ).loc main_arg0)) (m ((c : Thread nD τ).loc main_arg1)) (m ((c : Thread nD τ).loc main_arg2))
        (m ((c : Thread nD τ).loc main_arg3)) (m ((c : Thread nD τ).loc main_arg4)) := by
  rw [final, at_v0, at_v1, at_v3, at_v5, V_main_arg4]
  exact dx_eq _ _ _ _ _

end Cert.Kernel2Ideal.Own

end
-- ==== Proof.Arrays.lean ====
/- The five products' arrays as whole-array functions: what each launch of the SwiGLU backward leaves, entry by entry. -/
module

public import proofs.«01_k».proof.Proof.Gen.KernelIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Own

open Cert.KernelIdeal Cert.KernelIdeal.Gen

/-- A row of the tokens against a row of a transposed weight. -/
def rowDot (X : FVec Ideal S8192x2048 .bf16) (W : FVec Ideal S5632x2048 .bf16) (i : S8192x5632.Idx) : EReal :=
  ∑ k : Fin 2048, X (ix2 (i 0) k) * W (ix2 (i 1) k)

/-- The gate's activation `silu(x · w_gate)`. -/
def siluOf (X : FVec Ideal S8192x2048 .bf16) (WG : FVec Ideal S5632x2048 .bf16) : FVec Ideal S8192x5632 .bf16 := fun i =>
  rowDot X WG i * Ideal.logistic (rowDot X WG i)

/-- The up projection times the activation's derivative. -/
def slopeOf (X : FVec Ideal S8192x2048 .bf16) (WG WU : FVec Ideal S5632x2048 .bf16) : FVec Ideal S8192x5632 .bf16 := fun i =>
  rowDot X WU i * (Ideal.logistic (rowDot X WG i) * (1 + rowDot X WG i * (1 - Ideal.logistic (rowDot X WG i))))

/-- The hidden layer `silu(x · w_gate) · (x · w_up)`. -/
def hiddenOf (X : FVec Ideal S8192x2048 .bf16) (WG WU : FVec Ideal S5632x2048 .bf16) : FVec Ideal S8192x5632 .bf16 := fun i =>
  rowDot X WG i * Ideal.logistic (rowDot X WG i) * rowDot X WU i

/-- The gradient of `w_down`: the hidden layer against the cotangent over the tokens, halved. -/
def downOf (H : FVec Ideal S8192x5632 .bf16) (D : FVec Ideal S8192x2048 .bf16) : FVec Ideal S5632x2048 .bf16 := fun i =>
  (∑ k : Fin 8192, H (ix2 k (i 0)) * D (ix2 k (i 1))) * Ideal.ofBits .f32 0x3F000000#32

/-- The hidden layer's cotangent through `w_down`, halved, times a factor of the forward pass. -/
def backOf (D : FVec Ideal S8192x2048 .bf16) (WD : FVec Ideal S5632x2048 .bf16) (P : FVec Ideal S8192x5632 .bf16) :
    FVec Ideal S8192x5632 .bf16 := fun i =>
  (∑ k : Fin 2048, D (ix2 (i 0) k) * WD (ix2 (i 1) k)) * Ideal.ofBits .f32 0x3F000000#32 * P i

/-- The gradient of an input weight: the tokens against a cotangent over the tokens. -/
def weightOf (X : FVec Ideal S8192x2048 .bf16) (G : FVec Ideal S8192x5632 .bf16) : FVec Ideal S2048x5632 .bf16 := fun i =>
  ∑ k : Fin 8192, X (ix2 k (i 0)) * G (ix2 k (i 1))

/-! ## The host's preparation of the arguments -/

abbrev tokens (x : FVec Ideal S8192x2048 .f32) : FVec Ideal S8192x2048 .bf16 := truncf .bf16 x bitsLt_bf16_f32
abbrev turned (w : FVec Ideal S2048x5632 .f32) : FVec Ideal S5632x2048 .bf16 :=
  truncf .bf16 (transpose S5632x2048 [1, 0] w transposes_S2048x5632_S5632x2048_1_0) bitsLt_bf16_f32
abbrev straight (w : FVec Ideal S5632x2048 .f32) : FVec Ideal S5632x2048 .bf16 := truncf .bf16 w bitsLt_bf16_f32

end Cert.KernelIdeal.Own

end
-- ==== Proof.Up.lean ====
/- What the forward launch leaves: the activation, the slope and the hidden layer of every token. -/
module

public import proofs.«01_k».proof.Proof.Gen.KernelIdeal.Frame
public import proofs.«01_k».proof.Proof.Arrays

@[expose] public section

set_option maxRecDepth 16384

noncomputable section

open Idealize.ShloMosaic Idealize.ShloMosaic.TcCoe Idealize.SL.Sem
open Idealize.ShloMosaic.Pipeline (Dat)

namespace Cert.KernelIdeal.Own

open Cert.KernelIdeal Cert.KernelIdeal.Gen

variable (V : (c : Dev nD) → (b : Ref sig .tc) → Buf (Elt Ideal) ((c : Thread nD τ).loc b))

theorem idx0 : ∀ t : Fin cfg0.N, win0_0.index t = ![(grid0.coords t 0).val, 0] ∧ win0_1.index t = ![(grid0.coords t 1).val, 0]
    ∧ win0_2.index t = ![(grid0.coords t 1).val, 0] ∧ win0_3.index t = ![(grid0.coords t 0).val, (grid0.coords t 1).val]
    ∧ win0_4.index t = ![(grid0.coords t 0).val, (grid0.coords t 1).val] ∧ win0_5.index t = ![(grid0.coords t 0).val, (grid0.coords t 1).val] :=
  (by decide +kernel : ∀ t : Fin grid0.N, _)

theorem point0_3 (c : Dev nD) (t : Fin cfg0.N) (y) : k0_pay6 (iblk0 V c 0 t) (iblk0 V c 1 t) (iblk0 V c 2 t) y
    = slopeOf (V c main_v0) (V c main_v3) (V c main_v5) (((cfg0.win 3).blk t).view.emb y) := by
  pointwise [k0_pay6, k0_pay5, k0_pay4, k0_pay3, k0_pay2, k0_pay1, slopeOf, rowDot]
  blk_point [iblk0, idx0 t]

theorem final0_3 (c : Dev nD) : (dat0 V c).arrAt 3 cfg0.N = slopeOf (V c main_v0) (V c main_v3) (V c main_v5) := by
  refine (dat0 V c).arrAt_eq_of_covers 3 _ (by decide +kernel) fun t _ y => ?_
  blk_simp
  rw [after0_3]; frame_out
  exact point0_3 V c t y

theorem point0_4 (c : Dev nD) (t : Fin cfg0.N) (y) : k0_pay7 (iblk0 V c 0 t) (iblk0 V c 1 t) y
    = siluOf (V c main_v0) (V c main_v3) (((cfg0.win 4).blk t).view.emb y) := by
  pointwise [k0_pay7, k0_pay5, k0_pay4, k0_pay2, k0_pay1, siluOf, rowDot]
  blk_point [iblk0, idx0 t]

theorem final0_4 (c : Dev nD) : (dat0 V c).arrAt 4 cfg0.N = siluOf (V c main_v0) (V c main_v3) := by
  refine (dat0 V c).arrAt_eq_of_covers 4 _ (by decide +kernel) fun t _ y => ?_
  blk_simp
  rw [after0_4]; frame_out
  exact point0_4 V c t y

theorem point0_5 (c : Dev nD) (t : Fin cfg0.N) (y) : k0_pay8 (iblk0 V c 0 t) (iblk0 V c 1 t) (iblk0 V c 2 t) y
    = hiddenOf (V c main_v0) (V c main_v3) (V c main_v5) (((cfg0.win 5).blk t).view.emb y) := by
  pointwise [k0_pay8, k0_pay5, k0_pay4, k0_pay3, k0_pay2, k0_pay1, hiddenOf, rowDot]
  blk_point [iblk0, idx0 t]

theorem final0_5 (c : Dev nD) : (dat0 V c).arrAt 5 cfg0.N = hiddenOf (V c main_v0) (V c main_v3) (V c main_v5) := by
  refine (dat0 V c).arrAt_eq_of_covers 5 _ (by decide +kernel) fun t _ y => ?_
  blk_simp
  rw [after0_5]; frame_out
  exact point0_5 V c t y

end Cert.KernelIdeal.Own

end
-- ==== Proof.Back.lean ====
/- What the hidden-layer launch leaves: the cotangents of the two input projections, stored in eight row pieces a block. -/
module

public import proofs.«01_k».proof.Proof.Gen.KernelIdeal.Frame
public import proofs.«01_k».proof.Proof.Arrays

@[expose] public section

set_option maxRecDepth 16384

noncomputable section

open Idealize.ShloMosaic Idealize.ShloMosaic.TcCoe Idealize.SL.Sem
open Idealize.ShloMosaic.Pipeline (Dat)

namespace Cert.KernelIdeal.Own

open Cert.KernelIdeal Cert.KernelIdeal.Gen

variable (V : (c : Dev nD) → (b : Ref sig .tc) → Buf (Elt Ideal) ((c : Thread nD τ).loc b))

theorem idx2 : ∀ t : Fin cfg2.N, win2_0.index t = ![(grid2.coords t 0).val, 0] ∧ win2_1.index t = ![(grid2.coords t 1).val, 0]
    ∧ win2_2.index t = ![(grid2.coords t 0).val, (grid2.coords t 1).val] ∧ win2_3.index t = ![(grid2.coords t 0).val, (grid2.coords t 1).val]
    ∧ win2_4.index t = ![(grid2.coords t 0).val, (grid2.coords t 1).val] ∧ win2_5.index t = ![(grid2.coords t 0).val, (grid2.coords t 1).val] :=
  (by decide +kernel : ∀ t : Fin grid2.N, _)

/-- A block of the launch, in one piece: its rows against the weight's rows, halved, times the factor's block. -/
def backBlk (x0 : FVec Ideal S2048x2048 .bf16) (x1 : FVec Ideal S512x2048 .bf16) (x2 : FVec Ideal S2048x512 .bf16) :
    FVec Ideal S2048x512 .bf16 := fun y =>
  (∑ k : Fin 2048, x0 (ix2 (y 0) k) * x1 (ix2 (y 1) k)) * Ideal.ofBits .f32 0x3F000000#32 * x2 y

theorem out2_4_eq (x0 : Vec Ideal S2048x2048 .bf16) (x1 : Vec Ideal S512x2048 .bf16) (x2 x3 : Vec Ideal S2048x512 .bf16)
    (y : S2048x512.Idx) : out2_4 x0 x1 x2 x3 y = backBlk x0 x1 x2 y := by
  unfold_out out2_4
  canon_tiles x h
  all_goals (open_payloads; pointwise [backBlk]; blk_point [])

theorem point2_4 (c : Dev nD) (t : Fin cfg2.N) (y) : backBlk (iblk2 V c 0 t) (iblk2 V c 1 t) (iblk2 V c 2 t) y
    = backOf (V c main_v1) (V c main_v6) (V c main_v7_0) (((cfg2.win 4).blk t).view.emb y) := by
  pointwise [backBlk, backOf]
  blk_point [iblk2, idx2 t]

theorem final2_4 (c : Dev nD) : (dat2 V c).arrAt 4 cfg2.N = backOf (V c main_v1) (V c main_v6) (V c main_v7_0) := by
  refine (dat2 V c).arrAt_eq_of_covers 4 _ (by decide +kernel) fun t _ y => ?_
  blk_simp
  rw [after2_4]
  exact (out2_4_eq _ _ _ _ _).trans (point2_4 V c t y)

theorem out2_5_eq (x0 : Vec Ideal S2048x2048 .bf16) (x1 : Vec Ideal S512x2048 .bf16) (x2 x3 : Vec Ideal S2048x512 .bf16)
    (y : S2048x512.Idx) : out2_5 x0 x1 x2 x3 y = backBlk x0 x1 x3 y := by
  unfold_out out2_5
  canon_tiles x h
  all_goals (open_payloads; pointwise [backBlk]; blk_point [])

theorem point2_5 (c : Dev nD) (t : Fin cfg2.N) (y) : backBlk (iblk2 V c 0 t) (iblk2 V c 1 t) (iblk2 V c 3 t) y
    = backOf (V c main_v1) (V c main_v6) (V c main_v7_1) (((cfg2.win 5).blk t).view.emb y) := by
  pointwise [backBlk, backOf]
  blk_point [iblk2, idx2 t]

theorem final2_5 (c : Dev nD) : (dat2 V c).arrAt 5 cfg2.N = backOf (V c main_v1) (V c main_v6) (V c main_v7_1) := by
  refine (dat2 V c).arrAt_eq_of_covers 5 _ (by decide +kernel) fun t _ y => ?_
  blk_simp
  rw [after2_5]
  exact (out2_5_eq _ _ _ _ _).trans (point2_5 V c t y)

end Cert.KernelIdeal.Own

end
-- ==== Proof.Weights.lean ====
/- What the three weight launches leave: each weight's gradient. -/
module

public import proofs.«01_k».proof.Proof.Gen.KernelIdeal.Frame
public import proofs.«01_k».proof.Proof.Arrays

@[expose] public section

set_option maxRecDepth 16384

noncomputable section

open Idealize.ShloMosaic Idealize.ShloMosaic.TcCoe Idealize.SL.Sem
open Idealize.ShloMosaic.Pipeline (Dat)

namespace Cert.KernelIdeal.Own

open Cert.KernelIdeal Cert.KernelIdeal.Gen

variable (V : (c : Dev nD) → (b : Ref sig .tc) → Buf (Elt Ideal) ((c : Thread nD τ).loc b))

theorem idx1 : ∀ t : Fin cfg1.N, win1_0.index t = ![0, (grid1.coords t 0).val] ∧ win1_1.index t = ![0, (grid1.coords t 1).val]
    ∧ win1_2.index t = ![(grid1.coords t 0).val, (grid1.coords t 1).val] :=
  (by decide +kernel : ∀ t : Fin grid1.N, _)

theorem point1_2 (c : Dev nD) (t : Fin cfg1.N) (y) : k1_pay1 (iblk1 V c 0 t) (iblk1 V c 1 t) y
    = downOf (V c main_v7_2) (V c main_v1) (((cfg1.win 2).blk t).view.emb y) := by
  pointwise [k1_pay1, downOf]
  blk_point [iblk1, idx1 t]

theorem final1_2 (c : Dev nD) : (dat1 V c).arrAt 2 cfg1.N = downOf (V c main_v7_2) (V c main_v1) := by
  refine (dat1 V c).arrAt_eq_of_covers 2 _ (by decide +kernel) fun t _ y => ?_
  blk_simp
  rw [after1_2]; frame_out
  exact point1_2 V c t y

theorem idx3 : ∀ t : Fin cfg3.N, win3_0.index t = ![0, (grid3.coords t 0).val] ∧ win3_1.index t = ![0, (grid3.coords t 1).val]
    ∧ win3_2.index t = ![(grid3.coords t 0).val, (grid3.coords t 1).val] :=
  (by decide +kernel : ∀ t : Fin grid3.N, _)

theorem point3_2 (c : Dev nD) (t : Fin cfg3.N) (y) : k3_pay1 (iblk3 V c 0 t) (iblk3 V c 1 t) y
    = weightOf (V c main_v0) (V c main_v9_0) (((cfg3.win 2).blk t).view.emb y) := by
  pointwise [k3_pay1, weightOf]
  blk_point [iblk3, idx3 t]

theorem final3_2 (c : Dev nD) : (dat3 V c).arrAt 2 cfg3.N = weightOf (V c main_v0) (V c main_v9_0) := by
  refine (dat3 V c).arrAt_eq_of_covers 2 _ (by decide +kernel) fun t _ y => ?_
  blk_simp
  rw [after3_2]; frame_out
  exact point3_2 V c t y

theorem idx4 : ∀ t : Fin cfg4.N, win4_0.index t = ![0, (grid4.coords t 0).val] ∧ win4_1.index t = ![0, (grid4.coords t 1).val]
    ∧ win4_2.index t = ![(grid4.coords t 0).val, (grid4.coords t 1).val] :=
  (by decide +kernel : ∀ t : Fin grid4.N, _)

theorem point4_2 (c : Dev nD) (t : Fin cfg4.N) (y) : k4_pay1 (iblk4 V c 0 t) (iblk4 V c 1 t) y
    = weightOf (V c main_v0) (V c main_v9_1) (((cfg4.win 2).blk t).view.emb y) := by
  pointwise [k4_pay1, weightOf]
  blk_point [iblk4, idx4 t]

theorem final4_2 (c : Dev nD) : (dat4 V c).arrAt 2 cfg4.N = weightOf (V c main_v0) (V c main_v9_1) := by
  refine (dat4 V c).arrAt_eq_of_covers 2 _ (by decide +kernel) fun t _ y => ?_
  blk_simp
  rw [after4_2]; frame_out
  exact point4_2 V c t y

end Cert.KernelIdeal.Own

end
-- ==== Proof.Run.lean ====
/- The kernel's run with its results read: every buffer at the last boundary's contents, and those contents over the arguments. -/
module

public import proofs.«01_k».proof.Proof.Up
public import proofs.«01_k».proof.Proof.Back
public import proofs.«01_k».proof.Proof.Weights

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every unscoped buffer ends at the fold's last contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)

    (hQ := fun s h hz => h)

/-! ## The contents at each boundary -/

theorem at1_v0 (c : Dev nD) : V1 m ρ c main_v0 = tokens (m ((c : Thread nD τ).loc main_arg0)) := by
  show StableHlo.after hostOps0 (W0 m ρ c) (Proc.devRef .tc main_v0) = _
  after_results_simp <;> rfl
theorem at1_v1 (c : Dev nD) : V1 m ρ c main_v1 = tokens (m ((c : Thread nD τ).loc main_arg1)) := by
  show StableHlo.after hostOps0 (W0 m ρ c) (Proc.devRef .tc main_v1) = _
  after_results_simp <;> rfl
theorem at1_v3 (c : Dev nD) : V1 m ρ c main_v3 = turned (m ((c : Thread nD τ).loc main_arg2)) := by
  show StableHlo.after hostOps0 (W0 m ρ c) (Proc.devRef .tc main_v3) = _
  after_results_simp <;> rfl
theorem at1_v5 (c : Dev nD) : V1 m ρ c main_v5 = turned (m ((c : Thread nD τ).loc main_arg3)) := by
  show StableHlo.after hostOps0 (W0 m ρ c) (Proc.devRef .tc main_v5) = _
  after_results_simp <;> rfl
theorem at1_v6 (c : Dev nD) : V1 m ρ c main_v6 = straight (m ((c : Thread nD τ).loc main_arg4)) := by
  show StableHlo.after hostOps0 (W0 m ρ c) (Proc.devRef .tc main_v6) = _
  after_results_simp <;> rfl

theorem at3_v1 (c : Dev nD) : V3 m ρ c main_v1 = V1 m ρ c main_v1 :=
  (W3_of m ρ c main_v1 (by decide)).trans (W2_of m ρ c main_v1 (by decide))
theorem at3_v6 (c : Dev nD) : V3 m ρ c main_v6 = V1 m ρ c main_v6 :=
  (W3_of m ρ c main_v6 (by decide)).trans (W2_of m ρ c main_v6 (by decide))
theorem at5_v0 (c : Dev nD) : V5 m ρ c main_v0 = V1 m ρ c main_v0 :=
  (W5_of m ρ c main_v0 (by decide)).trans ((W4_of m ρ c main_v0 (by decide)).trans
    ((W3_of m ρ c main_v0 (by decide)).trans (W2_of m ρ c main_v0 (by decide))))
theorem at4_v0 (c : Dev nD) : V4 m ρ c main_v0 = V1 m ρ c main_v0 :=
  (W4_of m ρ c main_v0 (by decide)).trans
    ((W3_of m ρ c main_v0 (by decide)).trans (W2_of m ρ c main_v0 (by decide)))

theorem at3_v7_0 (c : Dev nD) : V3 m ρ c main_v7_0 = slopeOf (V1 m ρ c main_v0) (V1 m ρ c main_v3) (V1 m ρ c main_v5) :=
  (W3_of m ρ c main_v7_0 (by decide)).trans ((W2_arr m ρ c 3).trans (final0_3 (V1 m ρ) c))
theorem at3_v7_1 (c : Dev nD) : V3 m ρ c main_v7_1 = siluOf (V1 m ρ c main_v0) (V1 m ρ c main_v3) :=
  (W3_of m ρ c main_v7_1 (by decide)).trans ((W2_arr m ρ c 4).trans (final0_4 (V1 m ρ) c))
theorem at2_v7_2 (c : Dev nD) : V2 m ρ c main_v7_2 = hiddenOf (V1 m ρ c main_v0) (V1 m ρ c main_v3) (V1 m ρ c main_v5) :=
  (W2_arr m ρ c 5).trans (final0_5 (V1 m ρ) c)
theorem at2_v1 (c : Dev nD) : V2 m ρ c main_v1 = V1 m ρ c main_v1 := W2_of m ρ c main_v1 (by decide)

theorem at4_v9_0 (c : Dev nD) : V4 m ρ c main_v9_0 = backOf (V1 m ρ c main_v1) (V1 m ρ c main_v6)
    (slopeOf (V1 m ρ c main_v0) (V1 m ρ c main_v3) (V1 m ρ c main_v5)) := by
  rw [← at3_v7_0, ← at3_v1, ← at3_v6]
  exact (W4_arr m ρ c 4).trans (final2_4 (V3 m ρ) c)
theorem at5_v9_1 (c : Dev nD) : V5 m ρ c main_v9_1 = backOf (V1 m ρ c main_v1) (V1 m ρ c main_v6)
    (siluOf (V1 m ρ c main_v0) (V1 m ρ c main_v3)) := by
  rw [← at3_v7_1, ← at3_v1, ← at3_v6]
  exact (W5_of m ρ c main_v9_1 (by decide)).trans ((W4_arr m ρ c 5).trans (final2_5 (V3 m ρ) c))

theorem end_v8 (c : Dev nD) : W6 m ρ c (Proc.devRef .tc main_v8) =
    downOf (hiddenOf (V1 m ρ c main_v0) (V1 m ρ c main_v3) (V1 m ρ c main_v5)) (V1 m ρ c main_v1) := by
  rw [← at2_v7_2, ← at2_v1]
  exact (W6_of m ρ c main_v8 (by decide)).trans ((W5_of m ρ c main_v8 (by decide)).trans
    ((W4_of m ρ c main_v8 (by decide)).trans ((W3_arr m ρ c 2).trans (final1_2 (V2 m ρ) c))))
theorem end_v10 (c : Dev nD) : W6 m ρ c (Proc.devRef .tc main_v10) =
    weightOf (V1 m ρ c main_v0) (backOf (V1 m ρ c main_v1) (V1 m ρ c main_v6)
      (slopeOf (V1 m ρ c main_v0) (V1 m ρ c main_v3) (V1 m ρ c main_v5))) := by
  rw [← at4_v9_0, ← at4_v0]
  exact (W6_of m ρ c main_v10 (by decide)).trans ((W5_arr m ρ c 2).trans (final3_2 (V4 m ρ) c))
theorem end_v11 (c : Dev nD) : W6 m ρ c (Proc.devRef .tc main_v11) =
    weightOf (V1 m ρ c main_v0) (backOf (V1 m ρ c main_v1) (V1 m ρ c main_v6)
      (siluOf (V1 m ρ c main_v0) (V1 m ρ c main_v3))) := by
  rw [← at5_v9_1, ← at5_v0]
  exact (W6_arr m ρ c 2).trans (final4_2 (V5 m ρ) c)

end Cert.KernelIdeal.Own

end
-- ==== Proof.Real.lean ====
/- Ideal arithmetic on real values: each operation of the two programs at real arguments is the real operation. -/
module

public import Idealize.ShloMosaic.Lib.Pipeline.ValueKit

@[expose] public section

noncomputable section

open scoped BigOperators

namespace Cert.Own

open Idealize.ShloMosaic

theorem exp_coe (r : ℝ) : Ideal.exp (r : EReal) = ((Real.exp r : ℝ) : EReal) := rfl

theorem div_coe (x y : ℝ) (h : y ≠ 0) : Ideal.div (x : EReal) (y : EReal) = ((x / y : ℝ) : EReal) := by
  have h' : (y : EReal) ≠ 0 := by exact_mod_cast h
  unfold Ideal.div
  rw [if_neg h', div_eq_mul_inv, EReal.coe_mul, EReal.coe_inv]

/-- The logistic function on the reals. -/
def sg (x : ℝ) : ℝ := 1 / (1 + Real.exp (-x))

theorem sg_coe (r : ℝ) : Ideal.div 1 (1 + Ideal.exp (-(r : EReal))) = ((sg r : ℝ) : EReal) := by
  have h : (1 + Real.exp (-r)) ≠ 0 := by positivity
  rw [← EReal.coe_neg, exp_coe, ← EReal.coe_one, ← EReal.coe_add, div_coe _ _ h]; rfl

theorem logistic_coe (r : ℝ) : Ideal.logistic (r : EReal) = ((sg r : ℝ) : EReal) := sg_coe r

theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem half_eq : Ideal.ofBits .f32 0x3F000000#32 = ((1 / 2 : ℝ) : EReal) := by
  simp [Ideal.ofBits, Ideal.ieee]
  norm_num
  rw [← EReal.coe_mul]
  norm_num

theorem inf_eq : Ideal.ofBits .f32 0x7F800000#32 = (⊤ : EReal) := by
  simp [Ideal.ofBits, Ideal.ieee]

/-- A value whose magnitude is below infinity is a real. -/
theorem real_of_abs_lt {x : EReal} (h : max x (-x) < ⊤) : ∃ r : ℝ, x = (r : EReal) := by
  induction x using EReal.rec with
  | bot => simp at h
  | top => simp at h
  | coe r => exact ⟨r, rfl⟩

end Cert.Own

end
-- ==== Proof.Pre.lean ====
/- The precondition read off: every argument holds real values only. -/
module

public import proofs.«01_k».proof.Defs
public import proofs.«01_k».proof.Proof.Gen.Pre_finite
public import proofs.«01_k».proof.Proof.Real
public import Idealize.ShloMosaic.Lib.ReduceAll

@[expose] public section

set_option maxRecDepth 16384

noncomputable section

namespace Cert.Own

open Idealize.ShloMosaic Cert.Pre_finite

/-- An array of real values. -/
def Reals {s : Shape} {φ : FTy} (x : FVec Ideal s φ) : Prop := ∃ r : s.Idx → ℝ, x = fun i => ((r i : ℝ) : EReal)

theorem reals_of {s : Shape} {φ : FTy} {x : FVec Ideal s φ} (h : ∀ i, ∃ r : ℝ, x i = (r : EReal)) : Reals x :=
  ⟨fun i => (h i).choose, funext fun i => (h i).choose_spec⟩

theorem andi_split {a b : BitVec 1} (h : IntOp.andi a b = 1#1) : a = 1#1 ∧ b = 1#1 := by
  revert a b; decide

theorem fold_andi {ι : Type*} (s : Finset ι) (f : ι → BitVec 1) (h : Finset.fold IntOp.andi (1#1) f s = 1#1) :
    ∀ k ∈ s, f k = 1#1 := by
  classical
  induction s using Finset.induction_on with
  | empty => intro k hk; simp at hk
  | insert a s ha ih =>
    rw [Finset.fold_insert ha] at h
    intro k hk
    rcases Finset.mem_insert.mp hk with rfl | hk
    · exact (andi_split h).1
    · exact ih (andi_split h).2 k hk

/-- One array's test: every entry's magnitude below infinity makes the array real. -/
theorem reals_of_fold {a b : ℕ} (x : FVec Ideal (⟨2, ![a, b]⟩ : Shape) .f32)
    (h : Finset.fold IntOp.andi (1#1) (fun k : Fin a × Fin b =>
      BitVec.ofBool (decide (FloatOps.absf (x (ix2 k.1 k.2)) < Ideal.ofBits FTy.f32 0x7F800000#32))) Finset.univ = 1#1) :
    Reals x := by
  refine reals_of fun i => ?_
  have e := fold_andi _ _ h (i 0, i 1) (Finset.mem_univ _)
  rw [inf_eq] at e
  have e2 : BitVec.ofBool (decide (FloatOps.absf (x i) < (⊤ : EReal))) = 1#1 := by
    rw [eq_ix2 i]; exact e
  have e' : FloatOps.absf (x i) < (⊤ : EReal) := by
    by_contra hn
    rw [decide_eq_false hn] at e2
    exact absurd e2 (by decide)
  exact real_of_abs_lt e'

theorem finite_reals (x0 x1 : FVec Ideal S8192x2048 .f32) (x2 x3 : FVec Ideal S2048x5632 .f32) (x4 : FVec Ideal S5632x2048 .f32)
    (h : Cert.Pre_finite.fn (F := Ideal) x0 x1 x2 x3 x4 = fun _ => 1#1) :
    Reals x0 ∧ Reals x1 ∧ Reals x2 ∧ Reals x3 ∧ Reals x4 := by
  have h' := congrFun h ix0
  pointwise [Cert.Pre_finite.fn, Cert.Pre_finite.fn_part1] at h'
  obtain ⟨h', h4⟩ := andi_split h'
  obtain ⟨h', h3⟩ := andi_split h'
  obtain ⟨h', h2⟩ := andi_split h'
  obtain ⟨h0, h1⟩ := andi_split h'
  exact ⟨reals_of_fold x0 h0, reals_of_fold x1 h1, reals_of_fold x2 h2, reals_of_fold x3 h3, reals_of_fold x4 h4⟩

end Cert.Own

end
-- ==== Proof.Equal.lean ====
/- The two texts' arithmetic is one: the kernel's arrays over the arguments are the reference's terms, at real arguments. -/
module

public import proofs.«01_k».proof.Proof.Arrays
public import proofs.«01_k».proof.Proof.Gen.ReferenceIdeal
public import proofs.«01_k».proof.Proof.Pre

@[expose] public section

set_option maxRecDepth 16384

noncomputable section

namespace Cert.Own

open Idealize.ShloMosaic Cert.ReferenceIdeal Cert.ReferenceIdeal.Gen Cert.KernelIdeal.Own
open scoped BigOperators

variable (x0 x1 : FVec Ideal S8192x2048 .f32) (x2 x3 : FVec Ideal S2048x5632 .f32) (x4 : FVec Ideal S5632x2048 .f32)

/-! ## The reference's values -/

/-- A product of the tokens with an input weight. -/
abbrev refProj (x2 : FVec Ideal S2048x5632 .f32) : FVec Ideal S8192x5632 .f32 :=
  Host.dotGeneral dot_S8192x2048_S2048x5632_S8192x5632_1_0_0_1_n_n none x0 x2
abbrev refOne : FVec Ideal S8192x5632 .f32 := broadcastInDim S8192x5632 ![] bcast_S_S8192x5632 (constant S_ .f32 0x3F800000#32)
/-- The gate's logistic value. -/
abbrev refSig : FVec Ideal S8192x5632 .f32 := Host.divf refOne (addf refOne (Host.exp (Host.negf (refProj x0 x2))))
/-- The halved cotangent. -/
abbrev refHalf : FVec Ideal S8192x2048 .f32 :=
  mulf (broadcastInDim S8192x2048 ![] bcast_S_S8192x2048 (constant S_ .f32 0x3F000000#32)) (shapeCast _ x1 shapeCasts_S8192x2048_S8192x2048)
/-- The hidden layer's cotangent. -/
abbrev refBack : FVec Ideal S8192x5632 .f32 :=
  Host.dotGeneral dot_S8192x2048_S5632x2048_S8192x5632_1_1_0_0_n_n none (refHalf x1) x4
/-- The gate projection's cotangent. -/
abbrev refDGate : FVec Ideal S8192x5632 .f32 :=
  addf (mulf (mulf (refBack x1 x4) (refProj x0 x3)) (refSig x0 x2))
    (mulf (mulf (refProj x0 x2) (mulf (refBack x1 x4) (refProj x0 x3))) (mulf (refSig x0 x2) (subf refOne (refSig x0 x2))))
/-- The up projection's cotangent. -/
abbrev refDUp : FVec Ideal S8192x5632 .f32 := mulf (mulf (refProj x0 x2) (refSig x0 x2)) (refBack x1 x4)
/-- An input weight's gradient from its projection's cotangent. -/
abbrev refWeight (d : FVec Ideal S8192x5632 .f32) : FVec Ideal S2048x5632 .bf16 :=
  truncf .bf16 (transpose S2048x5632 [1, 0] (Host.dotGeneral dot_S8192x5632_S8192x2048_S5632x2048_0_0_1_1_n_n none d x0)
    transposes_S5632x2048_S2048x5632_1_0) bitsLt_bf16_f32
/-- The output weight's gradient. -/
abbrev refDown : FVec Ideal S5632x2048 .bf16 :=
  truncf .bf16 (transpose S5632x2048 [1, 0] (Host.dotGeneral dot_S8192x2048_S8192x5632_S2048x5632_0_0_1_1_n_n none (refHalf x1)
    (mulf (mulf (refProj x0 x2) (refSig x0 x2)) (refProj x0 x3))) transposes_S2048x5632_S5632x2048_1_0) bitsLt_bf16_f32

/-! ## The equations -/

theorem dgate_eq (h0 : Reals x0) (h1 : Reals x1) (h2 : Reals x2) (h3 : Reals x3) (h4 : Reals x4) (i : S8192x5632.Idx) :
    backOf (tokens x1) (straight x4) (slopeOf (tokens x0) (turned x2) (turned x3)) i = refDGate x0 x1 x2 x3 x4 i := by
  obtain ⟨r0, rfl⟩ := h0; obtain ⟨r1, rfl⟩ := h1; obtain ⟨r2, rfl⟩ := h2; obtain ⟨r3, rfl⟩ := h3; obtain ⟨r4, rfl⟩ := h4
  pointwise [refDGate, refSig, refProj, refOne, refBack, refHalf, backOf, slopeOf, rowDot]
  simp only [half_eq, ← EReal.coe_mul, sum_coe, sg_coe, logistic_coe]
  simp only [← EReal.coe_one, ← EReal.coe_mul, ← EReal.coe_sub, ← EReal.coe_add, sum_coe]
  congr 1
  rw [show ∑ k : Fin 2048, 1 / 2 * r1 (ix2 (i 0) k) * r4 (ix2 (i 1) k) = (∑ k : Fin 2048, r1 (ix2 (i 0) k) * r4 (ix2 (i 1) k)) * (1 / 2) by
    rw [Finset.sum_mul]; exact Finset.sum_congr rfl fun k _ => by ring]
  ring

theorem dup_eq (h0 : Reals x0) (h1 : Reals x1) (h2 : Reals x2) (h4 : Reals x4) (i : S8192x5632.Idx) :
    backOf (tokens x1) (straight x4) (siluOf (tokens x0) (turned x2)) i = refDUp x0 x1 x2 x4 i := by
  obtain ⟨r0, rfl⟩ := h0; obtain ⟨r1, rfl⟩ := h1; obtain ⟨r2, rfl⟩ := h2; obtain ⟨r4, rfl⟩ := h4
  pointwise [refDUp, refSig, refProj, refOne, refBack, refHalf, backOf, siluOf, rowDot]
  simp only [half_eq, ← EReal.coe_mul, sum_coe, sg_coe, logistic_coe]
  congr 1
  rw [show ∑ k : Fin 2048, 1 / 2 * r1 (ix2 (i 0) k) * r4 (ix2 (i 1) k) = (∑ k : Fin 2048, r1 (ix2 (i 0) k) * r4 (ix2 (i 1) k)) * (1 / 2) by
    rw [Finset.sum_mul]; exact Finset.sum_congr rfl fun k _ => by ring]
  ring

theorem weight_eq (G : FVec Ideal S8192x5632 .bf16) (d : FVec Ideal S8192x5632 .f32) (h : ∀ i, G i = d i) :
    weightOf (tokens x0) G = refWeight x0 d := by
  funext i
  pointwise [refWeight, weightOf]
  exact Finset.sum_congr rfl fun k _ => by rw [h]; exact mul_comm _ _

theorem down_eq (h0 : Reals x0) (h1 : Reals x1) (h2 : Reals x2) (h3 : Reals x3) :
    downOf (hiddenOf (tokens x0) (turned x2) (turned x3)) (tokens x1) = refDown x0 x1 x2 x3 := by
  obtain ⟨r0, rfl⟩ := h0; obtain ⟨r1, rfl⟩ := h1; obtain ⟨r2, rfl⟩ := h2; obtain ⟨r3, rfl⟩ := h3
  funext i
  pointwise [refDown, refSig, refProj, refOne, refHalf, downOf, hiddenOf, rowDot]
  simp only [half_eq, ← EReal.coe_mul, sum_coe, sg_coe, logistic_coe]
  congr 1
  rw [Finset.sum_mul]
  exact Finset.sum_congr rfl fun k _ => by ring

theorem gate_final (h0 : Reals x0) (h1 : Reals x1) (h2 : Reals x2) (h3 : Reals x3) (h4 : Reals x4) :
    weightOf (tokens x0) (backOf (tokens x1) (straight x4) (slopeOf (tokens x0) (turned x2) (turned x3)))
      = refWeight x0 (refDGate x0 x1 x2 x3 x4) :=
  weight_eq x0 _ _ (dgate_eq x0 x1 x2 x3 x4 h0 h1 h2 h3 h4)

theorem up_final (h0 : Reals x0) (h1 : Reals x1) (h2 : Reals x2) (h4 : Reals x4) :
    weightOf (tokens x0) (backOf (tokens x1) (straight x4) (siluOf (tokens x0) (turned x2)))
      = refWeight x0 (refDUp x0 x1 x2 x4) :=
  weight_eq x0 _ _ (dup_eq x0 x1 x2 x4 h0 h1 h2 h4)

end Cert.Own

end
-- ==== Proof.LruRunB.lean ====
/- The body of the recurrent branch's backward launch run at a tile that is not the first of its channel block. -/
module

public import proofs.«01_k».proof.Proof.Gen.Kernel3Ideal.Frame.RunA

@[expose] public section

set_option maxRecDepth 16384

noncomputable section

namespace Cert.Kernel3Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 6000000 in
/-- What the body leaves in each buffer at such a tile, with its triple: the inputs kept, the sums and the carried buffers at given contents. -/
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S8x128 .f32) (harg6 : arg6.IsWhole) (arg7 : Memref sig .tc .vmem S512x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .f32) (harg10 : arg10.IsWhole) (arg11 : Memref sig .tc .vmem S1x128 .f32) (harg11 : arg11.IsWhole) (arg12 : Memref sig .tc .vmem S1x128x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x128 .bf16) (harg15 : arg15.IsWhole) (arg16 : Memref sig .tc .vmem S512x128 .bf16) (harg16 : arg16.IsWhole) (arg17 : Memref sig .tc .vmem S4x128 .f32) (harg17 : arg17.IsWhole) (arg18 : Memref sig .tc .vmem S1x128 .f32) (harg18 : arg18.IsWhole) (arg19 : Memref sig .tc .vmem S1x128x128 .f32) (harg19 : arg19.IsWhole) (arg20 : Memref sig .tc .vmem S1x128 .f32) (harg20 : arg20.IsWhole) (arg21 : Memref sig .tc .vmem S1x128x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S512x128 .f32) (harg24 : arg24.IsWhole) (arg25 : Memref sig .tc .vmem S8x128 .f32) (harg25 : arg25.IsWhole) (arg26 : Memref sig .tc .vmem S8x128 .f32) (harg26 : arg26.IsWhole) (hc0 : ¬cond0_0 i)
    (x0 : Vec F S512x128 .f32) (x1 : Vec F S512x128 .f32) (x2 : Vec F S512x128 .f32) (x3 : Vec F S512x128 .f32) (x4 : Vec F S8x128 .f32) (x5 : Vec F S512x128 .f32) (x6 : Vec F S4x128 .f32) (x7 : Vec F S1x128 .f32) (x8 : Vec F S1x128x128 .f32) (x9 : Vec F S1x128 .f32) (x10 : Vec F S1x128x128 .f32) (x11 : Vec F S1x128 .f32) (x12 : Vec F S1x128 .f32) (xo15 : Vec F S4x128 .f32) (xo16 : Vec F S1x128 .f32) (xo17 : Vec F S1x128x128 .f32) (xo18 : Vec F S1x128 .f32) (xo19 : Vec F S1x128x128 .f32) (xo20 : Vec F S1x128 .f32) (xo21 : Vec F S1x128 .f32) (xs0 : Vec F S512x128 .f32) (xs1 : Vec F S8x128 .f32) (xs2 : Vec F S8x128 .f32) :
    Σ' (L13 : List (View.Piece (Elt F) S512x128 .bf16)), Σ' (L14 : List (View.Piece (Elt F) S512x128 .bf16)), Σ' (L15 : List (View.Piece (Elt F) S4x128 .f32)), Σ' (L16 : List (View.Piece (Elt F) S1x128 .f32)), Σ' (L17 : List (View.Piece (Elt F) S1x128x128 .f32)), Σ' (L18 : List (View.Piece (Elt F) S1x128 .f32)), Σ' (L19 : List (View.Piece (Elt F) S1x128x128 .f32)), Σ' (L20 : List (View.Piece (Elt F) S1x128 .f32)), Σ' (L21 : List (View.Piece (Elt F) S1x128 .f32)), Σ' (LS0 : List (View.Piece (Elt F) S512x128 .f32)), Σ' (LS1 : List (View.Piece (Elt F) S8x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ owns (c : Thread nD τ) arg17 fullShare xo15 ∗ owns (c : Thread nD τ) arg18 fullShare xo16 ∗ owns (c : Thread nD τ) arg19 fullShare xo17 ∗ owns (c : Thread nD τ) arg20 fullShare xo18 ∗ owns (c : Thread nD τ) arg21 fullShare xo19 ∗ owns (c : Thread nD τ) arg22 fullShare xo20 ∗ owns (c : Thread nD τ) arg23 fullShare xo21 ∗ owns (c : Thread nD τ) arg24 fullShare xs0 ∗ owns (c : Thread nD τ) arg25 fullShare xs1 ∗ owns (c : Thread nD τ) arg26 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2)) -∗ K ⟨⟩))
          ⊢ wp frame (wpE (defs₀ (F := F)) Variants.none c none) E (cc0_lru_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, ?_, ?_, fun E K => ?run⟩
  case run =>
    simp only [cc0_lru_bwd_eq_skeleton]; unfold cc0_lru_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hfs0; obtain rfl := harg25.eq_unread hfs1; obtain rfl := harg26.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    isplitl [HS1]; · iexists _; iexact HS1
    iexists _; iexact HS2

end Cert.Kernel3Ideal.Own

end
-- ==== Proof.LruFrame.lean ====
/- The frame of the recurrent branch's backward launch: what its buffers hold after each grid point, the body's triple at every
   point, and the launch. -/
module

public import proofs.«01_k».proof.Proof.LruRunB
public import Idealize.ShloMosaic.Lib.Claim

@[expose] public section

set_option maxRecDepth 16384

noncomputable section

namespace Cert.Kernel3Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the nine results' staging buffers and the three carried buffers hold after a grid point. -/
abbrev Held (F : FTy → Type) : Type := Vec F S512x128 .bf16 × Vec F S512x128 .bf16 × Vec F S4x128 .f32 × Vec F S1x128 .f32 × Vec F S1x128x128 .f32 × Vec F S1x128 .f32 × Vec F S1x128x128 .f32 × Vec F S1x128 .f32 × Vec F S1x128 .f32 × Vec F S512x128 .f32 × Vec F S8x128 .f32 × Vec F S8x128 .f32

/-- The body's run at the first tile of a channel block, over the point's own buffers. -/
abbrev runA (c : Dev nD) (t : Fin cfg0.N) (hc : cond0_0 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-! Each buffer the first tile of a channel block writes is written whole. -/

theorem fullA13 (c : Dev nD) (t : Fin cfg0.N) (hc : cond0_0 (grid0.coords t)) (y : S512x128.Idx) :
    ∃ pc ∈ (runA m c t hc).1, y ∈ pc.1.set :=
  View.cover_of_tiledL (runA m c t hc).1 S512x128.size (by sl_kernel_rfl) y

theorem fullA14 (c : Dev nD) (t : Fin cfg0.N) (hc : cond0_0 (grid0.coords t)) (y : S512x128.Idx) :
    ∃ pc ∈ (runA m c t hc).2.1, y ∈ pc.1.set :=
  View.cover_of_tiledL (runA m c t hc).2.1 S512x128.size (by sl_kernel_rfl) y

theorem fullA15 (c : Dev nD) (t : Fin cfg0.N) (hc : cond0_0 (grid0.coords t)) (y : S4x128.Idx) :
    ∃ pc ∈ (runA m c t hc).2.2.1, y ∈ pc.1.set :=
  View.cover_of_tiledL (runA m c t hc).2.2.1 S4x128.size (by sl_kernel_rfl) y

theorem fullA16 (c : Dev nD) (t : Fin cfg0.N) (hc : cond0_0 (grid0.coords t)) (y : S1x128.Idx) :
    ∃ pc ∈ (runA m c t hc).2.2.2.1, y ∈ pc.1.set :=
  View.cover_of_tiledL (runA m c t hc).2.2.2.1 S1x128.size (by sl_kernel_rfl) y

theorem fullA17 (c : Dev nD) (t : Fin cfg0.N) (hc : cond0_0 (grid0.coords t)) (y : S1x128x128.Idx) :
    ∃ pc ∈ (runA m c t hc).2.2.2.2.1, y ∈ pc.1.set :=
  View.cover_of_tiledL (runA m c t hc).2.2.2.2.1 S1x128x128.size (by sl_kernel_rfl) y

theorem fullA18 (c : Dev nD) (t : Fin cfg0.N) (hc : cond0_0 (grid0.coords t)) (y : S1x128.Idx) :
    ∃ pc ∈ (runA m c t hc).2.2.2.2.2.1, y ∈ pc.1.set :=
  View.cover_of_tiledL (runA m c t hc).2.2.2.2.2.1 S1x128.size (by sl_kernel_rfl) y

theorem fullA19 (c : Dev nD) (t : Fin cfg0.N) (hc : cond0_0 (grid0.coords t)) (y : S1x128x128.Idx) :
    ∃ pc ∈ (runA m c t hc).2.2.2.2.2.2.1, y ∈ pc.1.set :=
  View.cover_of_tiledL (runA m c t hc).2.2.2.2.2.2.1 S1x128x128.size (by sl_kernel_rfl) y

theorem fullA20 (c : Dev nD) (t : Fin cfg0.N) (hc : cond0_0 (grid0.coords t)) (y : S1x128.Idx) :
    ∃ pc ∈ (runA m c t hc).2.2.2.2.2.2.2.1, y ∈ pc.1.set :=
  View.cover_of_tiledL (runA m c t hc).2.2.2.2.2.2.2.1 S1x128.size (by sl_kernel_rfl) y

theorem fullA21 (c : Dev nD) (t : Fin cfg0.N) (hc : cond0_0 (grid0.coords t)) (y : S1x128.Idx) :
    ∃ pc ∈ (runA m c t hc).2.2.2.2.2.2.2.2.1, y ∈ pc.1.set :=
  View.cover_of_tiledL (runA m c t hc).2.2.2.2.2.2.2.2.1 S1x128.size (by sl_kernel_rfl) y

theorem fullA22 (c : Dev nD) (t : Fin cfg0.N) (hc : cond0_0 (grid0.coords t)) (y : S512x128.Idx) :
    ∃ pc ∈ (runA m c t hc).2.2.2.2.2.2.2.2.2.1, y ∈ pc.1.set :=
  View.cover_of_tiledL (runA m c t hc).2.2.2.2.2.2.2.2.2.1 S512x128.size (by sl_kernel_rfl) y

theorem fullA23 (c : Dev nD) (t : Fin cfg0.N) (hc : cond0_0 (grid0.coords t)) (y : S8x128.Idx) :
    ∃ pc ∈ (runA m c t hc).2.2.2.2.2.2.2.2.2.2.1, y ∈ pc.1.set :=
  View.cover_of_tiledL (runA m c t hc).2.2.2.2.2.2.2.2.2.2.1 S8x128.size (by sl_kernel_rfl) y

theorem fullA24 (c : Dev nD) (t : Fin cfg0.N) (hc : cond0_0 (grid0.coords t)) (y : S8x128.Idx) :
    ∃ pc ∈ (runA m c t hc).2.2.2.2.2.2.2.2.2.2.2.1, y ∈ pc.1.set :=
  View.cover_of_tiledL (runA m c t hc).2.2.2.2.2.2.2.2.2.2.2.1 S8x128.size (by sl_kernel_rfl) y

/-- What the body leaves at the first tile of a channel block. -/
def leftA (c : Dev nD) (t : Fin cfg0.N) (hc : cond0_0 (grid0.coords t)) : Held F :=
  (VO0_13.read (Elt F) (VO0_13.writes (Elt F) VO0_13.junk (runA m c t hc).1),
    VO0_14.read (Elt F) (VO0_14.writes (Elt F) VO0_14.junk (runA m c t hc).2.1),
    VO0_15.read (Elt F) (VO0_15.writes (Elt F) VO0_15.junk (runA m c t hc).2.2.1),
    VO0_16.read (Elt F) (VO0_16.writes (Elt F) VO0_16.junk (runA m c t hc).2.2.2.1),
    VO0_17.read (Elt F) (VO0_17.writes (Elt F) VO0_17.junk (runA m c t hc).2.2.2.2.1),
    VO0_18.read (Elt F) (VO0_18.writes (Elt F) VO0_18.junk (runA m c t hc).2.2.2.2.2.1),
    VO0_19.read (Elt F) (VO0_19.writes (Elt F) VO0_19.junk (runA m c t hc).2.2.2.2.2.2.1),
    VO0_20.read (Elt F) (VO0_20.writes (Elt F) VO0_20.junk (runA m c t hc).2.2.2.2.2.2.2.1),
    VO0_21.read (Elt F) (VO0_21.writes (Elt F) VO0_21.junk (runA m c t hc).2.2.2.2.2.2.2.2.1),
    VS0_0.read (Elt F) (VS0_0.writes (Elt F) VS0_0.junk (runA m c t hc).2.2.2.2.2.2.2.2.2.1),
    VS0_1.read (Elt F) (VS0_1.writes (Elt F) VS0_1.junk (runA m c t hc).2.2.2.2.2.2.2.2.2.2.1),
    VS0_2.read (Elt F) (VS0_2.writes (Elt F) VS0_2.junk (runA m c t hc).2.2.2.2.2.2.2.2.2.2.2.1))

/-- The body's run at a later tile, over the point's own buffers. -/
abbrev runB (c : Dev nD) (t : Fin cfg0.N) (hc : ¬cond0_0 (grid0.coords t)) (p : Held F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (p.2.2.1) (p.2.2.2.1) (p.2.2.2.2.1) (p.2.2.2.2.2.1) (p.2.2.2.2.2.2.1) (p.2.2.2.2.2.2.2.1) (p.2.2.2.2.2.2.2.2.1) (p.2.2.2.2.2.2.2.2.2.1) (p.2.2.2.2.2.2.2.2.2.2.1) (p.2.2.2.2.2.2.2.2.2.2.2)

/-! Each buffer a later tile writes is written whole. -/

theorem fullB13 (c : Dev nD) (t : Fin cfg0.N) (hc : ¬cond0_0 (grid0.coords t)) (p : Held F) (y : S512x128.Idx) :
    ∃ pc ∈ (runB m c t hc p).1, y ∈ pc.1.set :=
  View.cover_of_tiledL (runB m c t hc p).1 S512x128.size (by sl_kernel_rfl) y

theorem fullB14 (c : Dev nD) (t : Fin cfg0.N) (hc : ¬cond0_0 (grid0.coords t)) (p : Held F) (y : S512x128.Idx) :
    ∃ pc ∈ (runB m c t hc p).2.1, y ∈ pc.1.set :=
  View.cover_of_tiledL (runB m c t hc p).2.1 S512x128.size (by sl_kernel_rfl) y

theorem fullB15 (c : Dev nD) (t : Fin cfg0.N) (hc : ¬cond0_0 (grid0.coords t)) (p : Held F) (y : S4x128.Idx) :
    ∃ pc ∈ (runB m c t hc p).2.2.1, y ∈ pc.1.set :=
  View.cover_of_tiledL (runB m c t hc p).2.2.1 S4x128.size (by sl_kernel_rfl) y

theorem fullB16 (c : Dev nD) (t : Fin cfg0.N) (hc : ¬cond0_0 (grid0.coords t)) (p : Held F) (y : S1x128.Idx) :
    ∃ pc ∈ (runB m c t hc p).2.2.2.1, y ∈ pc.1.set :=
  View.cover_of_tiledL (runB m c t hc p).2.2.2.1 S1x128.size (by sl_kernel_rfl) y

theorem fullB17 (c : Dev nD) (t : Fin cfg0.N) (hc : ¬cond0_0 (grid0.coords t)) (p : Held F) (y : S1x128x128.Idx) :
    ∃ pc ∈ (runB m c t hc p).2.2.2.2.1, y ∈ pc.1.set :=
  View.cover_of_tiledL (runB m c t hc p).2.2.2.2.1 S1x128x128.size (by sl_kernel_rfl) y

theorem fullB18 (c : Dev nD) (t : Fin cfg0.N) (hc : ¬cond0_0 (grid0.coords t)) (p : Held F) (y : S1x128.Idx) :
    ∃ pc ∈ (runB m c t hc p).2.2.2.2.2.1, y ∈ pc.1.set :=
  View.cover_of_tiledL (runB m c t hc p).2.2.2.2.2.1 S1x128.size (by sl_kernel_rfl) y

theorem fullB19 (c : Dev nD) (t : Fin cfg0.N) (hc : ¬cond0_0 (grid0.coords t)) (p : Held F) (y : S1x128x128.Idx) :
    ∃ pc ∈ (runB m c t hc p).2.2.2.2.2.2.1, y ∈ pc.1.set :=
  View.cover_of_tiledL (runB m c t hc p).2.2.2.2.2.2.1 S1x128x128.size (by sl_kernel_rfl) y

theorem fullB20 (c : Dev nD) (t : Fin cfg0.N) (hc : ¬cond0_0 (grid0.coords t)) (p : Held F) (y : S1x128.Idx) :
    ∃ pc ∈ (runB m c t hc p).2.2.2.2.2.2.2.1, y ∈ pc.1.set :=
  View.cover_of_tiledL (runB m c t hc p).2.2.2.2.2.2.2.1 S1x128.size (by sl_kernel_rfl) y

theorem fullB21 (c : Dev nD) (t : Fin cfg0.N) (hc : ¬cond0_0 (grid0.coords t)) (p : Held F) (y : S1x128.Idx) :
    ∃ pc ∈ (runB m c t hc p).2.2.2.2.2.2.2.2.1, y ∈ pc.1.set :=
  View.cover_of_tiledL (runB m c t hc p).2.2.2.2.2.2.2.2.1 S1x128.size (by sl_kernel_rfl) y

theorem fullB22 (c : Dev nD) (t : Fin cfg0.N) (hc : ¬cond0_0 (grid0.coords t)) (p : Held F) (y : S512x128.Idx) :
    ∃ pc ∈ (runB m c t hc p).2.2.2.2.2.2.2.2.2.1, y ∈ pc.1.set :=
  View.cover_of_tiledL (runB m c t hc p).2.2.2.2.2.2.2.2.2.1 S512x128.size (by sl_kernel_rfl) y

theorem fullB23 (c : Dev nD) (t : Fin cfg0.N) (hc : ¬cond0_0 (grid0.coords t)) (p : Held F) (y : S8x128.Idx) :
    ∃ pc ∈ (runB m c t hc p).2.2.2.2.2.2.2.2.2.2.1, y ∈ pc.1.set :=
  View.cover_of_tiledL (runB m c t hc p).2.2.2.2.2.2.2.2.2.2.1 S8x128.size (by sl_kernel_rfl) y

theorem fullB24 (c : Dev nD) (t : Fin cfg0.N) (hc : ¬cond0_0 (grid0.coords t)) (p : Held F) (y : S8x128.Idx) :
    ∃ pc ∈ (runB m c t hc p).2.2.2.2.2.2.2.2.2.2.2.1, y ∈ pc.1.set :=
  View.cover_of_tiledL (runB m c t hc p).2.2.2.2.2.2.2.2.2.2.2.1 S8x128.size (by sl_kernel_rfl) y

/-- What the body leaves at a later tile. -/
def leftB (c : Dev nD) (t : Fin cfg0.N) (hc : ¬cond0_0 (grid0.coords t)) (p : Held F) : Held F :=
  (VO0_13.read (Elt F) (VO0_13.writes (Elt F) VO0_13.junk (runB m c t hc p).1),
    VO0_14.read (Elt F) (VO0_14.writes (Elt F) VO0_14.junk (runB m c t hc p).2.1),
    VO0_15.read (Elt F) (VO0_15.writes (Elt F) VO0_15.junk (runB m c t hc p).2.2.1),
    VO0_16.read (Elt F) (VO0_16.writes (Elt F) VO0_16.junk (runB m c t hc p).2.2.2.1),
    VO0_17.read (Elt F) (VO0_17.writes (Elt F) VO0_17.junk (runB m c t hc p).2.2.2.2.1),
    VO0_18.read (Elt F) (VO0_18.writes (Elt F) VO0_18.junk (runB m c t hc p).2.2.2.2.2.1),
    VO0_19.read (Elt F) (VO0_19.writes (Elt F) VO0_19.junk (runB m c t hc p).2.2.2.2.2.2.1),
    VO0_20.read (Elt F) (VO0_20.writes (Elt F) VO0_20.junk (runB m c t hc p).2.2.2.2.2.2.2.1),
    VO0_21.read (Elt F) (VO0_21.writes (Elt F) VO0_21.junk (runB m c t hc p).2.2.2.2.2.2.2.2.1),
    VS0_0.read (Elt F) (VS0_0.writes (Elt F) VS0_0.junk (runB m c t hc p).2.2.2.2.2.2.2.2.2.1),
    VS0_1.read (Elt F) (VS0_1.writes (Elt F) VS0_1.junk (runB m c t hc p).2.2.2.2.2.2.2.2.2.2.1),
    VS0_2.read (Elt F) (VS0_2.writes (Elt F) VS0_2.junk (runB m c t hc p).2.2.2.2.2.2.2.2.2.2.2.1))

/-- What the buffers hold after each grid point: a channel block's first tile starts afresh, every other tile goes on from the one before. -/
def outsAt0 (c : Dev nD) : (n : ℕ) → n < cfg0.N → Held F
  | 0, hn => leftA m c ⟨0, hn⟩ ((hcond0_0 ⟨0, hn⟩).mpr (Nat.zero_mod _))
  | n + 1, hn =>
    if h0 : (n + 1) % 16 = 0 then leftA m c ⟨n + 1, hn⟩ ((hcond0_0 ⟨n + 1, hn⟩).mpr h0)
    else leftB m c ⟨n + 1, hn⟩ (fun h => h0 ((hcond0_0 ⟨n + 1, hn⟩).mp h)) (outsAt0 c n (Nat.lt_of_succ_lt hn))

theorem outsAt0_A (c : Dev nD) (t : Fin cfg0.N) (h0 : t.val % 16 = 0) :
    outsAt0 m c t.val t.isLt = leftA m c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt
      = leftB m c t (fun h => h0 ((hcond0_0 t).mp h)) (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.1) ∗ owns (c : Thread nD τ) scM0_1 fullShare ((outsAt0 m c n hn).2.2.2.2.2.2.2.2.2.2.1) ∗ owns (c : Thread nD τ) scM0_2 fullShare ((outsAt0 m c n hn).2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.1) ∗ owns (c : Thread nD τ) scM0_1 fullShare ((outsAt0 m c n hn).2.2.2.2.2.2.2.2.2.2.1) ∗ owns (c : Thread nD τ) scM0_2 fullShare ((outsAt0 m c n hn).2.2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.1) ∗ owns (c : Thread nD τ) scM0_1 fullShare ((outsAt0 m c (n - 1) (by omega)).2.2.2.2.2.2.2.2.2.2.1) ∗ owns (c : Thread nD τ) scM0_2 fullShare ((outsAt0 m c (n - 1) (by omega)).2.2.2.2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2.1
    | ⟨19, _⟩ => (outsAt0 m c t.val t.isLt).2.2.2.2.2.2.1
    | ⟨20, _⟩ => (outsAt0 m c t.val t.isLt).2.2.2.2.2.2.2.1
    | ⟨21, _⟩ => (outsAt0 m c t.val t.isLt).2.2.2.2.2.2.2.2.1
    | ⟨_ + 22, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2.1 := by dsimp only [dats]
theorem after0_19 (c : Dev nD) (t : Fin cfg0.N) : (dats m 0 c).after 19 t = (outsAt0 m c t.val t.isLt).2.2.2.2.2.2.1 := by dsimp only [dats]
theorem after0_20 (c : Dev nD) (t : Fin cfg0.N) : (dats m 0 c).after 20 t = (outsAt0 m c t.val t.isLt).2.2.2.2.2.2.2.1 := by dsimp only [dats]
theorem after0_21 (c : Dev nD) (t : Fin cfg0.N) : (dats m 0 c).after 21 t = (outsAt0 m c t.val t.isLt).2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_15_B (c : Dev nD) (t : Fin cfg0.N) (h0 : ¬t.val % 16 = 0) (d) :
    (dats m 0 c).before 15 t d = (outsAt0 m c (t.val - 1) (Nat.lt_of_le_of_lt (Nat.sub_le _ _) t.isLt)).2.2.1 := by
  have hN : t.val < 192 := lt_of_lt_of_eq t.isLt (show cfg0.N = 192 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 16 = 0) (d) :
    (dats m 0 c).before 16 t d = (outsAt0 m c (t.val - 1) (Nat.lt_of_le_of_lt (Nat.sub_le _ _) t.isLt)).2.2.2.1 := by
  have hN : t.val < 192 := lt_of_lt_of_eq t.isLt (show cfg0.N = 192 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 16 = 0) (d) :
    (dats m 0 c).before 17 t d = (outsAt0 m c (t.val - 1) (Nat.lt_of_le_of_lt (Nat.sub_le _ _) t.isLt)).2.2.2.2.1 := by
  have hN : t.val < 192 := lt_of_lt_of_eq t.isLt (show cfg0.N = 192 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_18_B (c : Dev nD) (t : Fin cfg0.N) (h0 : ¬t.val % 16 = 0) (d) :
    (dats m 0 c).before 18 t d = (outsAt0 m c (t.val - 1) (Nat.lt_of_le_of_lt (Nat.sub_le _ _) t.isLt)).2.2.2.2.2.1 := by
  have hN : t.val < 192 := lt_of_lt_of_eq t.isLt (show cfg0.N = 192 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_B (c : Dev nD) (t : Fin cfg0.N) (h0 : ¬t.val % 16 = 0) (d) :
    (dats m 0 c).before 19 t d = (outsAt0 m c (t.val - 1) (Nat.lt_of_le_of_lt (Nat.sub_le _ _) t.isLt)).2.2.2.2.2.2.1 := by
  have hN : t.val < 192 := lt_of_lt_of_eq t.isLt (show cfg0.N = 192 from N_0)
  rw [Dat.before_out_kept _ 19 rfl t (by omega) (Bool.eq_false_iff.mpr fun h => by have := (flush0_19 _).mp h; dsimp only at this; omega)
    (fun _ => rfl) (fun _ _ => rfl)]
  dsimp only [dats]
theorem before0_20_B (c : Dev nD) (t : Fin cfg0.N) (h0 : ¬t.val % 16 = 0) (d) :
    (dats m 0 c).before 20 t d = (outsAt0 m c (t.val - 1) (Nat.lt_of_le_of_lt (Nat.sub_le _ _) t.isLt)).2.2.2.2.2.2.2.1 := by
  have hN : t.val < 192 := lt_of_lt_of_eq t.isLt (show cfg0.N = 192 from N_0)
  rw [Dat.before_out_kept _ 20 rfl t (by omega) (Bool.eq_false_iff.mpr fun h => by have := (flush0_20 _).mp h; dsimp only at this; omega)
    (fun _ => rfl) (fun _ _ => rfl)]
  dsimp only [dats]
theorem before0_21_B (c : Dev nD) (t : Fin cfg0.N) (h0 : ¬t.val % 16 = 0) (d) :
    (dats m 0 c).before 21 t d = (outsAt0 m c (t.val - 1) (Nat.lt_of_le_of_lt (Nat.sub_le _ _) t.isLt)).2.2.2.2.2.2.2.2.1 := by
  have hN : t.val < 192 := lt_of_lt_of_eq t.isLt (show cfg0.N = 192 from N_0)
  rw [Dat.before_out_kept _ 21 rfl t (by omega) (Bool.eq_false_iff.mpr fun h => by have := (flush0_21 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  have hN : t.val < 192 := lt_of_lt_of_eq t.isLt (show cfg0.N = 192 from N_0)
  by_cases h0 : t.val % 16 = 0
  · by_cases hz : t.val = 0
    · rw [PhiS_castSucc m c t, PhiS_zero m c _ _ hz, PhiA0_eq]
      rw [outsAt0_A m c t h0]
      unfold leftA; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runA m c t ((hcond0_0 t).mpr h0)).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      isplitl [HS2]; · iexact HS2
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (fullA22 m c t _)
          isplitl [HS1]
          · unfold owns; iexists _; isplitr
            swap; · iexact HS1
            ipureintro; exact View.read_writes_of_cover _ _ _ _ _ (fullA23 m c t _)
          unfold owns; iexists _; isplitr
          swap; · iexact HS2
          ipureintro; exact View.read_writes_of_cover _ _ _ _ _ (fullA24 m c t _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (fullA13 m c t _)
      isplitl [H14]
      · unfold owns; iexists _; isplitr
        swap; · iexact H14
        ipureintro; exact View.read_writes_of_cover _ _ _ _ _ (fullA14 m c t _)
      isplitl [H15]
      · unfold owns; iexists _; isplitr
        swap; · iexact H15
        ipureintro; exact View.read_writes_of_cover _ _ _ _ _ (fullA15 m c t _)
      isplitl [H16]
      · unfold owns; iexists _; isplitr
        swap; · iexact H16
        ipureintro; exact View.read_writes_of_cover _ _ _ _ _ (fullA16 m c t _)
      isplitl [H17]
      · unfold owns; iexists _; isplitr
        swap; · iexact H17
        ipureintro; exact View.read_writes_of_cover _ _ _ _ _ (fullA17 m c t _)
      isplitl [H18]
      · unfold owns; iexists _; isplitr
        swap; · iexact H18
        ipureintro; exact View.read_writes_of_cover _ _ _ _ _ (fullA18 m c t _)
      isplitl [H19]
      · unfold owns; iexists _; isplitr
        swap; · iexact H19
        ipureintro; exact View.read_writes_of_cover _ _ _ _ _ (fullA19 m c t _)
      isplitl [H20]
      · unfold owns; iexists _; isplitr
        swap; · iexact H20
        ipureintro; exact View.read_writes_of_cover _ _ _ _ _ (fullA20 m c t _)
      unfold owns; iexists _; isplitr
      swap; · iexact H21
      ipureintro; exact View.read_writes_of_cover _ _ _ _ _ (fullA21 m c t _)
    · rw [PhiS_castSucc m c t, PhiS_pos m c _ _ hz]
      rw [outsAt0_A m c t h0]
      unfold leftA; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runA m c t ((hcond0_0 t).mpr h0)).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexists _; iexact HS0
      isplitl [HS1]; · iexists _; iexact HS1
      isplitl [HS2]; · iexists _; iexact HS2
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (fullA22 m c t _)
          isplitl [HS1]
          · unfold owns; iexists _; isplitr
            swap; · iexact HS1
            ipureintro; exact View.read_writes_of_cover _ _ _ _ _ (fullA23 m c t _)
          unfold owns; iexists _; isplitr
          swap; · iexact HS2
          ipureintro; exact View.read_writes_of_cover _ _ _ _ _ (fullA24 m c t _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (fullA13 m c t _)
      isplitl [H14]
      · unfold owns; iexists _; isplitr
        swap; · iexact H14
        ipureintro; exact View.read_writes_of_cover _ _ _ _ _ (fullA14 m c t _)
      isplitl [H15]
      · unfold owns; iexists _; isplitr
        swap; · iexact H15
        ipureintro; exact View.read_writes_of_cover _ _ _ _ _ (fullA15 m c t _)
      isplitl [H16]
      · unfold owns; iexists _; isplitr
        swap; · iexact H16
        ipureintro; exact View.read_writes_of_cover _ _ _ _ _ (fullA16 m c t _)
      isplitl [H17]
      · unfold owns; iexists _; isplitr
        swap; · iexact H17
        ipureintro; exact View.read_writes_of_cover _ _ _ _ _ (fullA17 m c t _)
      isplitl [H18]
      · unfold owns; iexists _; isplitr
        swap; · iexact H18
        ipureintro; exact View.read_writes_of_cover _ _ _ _ _ (fullA18 m c t _)
      isplitl [H19]
      · unfold owns; iexists _; isplitr
        swap; · iexact H19
        ipureintro; exact View.read_writes_of_cover _ _ _ _ _ (fullA19 m c t _)
      isplitl [H20]
      · unfold owns; iexists _; isplitr
        swap; · iexact H20
        ipureintro; exact View.read_writes_of_cover _ _ _ _ _ (fullA20 m c t _)
      unfold owns; iexists _; isplitr
      swap; · iexact H21
      ipureintro; exact View.read_writes_of_cover _ _ _ _ _ (fullA21 m c t _)
  · by_cases hz : t.val = 0
    · exfalso; have hN : t.val < 192 := lt_of_lt_of_eq t.isLt (show cfg0.N = 192 from N_0); omega
    · rw [PhiS_castSucc m c t, PhiS_pos m c _ _ hz]
      rw [outsAt0_B m c t h0]
      simp only [before0_15_B m c t h0, before0_16_B m c t h0, before0_17_B m c t h0, before0_18_B m c t h0, before0_19_B m c t h0, before0_20_B m c t h0, before0_21_B m c t h0]
      unfold leftB; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runB m c t (fun h => h0 ((hcond0_0 t).mp h)) (outsAt0 m c (t.val - 1) (Nat.lt_of_le_of_lt (Nat.sub_le _ _) t.isLt))).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [HS0]; · iexact HS0
      isplitl [HS1]; · iexact HS1
      isplitl [HS2]; · iexact HS2
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (fullB22 m c t _ _)
          isplitl [HS1]
          · unfold owns; iexists _; isplitr
            swap; · iexact HS1
            ipureintro; exact View.read_writes_of_cover _ _ _ _ _ (fullB23 m c t _ _)
          unfold owns; iexists _; isplitr
          swap; · iexact HS2
          ipureintro; exact View.read_writes_of_cover _ _ _ _ _ (fullB24 m c t _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (fullB13 m c t _ _)
      isplitl [H14]
      · unfold owns; iexists _; isplitr
        swap; · iexact H14
        ipureintro; exact View.read_writes_of_cover _ _ _ _ _ (fullB14 m c t _ _)
      isplitl [H15]
      · unfold owns; iexists _; isplitr
        swap; · iexact H15
        ipureintro; exact View.read_writes_of_cover _ _ _ _ _ (fullB15 m c t _ _)
      isplitl [H16]
      · unfold owns; iexists _; isplitr
        swap; · iexact H16
        ipureintro; exact View.read_writes_of_cover _ _ _ _ _ (fullB16 m c t _ _)
      isplitl [H17]
      · unfold owns; iexists _; isplitr
        swap; · iexact H17
        ipureintro; exact View.read_writes_of_cover _ _ _ _ _ (fullB17 m c t _ _)
      isplitl [H18]
      · unfold owns; iexists _; isplitr
        swap; · iexact H18
        ipureintro; exact View.read_writes_of_cover _ _ _ _ _ (fullB18 m c t _ _)
      isplitl [H19]
      · unfold owns; iexists _; isplitr
        swap; · iexact H19
        ipureintro; exact View.read_writes_of_cover _ _ _ _ _ (fullB19 m c t _ _)
      isplitl [H20]
      · unfold owns; iexists _; isplitr
        swap; · iexact H20
        ipureintro; exact View.read_writes_of_cover _ _ _ _ _ (fullB20 m c t _ _)
      unfold owns; iexists _; isplitr
      swap; · iexact H21
      ipureintro; exact View.read_writes_of_cover _ _ _ _ _ (fullB21 m c t _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 192 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel3Ideal.Own

end
-- ==== Proof.LruReal.lean ====
/- The recurrent branch on the reals: one block of 128 channels, its rows numbered from the sequence's start, and the
   gradients the backward pass takes through it. -/
module

public import proofs.«01_k».proof.Proof.Real
public import proofs.«01_k».proof.Kernel3Ideal

@[expose] public section

noncomputable section

open scoped BigOperators

namespace Cert.Lru

open Idealize.ShloMosaic Cert.Own

/-- The word nearest to the square root of 2 / π, as a real. -/
def c0 : ℝ := 13386282 / 16777216
/-- The cubic coefficient of the approximate gelu. -/
def c1 : ℝ := 8943 / 200000

/-- One block of 128 channels: the two branches' inputs, the saved recurrence, the incoming gradient, and the weights. -/
structure Lane where
  X : ℕ → Fin 128 → ℝ
  Y : ℕ → Fin 128 → ℝ
  H : ℕ → Fin 128 → ℝ
  D : ℕ → Fin 128 → ℝ
  CW : ℕ → Fin 128 → ℝ
  CB : Fin 128 → ℝ
  WR : Fin 128 → Fin 128 → ℝ
  BR : Fin 128 → ℝ
  WI : Fin 128 → Fin 128 → ℝ
  BI : Fin 128 → ℝ
  LAM : Fin 128 → ℝ

namespace Lane

variable (S : Lane)

/-- The input `k` rows earlier, zero before the start. -/
def dn (k s : ℕ) (l : Fin 128) : ℝ := if s < k then 0 else S.X (s - k) l
/-- The causal convolution. -/
def xc (s : ℕ) (l : Fin 128) : ℝ :=
  S.CB l + S.CW 0 l * S.dn 3 s l + S.CW 1 l * S.dn 2 s l + S.CW 2 l * S.dn 1 s l + S.CW 3 l * S.X s l
/-- The recurrence gate. -/
def rg (s : ℕ) (l : Fin 128) : ℝ := sg (∑ k, S.xc s k * S.WR k l + S.BR l)
/-- The input gate. -/
def ig (s : ℕ) (l : Fin 128) : ℝ := sg (∑ k, S.xc s k * S.WI k l + S.BI l)
/-- The softplus of the negated rate. -/
def sp (l : Fin 128) : ℝ := max (-S.LAM l) 0 + Real.log (1 + Real.exp (-|S.LAM l|))
/-- The logarithm of the decay. -/
def la (s : ℕ) (l : Fin 128) : ℝ := -8 * S.sp l * S.rg s l
/-- The decay. -/
def a (s : ℕ) (l : Fin 128) : ℝ := Real.exp (S.la s l)
/-- The input's scale. -/
def mu (s : ℕ) (l : Fin 128) : ℝ := Real.sqrt (Real.tanh (-S.la s l) * (S.a s l * S.a s l + 1))
/-- The saved recurrence one row earlier. -/
def hp (s : ℕ) (l : Fin 128) : ℝ := if s = 0 then 0 else S.H (s - 1) l
/-- The hyperbolic tangent inside the approximate gelu. -/
def th (s : ℕ) (l : Fin 128) : ℝ := Real.tanh (c0 * (S.Y s l + c1 * (S.Y s l * S.Y s l) * S.Y s l))
/-- The approximate gelu. -/
def gel (s : ℕ) (l : Fin 128) : ℝ := 1 / 2 * S.Y s l * (1 + S.th s l)
/-- Its derivative. -/
def dgel (s : ℕ) (l : Fin 128) : ℝ :=
  1 / 2 * (1 + S.th s l) + 1 / 2 * S.Y s l * (1 - S.th s l * S.th s l) * c0 * (1 + 3 * c1 * (S.Y s l * S.Y s l))
/-- The gradient entering the recurrence. -/
def bv (s : ℕ) (l : Fin 128) : ℝ := S.D s l * S.gel s l
/-- The recurrence's gradient `k` rows before the end. -/
def gd (l : Fin 128) : ℕ → ℝ
  | 0 => 0
  | k + 1 => S.bv (8191 - k) l + S.a (8192 - k) l * gd l k
/-- The recurrence's gradient. -/
def g (s : ℕ) (l : Fin 128) : ℝ := S.gd l (8192 - s)
/-- The gradient of the decay's logarithm. -/
def dla (s : ℕ) (l : Fin 128) : ℝ :=
  S.g s l * S.hp s l * S.a s l - S.g s l * (S.ig s l * S.xc s l) * (S.a s l * S.a s l / S.mu s l)
/-- The gradient entering the recurrence gate's affine map. -/
def zr (s : ℕ) (l : Fin 128) : ℝ := S.dla s l * (-8 * S.sp l) * S.rg s l * (1 - S.rg s l)
/-- The gradient entering the input gate's affine map. -/
def zi (s : ℕ) (l : Fin 128) : ℝ := S.g s l * S.mu s l * S.xc s l * S.ig s l * (1 - S.ig s l)
/-- The convolution's gradient. -/
def dxc (s : ℕ) (l : Fin 128) : ℝ :=
  S.g s l * S.mu s l * S.ig s l + ∑ k, S.zr s k * S.WR l k + ∑ k, S.zi s k * S.WI l k
/-- The convolution's gradient, zero past the end. -/
def dxz (s : ℕ) (l : Fin 128) : ℝ := if s < 8192 then S.dxc s l else 0
/-- The gradient of the branch's input. -/
def dx (s : ℕ) (l : Fin 128) : ℝ :=
  S.CW 0 l * S.dxz (s + 3) l + S.CW 1 l * S.dxz (s + 2) l + S.CW 2 l * S.dxz (s + 1) l + S.CW 3 l * S.dxc s l
/-- The gradient of the gelu branch's input. -/
def dy (s : ℕ) (l : Fin 128) : ℝ := S.D s l * S.H s l * S.dgel s l

theorem g_step (s : ℕ) (hs : s < 8192) (l : Fin 128) : S.g s l = S.bv s l + S.a (s + 1) l * S.g (s + 1) l := by
  unfold g
  obtain ⟨k, hk⟩ : ∃ k, 8192 - s = k + 1 := ⟨8191 - s, by omega⟩
  have h1 : 8192 - (s + 1) = k := by omega
  have h2 : 8191 - k = s := by omega
  have h3 : 8192 - k = s + 1 := by omega
  rw [hk, h1, gd, h2, h3]

theorem g_end (s : ℕ) (hs : 8192 ≤ s) (l : Fin 128) : S.g s l = 0 := by
  unfold g
  rw [show 8192 - s = 0 by omega, gd]

theorem rg_pos (s : ℕ) (l : Fin 128) : 0 < S.rg s l := by unfold rg sg; positivity

theorem sp_pos (l : Fin 128) : 0 < S.sp l := by
  unfold sp
  have h : 0 < Real.log (1 + Real.exp (-|S.LAM l|)) := Real.log_pos (by linarith [Real.exp_pos (-|S.LAM l|)])
  linarith [le_max_right (-S.LAM l) 0]

theorem la_neg (s : ℕ) (l : Fin 128) : S.la s l < 0 := by
  unfold la
  nlinarith [mul_pos (S.sp_pos l) (S.rg_pos s l)]

/-- `tanh (-x) (e²ˣ + 1) = 1 - e²ˣ`. -/
theorem tanh_form (x : ℝ) : Real.tanh (-x) * (Real.exp x * Real.exp x + 1) = 1 - Real.exp x * Real.exp x := by
  rw [Real.tanh_neg, Real.tanh_eq_sinh_div_cosh, Real.sinh_eq, Real.cosh_eq]
  have h1 : Real.exp x * Real.exp (-x) = 1 := by rw [← Real.exp_add]; simp
  have h2 : 0 < Real.exp x := Real.exp_pos x
  have h3 : 0 < Real.exp (-x) := Real.exp_pos (-x)
  have h4 : (Real.exp x + Real.exp (-x)) / 2 ≠ 0 := by positivity
  field_simp
  nlinarith [h1, h2, h3]

theorem mu_sq_pos (s : ℕ) (l : Fin 128) : 0 < Real.tanh (-S.la s l) * (S.a s l * S.a s l + 1) := by
  unfold a
  rw [tanh_form]
  have h := (Real.exp_lt_exp.mpr (S.la_neg s l)).trans_eq Real.exp_zero
  nlinarith [Real.exp_pos (S.la s l)]

theorem mu_pos (s : ℕ) (l : Fin 128) : 0 < S.mu s l := Real.sqrt_pos.mpr (S.mu_sq_pos s l)

end Lane

/-! The operations at real arguments. -/

theorem tanh_coe (r : ℝ) : Ideal.tanh (r : EReal) = ((Real.tanh r : ℝ) : EReal) := rfl

theorem sqrt_coe {r : ℝ} (h : 0 ≤ r) : Ideal.sqrt (r : EReal) = ((Real.sqrt r : ℝ) : EReal) := by
  rw [Ideal.sqrt_coe, if_neg (not_lt.mpr h)]

theorem log_coe {r : ℝ} (h : 0 < r) : Ideal.log (r : EReal) = ((Real.log r : ℝ) : EReal) := by
  rw [Ideal.log_coe, if_neg (not_le.mpr h)]

theorem max_coe (x y : ℝ) : max (x : EReal) (y : EReal) = ((max x y : ℝ) : EReal) := (EReal.coe_strictMono.monotone.map_max).symm

theorem absf_coe (r : ℝ) : (FloatOps.absf (F := Ideal) (φ := .f32) (r : EReal) : EReal) = ((|r| : ℝ) : EReal) := by
  show max (r : EReal) (-(r : EReal)) = _
  rw [← EReal.coe_neg, max_coe]; rfl

theorem c0_eq : Ideal.ofBits .f32 0x3F4C422A#32 = ((c0 : ℝ) : EReal) := by
  simp [Ideal.ofBits, Ideal.ieee, c0]
  norm_num
  rw [← EReal.coe_mul]
  norm_num

theorem neg8_eq : Ideal.ofBits .f32 0xC1000000#32 = ((-8 : ℝ) : EReal) := by
  simp [Ideal.ofBits, Ideal.ieee]
  norm_num
  try (rw [← EReal.coe_mul]; norm_num)

end Cert.Lru

end
-- ==== Proof.LruTile.lean ====
/- One grid point of the recurrent branch's backward pass: each value of the body at a tile of 512 rows, over the reals. -/
module

public import proofs.«01_k».proof.Proof.Gen.Kernel3Ideal.Skeleton
public import proofs.«01_k».proof.Proof.Gen.Kernel3Ideal
public import proofs.«01_k».proof.Proof.LruReal
public import Idealize.ShloMosaic.Lib.Pipeline.ValueKit
public import Idealize.ShloMosaic.Lib.WordCmp

@[expose] public section

set_option maxRecDepth 16384

noncomputable section

open scoped BigOperators

namespace Cert.Lru

open Idealize.ShloMosaic Cert.Own Cert.Kernel3Ideal Cert.Kernel3Ideal.Gen

/-- A tile whose row `p` holds row `o + p` of `f`. -/
abbrev Rows (v : S512x128.Idx → EReal) (o : ℕ) (f : ℕ → Fin 128 → ℝ) : Prop :=
  ∀ (p : Fin 512) (l : Fin 128), v (ix2 p l) = ((f (o + p) l : ℝ) : EReal)
/-- A row holding `f`. -/
abbrev Row (v : S1x128.Idx → EReal) (f : Fin 128 → ℝ) : Prop := ∀ l : Fin 128, v (ix2 0 l) = ((f l : ℝ) : EReal)
/-- A square block holding `f`. -/
abbrev Sq (v : S1x128x128.Idx → EReal) (f : Fin 128 → Fin 128 → ℝ) : Prop :=
  ∀ k l : Fin 128, v (ix3 0 k l) = ((f k l : ℝ) : EReal)
/-- The same without its leading axis. -/
abbrev Sq2 (v : S128x128.Idx → EReal) (f : Fin 128 → Fin 128 → ℝ) : Prop :=
  ∀ k l : Fin 128, v (ix2 k l) = ((f k l : ℝ) : EReal)
/-- Four rows holding `f`. -/
abbrev Four (v : S4x128.Idx → EReal) (f : ℕ → Fin 128 → ℝ) : Prop :=
  ∀ (j : Fin 4) (l : Fin 128), v (ix2 j l) = ((f j l : ℝ) : EReal)

/-- The row numbers of a tile. -/
abbrev rows : IVec S512x128 32 := iota .tc S512x128 32 [0] iota_S512x128_d0_w32

theorem sel_slt {α : Type} (p : Fin 512) (c : BitVec 32) (hc : c.toNat < 1024) (x y : α) :
    Scalar.select (IntOp.cmpi .slt (BitVec.ofNat 32 p) c) x y = if (p : ℕ) < c.toNat then x else y := by
  have hp : (BitVec.ofNat 32 (p : ℕ)).toNat = p := by
    rw [BitVec.toNat_ofNat]; exact Nat.mod_eq_of_lt (by omega)
  rw [WordCmp.cmpi_slt_of_lt (by omega) (by omega), hp]
  unfold Scalar.select
  split <;> split <;> simp_all

theorem sel_sge {α : Type} (p : Fin 512) (c : BitVec 32) (hc : c.toNat < 1024) (x y : α) :
    Scalar.select (IntOp.cmpi .sge (BitVec.ofNat 32 p) c) x y = if c.toNat ≤ (p : ℕ) then x else y := by
  have hp : (BitVec.ofNat 32 (p : ℕ)).toNat = p := by
    rw [BitVec.toNat_ofNat]; exact Nat.mod_eq_of_lt (by omega)
  rw [WordCmp.cmpi_sge_of_lt (by omega) (by omega), hp]
  unfold Scalar.select
  split <;> split <;> simp_all

theorem sel_pos {α : Type} (i r : ℕ) (hi : i = 15 - r) (hr : r ≤ 15) (x y : α) :
    Scalar.select (Scalar.cmpi .sgt (Scalar.subi (15#32) (BitVec.ofNat 32 i)) 0#32) x y = if 0 < r then x else y := by
  subst hi
  interval_cases r <;> rfl

/-- A tile holding `f`, its rows numbered within it. -/
abbrev Loc (v : S512x128.Idx → EReal) (f : ℕ → Fin 128 → ℝ) : Prop :=
  ∀ (p : Fin 512) (l : Fin 128), v (ix2 p l) = ((f p l : ℝ) : EReal)

variable (S : Lane)

/-! The convolution. -/

theorem dn_at (r k : ℕ) (hk : 0 < k) (hk' : k < 4) (x xp : Vec Ideal S512x128 .f32)
    (hx : Rows x (512 * r) S.X) (hxp : 0 < r → Rows xp (512 * (r - 1)) S.X) (p : Fin 512) (l : Fin 128)
    (h : ((p : ℕ) + 512 - (512 - (512 - k))) % 512 < 512) :
    (if (p : ℕ) < k then if 0 < r then xp (ix2 ⟨_, h⟩ l) else 0 else x (ix2 ⟨_, h⟩ l))
      = ((S.dn k (512 * r + p) l : ℝ) : EReal) := by
  unfold Lane.dn
  split
  · split
    · rw [hxp (by assumption)]
      rw [if_neg (by omega)]
      congr 2
      show 512 * (r - 1) + (((p : ℕ) + 512 - (512 - (512 - k))) % 512) = _
      omega
    · rw [if_pos (by omega), EReal.coe_zero]
  · rw [hx, if_neg (by omega)]
    congr 2
    show 512 * r + (((p : ℕ) + 512 - (512 - (512 - k))) % 512) = _
    omega

theorem pay16_at (i : grid0.Coords) (r : ℕ) (hi : (i 1).val = 15 - r) (hr : r ≤ 15) (x xp : Vec Ideal S512x128 .f32)
    (hx : Rows x (512 * r) S.X) (hxp : 0 < r → Rows xp (512 * (r - 1)) S.X) :
    Rows (k0_pay16 (F := Ideal) i x xp) (512 * r) (S.dn 1) := by
  intro p l
  pointwise [k0_pay16, k0_pay13]
  rw [sel_slt _ _ (by decide), sel_pos _ r hi hr]
  exact dn_at S r 1 (by decide) (by decide) x xp hx hxp p l _

theorem pay18_at (i : grid0.Coords) (r : ℕ) (hi : (i 1).val = 15 - r) (hr : r ≤ 15) (x xp : Vec Ideal S512x128 .f32)
    (hx : Rows x (512 * r) S.X) (hxp : 0 < r → Rows xp (512 * (r - 1)) S.X) :
    Rows (k0_pay18 (F := Ideal) x (k0_pay13 i xp) k0_pay17) (512 * r) (S.dn 2) := by
  intro p l
  pointwise [k0_pay18, k0_pay13, k0_pay17]
  rw [sel_slt _ _ (by decide), sel_pos _ r hi hr]
  exact dn_at S r 2 (by decide) (by decide) x xp hx hxp p l _

theorem pay19_at (i : grid0.Coords) (r : ℕ) (hi : (i 1).val = 15 - r) (hr : r ≤ 15) (x xp : Vec Ideal S512x128 .f32)
    (hx : Rows x (512 * r) S.X) (hxp : 0 < r → Rows xp (512 * (r - 1)) S.X) :
    Rows (k0_pay19 (F := Ideal) rows x (k0_pay13 i xp)) (512 * r) (S.dn 3) := by
  intro p l
  pointwise [k0_pay19, k0_pay13]
  rw [sel_slt _ _ (by decide), sel_pos _ r hi hr]
  exact dn_at S r 3 (by decide) (by decide) x xp hx hxp p l _

theorem pay20_at (o : ℕ) (v4 : IVec S512x128 32) (x xp : Vec Ideal S512x128 .f32) (cw : Vec Ideal S4x128 .f32) (cb : Vec Ideal S1x128 .f32)
    (d1 : Vec Ideal S512x128 .f32) (v27 : IVec S512x128 1) (hx : Rows x o S.X) (hcw : Four cw S.CW) (hcb : Row cb S.CB)
    (h1 : Rows d1 o (S.dn 1)) (h2 : Rows (k0_pay18 (F := Ideal) x xp v27) o (S.dn 2)) (h3 : Rows (k0_pay19 (F := Ideal) v4 x xp) o (S.dn 3)) :
    Rows (k0_pay20 (F := Ideal) v4 x xp cw cb d1 v27) o S.xc := by
  intro p l
  pointwise [k0_pay20]
  rw [h1, h2, h3, hx, hcb]
  have e0 : cw (ix2 0 l) = ((S.CW 0 l : ℝ) : EReal) := hcw 0 l
  have e1 : cw (ix2 1 l) = ((S.CW 1 l : ℝ) : EReal) := hcw 1 l
  have e2 : cw (ix2 2 l) = ((S.CW 2 l : ℝ) : EReal) := hcw 2 l
  have e3 : cw (ix2 3 l) = ((S.CW 3 l : ℝ) : EReal) := hcw 3 l
  simp only [e0, e1, e2, e3, ← EReal.coe_mul, ← EReal.coe_add]
  rfl

theorem pay14_at (w : Vec Ideal S1x128x128 .f32) (f : Fin 128 → Fin 128 → ℝ) (h : Sq w f) : Sq2 (k0_pay14 (F := Ideal) w) f := by
  intro k l
  pointwise [k0_pay14]
  exact h k l

theorem pay15_at (w : Vec Ideal S1x128x128 .f32) (f : Fin 128 → Fin 128 → ℝ) (h : Sq w f) : Sq2 (k0_pay15 (F := Ideal) w) f := by
  intro k l
  pointwise [k0_pay15]
  exact h k l

theorem pay21_at (o : ℕ) (v4 : IVec S512x128 32) (x xp : Vec Ideal S512x128 .f32) (cw : Vec Ideal S4x128 .f32) (cb : Vec Ideal S1x128 .f32)
    (d1 : Vec Ideal S512x128 .f32) (v27 : IVec S512x128 1) (h : Rows (k0_pay20 (F := Ideal) v4 x xp cw cb d1 v27) o S.xc) :
    Rows (k0_pay21 (F := Ideal) v4 x xp cw cb d1 v27) o S.xc := by
  intro p l
  pointwise [k0_pay21]
  exact h p l

theorem pay22_at (o : ℕ) (v4 : IVec S512x128 32) (x xp : Vec Ideal S512x128 .f32) (cw : Vec Ideal S4x128 .f32) (w : FVec Ideal S128x128 .bf16)
    (cb b : Vec Ideal S1x128 .f32) (d1 : Vec Ideal S512x128 .f32) (v27 : IVec S512x128 1)
    (h : Rows (k0_pay21 (F := Ideal) v4 x xp cw cb d1 v27) o S.xc) (hw : Sq2 w S.WR) (hb : Row b S.BR) :
    Rows (k0_pay22 (F := Ideal) v4 x xp cw w cb b d1 v27) o S.rg := by
  intro p l
  pointwise [k0_pay22]
  simp only [h, hw, hb, ← EReal.coe_mul, sum_coe, ← EReal.coe_add, logistic_coe]
  rfl

theorem pay23_at (o : ℕ) (v4 : IVec S512x128 32) (x xp : Vec Ideal S512x128 .f32) (cw : Vec Ideal S4x128 .f32) (w : FVec Ideal S128x128 .bf16)
    (cb b : Vec Ideal S1x128 .f32) (d1 : Vec Ideal S512x128 .f32) (v27 : IVec S512x128 1)
    (h : Rows (k0_pay21 (F := Ideal) v4 x xp cw cb d1 v27) o S.xc) (hw : Sq2 w S.WI) (hb : Row b S.BI) :
    Rows (k0_pay23 (F := Ideal) v4 x xp cw w cb b d1 v27) o S.ig := by
  intro p l
  pointwise [k0_pay23]
  simp only [h, hw, hb, ← EReal.coe_mul, sum_coe, ← EReal.coe_add, logistic_coe]
  rfl

/-! The gates' decay. -/

theorem pay30_at (v : Vec Ideal S1x128 .f32) (h : Row v S.LAM) :
    Row (k0_pay30 (F := Ideal) v (k0_pay24 v) (k0_pay26 v) (k0_pay27 v) (k0_pay28 v) (k0_pay29 v) (Scalar.ofBits .f32 0x3F800000#32))
      (fun l => -8 * S.sp l) := by
  intro l
  pointwise [k0_pay30, k0_pay24, k0_pay25, k0_pay26, k0_pay27, k0_pay28, k0_pay29]
  rw [h l, absf_coe, neg8_eq, ← EReal.coe_zero, ← EReal.coe_one, ← EReal.coe_sub, ← EReal.coe_sub, exp_coe, ← EReal.coe_add]
  have he := Real.exp_pos (0 - |S.LAM l|)
  have hne : ¬(((1 + Real.exp (0 - |S.LAM l|) : ℝ) : EReal) = ((1 : ℝ) : EReal)) := fun h => by
    have := EReal.coe_injective h
    linarith
  rw [if_neg hne, if_neg hne, ← EReal.coe_sub, div_coe _ _ (by linarith), log_coe (by linarith), max_coe]
  simp only [← EReal.coe_mul, ← EReal.coe_add]
  congr 1
  unfold Lane.sp
  rw [show (1 + Real.exp (0 - |S.LAM l|) - 1) = Real.exp (0 - |S.LAM l|) by ring, div_self he.ne']
  simp

/-- The gates' row of scaled softplus, as the body's later values read it. -/
abbrev spRow (v : Vec Ideal S1x128 .f32) : FVec Ideal S1x128 .f32 :=
  k0_pay30 (F := Ideal) v (k0_pay24 v) (k0_pay26 v) (k0_pay27 v) (k0_pay28 v) (k0_pay29 v) (Scalar.ofBits .f32 0x3F800000#32)

theorem pay31_at (o : ℕ) (v : Vec Ideal S1x128 .f32) (rgt : Vec Ideal S512x128 .f32) (v65 : FVec Ideal S1x128 .f32) (v69 : IVec S1x128 1)
    (v70 : FVec Ideal S1x128 .f32) (v72 : IVec S1x128 1) (v74 : FVec Ideal S1x128 .f32) (cst : Ideal .f32)
    (h : Row (k0_pay30 (F := Ideal) v v65 v69 v70 v72 v74 cst) (fun l => -8 * S.sp l)) (hr : Rows rgt o S.rg) :
    Rows (k0_pay31 (F := Ideal) v rgt v65 v69 v70 v72 v74 cst) o S.la := by
  intro p l
  pointwise [k0_pay31]
  rw [h, hr, ← EReal.coe_mul]
  rfl

theorem pay32_at (o : ℕ) (v : Vec Ideal S1x128 .f32) (rgt : Vec Ideal S512x128 .f32) (v65 : FVec Ideal S1x128 .f32) (v69 : IVec S1x128 1)
    (v70 : FVec Ideal S1x128 .f32) (v72 : IVec S1x128 1) (v74 : FVec Ideal S1x128 .f32) (cst : Ideal .f32)
    (h : Rows (k0_pay31 (F := Ideal) v rgt v65 v69 v70 v72 v74 cst) o S.la) :
    Rows (k0_pay32 (F := Ideal) v rgt v65 v69 v70 v72 v74 cst) o S.a := by
  intro p l
  pointwise [k0_pay32]
  rw [h, exp_coe]
  rfl

theorem pay33_at (o : ℕ) (v : Vec Ideal S1x128 .f32) (rgt : Vec Ideal S512x128 .f32) (v65 : FVec Ideal S1x128 .f32) (v69 : IVec S1x128 1)
    (v70 : FVec Ideal S1x128 .f32) (v72 : IVec S1x128 1) (v74 : FVec Ideal S1x128 .f32) (cst : Ideal .f32)
    (h : Rows (k0_pay31 (F := Ideal) v rgt v65 v69 v70 v72 v74 cst) o S.la) (h' : Rows (k0_pay32 (F := Ideal) v rgt v65 v69 v70 v72 v74 cst) o S.a) :
    Rows (k0_pay33 (F := Ideal) v rgt v65 v69 v70 v72 v74 cst) o S.mu := by
  intro p l
  pointwise [k0_pay33]
  have hp := (S.mu_sq_pos (o + p) l).le
  rw [← zero_sub] at hp
  rw [h, h', ← EReal.coe_zero, ← EReal.coe_one, ← EReal.coe_sub, tanh_coe, ← EReal.coe_mul, ← EReal.coe_add, ← EReal.coe_mul, sqrt_coe hp]
  rw [zero_sub]
  rfl

theorem pay34_at (i : grid0.Coords) (r : ℕ) (hi : (i 1).val = 15 - r) (hr : r ≤ 15) (h : Vec Ideal S512x128 .f32) (hl : Vec Ideal S1x128 .f32)
    (hh : Rows h (512 * r) S.H) (hhl : 0 < r → Row hl (S.H (512 * r - 1))) :
    Rows (k0_pay34 (F := Ideal) (Scalar.subi 15#32 (BitVec.ofNat 32 (i 1).val)) rows h hl) (512 * r) S.hp := by
  intro p l
  pointwise [k0_pay34]
  rw [sel_slt _ _ (by decide), sel_pos _ r hi hr]
  unfold Lane.hp
  split
  · have hp : (p : ℕ) = 0 := by have : (p : ℕ) < 1 := by assumption
                                omega
    split
    · rw [hhl (by assumption), if_neg (by omega)]
      congr 2
      omega
    · rw [if_pos (by omega), EReal.coe_zero]
  · have hp : ¬(p : ℕ) < 1 := by assumption
    rw [hh, if_neg (by omega)]
    congr 2
    show 512 * r + (((p : ℕ) + 512 - 1) % 512) = _
    omega

/-! The gelu branch. -/

theorem gelu_c1 : Named.named (F := Ideal) (φ := .f32) κ "gelu_c1" 0x3D372713#32 = ((c1 : ℝ) : EReal) := rfl
theorem gelu_3c1 : Named.named (F := Ideal) (φ := .f32) κ "gelu_3c1" 0x3E095D4F#32 = ((3 * c1 : ℝ) : EReal) := by
  show (((26829 / 200000 : ℝ)) : EReal) = _
  unfold c1
  norm_num

theorem pay36_at (o : ℕ) (y : Vec Ideal S512x128 .f32) (hy : Rows y o S.Y) : Rows (k0_pay36 (F := Ideal) y) o S.th := by
  intro p l
  pointwise [k0_pay36, k0_pay35]
  rw [hy, gelu_c1, c0_eq]
  simp only [← EReal.coe_mul, ← EReal.coe_add, tanh_coe]
  rfl

theorem pay37_at (o : ℕ) (h y t d : Vec Ideal S512x128 .f32) (hh : Rows h o S.H) (hy : Rows y o S.Y) (ht : Rows t o S.th) (hd : Rows d o S.D) :
    Rows (k0_pay37 (F := Ideal) h y (k0_pay35 y) t d) o S.dy := by
  intro p l
  pointwise [k0_pay37, k0_pay35]
  rw [hy, hh, ht, hd, gelu_3c1, c0_eq, half_eq]
  simp only [← EReal.coe_one, ← EReal.coe_mul, ← EReal.coe_add, ← EReal.coe_sub]
  rfl

theorem pay39_at (o : ℕ) (y t d : Vec Ideal S512x128 .f32) (hy : Rows y o S.Y) (ht : Rows t o S.th) (hd : Rows d o S.D) :
    Rows (k0_pay39 (F := Ideal) y t d) o S.bv := by
  intro p l
  pointwise [k0_pay39]
  rw [hy, ht, hd, half_eq]
  simp only [← EReal.coe_one, ← EReal.coe_mul, ← EReal.coe_add]
  rfl

end Cert.Lru

end
-- ==== Proof.LruTile2.lean ====
/- One grid point of the recurrent branch's backward pass, continued: the scan over a tile's rows, the gradients it gives, and
   the sums it adds to. -/
module

public import proofs.«01_k».proof.Proof.LruTile

@[expose] public section

set_option maxRecDepth 16384

noncomputable section

open scoped BigOperators

namespace Cert.Lru

open Idealize.ShloMosaic Cert.Own Cert.Kernel3Ideal Cert.Kernel3Ideal.Gen

variable (S : Lane)

/-! The scan. -/

/-- The offsets after one doubling: each row adds its factor times the row `512 - c` below. -/
def stepB (c : BitVec 32) (a b : FVec Ideal S512x128 .f32) : FVec Ideal S512x128 .f32 :=
  addf b (mulf a (select (cmpi .sge rows (broadcast S512x128 c)) (broadcast S512x128 (Scalar.ofBits .f32 0x00000000#32))
    (dynamicRotate 0 c none b rotates_S512x128_d0)))

/-- The factors after one doubling. -/
def stepA (c : BitVec 32) (a : FVec Ideal S512x128 .f32) : FVec Ideal S512x128 .f32 :=
  mulf a (select (cmpi .sge rows (broadcast S512x128 c)) (broadcast S512x128 (Scalar.ofBits .f32 0x3F800000#32))
    (dynamicRotate 0 c none a rotates_S512x128_d0))

/-- Factors and offsets reach `k` rows ahead: row `p` of `G` is the offset plus the factor times row `p + k`, and `γ` past the end. -/
def Reach (k : ℕ) (a b : FVec Ideal S512x128 .f32) (G : ℕ → Fin 128 → ℝ) (γ : Fin 128 → ℝ) : Prop :=
  ∃ A B : ℕ → Fin 128 → ℝ, Loc a A ∧ Loc b B ∧
    ∀ (p : ℕ) (_ : p < 512) (l : Fin 128), G p l = B p l + A p l * if 512 ≤ p + k then γ l else G (p + k) l

theorem stepB_at (k : ℕ) (hk : 0 < k) (hk' : k < 512) (a b : FVec Ideal S512x128 .f32) (A B : ℕ → Fin 128 → ℝ) (ha : Loc a A) (hb : Loc b B) :
    Loc (stepB (BitVec.ofNat 32 (512 - k)) a b) (fun p l => B p l + A p l * if 512 ≤ p + k then 0 else B (p + k) l) := by
  intro p l
  have hc : (BitVec.ofNat 32 (512 - k)).toNat = 512 - k := by rw [BitVec.toNat_ofNat]; exact Nat.mod_eq_of_lt (by omega)
  pointwise [stepB]
  rw [sel_sge _ _ (by omega), hc]
  rw [ha, hb]
  split
  · rw [if_pos (by omega), mul_zero, add_zero, add_zero]
  · rw [if_neg (by omega), hb, ← EReal.coe_mul, ← EReal.coe_add]
    congr 4
    show ((p : ℕ) + 512 - (512 - k) % 512) % 512 = _
    omega

theorem stepA_at (k : ℕ) (hk : 0 < k) (hk' : k < 512) (a : FVec Ideal S512x128 .f32) (A : ℕ → Fin 128 → ℝ) (ha : Loc a A) :
    Loc (stepA (BitVec.ofNat 32 (512 - k)) a) (fun p l => A p l * if 512 ≤ p + k then 1 else A (p + k) l) := by
  intro p l
  have hc : (BitVec.ofNat 32 (512 - k)).toNat = 512 - k := by rw [BitVec.toNat_ofNat]; exact Nat.mod_eq_of_lt (by omega)
  pointwise [stepA]
  rw [sel_sge _ _ (by omega), hc]
  rw [ha]
  split
  · simp only [if_pos (show 512 ≤ (p : ℕ) + k by omega), mul_one]
  · rw [if_neg (by omega), ha, ← EReal.coe_mul]
    congr 3
    show ((p : ℕ) + 512 - (512 - k) % 512) % 512 = _
    omega

theorem Reach.step (k : ℕ) (hk : 0 < k) (hk' : k < 512) (a b : FVec Ideal S512x128 .f32) (G : ℕ → Fin 128 → ℝ) (γ : Fin 128 → ℝ)
    (h : Reach k a b G γ) :
    Reach (2 * k) (stepA (BitVec.ofNat 32 (512 - k)) a) (stepB (BitVec.ofNat 32 (512 - k)) a b) G γ := by
  obtain ⟨A, B, ha, hb, hG⟩ := h
  refine ⟨_, _, stepA_at k hk hk' a A ha, stepB_at k hk hk' a b A B ha hb, fun p hp l => ?_⟩
  rw [hG p hp l]
  by_cases h1 : 512 ≤ p + k
  · simp only [if_pos h1, if_pos (show 512 ≤ p + 2 * k by omega)]
    ring
  · simp only [if_neg h1]
    rw [hG (p + k) (by omega) l, show p + k + k = p + 2 * k by omega]
    ring

theorem Reach.start (a b : FVec Ideal S512x128 .f32) (A B G : ℕ → Fin 128 → ℝ) (γ : Fin 128 → ℝ) (ha : Loc a A) (hb : Loc b B)
    (h : ∀ (p : ℕ) (_ : p < 512) (l : Fin 128), G p l = B p l + A p l * if 512 ≤ p + 1 then γ l else G (p + 1) l) : Reach 1 a b G γ :=
  ⟨A, B, ha, hb, h⟩

/-- The nine doublings. -/
def scanA (a : FVec Ideal S512x128 .f32) : ℕ → FVec Ideal S512x128 .f32
  | 0 => a
  | n + 1 => stepA (BitVec.ofNat 32 (512 - 2 ^ n)) (scanA a n)
def scanB (a b : FVec Ideal S512x128 .f32) : ℕ → FVec Ideal S512x128 .f32
  | 0 => b
  | n + 1 => stepB (BitVec.ofNat 32 (512 - 2 ^ n)) (scanA a n) (scanB a b n)

theorem scan_reach (a b : FVec Ideal S512x128 .f32) (G : ℕ → Fin 128 → ℝ) (γ : Fin 128 → ℝ) (h : Reach 1 a b G γ) (n : ℕ) (hn : n ≤ 9) :
    Reach (2 ^ n) (scanA a n) (scanB a b n) G γ := by
  induction n with
  | zero => exact h
  | succ n ih =>
    rw [pow_succ, mul_comm]
    have h9 : 2 ^ n < 512 := lt_of_lt_of_eq (Nat.pow_lt_pow_right (by decide) (show n < 9 by omega)) (by norm_num)
    exact Reach.step _ (by positivity) h9 _ _ G γ (ih (by omega))

theorem pay44_eq (v152 v109 v117 v141 : FVec Ideal S512x128 .f32) :
    k0_pay44 (F := Ideal) rows v152 (k0_pay39 v109 v117 v141) (k0_pay40 rows) (k0_pay41 v109 v117 v141) (Scalar.ofBits .f32 0x00000000#32)
      = scanB v152 (k0_pay39 v109 v117 v141) 3 := rfl
theorem pay45_eq (v152 : FVec Ideal S512x128 .f32) : k0_pay45 (F := Ideal) rows v152 = scanA v152 3 := rfl

theorem pay49_eq (v152 v153 v155c : FVec Ideal S512x128 .f32) :
    k0_pay49 (F := Ideal) rows (scanB v152 v153 3) (scanA v152 3)
      (select (cmpi .sge rows (broadcast S512x128 504#32)) (broadcast S512x128 (Scalar.ofBits .f32 0x00000000#32))
        (dynamicRotate 0 504#32 none (scanB v152 v153 3) rotates_S512x128_d0)) 504#32 = scanB v152 v153 6 := rfl

/-- A tile's recurrence gradient, as the body computes it from the decays, the entering gradients and the next tile's first row. -/
abbrev scanOut (v152 v109 v117 v141 : FVec Ideal S512x128 .f32) (γ : Vec Ideal S1x128 .f32) : FVec Ideal S512x128 .f32 :=
  let v191 := k0_pay44 (F := Ideal) rows v152 (k0_pay39 v109 v117 v141) (k0_pay40 rows) (k0_pay41 v109 v117 v141) (Scalar.ofBits .f32 0x00000000#32)
  let v192 := k0_pay45 (F := Ideal) rows v152
  let v197 := k0_pay46 (F := Ideal) rows v152 (k0_pay39 v109 v117 v141) (k0_pay40 rows) (k0_pay41 v109 v117 v141) (Scalar.ofBits .f32 0x00000000#32)
  k0_pay53 (F := Ideal) rows (k0_pay49 rows v191 v192 v197 504#32) (k0_pay50 rows v192 504#32) (k0_pay51 rows v191 v192 v197 504#32)
    (k0_pay52 rows) 448#32 γ

theorem scanOut_eq (v152 v109 v117 v141 : FVec Ideal S512x128 .f32) (γ : Vec Ideal S1x128 .f32) :
    scanOut v152 v109 v117 v141 γ
      = addf (scanB v152 (k0_pay39 v109 v117 v141) 9) (mulf (scanA v152 9) (broadcastTo S512x128 γ broadcasts_S1x128_S512x128)) := rfl

theorem scanOut_at (v152 v109 v117 v141 : FVec Ideal S512x128 .f32) (v : Vec Ideal S1x128 .f32) (A B G : ℕ → Fin 128 → ℝ) (γ : Fin 128 → ℝ)
    (ha : Loc v152 A) (hb : Loc (k0_pay39 (F := Ideal) v109 v117 v141) B) (hv : Row v γ)
    (h : ∀ (p : ℕ) (_ : p < 512) (l : Fin 128), G p l = B p l + A p l * if 512 ≤ p + 1 then γ l else G (p + 1) l) :
    Loc (scanOut v152 v109 v117 v141 v) G := by
  obtain ⟨A', B', hA, hB, hG⟩ := scan_reach _ _ G γ (Reach.start _ _ A B G γ ha hb h) 9 (by decide)
  intro p l
  rw [scanOut_eq, hG p p.2 l, if_pos (by omega)]
  pointwise
  rw [hA, hB, hv, ← EReal.coe_mul, ← EReal.coe_add]

theorem pay38_at (o : ℕ) (a : FVec Ideal S512x128 .f32) (v : Vec Ideal S1x128 .f32) (α : Fin 128 → ℝ) (ha : Rows a o S.a) (hv : Row v α) :
    Loc (k0_pay38 (F := Ideal) rows a v) (fun p l => if 511 ≤ p then α l else S.a (o + p + 1) l) := by
  intro p l
  pointwise [k0_pay38]
  rw [sel_sge _ _ (by decide)]
  by_cases h : 511 ≤ (p : ℕ)
  · rw [if_pos (show (511#32).toNat ≤ (p : ℕ) from h), if_pos h]
    exact hv l
  · rw [if_neg (show ¬(511#32).toNat ≤ (p : ℕ) from h), if_neg h, ha]
    congr 2
    show o + ((p : ℕ) + 512 - 511) % 512 = _
    omega

/-- The recurrence's gradient on one tile of rows. The next tile's first decay and gradient come in, or zero past the end. -/
theorem g_at (o : ℕ) (ho : o + 512 ≤ 8192) (av y t d : Vec Ideal S512x128 .f32) (αv γv : Vec Ideal S1x128 .f32) (α : Fin 128 → ℝ)
    (ha : Rows av o S.a) (hα : Row αv α) (hb : Rows (k0_pay39 (F := Ideal) y t d) o S.bv) (hγ : Row γv (S.g (o + 512)))
    (h : ∀ l, α l * S.g (o + 512) l = S.a (o + 512) l * S.g (o + 512) l) :
    Rows (scanOut (k0_pay38 (F := Ideal) rows av αv) y t d γv) o S.g := by
  refine scanOut_at _ _ _ _ _ _ (fun p => S.bv (o + p)) (fun p => S.g (o + p)) _ (pay38_at S o av αv α ha hα) hb hγ fun p hp l => ?_
  rw [S.g_step (o + p) (by omega) l]
  by_cases hp' : 511 ≤ p
  · rw [if_pos hp', if_pos (by omega), h l, show o + p + 1 = o + 512 by omega]
  · rw [if_neg hp', if_neg (by omega)]
    rfl

theorem pay54_at (o : ℕ) (v : FVec Ideal S512x128 .f32) (v4 : IVec S512x128 32) (v230 v231 v236 : FVec Ideal S512x128 .f32) (v238 : IVec S512x128 1)
    (c : BitVec 32) (γ : Vec Ideal S1x128 .f32) (hv : Rows (k0_pay53 (F := Ideal) v4 v230 v231 v236 v238 c γ) o S.g) (q : Fin 8) (l : Fin 128) :
    k0_pay54 (F := Ideal) v4 v230 v231 v236 v238 c γ (ix2 q l) = ((S.g o l : ℝ) : EReal) := by
  pointwise [k0_pay54]
  exact hv 0 l

theorem pay55_at (o : ℕ) (v : FVec Ideal S512x128 .f32) (hv : Rows v o S.a) (q : Fin 8) (l : Fin 128) :
    k0_pay55 (F := Ideal) v (ix2 q l) = ((S.a o l : ℝ) : EReal) := by
  pointwise [k0_pay55]
  exact hv 0 l

/-! The gates' gradients. -/

variable {o : ℕ} {xc rgt igt a mu hp g : FVec Ideal S512x128 .f32}

theorem pay57_at (hg : Rows g o S.g) (hmu : Rows mu o S.mu) (hig : Rows igt o S.ig) :
    Rows (k0_pay57 (F := Ideal) igt mu g) o (fun s l => S.g s l * S.mu s l * S.ig s l) := by
  intro p l
  pointwise [k0_pay57, k0_pay56]
  rw [hg, hmu, hig, ← EReal.coe_mul, ← EReal.coe_mul]

theorem pay58_at (hxc : Rows xc o S.xc) (hig : Rows igt o S.ig) (ha : Rows a o S.a) (hmu : Rows mu o S.mu) (hhp : Rows hp o S.hp) (hg : Rows g o S.g) :
    Rows (k0_pay58 (F := Ideal) xc igt a mu hp g) o S.dla := by
  intro p l
  pointwise [k0_pay58]
  rw [hg, hmu, hig, hxc, ha, hhp]
  simp only [← EReal.coe_mul]
  rw [div_coe _ _ (S.mu_pos _ _).ne']
  simp only [← EReal.coe_mul, ← EReal.coe_sub]
  rfl

theorem pay60_at (v86 : FVec Ideal S1x128 .f32) (h86 : Row v86 (fun l => -8 * S.sp l)) (hr : Rows rgt o S.rg)
    (h : Rows (k0_pay58 (F := Ideal) xc igt a mu hp g) o S.dla) : Rows (k0_pay60 (F := Ideal) xc rgt igt v86 a mu hp g) o S.zr := by
  intro p l
  pointwise [k0_pay60]
  rw [h, h86, hr]
  simp only [← EReal.coe_one, ← EReal.coe_mul, ← EReal.coe_sub]
  rfl

theorem pay61_at (hxc : Rows xc o S.xc) (hig : Rows igt o S.ig) (hmu : Rows mu o S.mu) (hg : Rows g o S.g) :
    Rows (k0_pay61 (F := Ideal) xc igt mu g) o S.zi := by
  intro p l
  pointwise [k0_pay61, k0_pay56]
  rw [hxc, hig, hmu, hg]
  simp only [← EReal.coe_one, ← EReal.coe_mul, ← EReal.coe_sub]
  rfl

theorem pay69_at (wr wi : FVec Ideal S128x128 .bf16) (v zr zi : FVec Ideal S512x128 .f32) (hwr : Sq2 wr S.WR) (hwi : Sq2 wi S.WI)
    (hv : Rows v o (fun s l => S.g s l * S.mu s l * S.ig s l)) (hzr : Rows zr o S.zr) (hzi : Rows zi o S.zi) :
    Rows (k0_pay69 (F := Ideal) wr wi v zr zi) o S.dxc := by
  intro p l
  pointwise [k0_pay69, k0_pay65, k0_pay66]
  simp only [hwr, hwi, hv, hzr, hzi, ← EReal.coe_mul, sum_coe, ← EReal.coe_add]
  rfl

/-- The row a tile shifted `k` up reads, from the tile or from the one after it. -/
theorem up_at (k : ℕ) (hk : 0 < k) (hk' : k < 4) (d dn : FVec Ideal S512x128 .f32) (f : ℕ → Fin 128 → ℝ) (hd : Rows d o f) (hdn : Rows dn (o + 512) f)
    (p : Fin 512) (l : Fin 128) (h : ((p : ℕ) + 512 - (512 - k)) % 512 < 512) :
    (if 512 - k ≤ (p : ℕ) then dn (ix2 ⟨_, h⟩ l) else d (ix2 ⟨_, h⟩ l)) = ((f (o + p + k) l : ℝ) : EReal) := by
  split
  · rw [hdn]
    congr 2
    show o + 512 + ((p : ℕ) + 512 - (512 - k)) % 512 = _
    omega
  · rw [hd]
    congr 2
    show o + ((p : ℕ) + 512 - (512 - k)) % 512 = _
    omega

theorem pay1_at (ho : o + 512 ≤ 8192) (cw : Vec Ideal S4x128 .f32) (d dn : FVec Ideal S512x128 .f32) (hcw : Four cw S.CW) (hd : Rows d o S.dxc)
    (hdn : Rows dn (o + 512) S.dxz) :
    Rows (k0_pay1 (F := Ideal) rows cw d dn (k0_pay72 rows cw d dn) (k0_pay73 rows d dn) (k0_pay74 cw)) o S.dx := by
  have hd' : Rows d o S.dxz := fun p l => by
    rw [hd]
    unfold Lane.dxz
    rw [if_pos (by omega)]
  intro p l
  pointwise [k0_pay1, k0_pay72, k0_pay73, k0_pay74]
  rw [sel_sge _ _ (by decide), sel_sge _ _ (by decide), sel_sge _ _ (by decide)]
  have e0 : cw (ix2 0 l) = ((S.CW 0 l : ℝ) : EReal) := hcw 0 l
  have e1 : cw (ix2 1 l) = ((S.CW 1 l : ℝ) : EReal) := hcw 1 l
  have e2 : cw (ix2 2 l) = ((S.CW 2 l : ℝ) : EReal) := hcw 2 l
  have e3 : cw (ix2 3 l) = ((S.CW 3 l : ℝ) : EReal) := hcw 3 l
  have u1 : (if (511#32).toNat ≤ (p : ℕ) then dn (ix2 ⟨((p : ℕ) + 512 - 511) % 512, Nat.mod_lt _ (by decide)⟩ l)
      else d (ix2 ⟨((p : ℕ) + 512 - 511) % 512, Nat.mod_lt _ (by decide)⟩ l)) = ((S.dxz (o + p + 1) l : ℝ) : EReal) :=
    up_at 1 (by decide) (by decide) d dn S.dxz hd' hdn p l (Nat.mod_lt _ (by decide))
  have u2 : (if (510#32).toNat ≤ (p : ℕ) then dn (ix2 ⟨((p : ℕ) + 512 - 510) % 512, Nat.mod_lt _ (by decide)⟩ l)
      else d (ix2 ⟨((p : ℕ) + 512 - 510) % 512, Nat.mod_lt _ (by decide)⟩ l)) = ((S.dxz (o + p + 2) l : ℝ) : EReal) :=
    up_at 2 (by decide) (by decide) d dn S.dxz hd' hdn p l (Nat.mod_lt _ (by decide))
  have u3 : (if (509#32).toNat ≤ (p : ℕ) then dn (ix2 ⟨((p : ℕ) + 512 - 509) % 512, Nat.mod_lt _ (by decide)⟩ l)
      else d (ix2 ⟨((p : ℕ) + 512 - 509) % 512, Nat.mod_lt _ (by decide)⟩ l)) = ((S.dxz (o + p + 3) l : ℝ) : EReal) :=
    up_at 3 (by decide) (by decide) d dn S.dxz hd' hdn p l (Nat.mod_lt _ (by decide))
  rw [u1, u2, u3]
  simp only [e0, e1, e2, e3, hd, ← EReal.coe_mul, ← EReal.coe_add]
  rfl

theorem pay2_at (d : FVec Ideal S512x128 .f32) (f : ℕ → Fin 128 → ℝ) (h : Rows d o f) : Rows (k0_pay2 (F := Ideal) d) o f := by
  intro p l
  pointwise [k0_pay2]
  exact h p l

/-! The sums over a tile's rows. -/

theorem pay59_at (v17 acc : Vec Ideal S1x128 .f32) (A : Fin 128 → ℝ) (h17 : Row v17 S.LAM) (hacc : Row acc A) (hr : Rows rgt o S.rg)
    (h : Rows (k0_pay58 (F := Ideal) xc igt a mu hp g) o S.dla) :
    Row (k0_pay59 (F := Ideal) v17 xc rgt igt a mu hp g acc)
      (fun l => A l + (∑ p : Fin 512, S.dla (o + p) l * S.rg (o + p) l) * -8 * (0 - sg (0 - S.LAM l))) := by
  intro l
  pointwise [k0_pay59]
  simp only [h, hr, h17, hacc, neg8_eq, ← EReal.coe_zero, ← EReal.coe_sub, logistic_coe, ← EReal.coe_mul, sum_coe, ← EReal.coe_add]

theorem pay63_at (v : FVec Ideal S512x128 .f32) (acc : Vec Ideal S1x128 .f32) (f : ℕ → Fin 128 → ℝ) (A : Fin 128 → ℝ) (hv : Rows v o f) (hacc : Row acc A) :
    Row (k0_pay63 (F := Ideal) v (k0_pay62 acc)) (fun l => A l + ∑ p : Fin 512, f (o + p) l) := by
  intro l
  pointwise [k0_pay63, k0_pay62]
  simp only [hv, hacc, sum_coe, ← EReal.coe_add]

theorem pay64_at (v : FVec Ideal S512x128 .f32) (acc : Vec Ideal S1x128 .f32) (f : ℕ → Fin 128 → ℝ) (A : Fin 128 → ℝ) (hv : Rows v o f) (hacc : Row acc A) :
    Row (k0_pay64 (F := Ideal) v acc) (fun l => A l + ∑ p : Fin 512, f (o + p) l) := by
  intro l
  pointwise [k0_pay64]
  simp only [hv, hacc, sum_coe, ← EReal.coe_add]

theorem pay70_at (v : FVec Ideal S512x128 .f32) (acc : Vec Ideal S1x128 .f32) (f : ℕ → Fin 128 → ℝ) (A : Fin 128 → ℝ) (hv : Rows v o f) (hacc : Row acc A) :
    Row (k0_pay70 (F := Ideal) v acc) (fun l => A l + ∑ p : Fin 512, f (o + p) l) := by
  intro l
  pointwise [k0_pay70]
  simp only [hv, hacc, sum_coe, ← EReal.coe_add]

theorem pay67_at (x : FVec Ideal S512x128 .bf16) (v : FVec Ideal S512x128 .f32) (acc : Vec Ideal S1x128x128 .f32) (f e : ℕ → Fin 128 → ℝ)
    (A : Fin 128 → Fin 128 → ℝ) (hx : Rows x o e) (hv : Rows v o f) (hacc : Sq acc A) :
    Sq (k0_pay67 (F := Ideal) x v acc) (fun k l => A k l + ∑ p : Fin 512, e (o + p) k * f (o + p) l) := by
  intro k l
  pointwise [k0_pay67, k0_pay65]
  simp only [hx, hv, hacc, ← EReal.coe_mul, sum_coe, ← EReal.coe_add]

theorem pay68_at (x : FVec Ideal S512x128 .bf16) (v : FVec Ideal S512x128 .f32) (acc : Vec Ideal S1x128x128 .f32) (f e : ℕ → Fin 128 → ℝ)
    (A : Fin 128 → Fin 128 → ℝ) (hx : Rows x o e) (hv : Rows v o f) (hacc : Sq acc A) :
    Sq (k0_pay68 (F := Ideal) x v acc) (fun k l => A k l + ∑ p : Fin 512, e (o + p) k * f (o + p) l) := by
  intro k l
  pointwise [k0_pay68, k0_pay66]
  simp only [hx, hv, hacc, ← EReal.coe_mul, sum_coe, ← EReal.coe_add]

theorem pay71_at (x d1 d2 d3 v : FVec Ideal S512x128 .f32) (acc : Vec Ideal S4x128 .f32) (A : ℕ → Fin 128 → ℝ) (hx : Rows x o S.X)
    (h1 : Rows d1 o (S.dn 1)) (h2 : Rows d2 o (S.dn 2)) (h3 : Rows d3 o (S.dn 3)) (hv : Rows v o S.dxc) (hacc : Four acc A) :
    Four (k0_pay71 (F := Ideal) x d1 d2 d3 v acc) (fun j l => A j l + ∑ p : Fin 512, S.dxc (o + p) l * S.dn (3 - j) (o + p) l) := by
  intro j l
  have h0 : Rows x o (S.dn 0) := fun p l => by rw [hx]; rfl
  pointwise [k0_pay71]
  fin_cases j <;>
    (simp [hv, h0, h1, h2, h3, hacc _ _, -EReal.coe_mul, -EReal.coe_add]
     simp only [← EReal.coe_mul, sum_coe, ← EReal.coe_add])

end Cert.Lru

end
-- ==== Proof.LruBody.lean ====
/- The body of the recurrent branch's backward launch as one map: a tile's inputs and what the tile after it left give what this tile leaves. -/
module

public import proofs.«01_k».proof.Proof.LruFrame
public import proofs.«01_k».proof.Proof.LruTile2
public import Idealize.ShloMosaic.Lib.Pipeline.ValueKit
public import Idealize.ShloMosaic.Lib.Pipeline.ReadBack

@[expose] public section

set_option maxRecDepth 16384

noncomputable section

namespace Cert.Kernel3Ideal.Own

open Cert.Kernel3Ideal Cert.Kernel3Ideal.Gen Cert.Lru
open Idealize.ShloMosaic Idealize.ShloMosaic.TcCoe Idealize.ShloMosaic.Tactic
open Idealize.SL Idealize.SL.Sem
open Idealize.ShloMosaic.Pipeline (Dat Cfg Window)

/-- A tile's inputs: the convolution's input and the tile before it, the gate's input, the states and the eight rows before them, the
    branch's cotangent, and the channel block's weights. -/
structure Tile where
  x : Vec Ideal S512x128 .f32
  xp : Vec Ideal S512x128 .f32
  y : Vec Ideal S512x128 .f32
  h : Vec Ideal S512x128 .f32
  hl : Vec Ideal S8x128 .f32
  d : Vec Ideal S512x128 .f32
  cw : Vec Ideal S4x128 .f32
  cb : Vec Ideal S1x128 .f32
  wr : Vec Ideal S1x128x128 .f32
  br : Vec Ideal S1x128 .f32
  wi : Vec Ideal S1x128x128 .f32
  bi : Vec Ideal S1x128 .f32
  lam : Vec Ideal S1x128 .f32

section
variable (i : grid0.Coords) (X : Tile) (p : Held Ideal)

abbrev one : Ideal .f32 := Scalar.ofBits .f32 0x3F800000#32
abbrev first (v : Vec Ideal S8x128 .f32) : Vec Ideal S1x128 .f32 := View.ld v (Rect.unit ![0, 0] ![1, 128] inb_S8x128_S1x128_0_0)
abbrev last (v : Vec Ideal S8x128 .f32) : Vec Ideal S1x128 .f32 := View.ld v (Rect.unit ![7, 0] ![1, 128] inb_S8x128_S1x128_7_0)
def bprev : Vec Ideal S512x128 .f32 := k0_pay13 i X.xp
def bd1 : FVec Ideal S512x128 .f32 := k0_pay16 i X.x X.xp
def bd2 : FVec Ideal S512x128 .f32 := k0_pay18 X.x (bprev i X) k0_pay17
def bd3 : FVec Ideal S512x128 .f32 := k0_pay19 rows X.x (bprev i X)
def bxc : FVec Ideal S512x128 .f32 := k0_pay20 rows X.x (bprev i X) X.cw X.cb (bd1 i X) k0_pay17
def bxs : FVec Ideal S512x128 .bf16 := k0_pay21 rows X.x (bprev i X) X.cw X.cb (bd1 i X) k0_pay17
def brg : FVec Ideal S512x128 .f32 := k0_pay22 rows X.x (bprev i X) X.cw (k0_pay14 X.wr) X.cb X.br (bd1 i X) k0_pay17
def big : FVec Ideal S512x128 .f32 := k0_pay23 rows X.x (bprev i X) X.cw (k0_pay15 X.wi) X.cb X.bi (bd1 i X) k0_pay17
def bq : FVec Ideal S1x128 .f32 := k0_pay30 X.lam (k0_pay24 X.lam) (k0_pay26 X.lam) (k0_pay27 X.lam) (k0_pay28 X.lam) (k0_pay29 X.lam) one
def ba : FVec Ideal S512x128 .f32 := k0_pay32 X.lam (brg i X) (k0_pay24 X.lam) (k0_pay26 X.lam) (k0_pay27 X.lam) (k0_pay28 X.lam) (k0_pay29 X.lam) one
def bmu : FVec Ideal S512x128 .f32 := k0_pay33 X.lam (brg i X) (k0_pay24 X.lam) (k0_pay26 X.lam) (k0_pay27 X.lam) (k0_pay28 X.lam) (k0_pay29 X.lam) one
def bhp : FVec Ideal S512x128 .f32 := k0_pay34 (Scalar.subi 15#32 (BitVec.ofNat 32 (i 1).val)) rows X.h (last X.hl)
def bth : FVec Ideal S512x128 .f32 := k0_pay36 X.y
def bsh : FVec Ideal S512x128 .f32 := k0_pay38 rows (ba i X) (first p.2.2.2.2.2.2.2.2.2.2.2)
def bent : FVec Ideal S512x128 .f32 := k0_pay39 X.y (bth X) X.d
def b191 : FVec Ideal S512x128 .f32 := k0_pay44 rows (bsh i X p) (bent X) (k0_pay40 rows) (k0_pay41 X.y (bth X) X.d) (Scalar.ofBits .f32 0x00000000#32)
def b192 : FVec Ideal S512x128 .f32 := k0_pay45 rows (bsh i X p)
def b197 : FVec Ideal S512x128 .f32 := k0_pay46 rows (bsh i X p) (bent X) (k0_pay40 rows) (k0_pay41 X.y (bth X) X.d) (Scalar.ofBits .f32 0x00000000#32)
def b230 : FVec Ideal S512x128 .f32 := k0_pay49 rows (b191 i X p) (b192 i X p) (b197 i X p) 504#32
def b231 : FVec Ideal S512x128 .f32 := k0_pay50 rows (b192 i X p) 504#32
def b236 : FVec Ideal S512x128 .f32 := k0_pay51 rows (b191 i X p) (b192 i X p) (b197 i X p) 504#32
def bg : FVec Ideal S512x128 .f32 := k0_pay53 rows (b230 i X p) (b231 i X p) (b236 i X p) (k0_pay52 rows) 448#32 (first p.2.2.2.2.2.2.2.2.2.2.1)
def bzr : FVec Ideal S512x128 .f32 := k0_pay60 (bxc i X) (brg i X) (big i X) (bq X) (ba i X) (bmu i X) (bhp i X) (bg i X p)
def bzi : FVec Ideal S512x128 .f32 := k0_pay61 (bxc i X) (big i X) (bmu i X) (bg i X p)
def bdxc : FVec Ideal S512x128 .f32 := k0_pay69 (k0_pay14 X.wr) (k0_pay15 X.wi) (k0_pay57 (big i X) (bmu i X) (bg i X p)) (bzr i X p) (bzi i X p)

/-- What the tile leaves. -/
def bodyOut : Held Ideal :=
  (k0_pay1 rows X.cw (bdxc i X p) p.2.2.2.2.2.2.2.2.2.1 (k0_pay72 rows X.cw (bdxc i X p) p.2.2.2.2.2.2.2.2.2.1) (k0_pay73 rows (bdxc i X p) p.2.2.2.2.2.2.2.2.2.1) (k0_pay74 X.cw),
    k0_pay37 X.h X.y (k0_pay35 X.y) (bth X) X.d,
    k0_pay71 X.x (bd1 i X) (bd2 i X) (bd3 i X) (bdxc i X p) p.2.2.1,
    k0_pay70 (bdxc i X p) p.2.2.2.1,
    k0_pay67 (bxs i X) (bzr i X p) p.2.2.2.2.1,
    k0_pay63 (bzr i X p) (k0_pay62 p.2.2.2.2.2.1),
    k0_pay68 (bxs i X) (bzi i X p) p.2.2.2.2.2.2.1,
    k0_pay64 (bzi i X p) p.2.2.2.2.2.2.2.1,
    k0_pay59 X.lam (bxc i X) (brg i X) (big i X) (ba i X) (bmu i X) (bhp i X) (bg i X p) p.2.2.2.2.2.2.2.2.1,
    k0_pay2 (bdxc i X p),
    k0_pay54 rows (b230 i X p) (b231 i X p) (b236 i X p) (k0_pay52 rows) 448#32 (first p.2.2.2.2.2.2.2.2.2.2.1),
    k0_pay55 (ba i X))
end

/-- What a channel block's first tile finds. -/
def blank : Held Ideal := (fun _ => 0, fun _ => 0, k0_pay6 (F := Ideal), k0_pay7 (F := Ideal), k0_pay8 (F := Ideal), k0_pay9 (F := Ideal), k0_pay10 (F := Ideal), k0_pay11 (F := Ideal), k0_pay12 (F := Ideal), k0_pay3 (F := Ideal), k0_pay4 (F := Ideal), k0_pay5 (F := Ideal))

variable (m : (ℓ : Loc nD τ sig) → Buf (Elt Ideal) ℓ)

/-- A grid point's inputs. -/
def tile (c : Dev nD) (t : Fin cfg0.N) : Tile :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

end Cert.Kernel3Ideal.Own

end
-- ==== Proof.LruPoint.lean ====
/- One tile of the recurrent branch's backward launch over the reals: the sums grow by the tile's rows, the carried rows move one tile up. -/
module

public import proofs.«01_k».proof.Proof.LruBody

@[expose] public section

set_option maxRecDepth 16384

noncomputable section

namespace Cert.Kernel3Ideal.Own

open Cert.Kernel3Ideal Cert.Kernel3Ideal.Gen Cert.Lru Cert.Own
open Idealize.ShloMosaic Idealize.ShloMosaic.TcCoe Idealize.ShloMosaic.Tactic
open scoped BigOperators

/-- The tile `r` of the channel block `S`. -/
structure Holds (S : Lane) (r : ℕ) (X : Tile) : Prop where
  x : Rows X.x (512 * r) S.X
  xp : 0 < r → Rows X.xp (512 * (r - 1)) S.X
  y : Rows X.y (512 * r) S.Y
  h : Rows X.h (512 * r) S.H
  hl : 0 < r → Row (last X.hl) (S.H (512 * r - 1))
  d : Rows X.d (512 * r) S.D
  cw : Four X.cw S.CW
  cb : Row X.cb S.CB
  wr : Sq X.wr S.WR
  br : Row X.br S.BR
  wi : Sq X.wi S.WI
  bi : Row X.bi S.BI
  lam : Row X.lam S.LAM

/-- The sums over the rows from `o` on, and the first row of the tile there. -/
structure From (S : Lane) (o : ℕ) (p : Held Ideal) : Prop where
  dcw : Four p.2.2.1 (fun j l => ∑ s ∈ Finset.Ico o 8192, S.dxc s l * S.dn (3 - j) s l)
  dcb : Row p.2.2.2.1 (fun l => ∑ s ∈ Finset.Ico o 8192, S.dxc s l)
  dwr : Sq p.2.2.2.2.1 (fun k l => ∑ s ∈ Finset.Ico o 8192, S.xc s k * S.zr s l)
  dbr : Row p.2.2.2.2.2.1 (fun l => ∑ s ∈ Finset.Ico o 8192, S.zr s l)
  dwi : Sq p.2.2.2.2.2.2.1 (fun k l => ∑ s ∈ Finset.Ico o 8192, S.xc s k * S.zi s l)
  dbi : Row p.2.2.2.2.2.2.2.1 (fun l => ∑ s ∈ Finset.Ico o 8192, S.zi s l)
  dlam : Row p.2.2.2.2.2.2.2.2.1 (fun l => (∑ s ∈ Finset.Ico o 8192, S.dla s l * S.rg s l) * -8 * (0 - sg (0 - S.LAM l)))
  next : Rows p.2.2.2.2.2.2.2.2.2.1 o S.dxz
  g : Row (first p.2.2.2.2.2.2.2.2.2.2.1) (S.g o)
  a : ∃ α, Row (first p.2.2.2.2.2.2.2.2.2.2.2) α ∧ ∀ l, α l * S.g o l = S.a o l * S.g o l

theorem first_at (v : Vec Ideal S8x128 .f32) (l : Fin 128) : first v (ix2 0 l) = v (ix2 0 l) := by
  unfold first
  pointwise []
theorem last_at (v : Vec Ideal S8x128 .f32) (l : Fin 128) : last v (ix2 0 l) = v (ix2 7 l) := by
  unfold last
  pointwise []

/-- A sum from `o` on is the sum over the tile there and the sum from the next tile on. -/
theorem sum_from (o : ℕ) (ho : o + 512 ≤ 8192) (f : ℕ → ℝ) :
    ∑ s ∈ Finset.Ico o 8192, f s = ∑ s ∈ Finset.Ico (o + 512) 8192, f s + ∑ p : Fin 512, f (o + p) := by
  rw [← Finset.sum_Ico_consecutive f (Nat.le_add_right o 512) ho, add_comm, Finset.sum_Ico_eq_sum_range f o (o + 512),
    Nat.add_sub_cancel_left, Finset.sum_range]

theorem row_congr {v : S1x128.Idx → EReal} {f g : Fin 128 → ℝ} (h : Row v f) (e : ∀ l, f l = g l) : Row v g := fun l => (h l).trans (congrArg _ (e l))
theorem sq_congr {v : S1x128x128.Idx → EReal} {f g : Fin 128 → Fin 128 → ℝ} (h : Sq v f) (e : ∀ k l, f k l = g k l) : Sq v g := fun k l => (h k l).trans (congrArg _ (e k l))
theorem four_congr {v : S4x128.Idx → EReal} {f g : ℕ → Fin 128 → ℝ} (h : Four v f) (e : ∀ j l, f j l = g j l) : Four v g := fun j l => (h j l).trans (congrArg _ (e j l))

section
variable {S : Lane} {i : grid0.Coords} {r : ℕ} {X : Tile} {p : Held Ideal}

theorem d1_at (hi : (i 1).val = 15 - r) (hr : r ≤ 15) (hX : Holds S r X) : Rows (bd1 i X) (512 * r) (S.dn 1) := pay16_at S i r hi hr _ _ hX.x hX.xp
theorem d2_at (hi : (i 1).val = 15 - r) (hr : r ≤ 15) (hX : Holds S r X) : Rows (bd2 i X) (512 * r) (S.dn 2) := pay18_at S i r hi hr _ _ hX.x hX.xp
theorem d3_at (hi : (i 1).val = 15 - r) (hr : r ≤ 15) (hX : Holds S r X) : Rows (bd3 i X) (512 * r) (S.dn 3) := pay19_at S i r hi hr _ _ hX.x hX.xp
theorem xc_at (hi : (i 1).val = 15 - r) (hr : r ≤ 15) (hX : Holds S r X) : Rows (bxc i X) (512 * r) S.xc :=
  pay20_at S _ _ _ _ _ _ _ _ hX.x hX.cw hX.cb (d1_at hi hr hX) (d2_at hi hr hX) (d3_at hi hr hX)
theorem xs_at (hi : (i 1).val = 15 - r) (hr : r ≤ 15) (hX : Holds S r X) : Rows (bxs i X) (512 * r) S.xc :=
  pay21_at S _ _ _ _ _ _ _ _ (xc_at hi hr hX)
theorem rg_at (hi : (i 1).val = 15 - r) (hr : r ≤ 15) (hX : Holds S r X) : Rows (brg i X) (512 * r) S.rg :=
  pay22_at S _ _ _ _ _ _ _ _ _ _ (xs_at hi hr hX) (pay14_at _ _ hX.wr) hX.br
theorem ig_at (hi : (i 1).val = 15 - r) (hr : r ≤ 15) (hX : Holds S r X) : Rows (big i X) (512 * r) S.ig :=
  pay23_at S _ _ _ _ _ _ _ _ _ _ (xs_at hi hr hX) (pay15_at _ _ hX.wi) hX.bi
theorem q_at (hX : Holds S r X) : Row (bq X) (fun l => -8 * S.sp l) := pay30_at S _ hX.lam
theorem a_at (hi : (i 1).val = 15 - r) (hr : r ≤ 15) (hX : Holds S r X) : Rows (ba i X) (512 * r) S.a :=
  pay32_at S _ _ _ _ _ _ _ _ _ (pay31_at S _ _ _ _ _ _ _ _ _ (q_at hX) (rg_at hi hr hX))
theorem mu_at (hi : (i 1).val = 15 - r) (hr : r ≤ 15) (hX : Holds S r X) : Rows (bmu i X) (512 * r) S.mu :=
  pay33_at S _ _ _ _ _ _ _ _ _ (pay31_at S _ _ _ _ _ _ _ _ _ (q_at hX) (rg_at hi hr hX)) (a_at hi hr hX)
theorem hp_at (hi : (i 1).val = 15 - r) (hr : r ≤ 15) (hX : Holds S r X) : Rows (bhp i X) (512 * r) S.hp := pay34_at S i r hi hr _ _ hX.h hX.hl
theorem th_at (hX : Holds S r X) : Rows (bth X) (512 * r) S.th := pay36_at S _ _ hX.y
theorem ent_at (hX : Holds S r X) : Rows (bent X) (512 * r) S.bv := pay39_at S _ _ _ _ hX.y (th_at hX) hX.d
theorem g_rows (hi : (i 1).val = 15 - r) (hr : r ≤ 15) (hX : Holds S r X) (hp : From S (512 * r + 512) p) : Rows (bg i X p) (512 * r) S.g := by
  obtain ⟨α, hα, h⟩ := hp.a
  exact g_at S (512 * r) (by omega) (ba i X) X.y (bth X) X.d _ _ α (a_at hi hr hX) hα (ent_at hX) hp.g h
theorem dla_at (hi : (i 1).val = 15 - r) (hr : r ≤ 15) (hX : Holds S r X) (hp : From S (512 * r + 512) p) :
    Rows (k0_pay58 (F := Ideal) (bxc i X) (big i X) (ba i X) (bmu i X) (bhp i X) (bg i X p)) (512 * r) S.dla :=
  pay58_at S (xc_at hi hr hX) (ig_at hi hr hX) (a_at hi hr hX) (mu_at hi hr hX) (hp_at hi hr hX) (g_rows hi hr hX hp)
theorem zr_at (hi : (i 1).val = 15 - r) (hr : r ≤ 15) (hX : Holds S r X) (hp : From S (512 * r + 512) p) : Rows (bzr i X p) (512 * r) S.zr :=
  pay60_at S _ (q_at hX) (rg_at hi hr hX) (dla_at hi hr hX hp)
theorem zi_at (hi : (i 1).val = 15 - r) (hr : r ≤ 15) (hX : Holds S r X) (hp : From S (512 * r + 512) p) : Rows (bzi i X p) (512 * r) S.zi :=
  pay61_at S (xc_at hi hr hX) (ig_at hi hr hX) (mu_at hi hr hX) (g_rows hi hr hX hp)
theorem dxc_at (hi : (i 1).val = 15 - r) (hr : r ≤ 15) (hX : Holds S r X) (hp : From S (512 * r + 512) p) : Rows (bdxc i X p) (512 * r) S.dxc :=
  pay69_at S _ _ _ _ _ (pay14_at _ _ hX.wr) (pay15_at _ _ hX.wi) (pay57_at S (g_rows hi hr hX hp) (mu_at hi hr hX) (ig_at hi hr hX))
    (zr_at hi hr hX hp) (zi_at hi hr hX hp)

theorem dx_at (hi : (i 1).val = 15 - r) (hr : r ≤ 15) (hX : Holds S r X) (hp : From S (512 * r + 512) p) : Rows (bodyOut i X p).1 (512 * r) S.dx :=
  pay1_at S (by omega) _ _ _ hX.cw (dxc_at hi hr hX hp) hp.next
theorem dy_at (hX : Holds S r X) : Rows (bodyOut i X p).2.1 (512 * r) S.dy := pay37_at S _ _ _ _ _ hX.h hX.y (th_at hX) hX.d

/-- A tile takes the sums from the tile after it to its own. -/
theorem from_step (hi : (i 1).val = 15 - r) (hr : r ≤ 15) (hX : Holds S r X) (hp : From S (512 * r + 512) p) : From S (512 * r) (bodyOut i X p) := by
  have ho : 512 * r + 512 ≤ 8192 := by omega
  have hdxc := dxc_at hi hr hX hp
  have hzr := zr_at hi hr hX hp
  have hzi := zi_at hi hr hX hp
  refine ⟨?_, ?_, ?_, ?_, ?_, ?_, ?_, ?_, ?_, ?_⟩
  · exact four_congr (pay71_at S _ _ _ _ _ _ _ hX.x (d1_at hi hr hX) (d2_at hi hr hX) (d3_at hi hr hX) hdxc hp.dcw)
      fun j l => (sum_from _ ho (fun s => S.dxc s l * S.dn (3 - j) s l)).symm
  · exact row_congr (pay70_at _ _ _ _ hdxc hp.dcb) fun l => (sum_from _ ho (fun s => S.dxc s l)).symm
  · exact sq_congr (pay67_at _ _ _ _ _ _ (xs_at hi hr hX) hzr hp.dwr) fun k l => (sum_from _ ho (fun s => S.xc s k * S.zr s l)).symm
  · exact row_congr (pay63_at _ _ _ _ hzr hp.dbr) fun l => (sum_from _ ho (fun s => S.zr s l)).symm
  · exact sq_congr (pay68_at _ _ _ _ _ _ (xs_at hi hr hX) hzi hp.dwi) fun k l => (sum_from _ ho (fun s => S.xc s k * S.zi s l)).symm
  · exact row_congr (pay64_at _ _ _ _ hzi hp.dbi) fun l => (sum_from _ ho (fun s => S.zi s l)).symm
  · exact row_congr (pay59_at S _ _ _ hX.lam hp.dlam (rg_at hi hr hX) (dla_at hi hr hX hp)) fun l => by
      show _ = _ * -8 * (0 - sg (0 - S.LAM l))
      rw [sum_from _ ho (fun s => S.dla s l * S.rg s l)]; ring
  · refine pay2_at (o := 512 * r) (bdxc i X p) S.dxz fun q l => ?_
    rw [hdxc]
    unfold Lane.dxz
    rw [if_pos (by omega)]
  · intro l
    exact (first_at _ l).trans (pay54_at S (512 * r) (bg i X p) _ _ _ _ _ _ _ (g_rows hi hr hX hp) 0 l)
  · refine ⟨S.a (512 * r), fun l => ?_, fun l => rfl⟩
    exact (first_at _ l).trans (pay55_at S (512 * r) (ba i X) (a_at hi hr hX) 0 l)

/-- Past the last tile there is nothing. -/
theorem from_blank : From S 8192 blank := by
  refine ⟨?_, ?_, ?_, ?_, ?_, ?_, ?_, ?_, ?_, ?_⟩
  · intro j l; pointwise [blank, k0_pay6]; simp [Ideal.ofBits_zero_f32]
  · intro l; pointwise [blank, k0_pay7]; simp [Ideal.ofBits_zero_f32]
  · intro k l; pointwise [blank, k0_pay8]; simp [Ideal.ofBits_zero_f32]
  · intro l; pointwise [blank, k0_pay9]; simp [Ideal.ofBits_zero_f32]
  · intro k l; pointwise [blank, k0_pay10]; simp [Ideal.ofBits_zero_f32]
  · intro l; pointwise [blank, k0_pay11]; simp [Ideal.ofBits_zero_f32]
  · intro l; pointwise [blank, k0_pay12]; simp [Ideal.ofBits_zero_f32]
  · intro q l; pointwise [blank, k0_pay3]; unfold Lane.dxz; simp [Ideal.ofBits_zero_f32]
  · intro l; rw [first_at]; pointwise [blank, k0_pay4]; rw [S.g_end 8192 le_rfl]; simp [Ideal.ofBits_zero_f32]
  · refine ⟨fun _ => 0, fun l => ?_, fun l => ?_⟩
    · rw [first_at]; pointwise [blank, k0_pay5]; simp [Ideal.ofBits_zero_f32]
    · rw [S.g_end 8192 le_rfl]; ring
end

end Cert.Kernel3Ideal.Own

end
-- ==== Proof.LruHost.lean ====
/- The reference's operations on arrays of reals: each takes arrays holding real functions of the row and the channel to one. -/
module

public import proofs.«01_k».proof.Proof.Gen.Reference3Ideal
public import proofs.«01_k».proof.Proof.LruReal
public import Idealize.ShloMosaic.Lib.Pipeline.ValueKit

@[expose] public section

set_option maxRecDepth 16384

noncomputable section

open scoped BigOperators

namespace Cert.Lru

open Idealize.ShloMosaic Cert.Own Cert.Reference3Ideal Cert.Reference3Ideal.Gen

/-- The channel's place in its block of 128. -/
abbrev ln (c : Fin 1536) : Fin 128 := ⟨c.val % 128, Nat.mod_lt _ (by decide)⟩

variable (P : ℕ → Lane)

/-- Rows by channels. -/
abbrev M (A : FVec Ideal S8192x1536 .f32) (f : Lane → ℕ → Fin 128 → ℝ) : Prop :=
  ∀ (s : Fin 8192) (c : Fin 1536), A (ix2 s c) = ((f (P (c.val / 128)) s.val (ln c) : ℝ) : EReal)
/-- One row of channels. -/
abbrev R1 (A : FVec Ideal S1x1536 .f32) (f : Lane → Fin 128 → ℝ) : Prop :=
  ∀ c : Fin 1536, A (ix2 0 c) = ((f (P (c.val / 128)) (ln c) : ℝ) : EReal)
/-- Channels. -/
abbrev Vc (A : FVec Ideal S1536 .f32) (f : Lane → Fin 128 → ℝ) : Prop :=
  ∀ c : Fin 1536, A (ix1 c) = ((f (P (c.val / 128)) (ln c) : ℝ) : EReal)
/-- Rows by blocks by places. -/
abbrev M3 (A : FVec Ideal S8192x12x128 .f32) (f : Lane → ℕ → Fin 128 → ℝ) : Prop :=
  ∀ (s : Fin 8192) (b : Fin 12) (l : Fin 128), A (ix3 s b l) = ((f (P b.val) s.val l : ℝ) : EReal)
/-- One square per block. -/
abbrev W3 (A : FVec Ideal S12x128x128 .f32) (f : Lane → Fin 128 → Fin 128 → ℝ) : Prop :=
  ∀ (b : Fin 12) (k l : Fin 128), A (ix3 b k l) = ((f (P b.val) k l : ℝ) : EReal)

/-- One value. -/
abbrev Sc (K : FVec Ideal S_ .f32) (r : ℝ) : Prop := ∀ i, K i = ((r : ℝ) : EReal)
theorem sc_word {K : FVec Ideal S_ .f32} (w : BitVec 32) (r : ℝ) (h : K = constant (F := Ideal) S_ .f32 w) (hw : Ideal.ofBits .f32 w = ((r : ℝ) : EReal)) : Sc K r :=
  fun _ => h ▸ hw
theorem sc_zero {K : FVec Ideal S_ .f32} (h : K = constant (F := Ideal) S_ .f32 0x00000000#32) : Sc K 0 := fun _ => by rw [h]; exact Ideal.ofBits_zero_f32

variable {P} {K : FVec Ideal S_ .f32} {r : ℝ} {Q : FVec Ideal S1x1536 .f32} {A B : FVec Ideal S8192x1536 .f32} {U V : FVec Ideal S1536 .f32} {f g : Lane → ℕ → Fin 128 → ℝ} {u v : Lane → Fin 128 → ℝ}

theorem m_of (h : A = B) (hB : M P B f) : M P A f := h ▸ hB
theorem m_congr (h : M P A f) (e : ∀ S s l, f S s l = g S s l) : M P A g := fun s c => by rw [h s c, e]
theorem m_add (h : M P A f) (h' : M P B g) : M P (addf A B) (fun S s l => f S s l + g S s l) := fun s c => by
  rw [EReal.coe_add, ← h s c, ← h' s c]; rfl
theorem m_sub (h : M P A f) (h' : M P B g) : M P (subf A B) (fun S s l => f S s l - g S s l) := fun s c => by
  rw [EReal.coe_sub, ← h s c, ← h' s c]; rfl
theorem m_mul (h : M P A f) (h' : M P B g) : M P (mulf A B) (fun S s l => f S s l * g S s l) := fun s c => by
  rw [EReal.coe_mul, ← h s c, ← h' s c]; rfl
theorem m_neg (h : M P A f) : M P (Host.negf A) (fun S s l => -f S s l) := fun s c => by
  rw [EReal.coe_neg, ← h s c]; rfl
theorem m_exp (h : M P A f) : M P (Host.exp A) (fun S s l => Real.exp (f S s l)) := fun s c => by
  rw [← exp_coe, ← h s c]; rfl
theorem m_tanh (h : M P A f) : M P (Host.tanh A) (fun S s l => Real.tanh (f S s l)) := fun s c => by
  rw [← tanh_coe, ← h s c]; rfl
theorem m_div (h : M P A f) (h' : M P B g) (hz : ∀ S s l, g S s l ≠ 0) : M P (Host.divf A B) (fun S s l => f S s l / g S s l) := fun s c => by
  rw [← div_coe _ _ (hz _ _ _), ← h s c, ← h' s c]; rfl
theorem m_sqrt (h : M P A f) (hz : ∀ S s l, 0 ≤ f S s l) : M P (Host.sqrt A) (fun S s l => Real.sqrt (f S s l)) := fun s c => by
  rw [← sqrt_coe (hz _ _ _), ← h s c]; rfl
theorem m_expm1 (h : M P A f) : M P (Host.expm1 A) (fun S s l => Real.exp (f S s l) - 1) := fun s c => by
  rw [EReal.coe_sub, ← exp_coe, ← h s c]; rfl
theorem m_splat (h : Sc K r) : M P (broadcastInDim S8192x1536 ![] bcast_S_S8192x1536 K) (fun _ _ _ => r) := fun _ _ => h _

theorem v_of (h : U = V) (hB : Vc P V u) : Vc P U u := h ▸ hB
theorem v_congr (h : Vc P U u) (e : ∀ S l, u S l = v S l) : Vc P U v := fun c => by rw [h c, e]
theorem v_add (h : Vc P U u) (h' : Vc P V v) : Vc P (addf U V) (fun S l => u S l + v S l) := fun c => by
  rw [EReal.coe_add, ← h c, ← h' c]; rfl
theorem v_sub (h : Vc P U u) (h' : Vc P V v) : Vc P (subf U V) (fun S l => u S l - v S l) := fun c => by
  rw [EReal.coe_sub, ← h c, ← h' c]; rfl
theorem v_mul (h : Vc P U u) (h' : Vc P V v) : Vc P (mulf U V) (fun S l => u S l * v S l) := fun c => by
  rw [EReal.coe_mul, ← h c, ← h' c]; rfl
theorem v_max (h : Vc P U u) (h' : Vc P V v) : Vc P (maximumf U V) (fun S l => max (u S l) (v S l)) := fun c => by
  rw [← max_coe, ← h c, ← h' c]; rfl
theorem v_neg (h : Vc P U u) : Vc P (Host.negf U) (fun S l => -u S l) := fun c => by
  rw [EReal.coe_neg, ← h c]; rfl
theorem v_abs (h : Vc P U u) : Vc P (Host.absf U) (fun S l => |u S l|) := fun c => by
  rw [← absf_coe, ← h c]; rfl
theorem v_exp (h : Vc P U u) : Vc P (Host.exp U) (fun S l => Real.exp (u S l)) := fun c => by
  rw [← exp_coe, ← h c]; rfl
theorem v_log1p (h : Vc P U u) (hz : ∀ S l, 0 < 1 + u S l) : Vc P (Host.log1p U) (fun S l => Real.log (1 + u S l)) := fun c => by
  rw [← log_coe (hz _ _), EReal.coe_add, ← h c]; rfl
theorem v_splat (h : Sc K r) : Vc P (broadcastInDim S1536 ![] bcast_S_S1536 K) (fun _ _ => r) := fun _ => h _

/-- A condition false at every channel. -/
abbrev Off (C : Vec Ideal S1536 .i1) : Prop := ∀ c : Fin 1536, C (ix1 c) = 0#1
/-- Infinity at every channel. -/
abbrev Top (X : FVec Ideal S1536 .f32) : Prop := ∀ c : Fin 1536, X (ix1 c) = (⊤ : EReal)
theorem top_splat (h : K = constant (F := Ideal) S_ .f32 0x7F800000#32) : Top (broadcastInDim S1536 ![] bcast_S_S1536 K) := fun c => by
  rw [← inf_eq, h]; rfl
/-- No value differs from itself. -/
theorem off_une : Off (cmpf .une U U) := fun c => by
  show BitVec.ofBool (decide (U (ix1 c) ≠ U (ix1 c))) = 0#1
  rw [decide_eq_false fun hh => hh rfl]; rfl
/-- A real is not infinity. -/
theorem off_inf (h : Vc P U u) (h' : Top V) : Off (cmpf .oeq U V) := fun c => by
  show BitVec.ofBool (decide (U (ix1 c) = V (ix1 c))) = 0#1
  rw [decide_eq_false (by rw [h c, h' c]; exact EReal.coe_ne_top _)]; rfl
theorem v_sel {C : Vec Ideal S1536 .i1} (hC : Off C) (h : Vc P V v) : Vc P (select C U V) v := fun c => by
  rw [← h c]
  show (if C (ix1 c) = 1#1 then U (ix1 c) else V (ix1 c)) = V (ix1 c)
  rw [hC c]; rfl

/-! Layout. -/

theorem r_bcast (h : Vc P U u) : R1 P (broadcastInDim S1x1536 ![1] bcast_S1536_S1x1536_1 U) u := fun c => by
  rw [← h c]; pointwise []
theorem r_of {Q' : FVec Ideal S1x1536 .f32} (h : Q = Q') (hB : R1 P Q' u) : R1 P Q u := h ▸ hB
theorem r_congr (h : R1 P Q u) (e : ∀ S l, u S l = v S l) : R1 P Q v := fun c => by rw [h c, e]
theorem r_splat (h : Sc K r) : R1 P (broadcastInDim S1x1536 ![] bcast_S_S1x1536 K) (fun _ _ => r) := fun _ => h _
theorem r_shape (h : Vc P U u) : R1 P (shapeCast S1x1536 U shapeCasts_S1536_S1x1536) u := fun c => by
  rw [← h c]; pointwise []
theorem m_row (h : R1 P Q u) : M P (broadcastInDim S8192x1536 ![0, 1] bcast_S1x1536_S8192x1536_0_1 Q) (fun S _ l => u S l) := fun s c => by
  rw [← h c]; pointwise []
theorem v_row (h : R1 P Q u) : Vc P (shapeCast S1536 Q shapeCasts_S1x1536_S1536) u := fun c => by
  rw [← h c]; pointwise []
theorem m3_of_m (h : M P A f) : M3 P (shapeCast S8192x12x128 A shapeCasts_S8192x1536_S8192x12x128) f := fun s b l => by
  pointwise []
  rw [h s ⟨b.val * 128 + l.val, _⟩]
  have hb : (b.val * 128 + l.val) / 128 = b.val := by have := l.isLt; omega
  have hl : ln ⟨b.val * 128 + l.val, by have := l.isLt; have := b.isLt; omega⟩ = l := Fin.ext (by show (b.val * 128 + l.val) % 128 = l.val; have := l.isLt; omega)
  rw [hl]; show ((f (P ((b.val * 128 + l.val) / 128)) _ _ : ℝ) : EReal) = _
  rw [hb]
theorem m_of_m3 {T : FVec Ideal S8192x12x128 .f32} (h : M3 P T f) : M P (shapeCast S8192x1536 T shapeCasts_S8192x12x128_S8192x1536) f := fun s c => by
  pointwise []
  exact h s _ _
/-- Blocks by places by rows. -/
abbrev G (P : ℕ → Lane) (A : FVec Ideal S12x128x8192 .f32) (f : Lane → ℕ → Fin 128 → ℝ) : Prop :=
  ∀ (b : Fin 12) (l : Fin 128) (s : Fin 8192), A (ix3 b l s) = ((f (P b.val) s.val l : ℝ) : EReal)
/-- Blocks by rows by places. -/
abbrev B3 (P : ℕ → Lane) (A : FVec Ideal S12x8192x128 .f32) (f : Lane → ℕ → Fin 128 → ℝ) : Prop :=
  ∀ (b : Fin 12) (s : Fin 8192) (l : Fin 128), A (ix3 b s l) = ((f (P b.val) s.val l : ℝ) : EReal)
variable {T X : FVec Ideal S8192x12x128 .f32} {W : FVec Ideal S12x128x128 .f32} {Z : FVec Ideal S12x128x8192 .f32} {w : Lane → Fin 128 → Fin 128 → ℝ}
theorem m3_of (h : T = X) (hB : M3 P X f) : M3 P T f := h ▸ hB
theorem g_of {Z' : FVec Ideal S12x128x8192 .f32} (h : Z = Z') (hB : G P Z' f) : G P Z f := h ▸ hB
theorem b3_of {Y Y' : FVec Ideal S12x8192x128 .f32} (h : Y = Y') (hB : B3 P Y' f) : B3 P Y f := h ▸ hB
theorem w3_of {W' : FVec Ideal S12x128x128 .f32} (h : W = W') (hB : W3 P W' w) : W3 P W w := h ▸ hB
theorem w3_congr {w' : Lane → Fin 128 → Fin 128 → ℝ} (h : W3 P W w) (e : ∀ S k l, w S k l = w' S k l) : W3 P W w' := fun b k l => by rw [h b k l, e]
/-- A gate's product. -/
theorem g_gate (hW : W3 P W w) (hT : M3 P T f) : G P (Host.dotGeneral dot_S12x128x128_S8192x12x128_S12x128x8192_1_2_2_0_0_1 none W T)
    (fun S s l => ∑ k, f S s k * w S k l) := fun b l s => by
  pointwise []
  rw [← sum_coe]
  refine Finset.sum_congr rfl fun k _ => ?_
  rw [hW, hT, ← EReal.coe_mul, mul_comm]
theorem m3_back (h : G P Z f) : M3 P (transpose S8192x12x128 [2, 0, 1] Z transposes_S12x128x8192_S8192x12x128_2_0_1) f := fun s b l => by
  pointwise []
  exact h b l s
theorem g_turn (h : M3 P T f) : G P (transpose S12x128x8192 [1, 2, 0] T transposes_S8192x12x128_S12x128x8192_1_2_0) f := fun b l s => by
  pointwise []
  exact h s b l
/-- The gradient through a gate's product to its input. -/
theorem b3_dot (hT : G P Z f) (hW : W3 P W w) : B3 P (Host.dotGeneral dot_S12x128x8192_S12x128x128_S12x8192x128_1_2_2_1_0_0 none Z W)
    (fun S s l => ∑ k, f S s k * w S l k) := fun b s l => by
  pointwise []
  rw [← sum_coe]
  refine Finset.sum_congr rfl fun k _ => ?_
  rw [hW, hT, ← EReal.coe_mul]
theorem m3_turn {Y : FVec Ideal S12x8192x128 .f32} (h : B3 P Y f) : M3 P (transpose S8192x12x128 [1, 0, 2] Y transposes_S12x8192x128_S8192x12x128_1_0_2) f := fun s b l => by
  pointwise []
  exact h b s l
/-- The gradient through a gate's product to its weight. -/
theorem w3_dot (hT : G P Z f) (hX : M3 P X g) : W3 P (Host.dotGeneral dot_S12x128x8192_S8192x12x128_S12x128x128_2_0_1_2_0_1 none Z X)
    (fun S l k => ∑ s : Fin 8192, f S s.val l * g S s.val k) := fun b l k => by
  pointwise []
  rw [← sum_coe]
  refine Finset.sum_congr rfl fun s _ => ?_
  rw [hX, hT, ← EReal.coe_mul]
theorem w3_turn (h : W3 P W w) : W3 P (transpose S12x128x128 [0, 2, 1] W transposes_S12x128x128_S12x128x128_0_2_1) (fun S k l => w S l k) := fun b k l => by
  pointwise []
  exact h b l k
theorem m3_add (h : M3 P T f) (h' : M3 P X g) : M3 P (addf T X) (fun S s l => f S s l + g S s l) := fun s b l => by
  rw [EReal.coe_add, ← h s b l, ← h' s b l]; rfl
/-- The sum over the rows. -/
theorem v_sum (h : M P A f) (hK : Sc K 0) : Vc P (Host.reduceAdd A K reducesTo_S8192x1536_S1536_d0 h_S_) (fun S l => ∑ s : Fin 8192, f S s.val l) := fun c => by
  pointwise []
  rw [hK, EReal.coe_zero, zero_add, ← sum_coe]
  exact Finset.sum_congr rfl fun k _ => h k c
/-- The sum over one row. -/
theorem v_sum1 (h : R1 P Q u) (hK : Sc K 0) : Vc P (Host.reduceAdd Q K reducesTo_S1x1536_S1536_d0 h_S_) u := fun c => by
  rw [← h c]; pointwise []
  rw [hK, EReal.coe_zero, zero_add]
  exact Fintype.sum_unique _

/-- Rows by channels, three rows longer. -/
abbrev D (P : ℕ → Lane) (A : FVec Ideal S8195x1536 .f32) (f : Lane → ℕ → Fin 128 → ℝ) : Prop :=
  ∀ (s : Fin 8195) (c : Fin 1536), A (ix2 s c) = ((f (P (c.val / 128)) s.val (ln c) : ℝ) : EReal)
/-- Three rows. -/
abbrev R3 (A : FVec Ideal S3x1536 .f32) (r : ℝ) : Prop := ∀ i, A i = ((r : ℝ) : EReal)
theorem r3_splat {N : FVec Ideal S3x1536 .f32} (e : N = broadcastInDim S3x1536 ![] bcast_S_S3x1536 K) (h : Sc K r) : R3 N r := fun _ => e ▸ h _
theorem d_lead {N : FVec Ideal S3x1536 .f32} (hN : R3 N 0) (h : M P A f) : D P (concatenate S8195x1536 0 [⟨S3x1536, N⟩, ⟨S8192x1536, A⟩] concatenates_S3x1536_S8192x1536_S8195x1536_d0)
    (fun S s l => if s < 3 then 0 else f S (s - 3) l) := fun s c => by
  pointwise []
  by_cases h3 : s.val < 3
  · rw [dif_pos h3, if_pos h3]; exact hN _
  · rw [dif_neg h3, if_neg h3]; exact h _ _
variable {E E' : FVec Ideal S8195x1536 .f32}
theorem d_of (h : E = E') (hB : D P E' f) : D P E f := h ▸ hB
theorem m_cut0 (h : D P E f) : M P (extractStridedSlice S8192x1536 ![0, 0] E slices_S8195x1536_S8192x1536_0_0) f := fun s c => by
  pointwise []
  exact h _ _
theorem m_cut1 (h : D P E f) : M P (extractStridedSlice S8192x1536 ![1, 0] E slices_S8195x1536_S8192x1536_1_0) (fun S s l => f S (s + 1) l) := fun s c => by
  pointwise []
  rw [h]; congr 2; exact Nat.add_comm _ _
theorem m_cut2 (h : D P E f) : M P (extractStridedSlice S8192x1536 ![2, 0] E slices_S8195x1536_S8192x1536_2_0) (fun S s l => f S (s + 2) l) := fun s c => by
  pointwise []
  rw [h]; congr 2; exact Nat.add_comm _ _
theorem m_cut3 (h : D P E f) : M P (extractStridedSlice S8192x1536 ![3, 0] E slices_S8195x1536_S8192x1536_3_0) (fun S s l => f S (s + 3) l) := fun s c => by
  pointwise []
  rw [h]; congr 2; exact Nat.add_comm _ _
theorem d_add (h : D P E f) (h' : D P E' g) : D P (addf E E') (fun S s l => f S s l + g S s l) := fun s c => by
  rw [EReal.coe_add, ← h s c, ← h' s c]; rfl
theorem d_pad3 (h : M P A f) (hK : Sc K 0) : D P (pad S8195x1536 ![3, 0] ![0, 0] ![0, 0] A K pads_S8192x1536_S8195x1536_300_000 h_S_)
    (fun S s l => if s < 3 then 0 else f S (s - 3) l) := fun s c => by
  pointwise []
  split_ifs with h1 h2 h2
  · omega
  · exact h _ _
  · exact hK _
  · have := s.isLt; omega
theorem d_pad2 (h : M P A f) (hK : Sc K 0) : D P (pad S8195x1536 ![2, 0] ![1, 0] ![0, 0] A K pads_S8192x1536_S8195x1536_210_000 h_S_)
    (fun S s l => if s < 2 then 0 else if s - 2 < 8192 then f S (s - 2) l else 0) := fun s c => by
  pointwise []
  split_ifs with h1 h2 h3 h3 h4
  · omega
  · exact h _ _
  · omega
  · exact hK _
  · omega
  · exact hK _

theorem d_pad1 (h : M P A f) (hK : Sc K 0) : D P (pad S8195x1536 ![1, 0] ![2, 0] ![0, 0] A K pads_S8192x1536_S8195x1536_120_000 h_S_)
    (fun S s l => if s < 1 then 0 else if s - 1 < 8192 then f S (s - 1) l else 0) := fun s c => by
  pointwise []
  split_ifs with h1 h2 h3 h3 h4
  · omega
  · exact h _ _
  · omega
  · exact hK _
  · omega
  · exact hK _

theorem d_pad0 (h : M P A f) (hK : Sc K 0) : D P (pad S8195x1536 ![0, 0] ![3, 0] ![0, 0] A K pads_S8192x1536_S8195x1536_030_000 h_S_)
    (fun S s l => if s < 8192 then f S s l else 0) := fun s c => by
  pointwise []
  by_cases h1 : s.val < 8192
  · rw [dif_pos h1, if_pos h1]; exact h _ _
  · rw [dif_neg h1, if_neg h1]; exact hK _

/-- Rows by channels, one row shorter. -/
abbrev M91 (P : ℕ → Lane) (A : FVec Ideal S8191x1536 .f32) (f : Lane → ℕ → Fin 128 → ℝ) : Prop :=
  ∀ (s : Fin 8191) (c : Fin 1536), A (ix2 s c) = ((f (P (c.val / 128)) s.val (ln c) : ℝ) : EReal)
variable {H : FVec Ideal S8191x1536 .f32}
theorem m91_of {H' : FVec Ideal S8191x1536 .f32} (h : H = H') (hB : M91 P H' f) : M91 P H f := h ▸ hB
theorem m91_cut0 (h : M P A f) : M91 P (extractStridedSlice S8191x1536 ![0, 0] A slices_S8192x1536_S8191x1536_0_0) f := fun s c => by
  pointwise []
  exact h _ _
theorem m91_cut1 (h : M P A f) : M91 P (extractStridedSlice S8191x1536 ![1, 0] A slices_S8192x1536_S8191x1536_1_0) (fun S s l => f S (s + 1) l) := fun s c => by
  pointwise []
  rw [h]; congr 2; exact Nat.add_comm _ _
/-- The row before, zero at the start. -/
theorem m_prev (hQ : R1 P Q (fun _ _ => 0)) (h : M91 P H f) : M P (concatenate S8192x1536 0 [⟨S1x1536, Q⟩, ⟨S8191x1536, H⟩] concatenates_S1x1536_S8191x1536_S8192x1536_d0)
    (fun S s l => if s = 0 then 0 else f S (s - 1) l) := fun s c => by
  pointwise []
  by_cases h3 : s.val < 1
  · have h0 : s.val = 0 := by omega
    rw [dif_pos h3, if_pos h0]; rw [show (0 : ℝ) = (fun (_ : Lane) (_ : Fin 128) => (0 : ℝ)) (P (c.val / 128)) (ln c) from rfl, ← hQ c]
    exact congrArg (fun z : Fin 1 => Q (ix2 z c)) (Subsingleton.elim _ _)
  · have h0 : ¬ s.val = 0 := fun h => h3 (by omega)
    rw [dif_neg h3, if_neg h0]; exact h _ _
/-- The row after, zero at the end. -/
theorem m_next (h : M91 P H f) (hQ : R1 P Q (fun _ _ => 0)) : M P (concatenate S8192x1536 0 [⟨S8191x1536, H⟩, ⟨S1x1536, Q⟩] concatenates_S8191x1536_S1x1536_S8192x1536_d0)
    (fun S s l => if s = 8191 then 0 else f S s l) := fun s c => by
  pointwise []
  by_cases h3 : s.val < 8191
  · have h0 : ¬ s.val = 8191 := by omega
    rw [dif_pos h3, if_neg h0]; exact h _ _
  · have h0 : s.val = 8191 := by have := s.isLt; omega
    rw [dif_neg h3, if_pos h0]; rw [show (0 : ℝ) = (fun (_ : Lane) (_ : Fin 128) => (0 : ℝ)) (P (c.val / 128)) (ln c) from rfl, ← hQ c]
    exact congrArg (fun z : Fin 1 => Q (ix2 z c)) (Subsingleton.elim _ _)

/-- Channels of a wider array, from column `o`. -/
abbrev Cut {n : ℕ} (P : ℕ → Lane) (A : (⟨2, ![8192, n]⟩ : Shape).Idx → EReal) (o : ℕ) (ho : o + 1536 ≤ n) (f : Lane → ℕ → Fin 128 → ℝ) : Prop :=
  ∀ (s : Fin 8192) (c : Fin 1536), A (ix2 s ⟨o + c.val, by have := c.isLt; omega⟩) = ((f (P (c.val / 128)) s.val (ln c) : ℝ) : EReal)
theorem cut_of {n : ℕ} {A A' : (⟨2, ![8192, n]⟩ : Shape).Idx → EReal} {o : ℕ} {ho : o + 1536 ≤ n} (h : A = A') (hB : Cut P A' o ho f) : Cut P A o ho f := h ▸ hB
theorem m_cutx {A : FVec Ideal S8192x5632 .f32} (h : Cut P A 2560 (by decide) f) : M P (extractStridedSlice S8192x1536 ![0, 2560] A slices_S8192x5632_S8192x1536_0_2560) f := fun s c => by
  pointwise []
  exact h s c
theorem m_cuty {A : FVec Ideal S8192x5632 .f32} (h : Cut P A 4096 (by decide) f) : M P (extractStridedSlice S8192x1536 ![0, 4096] A slices_S8192x5632_S8192x1536_0_4096) f := fun s c => by
  pointwise []
  exact h s c
theorem m_cutd {A : FVec Ideal S8192x2048 .f32} (h : Cut P A 512 (by decide) f) : M P (extractStridedSlice S8192x1536 ![0, 512] A slices_S8192x2048_S8192x1536_0_512) f := fun s c => by
  pointwise []
  exact h s c

/-- Four rows of channels. -/
abbrev F4 (P : ℕ → Lane) (A : FVec Ideal S4x1536 .f32) (f : Lane → ℕ → Fin 128 → ℝ) : Prop :=
  ∀ (j : Fin 4) (c : Fin 1536), A (ix2 j c) = ((f (P (c.val / 128)) j.val (ln c) : ℝ) : EReal)
theorem r_cut2 {K : FVec Ideal S4x1536 .f32} (h : F4 P K f) : R1 P (extractStridedSlice S1x1536 ![2, 0] K slices_S4x1536_S1x1536_2_0) (fun S l => f S 2 l) := fun c => by
  pointwise []
  exact h _ _
theorem r_cut0 {K : FVec Ideal S4x1536 .f32} (h : F4 P K f) : R1 P (extractStridedSlice S1x1536 ![0, 0] K slices_S4x1536_S1x1536_0_0) (fun S l => f S 0 l) := fun c => by
  pointwise []
  exact h _ _
theorem r_cut1 {K : FVec Ideal S4x1536 .f32} (h : F4 P K f) : R1 P (extractStridedSlice S1x1536 ![1, 0] K slices_S4x1536_S1x1536_1_0) (fun S l => f S 1 l) := fun c => by
  pointwise []
  exact h _ _
theorem r_cut3 {K : FVec Ideal S4x1536 .f32} (h : F4 P K f) : R1 P (extractStridedSlice S1x1536 ![3, 0] K slices_S4x1536_S1x1536_3_0) (fun S l => f S 3 l) := fun c => by
  pointwise []
  exact h _ _
theorem f4_pad3 (h : R1 P Q u) (hK : Sc K 0) : F4 P (pad S4x1536 ![3, 0] ![0, 0] ![0, 0] Q K pads_S1x1536_S4x1536_300_000 h_S_)
    (fun S j l => if j = 3 then u S l else 0) := fun j c => by
  pointwise []
  by_cases h1 : j.val = 3
  · rw [dif_pos (by omega), if_pos h1]
    rw [← h c]; exact congrArg (fun z : Fin 1 => Q (ix2 z c)) (Subsingleton.elim _ _)
  · rw [dif_neg (by omega), if_neg h1]; exact hK _
theorem f4_pad2 (h : R1 P Q u) (hK : Sc K 0) : F4 P (pad S4x1536 ![2, 0] ![1, 0] ![0, 0] Q K pads_S1x1536_S4x1536_210_000 h_S_)
    (fun S j l => if j = 2 then u S l else 0) := fun j c => by
  pointwise []
  by_cases h1 : j.val = 2
  · rw [dif_pos (by omega), if_pos h1]
    rw [← h c]; exact congrArg (fun z : Fin 1 => Q (ix2 z c)) (Subsingleton.elim _ _)
  · rw [dif_neg (by omega), if_neg h1]; exact hK _
theorem f4_pad1 (h : R1 P Q u) (hK : Sc K 0) : F4 P (pad S4x1536 ![1, 0] ![2, 0] ![0, 0] Q K pads_S1x1536_S4x1536_120_000 h_S_)
    (fun S j l => if j = 1 then u S l else 0) := fun j c => by
  pointwise []
  by_cases h1 : j.val = 1
  · rw [dif_pos (by omega), if_pos h1]
    rw [← h c]; exact congrArg (fun z : Fin 1 => Q (ix2 z c)) (Subsingleton.elim _ _)
  · rw [dif_neg (by omega), if_neg h1]; exact hK _
theorem f4_pad0 (h : R1 P Q u) (hK : Sc K 0) : F4 P (pad S4x1536 ![0, 0] ![3, 0] ![0, 0] Q K pads_S1x1536_S4x1536_030_000 h_S_)
    (fun S j l => if j = 0 then u S l else 0) := fun j c => by
  pointwise []
  by_cases h1 : j.val = 0
  · rw [dif_pos (by omega), if_pos h1]
    rw [← h c]; exact congrArg (fun z : Fin 1 => Q (ix2 z c)) (Subsingleton.elim _ _)
  · rw [dif_neg (by omega), if_neg h1]; exact hK _
theorem f4_of {K K' : FVec Ideal S4x1536 .f32} (h : K = K') (hB : F4 P K' f) : F4 P K f := h ▸ hB
theorem f4_add {K K' : FVec Ideal S4x1536 .f32} (h : F4 P K f) (h' : F4 P K' g) : F4 P (addf K K') (fun S j l => f S j l + g S j l) := fun j c => by
  rw [EReal.coe_add, ← h j c, ← h' j c]; rfl

theorem f4_congr {K : FVec Ideal S4x1536 .f32} (h : F4 P K f) (e : ∀ S (j : Fin 4) l, f S j.val l = g S j.val l) : F4 P K g := fun j c => by rw [h j c, e]
/-- The kept width of a stored array. -/
theorem m_narrow (h : M P A f) : M P (truncf .bf16 A bitsLt_bf16_f32 : FVec Ideal S8192x1536 .bf16) f := h

end Cert.Lru

end
-- ==== Proof.LruLine.lean ====
/- A straight line of operations read one operation at a time: where each reference is written once and read only after, what
   the line leaves at an operation's result is the operation's function of what it leaves at the operands. -/
module

public import proofs.«01_k».proof.Proof.LruHost
public import proofs.«01_k».proof.Proof.Gen.Reference3Ideal.Run

@[expose] public section

noncomputable section

namespace Cert.Lru

open Idealize.ShloMosaic Idealize.ShloMosaic.TcCoe Idealize.ShloMosaic.StableHlo

variable {τ : Topo} {sig : RefSig} {Val : EltTy → Type} {L : List (HloOp τ sig Val)} {O : List (Ref sig .tc)}

theorem line_keep (hL : L.map HloOp.writes = O.map fun w => {Proc.devRef (τ := τ) .tc w}) (V : Valuation τ sig Val)
    {r : Ref sig .tc} (hr : r ∉ O) : after L V (Proc.devRef .tc r) = V (Proc.devRef .tc r) := after_unwritten O hL hr V

theorem line_op (hL : L.map HloOp.writes = O.map fun w => {Proc.devRef (τ := τ) .tc w}) (V : Valuation τ sig Val)
    (i : ℕ) {op : HloOp τ sig Val} {r : Ref sig .tc} (hop : L[i]? = some op) (hr : r ∉ O.drop (i + 1)) :
    after L V (Proc.devRef .tc r) = op.result (upto L V i) (Proc.devRef .tc r) := by
  obtain ⟨hi, he⟩ := List.getElem?_eq_some_iff.mp hop
  refine after_last_write (rest := L.drop (i + 1)) (O.drop (i + 1)) ?_ ?_ hr V
  · rw [← he]; exact List.drop_eq_getElem_cons hi
  · rw [List.map_drop, hL, List.map_drop]

theorem line_upto (hL : L.map HloOp.writes = O.map fun w => {Proc.devRef (τ := τ) .tc w}) (V : Valuation τ sig Val)
    (i : ℕ) {r : Ref sig .tc} (hr : r ∉ O.drop i) : upto L V i (Proc.devRef .tc r) = after L V (Proc.devRef .tc r) := by
  have h : after L V = after (L.drop i) (upto L V i) := by
    conv_lhs => rw [← List.take_append_drop i L]
    exact after_append _ _ _
  rw [h]
  exact (after_unwritten (O.drop i) (by rw [List.map_drop, hL, List.map_drop]) hr _).symm

section
variable (hL : L.map HloOp.writes = O.map fun w => {Proc.devRef (τ := τ) .tc w}) (V : Valuation τ sig Val) (i : ℕ) {x a b c y : Ref sig .tc}
include hL

theorem line_nullary {v : y.ty.Contents Val} {hy} (hop : L[i]? = some (nullary y v hy)) (h1 : y ∉ O.drop (i + 1)) :
    after L V (Proc.devRef .tc y) = v := by rw [line_op hL V i hop h1, nullary_result]

theorem line_unary {f : x.ty.Contents Val → y.ty.Contents Val} {hx hy} (hop : L[i]? = some (unary x y f hx hy))
    (h1 : y ∉ O.drop (i + 1)) (h2 : x ∉ O.drop i) :
    after L V (Proc.devRef .tc y) = f (after L V (Proc.devRef .tc x)) := by
  rw [line_op hL V i hop h1, unary_result, line_upto hL V i h2]

theorem line_binary {f : a.ty.Contents Val → b.ty.Contents Val → y.ty.Contents Val} {ha hb hy} (hop : L[i]? = some (binary a b y f ha hb hy))
    (h1 : y ∉ O.drop (i + 1)) (h2 : a ∉ O.drop i) (h3 : b ∉ O.drop i) :
    after L V (Proc.devRef .tc y) = f (after L V (Proc.devRef .tc a)) (after L V (Proc.devRef .tc b)) := by
  rw [line_op hL V i hop h1, binary_result, line_upto hL V i h2, line_upto hL V i h3]

theorem line_ternary {f : c.ty.Contents Val → a.ty.Contents Val → b.ty.Contents Val → y.ty.Contents Val} {hc ha hb hy}
    (hop : L[i]? = some (ternary c a b y f hc ha hb hy)) (h1 : y ∉ O.drop (i + 1)) (h2 : c ∉ O.drop i) (h3 : a ∉ O.drop i) (h4 : b ∉ O.drop i) :
    after L V (Proc.devRef .tc y) = f (after L V (Proc.devRef .tc c)) (after L V (Proc.devRef .tc a)) (after L V (Proc.devRef .tc b)) := by
  rw [line_op hL V i hop h1, ternary_result, line_upto hL V i h2, line_upto hL V i h3, line_upto hL V i h4]

theorem line_reshape {he hn hx hy} (hop : L[i]? = some (reshape x y he hn hx hy)) (h1 : y ∉ O.drop (i + 1)) (h2 : x ∉ O.drop i) :
    after L V (Proc.devRef .tc y) = fun j => he ▸ shapeCast y.ty.shape (after L V (Proc.devRef .tc x)) hn j := by
  rw [line_op hL V i hop h1, reshape_result, line_upto hL V i h2]
end

end Cert.Lru

end
-- ==== Proof.LruPre.lean ====
/- The reference before its loop: each array it computes, over the reals. -/
module

public import proofs.«01_k».proof.Proof.LruLine

@[expose] public section

set_option maxRecDepth 16384

noncomputable section

open scoped BigOperators

namespace Cert.Lru

open Idealize.ShloMosaic Cert.Own

theorem two_eq : Ideal.ofBits .f32 0x40000000#32 = ((2 : ℝ) : EReal) := by
  simp [Ideal.ofBits, Ideal.ieee]; norm_num; rw [← EReal.coe_mul]; norm_num
theorem three_eq : Ideal.ofBits .f32 0x40400000#32 = ((3 : ℝ) : EReal) := by
  simp [Ideal.ofBits, Ideal.ieee]; norm_num; rw [← EReal.coe_mul]; norm_num
theorem k8943_eq : Ideal.ofBits .f32 0x460BBC00#32 = ((8943 : ℝ) : EReal) := by
  simp [Ideal.ofBits, Ideal.ieee]; norm_num; rw [← EReal.coe_mul]; norm_num
theorem k200000_eq : Ideal.ofBits .f32 0x48435000#32 = ((200000 : ℝ) : EReal) := by
  simp [Ideal.ofBits, Ideal.ieee]; norm_num; rw [← EReal.coe_mul]; norm_num

namespace Lane

variable (S : Lane)

theorem dn_shift (j k : ℕ) (h : j + k = 3) (s : ℕ) (l : Fin 128) : (if s + j < 3 then 0 else S.X (s + j - 3) l) = S.dn k s l := by
  unfold dn
  by_cases h1 : s < k
  · rw [if_pos h1, if_pos (by omega)]
  · rw [if_neg h1, if_neg (by omega), show s + j - 3 = s - k by omega]

theorem dn_zero (s : ℕ) (l : Fin 128) : S.dn 0 s l = S.X s l := by
  unfold dn; rw [if_neg (Nat.not_lt_zero _), Nat.sub_zero]

/-- The softplus's slope. -/
theorem slope (l : Fin 128) : Real.exp (-S.LAM l - S.sp l) = sg (-S.LAM l) := by
  have h : S.sp l = Real.log (1 + Real.exp (-S.LAM l)) := by
    unfold sp
    rcases le_total 0 (S.LAM l) with h | h
    · rw [max_eq_right (by linarith), abs_of_nonneg h, zero_add]
    · rw [max_eq_left (by linarith), abs_of_nonpos h, neg_neg]
      have h2 : 1 + Real.exp (-S.LAM l) = Real.exp (-S.LAM l) * (1 + Real.exp (S.LAM l)) := by
        rw [mul_add, ← Real.exp_add]; simp; ring
      rw [h2, Real.log_mul (by positivity) (by positivity), Real.log_exp]
  rw [h, Real.exp_sub, Real.exp_log (by positivity)]
  unfold sg
  rw [neg_neg, Real.exp_neg]
  have := Real.exp_pos (S.LAM l)
  field_simp
  ring

theorem a_sq (s : ℕ) (l : Fin 128) : Real.exp (2 * S.la s l) = S.a s l * S.a s l := by
  unfold a; rw [two_mul, Real.exp_add]

theorem tanh_a (s : ℕ) (l : Fin 128) : -(Real.exp (2 * S.la s l) - 1) = Real.tanh (-S.la s l) * (S.a s l * S.a s l + 1) := by
  rw [S.a_sq]; unfold a; rw [tanh_form]; ring

end Lane

end Cert.Lru

namespace Cert.Reference3Ideal.Own

open Idealize.ShloMosaic Idealize.ShloMosaic.TcCoe Idealize.ShloMosaic.StableHlo Cert.Own Cert.Lru Cert.Reference3Ideal Cert.Reference3Ideal.Gen Cert.Reference3Ideal.Value

/-- The operations before the loop. -/
abbrev L1 : List (HloOp τ sig (Elt Ideal)) := hostOps0 ++ hostOps0_1 ++ hostOps0_2
/-- What they write. -/
abbrev O1 : List (Ref sig .tc) := hostOps0_W ++ hostOps0_1_W ++ hostOps0_2_W
theorem hL1 : L1.map HloOp.writes = O1.map fun w => {Proc.devRef (τ := τ) .tc w} := rfl

variable {P : ℕ → Lane} (V : Valuation τ sig (Elt Ideal))
/-- What they leave at a reference. -/
abbrev Z (r : Ref sig .tc) := after L1 V (Proc.devRef .tc r)

/-- The arguments hold the blocks' reals. -/
structure Args (P : ℕ → Lane) (V : Valuation τ sig (Elt Ideal)) : Prop where
  x : Cut P (V (Proc.devRef .tc main_arg0)) 2560 (by decide) (fun S s l => S.X s l)
  y : Cut P (V (Proc.devRef .tc main_arg0)) 4096 (by decide) (fun S s l => S.Y s l)
  h : M P (V (Proc.devRef .tc main_arg1)) (fun S s l => S.H s l)
  d : Cut P (V (Proc.devRef .tc main_arg2)) 512 (by decide) (fun S s l => S.D s l)
  cw : F4 P (V (Proc.devRef .tc main_arg3)) (fun S j l => S.CW j l)
  cb : R1 P (V (Proc.devRef .tc main_arg4)) (fun S l => S.CB l)
  wr : W3 P (V (Proc.devRef .tc main_arg5)) (fun S k l => S.WR k l)
  br : R1 P (V (Proc.devRef .tc main_arg6)) (fun S l => S.BR l)
  wi : W3 P (V (Proc.devRef .tc main_arg7)) (fun S k l => S.WI k l)
  bi : R1 P (V (Proc.devRef .tc main_arg8)) (fun S l => S.BI l)
  lam : R1 P (V (Proc.devRef .tc main_arg9)) (fun S l => S.LAM l)

theorem h_arg1 (hA : Args P V) : M P (Z V main_arg1) (fun S s l => S.H s l) := m_of (line_keep hL1 V (by decide +kernel)) hA.h
theorem h_arg3 (hA : Args P V) : F4 P (Z V main_arg3) (fun S j l => S.CW j l) := f4_of (line_keep hL1 V (by decide +kernel)) hA.cw
theorem h_arg4 (hA : Args P V) : R1 P (Z V main_arg4) (fun S l => S.CB l) := r_of (line_keep hL1 V (by decide +kernel)) hA.cb
theorem h_arg5 (hA : Args P V) : W3 P (Z V main_arg5) (fun S k l => S.WR k l) := w3_of (line_keep hL1 V (by decide +kernel)) hA.wr
theorem h_arg6 (hA : Args P V) : R1 P (Z V main_arg6) (fun S l => S.BR l) := r_of (line_keep hL1 V (by decide +kernel)) hA.br
theorem h_arg7 (hA : Args P V) : W3 P (Z V main_arg7) (fun S k l => S.WI k l) := w3_of (line_keep hL1 V (by decide +kernel)) hA.wi
theorem h_arg8 (hA : Args P V) : R1 P (Z V main_arg8) (fun S l => S.BI l) := r_of (line_keep hL1 V (by decide +kernel)) hA.bi
theorem h_arg9 (hA : Args P V) : R1 P (Z V main_arg9) (fun S l => S.LAM l) := r_of (line_keep hL1 V (by decide +kernel)) hA.lam
theorem h_v0 (hA : Args P V) : M P (Z V main_v0) (fun S s l => S.X s l) := by
  have h_v0 : M P (Z V main_v0) _ := m_of (line_unary hL1 V 0 rfl (by decide +kernel) (by decide +kernel)) (m_cutx (cut_of (line_keep hL1 V (by decide +kernel)) hA.x))
  exact h_v0
theorem h_v1 (hA : Args P V) : M P (Z V main_v1) (fun S s l => S.Y s l) := by
  have h_v1 : M P (Z V main_v1) _ := m_of (line_unary hL1 V 1 rfl (by decide +kernel) (by decide +kernel)) (m_cuty (cut_of (line_keep hL1 V (by decide +kernel)) hA.y))
  exact h_v1
theorem h_v8 (hA : Args P V) : M P (Z V main_v8) (fun S s l => S.dn 3 s l) := by
  have h_cst := sc_zero (line_nullary hL1 V 2 rfl (by decide +kernel))
  have h_v2 := r3_splat (line_unary hL1 V 3 rfl (by decide +kernel) (by decide +kernel)) h_cst
  have h_v3 : D P (Z V main_v3) _ := d_of (line_binary hL1 V 4 rfl (by decide +kernel) (by decide +kernel) (by decide +kernel)) (d_lead h_v2 (h_v0 V hA))
  have h_v8 : M P (Z V main_v8) _ := m_of (line_unary hL1 V 10 rfl (by decide +kernel) (by decide +kernel)) (m_cut0 h_v3)
  exact h_v8
theorem h_v9 (hA : Args P V) : R1 P (Z V main_v9) (fun S l => S.CW 0 l) := by
  have h_v6 : R1 P (Z V main_v6) _ := r_of (line_unary hL1 V 8 rfl (by decide +kernel) (by decide +kernel)) (r_cut0 (h_arg3 V hA))
  have h_v7 : Vc P (Z V main_v7) _ := v_of (line_reshape hL1 V 9 rfl (by decide +kernel) (by decide +kernel)) (v_row h_v6)
  have h_v9 : R1 P (Z V main_v9) _ := r_of (line_unary hL1 V 11 rfl (by decide +kernel) (by decide +kernel)) (r_bcast h_v7)
  exact h_v9
theorem h_v17 (hA : Args P V) : M P (Z V main_v17) (fun S s l => S.dn 2 s l) := by
  have h_cst := sc_zero (line_nullary hL1 V 2 rfl (by decide +kernel))
  have h_v2 := r3_splat (line_unary hL1 V 3 rfl (by decide +kernel) (by decide +kernel)) h_cst
  have h_v3 : D P (Z V main_v3) _ := d_of (line_binary hL1 V 4 rfl (by decide +kernel) (by decide +kernel) (by decide +kernel)) (d_lead h_v2 (h_v0 V hA))
  have h_v17 : M P (Z V main_v17) _ := m_of (line_unary hL1 V 19 rfl (by decide +kernel) (by decide +kernel)) (m_cut1 h_v3)
  exact m_congr h_v17 (fun S s l => S.dn_shift 1 2 rfl s l)
theorem h_v18 (hA : Args P V) : R1 P (Z V main_v18) (fun S l => S.CW 1 l) := by
  have h_v15 : R1 P (Z V main_v15) _ := r_of (line_unary hL1 V 17 rfl (by decide +kernel) (by decide +kernel)) (r_cut1 (h_arg3 V hA))
  have h_v16 : Vc P (Z V main_v16) _ := v_of (line_reshape hL1 V 18 rfl (by decide +kernel) (by decide +kernel)) (v_row h_v15)
  have h_v18 : R1 P (Z V main_v18) _ := r_of (line_unary hL1 V 20 rfl (by decide +kernel) (by decide +kernel)) (r_bcast h_v16)
  exact h_v18
theorem h_v24 (hA : Args P V) : M P (Z V main_v24) (fun S s l => S.dn 1 s l) := by
  have h_cst := sc_zero (line_nullary hL1 V 2 rfl (by decide +kernel))
  have h_v2 := r3_splat (line_unary hL1 V 3 rfl (by decide +kernel) (by decide +kernel)) h_cst
  have h_v3 : D P (Z V main_v3) _ := d_of (line_binary hL1 V 4 rfl (by decide +kernel) (by decide +kernel) (by decide +kernel)) (d_lead h_v2 (h_v0 V hA))
  have h_v24 : M P (Z V main_v24) _ := m_of (line_unary hL1 V 26 rfl (by decide +kernel) (by decide +kernel)) (m_cut2 h_v3)
  exact m_congr h_v24 (fun S s l => S.dn_shift 2 1 rfl s l)
theorem h_v25 (hA : Args P V) : R1 P (Z V main_v25) (fun S l => S.CW 2 l) := by
  have h_v22 : R1 P (Z V main_v22) _ := r_of (line_unary hL1 V 24 rfl (by decide +kernel) (by decide +kernel)) (r_cut2 (h_arg3 V hA))
  have h_v23 : Vc P (Z V main_v23) _ := v_of (line_reshape hL1 V 25 rfl (by decide +kernel) (by decide +kernel)) (v_row h_v22)
  have h_v25 : R1 P (Z V main_v25) _ := r_of (line_unary hL1 V 27 rfl (by decide +kernel) (by decide +kernel)) (r_bcast h_v23)
  exact h_v25
theorem h_v31 (hA : Args P V) : M P (Z V main_v31) (fun S s l => S.X s l) := by
  have h_cst := sc_zero (line_nullary hL1 V 2 rfl (by decide +kernel))
  have h_v2 := r3_splat (line_unary hL1 V 3 rfl (by decide +kernel) (by decide +kernel)) h_cst
  have h_v3 : D P (Z V main_v3) _ := d_of (line_binary hL1 V 4 rfl (by decide +kernel) (by decide +kernel) (by decide +kernel)) (d_lead h_v2 (h_v0 V hA))
  have h_v31 : M P (Z V main_v31) _ := m_of (line_unary hL1 V 33 rfl (by decide +kernel) (by decide +kernel)) (m_cut3 h_v3)
  exact m_congr h_v31 (fun S s l => by rw [S.dn_shift 3 0 rfl s l, S.dn_zero])
theorem h_v32 (hA : Args P V) : R1 P (Z V main_v32) (fun S l => S.CW 3 l) := by
  have h_v29 : R1 P (Z V main_v29) _ := r_of (line_unary hL1 V 31 rfl (by decide +kernel) (by decide +kernel)) (r_cut3 (h_arg3 V hA))
  have h_v30 : Vc P (Z V main_v30) _ := v_of (line_reshape hL1 V 32 rfl (by decide +kernel) (by decide +kernel)) (v_row h_v29)
  have h_v32 : R1 P (Z V main_v32) _ := r_of (line_unary hL1 V 34 rfl (by decide +kernel) (by decide +kernel)) (r_bcast h_v30)
  exact h_v32
theorem h_v35 (hA : Args P V) : M P (Z V main_v35) (fun S s l => S.xc s l) := by
  have h_v5 : Vc P (Z V main_v5) _ := v_of (line_reshape hL1 V 7 rfl (by decide +kernel) (by decide +kernel)) (v_row (h_arg4 V hA))
  have h_v12 : R1 P (Z V main_v12) _ := r_of (line_unary hL1 V 14 rfl (by decide +kernel) (by decide +kernel)) (r_bcast h_v5)
  have h_v13 : M P (Z V main_v13) _ := m_of (line_unary hL1 V 15 rfl (by decide +kernel) (by decide +kernel)) (m_row h_v12)
  have h_v10 : M P (Z V main_v10) _ := m_of (line_unary hL1 V 12 rfl (by decide +kernel) (by decide +kernel)) (m_row (h_v9 V hA))
  have h_v11 : M P (Z V main_v11) _ := m_of (line_binary hL1 V 13 rfl (by decide +kernel) (by decide +kernel) (by decide +kernel)) (m_mul h_v10 (h_v8 V hA))
  have h_v14 : M P (Z V main_v14) _ := m_of (line_binary hL1 V 16 rfl (by decide +kernel) (by decide +kernel) (by decide +kernel)) (m_add h_v13 h_v11)
  have h_v19 : M P (Z V main_v19) _ := m_of (line_unary hL1 V 21 rfl (by decide +kernel) (by decide +kernel)) (m_row (h_v18 V hA))
  have h_v20 : M P (Z V main_v20) _ := m_of (line_binary hL1 V 22 rfl (by decide +kernel) (by decide +kernel) (by decide +kernel)) (m_mul h_v19 (h_v17 V hA))
  have h_v21 : M P (Z V main_v21) _ := m_of (line_binary hL1 V 23 rfl (by decide +kernel) (by decide +kernel) (by decide +kernel)) (m_add h_v14 h_v20)
  have h_v26 : M P (Z V main_v26) _ := m_of (line_unary hL1 V 28 rfl (by decide +kernel) (by decide +kernel)) (m_row (h_v25 V hA))
  have h_v27 : M P (Z V main_v27) _ := m_of (line_binary hL1 V 29 rfl (by decide +kernel) (by decide +kernel) (by decide +kernel)) (m_mul h_v26 (h_v24 V hA))
  have h_v28 : M P (Z V main_v28) _ := m_of (line_binary hL1 V 30 rfl (by decide +kernel) (by decide +kernel) (by decide +kernel)) (m_add h_v21 h_v27)
  have h_v33 : M P (Z V main_v33) _ := m_of (line_unary hL1 V 35 rfl (by decide +kernel) (by decide +kernel)) (m_row (h_v32 V hA))
  have h_v34 : M P (Z V main_v34) _ := m_of (line_binary hL1 V 36 rfl (by decide +kernel) (by decide +kernel) (by decide +kernel)) (m_mul h_v33 (h_v31 V hA))
  have h_v35 : M P (Z V main_v35) _ := m_of (line_binary hL1 V 37 rfl (by decide +kernel) (by decide +kernel) (by decide +kernel)) (m_add h_v28 h_v34)
  exact m_congr h_v35 (fun _ _ _ => rfl)
theorem h_v36 (hA : Args P V) : M3 P (Z V main_v36) (fun S s l => S.xc s l) := by
  have h_v36 : M3 P (Z V main_v36) _ := m3_of (line_reshape hL1 V 38 rfl (by decide +kernel) (by decide +kernel)) (m3_of_m (h_v35 V hA))
  exact h_v36
theorem h_v49 (hA : Args P V) : M P (Z V main_v49) (fun S s l => S.rg s l) := by
  have h_cst_2 := sc_word _ 1 (line_nullary hL1 V 51 rfl (by decide +kernel)) (by rw [Ideal.ofBits_one_f32, EReal.coe_one])
  have h_v48 : M P (Z V main_v48) _ := m_of (line_unary hL1 V 52 rfl (by decide +kernel) (by decide +kernel)) (m_splat h_cst_2)
  have h_cst_1 := sc_word _ 1 (line_nullary hL1 V 48 rfl (by decide +kernel)) (by rw [Ideal.ofBits_one_f32, EReal.coe_one])
  have h_v46 : M P (Z V main_v46) _ := m_of (line_unary hL1 V 49 rfl (by decide +kernel) (by decide +kernel)) (m_splat h_cst_1)
  have h_v37 : G P (Z V main_v37) _ := g_of (line_binary hL1 V 39 rfl (by decide +kernel) (by decide +kernel) (by decide +kernel)) (g_gate (h_arg5 V hA) (h_v36 V hA))
  have h_v38 : M3 P (Z V main_v38) _ := m3_of (line_unary hL1 V 40 rfl (by decide +kernel) (by decide +kernel)) (m3_back h_v37)
  have h_v39 : M P (Z V main_v39) _ := m_of (line_reshape hL1 V 41 rfl (by decide +kernel) (by decide +kernel)) (m_of_m3 h_v38)
  have h_v40 : Vc P (Z V main_v40) _ := v_of (line_reshape hL1 V 42 rfl (by decide +kernel) (by decide +kernel)) (v_row (h_arg6 V hA))
  have h_v41 : R1 P (Z V main_v41) _ := r_of (line_unary hL1 V 43 rfl (by decide +kernel) (by decide +kernel)) (r_bcast h_v40)
  have h_v42 : M P (Z V main_v42) _ := m_of (line_unary hL1 V 44 rfl (by decide +kernel) (by decide +kernel)) (m_row h_v41)
  have h_v43 : M P (Z V main_v43) _ := m_of (line_binary hL1 V 45 rfl (by decide +kernel) (by decide +kernel) (by decide +kernel)) (m_add h_v39 h_v42)
  have h_v44 : M P (Z V main_v44) _ := m_of (line_unary hL1 V 46 rfl (by decide +kernel) (by decide +kernel)) (m_neg h_v43)
  have h_v45 : M P (Z V main_v45) _ := m_of (line_unary hL1 V 47 rfl (by decide +kernel) (by decide +kernel)) (m_exp h_v44)
  have h_v47 : M P (Z V main_v47) _ := m_of (line_binary hL1 V 50 rfl (by decide +kernel) (by decide +kernel) (by decide +kernel)) (m_add h_v46 h_v45)
  have h_v49 : M P (Z V main_v49) _ := m_of (line_binary hL1 V 53 rfl (by decide +kernel) (by decide +kernel) (by decide +kernel)) (m_div h_v48 h_v47 (fun S s l => ne_of_gt (by positivity)))
  exact m_congr h_v49 (fun _ _ _ => rfl)
theorem h_v52 (hA : Args P V) : M P (Z V main_v52) (fun S s l => S.rg s l * (1 - S.rg s l)) := by
  have h_cst_3 := sc_word _ 1 (line_nullary hL1 V 54 rfl (by decide +kernel)) (by rw [Ideal.ofBits_one_f32, EReal.coe_one])
  have h_v50 : M P (Z V main_v50) _ := m_of (line_unary hL1 V 55 rfl (by decide +kernel) (by decide +kernel)) (m_splat h_cst_3)
  have h_v51 : M P (Z V main_v51) _ := m_of (line_binary hL1 V 56 rfl (by decide +kernel) (by decide +kernel) (by decide +kernel)) (m_sub h_v50 (h_v49 V hA))
  have h_v52 : M P (Z V main_v52) _ := m_of (line_binary hL1 V 57 rfl (by decide +kernel) (by decide +kernel) (by decide +kernel)) (m_mul (h_v49 V hA) h_v51)
  exact h_v52
theorem h_v65 (hA : Args P V) : M P (Z V main_v65) (fun S s l => S.ig s l) := by
  have h_cst_5 := sc_word _ 1 (line_nullary hL1 V 70 rfl (by decide +kernel)) (by rw [Ideal.ofBits_one_f32, EReal.coe_one])
  have h_v64 : M P (Z V main_v64) _ := m_of (line_unary hL1 V 71 rfl (by decide +kernel) (by decide +kernel)) (m_splat h_cst_5)
  have h_cst_4 := sc_word _ 1 (line_nullary hL1 V 67 rfl (by decide +kernel)) (by rw [Ideal.ofBits_one_f32, EReal.coe_one])
  have h_v62 : M P (Z V main_v62) _ := m_of (line_unary hL1 V 68 rfl (by decide +kernel) (by decide +kernel)) (m_splat h_cst_4)
  have h_v53 : G P (Z V main_v53) _ := g_of (line_binary hL1 V 58 rfl (by decide +kernel) (by decide +kernel) (by decide +kernel)) (g_gate (h_arg7 V hA) (h_v36 V hA))
  have h_v54 : M3 P (Z V main_v54) _ := m3_of (line_unary hL1 V 59 rfl (by decide +kernel) (by decide +kernel)) (m3_back h_v53)
  have h_v55 : M P (Z V main_v55) _ := m_of (line_reshape hL1 V 60 rfl (by decide +kernel) (by decide +kernel)) (m_of_m3 h_v54)
  have h_v56 : Vc P (Z V main_v56) _ := v_of (line_reshape hL1 V 61 rfl (by decide +kernel) (by decide +kernel)) (v_row (h_arg8 V hA))
  have h_v57 : R1 P (Z V main_v57) _ := r_of (line_unary hL1 V 62 rfl (by decide +kernel) (by decide +kernel)) (r_bcast h_v56)
  have h_v58 : M P (Z V main_v58) _ := m_of (line_unary hL1 V 63 rfl (by decide +kernel) (by decide +kernel)) (m_row h_v57)
  have h_v59 : M P (Z V main_v59) _ := m_of (line_binary hL1 V 64 rfl (by decide +kernel) (by decide +kernel) (by decide +kernel)) (m_add h_v55 h_v58)
  have h_v60 : M P (Z V main_v60) _ := m_of (line_unary hL1 V 65 rfl (by decide +kernel) (by decide +kernel)) (m_neg h_v59)
  have h_v61 : M P (Z V main_v61) _ := m_of (line_unary hL1 V 66 rfl (by decide +kernel) (by decide +kernel)) (m_exp h_v60)
  have h_v63 : M P (Z V main_v63) _ := m_of (line_binary hL1 V 69 rfl (by decide +kernel) (by decide +kernel) (by decide +kernel)) (m_add h_v62 h_v61)
  have h_v65 : M P (Z V main_v65) _ := m_of (line_binary hL1 V 72 rfl (by decide +kernel) (by decide +kernel) (by decide +kernel)) (m_div h_v64 h_v63 (fun S s l => ne_of_gt (by positivity)))
  exact m_congr h_v65 (fun _ _ _ => rfl)
theorem h_v68 (hA : Args P V) : M P (Z V main_v68) (fun S s l => S.ig s l * (1 - S.ig s l)) := by
  have h_cst_6 := sc_word _ 1 (line_nullary hL1 V 73 rfl (by decide +kernel)) (by rw [Ideal.ofBits_one_f32, EReal.coe_one])
  have h_v66 : M P (Z V main_v66) _ := m_of (line_unary hL1 V 74 rfl (by decide +kernel) (by decide +kernel)) (m_splat h_cst_6)
  have h_v67 : M P (Z V main_v67) _ := m_of (line_binary hL1 V 75 rfl (by decide +kernel) (by decide +kernel) (by decide +kernel)) (m_sub h_v66 (h_v65 V hA))
  have h_v68 : M P (Z V main_v68) _ := m_of (line_binary hL1 V 76 rfl (by decide +kernel) (by decide +kernel) (by decide +kernel)) (m_mul (h_v65 V hA) h_v67)
  exact h_v68
theorem h_v70 (hA : Args P V) : Vc P (Z V main_v70) (fun S l => -S.LAM l) := by
  have h_v69 : Vc P (Z V main_v69) _ := v_of (line_reshape hL1 V 77 rfl (by decide +kernel) (by decide +kernel)) (v_row (h_arg9 V hA))
  have h_v70 : Vc P (Z V main_v70) _ := v_of (line_unary hL1 V 78 rfl (by decide +kernel) (by decide +kernel)) (v_neg h_v69)
  exact h_v70
set_option maxHeartbeats 4000000 in
theorem h_v71_0 (hA : Args P V) : Vc P (Z V main_v71_0) (fun S l => S.sp l) := by
  have h_call0_v4 : Off (Z V main_call0_v4) := fun c => by rw [show Z V main_call0_v4 = _ from (line_binary hL1 V 84 rfl (by decide +kernel) (by decide +kernel) (by decide +kernel))]; exact off_une c
  have h_call0_cst := sc_zero (line_nullary hL1 V 79 rfl (by decide +kernel))
  have h_call0_v0 : Vc P (Z V main_call0_v0) _ := v_of (line_unary hL1 V 80 rfl (by decide +kernel) (by decide +kernel)) (v_splat h_call0_cst)
  have h_call0_v1 : Vc P (Z V main_call0_v1) _ := v_of (line_binary hL1 V 81 rfl (by decide +kernel) (by decide +kernel) (by decide +kernel)) (v_max (h_v70 V hA) h_call0_v0)
  have h_call0_v2 : Vc P (Z V main_call0_v2) _ := v_of (line_unary hL1 V 82 rfl (by decide +kernel) (by decide +kernel)) (v_splat h_call0_cst)
  have h_call0_v3 : Vc P (Z V main_call0_v3) _ := v_of (line_binary hL1 V 83 rfl (by decide +kernel) (by decide +kernel) (by decide +kernel)) (v_sub (h_v70 V hA) h_call0_v2)
  have h_call0_v7 : Vc P (Z V main_call0_v7) _ := v_of (line_unary hL1 V 87 rfl (by decide +kernel) (by decide +kernel)) (v_abs h_call0_v3)
  have h_call0_v8 : Vc P (Z V main_call0_v8) _ := v_of (line_unary hL1 V 88 rfl (by decide +kernel) (by decide +kernel)) (v_neg h_call0_v7)
  have h_call0_v9 : Vc P (Z V main_call0_v9) _ := v_of (line_unary hL1 V 89 rfl (by decide +kernel) (by decide +kernel)) (v_exp h_call0_v8)
  have h_call0_v10 : Vc P (Z V main_call0_v10) _ := v_of (line_unary hL1 V 90 rfl (by decide +kernel) (by decide +kernel)) (v_log1p h_call0_v9 (fun S l => by positivity))
  have h_call0_v11 : Vc P (Z V main_call0_v11) _ := v_of (line_binary hL1 V 91 rfl (by decide +kernel) (by decide +kernel) (by decide +kernel)) (v_add h_call0_v1 h_call0_v10)
  have h_v71_0 : Vc P (Z V main_v71_0) _ := v_of (line_ternary hL1 V 92 rfl (by decide +kernel) (by decide +kernel) (by decide +kernel) (by decide +kernel)) (v_sel h_call0_v4 h_call0_v11)
  exact v_congr h_v71_0 (fun S l => by unfold Lane.sp; rw [sub_zero, abs_neg])
set_option maxHeartbeats 4000000 in
theorem h_v71_1 (hA : Args P V) : Vc P (Z V main_v71_1) (fun S l => sg (-S.LAM l)) := by
  have h_call0_cst_0 := (line_nullary hL1 V 93 rfl (by decide +kernel))
  have h_call0_v13 : Top (Z V main_call0_v13) := fun c => by rw [show Z V main_call0_v13 = _ from (line_unary hL1 V 94 rfl (by decide +kernel) (by decide +kernel))]; exact top_splat h_call0_cst_0 c
  have h_call0_v14 : Off (Z V main_call0_v14) := fun c => by rw [show Z V main_call0_v14 = _ from (line_binary hL1 V 95 rfl (by decide +kernel) (by decide +kernel) (by decide +kernel))]; exact off_inf (h_v70 V hA) h_call0_v13 c
  have h_call0_v16 : Vc P (Z V main_call0_v16) _ := v_of (line_ternary hL1 V 98 rfl (by decide +kernel) (by decide +kernel) (by decide +kernel) (by decide +kernel)) (v_sel h_call0_v14 (h_v70 V hA))
  have h_call0_cst_2 := (line_nullary hL1 V 99 rfl (by decide +kernel))
  have h_call0_v17 : Top (Z V main_call0_v17) := fun c => by rw [show Z V main_call0_v17 = _ from (line_unary hL1 V 100 rfl (by decide +kernel) (by decide +kernel))]; exact top_splat h_call0_cst_2 c
  have h_call0_v18 : Off (Z V main_call0_v18) := fun c => by rw [show Z V main_call0_v18 = _ from (line_binary hL1 V 101 rfl (by decide +kernel) (by decide +kernel) (by decide +kernel))]; exact off_inf (h_v71_0 V hA) h_call0_v17 c
  have h_call0_v20 : Vc P (Z V main_call0_v20) _ := v_of (line_ternary hL1 V 104 rfl (by decide +kernel) (by decide +kernel) (by decide +kernel) (by decide +kernel)) (v_sel h_call0_v18 (h_v71_0 V hA))
  have h_call0_v21 : Vc P (Z V main_call0_v21) _ := v_of (line_binary hL1 V 105 rfl (by decide +kernel) (by decide +kernel) (by decide +kernel)) (v_sub h_call0_v16 h_call0_v20)
  have h_v71_1 : Vc P (Z V main_v71_1) _ := v_of (line_unary hL1 V 106 rfl (by decide +kernel) (by decide +kernel)) (v_exp h_call0_v21)
  exact v_congr h_v71_1 (fun S l => S.slope l)
theorem h_v74 (hA : Args P V) : R1 P (Z V main_v74) (fun S l => -8 * S.sp l) := by
  have h_cst_7 := sc_word _ (-8) (line_nullary hL1 V 125 rfl (by decide +kernel)) neg8_eq
  have h_v72 : Vc P (Z V main_v72) _ := v_of (line_unary hL1 V 126 rfl (by decide +kernel) (by decide +kernel)) (v_splat h_cst_7)
  have h_v73 : Vc P (Z V main_v73) _ := v_of (line_binary hL1 V 127 rfl (by decide +kernel) (by decide +kernel) (by decide +kernel)) (v_mul h_v72 (h_v71_0 V hA))
  have h_v74 : R1 P (Z V main_v74) _ := r_of (line_unary hL1 V 128 rfl (by decide +kernel) (by decide +kernel)) (r_bcast h_v73)
  exact h_v74
theorem h_v76 (hA : Args P V) : M P (Z V main_v76) (fun S s l => S.la s l) := by
  have h_v75 : M P (Z V main_v75) _ := m_of (line_unary hL1 V 129 rfl (by decide +kernel) (by decide +kernel)) (m_row (h_v74 V hA))
  have h_v76 : M P (Z V main_v76) _ := m_of (line_binary hL1 V 130 rfl (by decide +kernel) (by decide +kernel) (by decide +kernel)) (m_mul h_v75 (h_v49 V hA))
  exact m_congr h_v76 (fun _ _ _ => rfl)
theorem h_v77 (hA : Args P V) : M P (Z V main_v77) (fun S s l => S.a s l) := by
  have h_v77 : M P (Z V main_v77) _ := m_of (line_unary hL1 V 131 rfl (by decide +kernel) (by decide +kernel)) (m_exp (h_v76 V hA))
  exact m_congr h_v77 (fun _ _ _ => rfl)
theorem h_v81 (hA : Args P V) : M P (Z V main_v81) (fun S s l => S.a s l * S.a s l) := by
  have h_cst_8 := sc_word _ 2 (line_nullary hL1 V 132 rfl (by decide +kernel)) two_eq
  have h_v78 : M P (Z V main_v78) _ := m_of (line_unary hL1 V 133 rfl (by decide +kernel) (by decide +kernel)) (m_splat h_cst_8)
  have h_v79 : M P (Z V main_v79) _ := m_of (line_binary hL1 V 134 rfl (by decide +kernel) (by decide +kernel) (by decide +kernel)) (m_mul h_v78 (h_v76 V hA))
  have h_v81 : M P (Z V main_v81) _ := m_of (line_unary hL1 V 136 rfl (by decide +kernel) (by decide +kernel)) (m_exp h_v79)
  exact m_congr h_v81 (fun S s l => S.a_sq s l)
theorem h_v82 (hA : Args P V) : M P (Z V main_v82) (fun S s l => Real.tanh (-S.la s l) * (S.a s l * S.a s l + 1)) := by
  have h_cst_8 := sc_word _ 2 (line_nullary hL1 V 132 rfl (by decide +kernel)) two_eq
  have h_v78 : M P (Z V main_v78) _ := m_of (line_unary hL1 V 133 rfl (by decide +kernel) (by decide +kernel)) (m_splat h_cst_8)
  have h_v79 : M P (Z V main_v79) _ := m_of (line_binary hL1 V 134 rfl (by decide +kernel) (by decide +kernel) (by decide +kernel)) (m_mul h_v78 (h_v76 V hA))
  have h_v80 : M P (Z V main_v80) _ := m_of (line_unary hL1 V 135 rfl (by decide +kernel) (by decide +kernel)) (m_expm1 h_v79)
  have h_v82 : M P (Z V main_v82) _ := m_of (line_unary hL1 V 137 rfl (by decide +kernel) (by decide +kernel)) (m_neg h_v80)
  exact m_congr h_v82 (fun S s l => S.tanh_a s l)
theorem h_v83 (hA : Args P V) : M P (Z V main_v83) (fun S s l => S.mu s l) := by
  have h_v83 : M P (Z V main_v83) _ := m_of (line_unary hL1 V 138 rfl (by decide +kernel) (by decide +kernel)) (m_sqrt (h_v82 V hA) (fun S s l => (S.mu_sq_pos s l).le))
  exact m_congr h_v83 (fun _ _ _ => rfl)
theorem h_v85 (hA : Args P V) : M P (Z V main_v85) (fun S s l => 1 / 2 / S.mu s l) := by
  have h_cst_9 := sc_word _ (1 / 2) (line_nullary hL1 V 139 rfl (by decide +kernel)) half_eq
  have h_v84 : M P (Z V main_v84) _ := m_of (line_unary hL1 V 140 rfl (by decide +kernel) (by decide +kernel)) (m_splat h_cst_9)
  have h_v85 : M P (Z V main_v85) _ := m_of (line_binary hL1 V 141 rfl (by decide +kernel) (by decide +kernel) (by decide +kernel)) (m_div h_v84 (h_v83 V hA) (fun S s l => (S.mu_pos s l).ne'))
  exact h_v85
theorem h_v86 (hA : Args P V) : M P (Z V main_v86) (fun S s l => S.ig s l * S.xc s l) := by
  have h_v86 : M P (Z V main_v86) _ := m_of (line_binary hL1 V 142 rfl (by decide +kernel) (by decide +kernel) (by decide +kernel)) (m_mul (h_v65 V hA) (h_v35 V hA))
  exact h_v86
theorem h_v91 (hA : Args P V) : M P (Z V main_v91) (fun S s l => S.hp s l) := by
  have h_cst_11 := sc_zero (line_nullary hL1 V 146 rfl (by decide +kernel))
  have h_v89 : R1 P (Z V main_v89) _ := r_of (line_unary hL1 V 147 rfl (by decide +kernel) (by decide +kernel)) (r_splat h_cst_11)
  have h_v90 : M91 P (Z V main_v90) _ := m91_of (line_unary hL1 V 148 rfl (by decide +kernel) (by decide +kernel)) (m91_cut0 (h_arg1 V hA))
  have h_v91 : M P (Z V main_v91) _ := m_of (line_binary hL1 V 149 rfl (by decide +kernel) (by decide +kernel) (by decide +kernel)) (m_prev h_v89 h_v90)
  exact m_congr h_v91 (fun _ _ _ => rfl)
theorem h_v108 (hA : Args P V) : M P (Z V main_v108) (fun S s l => S.th s l) := by
  have h_cst_16 := sc_word _ c0 (line_nullary hL1 V 168 rfl (by decide +kernel)) c0_eq
  have h_v106 : M P (Z V main_v106) _ := m_of (line_unary hL1 V 169 rfl (by decide +kernel) (by decide +kernel)) (m_splat h_cst_16)
  have h_v96 : M P (Z V main_v96) _ := m_of (line_binary hL1 V 155 rfl (by decide +kernel) (by decide +kernel) (by decide +kernel)) (m_mul (h_v1 V hA) (h_v1 V hA))
  have h_v97 : M P (Z V main_v97) _ := m_of (line_binary hL1 V 156 rfl (by decide +kernel) (by decide +kernel) (by decide +kernel)) (m_mul h_v96 (h_v1 V hA))
  have h_cst_14 := sc_word _ 8943 (line_nullary hL1 V 161 rfl (by decide +kernel)) k8943_eq
  have h_v101 : M P (Z V main_v101) _ := m_of (line_unary hL1 V 162 rfl (by decide +kernel) (by decide +kernel)) (m_splat h_cst_14)
  have h_v102 : M P (Z V main_v102) _ := m_of (line_binary hL1 V 163 rfl (by decide +kernel) (by decide +kernel) (by decide +kernel)) (m_mul h_v97 h_v101)
  have h_cst_15 := sc_word _ 200000 (line_nullary hL1 V 164 rfl (by decide +kernel)) k200000_eq
  have h_v103 : M P (Z V main_v103) _ := m_of (line_unary hL1 V 165 rfl (by decide +kernel) (by decide +kernel)) (m_splat h_cst_15)
  have h_v104 : M P (Z V main_v104) _ := m_of (line_binary hL1 V 166 rfl (by decide +kernel) (by decide +kernel) (by decide +kernel)) (m_div h_v102 h_v103 (fun S s l => by norm_num))
  have h_v105 : M P (Z V main_v105) _ := m_of (line_binary hL1 V 167 rfl (by decide +kernel) (by decide +kernel) (by decide +kernel)) (m_add (h_v1 V hA) h_v104)
  have h_v107 : M P (Z V main_v107) _ := m_of (line_binary hL1 V 170 rfl (by decide +kernel) (by decide +kernel) (by decide +kernel)) (m_mul h_v106 h_v105)
  have h_v108 : M P (Z V main_v108) _ := m_of (line_unary hL1 V 171 rfl (by decide +kernel) (by decide +kernel)) (m_tanh h_v107)
  exact m_congr h_v108 (fun S s l => by unfold Lane.th c1; congr 1; ring)
theorem h_v116 (hA : Args P V) : M P (Z V main_v116) (fun S s l => S.gel s l) := by
  have h_cst_12 := sc_word _ (1 / 2) (line_nullary hL1 V 152 rfl (by decide +kernel)) half_eq
  have h_v94 : M P (Z V main_v94) _ := m_of (line_unary hL1 V 153 rfl (by decide +kernel) (by decide +kernel)) (m_splat h_cst_12)
  have h_v95 : M P (Z V main_v95) _ := m_of (line_binary hL1 V 154 rfl (by decide +kernel) (by decide +kernel) (by decide +kernel)) (m_mul h_v94 (h_v1 V hA))
  have h_cst_19 := sc_word _ 1 (line_nullary hL1 V 179 rfl (by decide +kernel)) (by rw [Ideal.ofBits_one_f32, EReal.coe_one])
  have h_v114 : M P (Z V main_v114) _ := m_of (line_unary hL1 V 180 rfl (by decide +kernel) (by decide +kernel)) (m_splat h_cst_19)
  have h_v115 : M P (Z V main_v115) _ := m_of (line_binary hL1 V 181 rfl (by decide +kernel) (by decide +kernel) (by decide +kernel)) (m_add h_v114 (h_v108 V hA))
  have h_v116 : M P (Z V main_v116) _ := m_of (line_binary hL1 V 182 rfl (by decide +kernel) (by decide +kernel) (by decide +kernel)) (m_mul h_v95 h_v115)
  exact m_congr h_v116 (fun _ _ _ => rfl)
theorem h_v120 (hA : Args P V) : M P (Z V main_v120) (fun S s l => S.bv s l) := by
  have h_v118 : M P (Z V main_v118) _ := m_of (line_unary hL1 V 184 rfl (by decide +kernel) (by decide +kernel)) (m_cutd (cut_of (line_keep hL1 V (by decide +kernel)) hA.d))
  have h_v120 : M P (Z V main_v120) _ := m_of (line_binary hL1 V 186 rfl (by decide +kernel) (by decide +kernel) (by decide +kernel)) (m_mul h_v118 (h_v116 V hA))
  exact m_congr h_v120 (fun _ _ _ => rfl)
theorem h_v134 (hA : Args P V) : M P (Z V main_v134) (fun S s l => S.dy s l) := by
  have h_cst_20 := sc_word _ c0 (line_nullary hL1 V 190 rfl (by decide +kernel)) c0_eq
  have h_v124 : M P (Z V main_v124) _ := m_of (line_unary hL1 V 191 rfl (by decide +kernel) (by decide +kernel)) (m_splat h_cst_20)
  have h_cst_12 := sc_word _ (1 / 2) (line_nullary hL1 V 152 rfl (by decide +kernel)) half_eq
  have h_v94 : M P (Z V main_v94) _ := m_of (line_unary hL1 V 153 rfl (by decide +kernel) (by decide +kernel)) (m_splat h_cst_12)
  have h_v95 : M P (Z V main_v95) _ := m_of (line_binary hL1 V 154 rfl (by decide +kernel) (by decide +kernel) (by decide +kernel)) (m_mul h_v94 (h_v1 V hA))
  have h_v118 : M P (Z V main_v118) _ := m_of (line_unary hL1 V 184 rfl (by decide +kernel) (by decide +kernel)) (m_cutd (cut_of (line_keep hL1 V (by decide +kernel)) hA.d))
  have h_v119 : M P (Z V main_v119) _ := m_of (line_binary hL1 V 185 rfl (by decide +kernel) (by decide +kernel) (by decide +kernel)) (m_mul (h_arg1 V hA) h_v118)
  have h_v121 : M P (Z V main_v121) _ := m_of (line_binary hL1 V 187 rfl (by decide +kernel) (by decide +kernel) (by decide +kernel)) (m_mul h_v95 h_v119)
  have h_cst_17 := sc_word _ 1 (line_nullary hL1 V 172 rfl (by decide +kernel)) (by rw [Ideal.ofBits_one_f32, EReal.coe_one])
  have h_v109 : M P (Z V main_v109) _ := m_of (line_unary hL1 V 173 rfl (by decide +kernel) (by decide +kernel)) (m_splat h_cst_17)
  have h_v110 : M P (Z V main_v110) _ := m_of (line_binary hL1 V 174 rfl (by decide +kernel) (by decide +kernel) (by decide +kernel)) (m_add h_v109 (h_v108 V hA))
  have h_cst_18 := sc_word _ 1 (line_nullary hL1 V 175 rfl (by decide +kernel)) (by rw [Ideal.ofBits_one_f32, EReal.coe_one])
  have h_v111 : M P (Z V main_v111) _ := m_of (line_unary hL1 V 176 rfl (by decide +kernel) (by decide +kernel)) (m_splat h_cst_18)
  have h_v112 : M P (Z V main_v112) _ := m_of (line_binary hL1 V 177 rfl (by decide +kernel) (by decide +kernel) (by decide +kernel)) (m_sub h_v111 (h_v108 V hA))
  have h_v113 : M P (Z V main_v113) _ := m_of (line_binary hL1 V 178 rfl (by decide +kernel) (by decide +kernel) (by decide +kernel)) (m_mul h_v110 h_v112)
  have h_v123 : M P (Z V main_v123) _ := m_of (line_binary hL1 V 189 rfl (by decide +kernel) (by decide +kernel) (by decide +kernel)) (m_mul h_v121 h_v113)
  have h_v125 : M P (Z V main_v125) _ := m_of (line_binary hL1 V 192 rfl (by decide +kernel) (by decide +kernel) (by decide +kernel)) (m_mul h_v124 h_v123)
  have h_cst_21 := sc_word _ 200000 (line_nullary hL1 V 193 rfl (by decide +kernel)) k200000_eq
  have h_v126 : M P (Z V main_v126) _ := m_of (line_unary hL1 V 194 rfl (by decide +kernel) (by decide +kernel)) (m_splat h_cst_21)
  have h_v127 : M P (Z V main_v127) _ := m_of (line_binary hL1 V 195 rfl (by decide +kernel) (by decide +kernel) (by decide +kernel)) (m_div h_v125 h_v126 (fun S s l => by norm_num))
  have h_cst_22 := sc_word _ 8943 (line_nullary hL1 V 196 rfl (by decide +kernel)) k8943_eq
  have h_v128 : M P (Z V main_v128) _ := m_of (line_unary hL1 V 197 rfl (by decide +kernel) (by decide +kernel)) (m_splat h_cst_22)
  have h_v129 : M P (Z V main_v129) _ := m_of (line_binary hL1 V 198 rfl (by decide +kernel) (by decide +kernel) (by decide +kernel)) (m_mul h_v127 h_v128)
  have h_cst_13 := sc_word _ 3 (line_nullary hL1 V 158 rfl (by decide +kernel)) three_eq
  have h_v99 : M P (Z V main_v99) _ := m_of (line_unary hL1 V 159 rfl (by decide +kernel) (by decide +kernel)) (m_splat h_cst_13)
  have h_v98 : M P (Z V main_v98) _ := m_of (line_binary hL1 V 157 rfl (by decide +kernel) (by decide +kernel) (by decide +kernel)) (m_mul (h_v1 V hA) (h_v1 V hA))
  have h_v100 : M P (Z V main_v100) _ := m_of (line_binary hL1 V 160 rfl (by decide +kernel) (by decide +kernel) (by decide +kernel)) (m_mul h_v99 h_v98)
  have h_v130 : M P (Z V main_v130) _ := m_of (line_binary hL1 V 199 rfl (by decide +kernel) (by decide +kernel) (by decide +kernel)) (m_mul h_v129 h_v100)
  have h_v131 : M P (Z V main_v131) _ := m_of (line_binary hL1 V 200 rfl (by decide +kernel) (by decide +kernel) (by decide +kernel)) (m_add h_v125 h_v130)
  have h_cst_23 := sc_word _ (1 / 2) (line_nullary hL1 V 201 rfl (by decide +kernel)) half_eq
  have h_v132 : M P (Z V main_v132) _ := m_of (line_unary hL1 V 202 rfl (by decide +kernel) (by decide +kernel)) (m_splat h_cst_23)
  have h_cst_19 := sc_word _ 1 (line_nullary hL1 V 179 rfl (by decide +kernel)) (by rw [Ideal.ofBits_one_f32, EReal.coe_one])
  have h_v114 : M P (Z V main_v114) _ := m_of (line_unary hL1 V 180 rfl (by decide +kernel) (by decide +kernel)) (m_splat h_cst_19)
  have h_v115 : M P (Z V main_v115) _ := m_of (line_binary hL1 V 181 rfl (by decide +kernel) (by decide +kernel) (by decide +kernel)) (m_add h_v114 (h_v108 V hA))
  have h_v122 : M P (Z V main_v122) _ := m_of (line_binary hL1 V 188 rfl (by decide +kernel) (by decide +kernel) (by decide +kernel)) (m_mul h_v119 h_v115)
  have h_v133 : M P (Z V main_v133) _ := m_of (line_binary hL1 V 203 rfl (by decide +kernel) (by decide +kernel) (by decide +kernel)) (m_mul h_v132 h_v122)
  have h_v134 : M P (Z V main_v134) _ := m_of (line_binary hL1 V 204 rfl (by decide +kernel) (by decide +kernel) (by decide +kernel)) (m_add h_v131 h_v133)
  exact m_congr h_v134 (fun S s l => by unfold Lane.dy Lane.dgel c1; ring)
theorem h_v137 (hA : Args P V) : M P (Z V main_v137) (fun S s l => if s = 8191 then 0 else S.a (s + 1) l) := by
  have h_v135 : M91 P (Z V main_v135) _ := m91_of (line_unary hL1 V 205 rfl (by decide +kernel) (by decide +kernel)) (m91_cut1 (h_v77 V hA))
  have h_cst_24 := sc_zero (line_nullary hL1 V 206 rfl (by decide +kernel))
  have h_v136 : R1 P (Z V main_v136) _ := r_of (line_unary hL1 V 207 rfl (by decide +kernel) (by decide +kernel)) (r_splat h_cst_24)
  have h_v137 : M P (Z V main_v137) _ := m_of (line_binary hL1 V 208 rfl (by decide +kernel) (by decide +kernel) (by decide +kernel)) (m_next h_v135 h_v136)
  exact h_v137
theorem h_v140_0 (hA : Args P V) : M P (Z V main_v140_0) (fun S s l => if s = 8191 then 0 else S.a (s + 1) l) := by
  have h_v140_0 : M P (Z V main_v140_0) _ := m_of (line_unary hL1 V 214 rfl (by decide +kernel) (by decide +kernel)) ((h_v137 V hA))
  exact h_v140_0
theorem h_v140_1 (hA : Args P V) : M P (Z V main_v140_1) (fun S s l => S.bv s l) := by
  have h_v140_1 : M P (Z V main_v140_1) _ := m_of (line_unary hL1 V 215 rfl (by decide +kernel) (by decide +kernel)) ((h_v120 V hA))
  exact h_v140_1
theorem h_v140_3 (hA : Args P V) : Vc P (Z V main_v140_3) (fun S l => (0 : ℝ)) := by
  have h_cst_25 := sc_zero (line_nullary hL1 V 209 rfl (by decide +kernel))
  have h_v138 : Vc P (Z V main_v138) _ := v_of (line_unary hL1 V 210 rfl (by decide +kernel) (by decide +kernel)) (v_splat h_cst_25)
  have h_v140_3 : Vc P (Z V main_v140_3) _ := v_of (line_unary hL1 V 217 rfl (by decide +kernel) (by decide +kernel)) (h_v138)
  exact h_v140_3
theorem h_v140_4 (hA : Args P V) : M P (Z V main_v140_4) (fun S s l => (0 : ℝ)) := by
  have h_cst_26 := sc_zero (line_nullary hL1 V 211 rfl (by decide +kernel))
  have h_v139 : M P (Z V main_v139) _ := m_of (line_unary hL1 V 212 rfl (by decide +kernel) (by decide +kernel)) (m_splat h_cst_26)
  have h_v140_4 : M P (Z V main_v140_4) _ := m_of (line_unary hL1 V 218 rfl (by decide +kernel) (by decide +kernel)) (h_v139)
  exact h_v140_4

end Cert.Reference3Ideal.Own

end
-- ==== Proof.LruPost.lean ====
/- The reference after its loop: each array it computes, over the reals. -/
module

public import proofs.«01_k».proof.Proof.LruPre

@[expose] public section

set_option maxRecDepth 16384

noncomputable section

open scoped BigOperators

namespace Cert.Lru

open Cert.Own

namespace Lane

theorem dx_pads (S : Lane) (s : ℕ) (l : Fin 128) :
    (if s + 3 < 3 then 0 else S.CW 3 l * S.dxc (s + 3 - 3) l)
      + (if s + 3 < 2 then 0 else if s + 3 - 2 < 8192 then S.CW 2 l * S.dxc (s + 3 - 2) l else 0)
      + (if s + 3 < 1 then 0 else if s + 3 - 1 < 8192 then S.CW 1 l * S.dxc (s + 3 - 1) l else 0)
      + (if s + 3 < 8192 then S.CW 0 l * S.dxc (s + 3) l else 0) = S.dx s l := by
  have h2 : ∀ (w : ℝ) (t : ℕ), (if t < 8192 then w * S.dxc t l else 0) = w * S.dxz t l := fun w t => by
    unfold dxz; rw [mul_ite, mul_zero]
  rw [if_neg (show ¬ s + 3 < 3 by omega), if_neg (show ¬ s + 3 < 2 by omega), if_neg (show ¬ s + 3 < 1 by omega), show s + 3 - 3 = s by omega, show s + 3 - 2 = s + 1 by omega,
    show s + 3 - 1 = s + 2 by omega, h2, h2, h2]
  unfold dx
  ring

end Lane

end Cert.Lru

namespace Cert.Reference3Ideal.Own

open Idealize.ShloMosaic Idealize.ShloMosaic.TcCoe Idealize.ShloMosaic.StableHlo Cert.Own Cert.Lru Cert.Reference3Ideal Cert.Reference3Ideal.Gen Cert.Reference3Ideal.Value

/-- The operations after the loop. -/
abbrev L2 : List (HloOp τ sig (Elt Ideal)) := hostOps0_3 ++ hostOps0_4 ++ hostOps0_5
/-- What they write. -/
abbrev O2 : List (Ref sig .tc) := [main_v141, main_v142, main_v143, main_v144, main_v145, main_v146, main_v147, main_v148, main_v149, main_v150, main_cst_27, main_v151, main_v152, main_v153, main_v154, main_v155, main_v156, main_v157, main_cst_28, main_v158, main_v159, main_cst_29, main_v160, main_cst_30, main_v161, main_v162, main_v163, main_v164, main_v165, main_v166, main_cst_31, main_v167, main_v168, main_cst_32, main_v169, main_v170, main_v171, main_v172, main_v173, main_v174, main_v175, main_v176, main_v177, main_cst_33, main_v178, main_v179, main_cst_34, main_v180, main_v181, main_v182, main_v183, main_v184, main_v185, main_v186, main_v187, main_v188, main_v189, main_v190, main_v191, main_v192, main_v193, main_cst_35, main_v194, main_v195, main_cst_36, main_v196, main_cst_37, main_v197, main_v198, main_cst_38, main_v199, main_v200, main_v201, main_v202, main_cst_39, main_v203, main_v204, main_cst_40, main_v205, main_cst_41, main_v206, main_v207, main_v208, main_cst_42, main_v209, main_v210, main_v211, main_v212, main_v213, main_cst_43, main_v214, main_v215, main_cst_44, main_v216, main_cst_45, main_v217, main_v218, main_v219, main_cst_46, main_v220, main_v221, main_cst_47, main_v222, main_v223, main_cst_48, main_v224, main_v225, main_v226, main_v227, main_cst_49, main_v228, main_v229, main_cst_50, main_v230, main_cst_51, main_v231, main_v232, main_v233, main_cst_52, main_v234, main_v235, main_v236, main_v237, main_v238, main_v239, main_v240]
theorem hL2 : L2.map HloOp.writes = O2.map fun w => {Proc.devRef (τ := τ) .tc w} := rfl

variable {P : ℕ → Lane} {V₀ : Valuation τ sig (Elt Ideal)} (V : Valuation τ sig (Elt Ideal))
/-- What they leave at a reference. -/
abbrev Z2 (r : Ref sig .tc) := after L2 V (Proc.devRef .tc r)
/-- What the loop keeps. -/
abbrev kept : List (Ref sig .tc) := [main_v91, main_v83, main_v86, main_v65, main_v35, main_v85, main_v81, main_v77, main_v74, main_v49, main_v71_1, main_v68, main_arg7, main_v36, main_v52, main_arg5, main_v32, main_v31, main_v25, main_v24, main_v18, main_v17, main_v9, main_v8, main_v134]

/-- The loop leaves the recurrence's gradient, and the arrays computed before it. -/
structure Mid (P : ℕ → Lane) (V₀ V : Valuation τ sig (Elt Ideal)) : Prop where
  g : M P (V (Proc.devRef .tc main_v140_4)) (fun S s l => S.g s l)
  keep : ∀ r ∈ kept, V (Proc.devRef .tc r) = Z V₀ r

theorem k_v91 (hA : Args P V₀) (hM : Mid P V₀ V) : M P (Z2 V main_v91) (fun S s l => S.hp s l) := m_of ((line_keep hL2 V (by decide +kernel)).trans (hM.keep _ (by decide +kernel))) (h_v91 V₀ hA)
theorem k_v83 (hA : Args P V₀) (hM : Mid P V₀ V) : M P (Z2 V main_v83) (fun S s l => S.mu s l) := m_of ((line_keep hL2 V (by decide +kernel)).trans (hM.keep _ (by decide +kernel))) (h_v83 V₀ hA)
theorem k_v86 (hA : Args P V₀) (hM : Mid P V₀ V) : M P (Z2 V main_v86) (fun S s l => S.ig s l * S.xc s l) := m_of ((line_keep hL2 V (by decide +kernel)).trans (hM.keep _ (by decide +kernel))) (h_v86 V₀ hA)
theorem k_v65 (hA : Args P V₀) (hM : Mid P V₀ V) : M P (Z2 V main_v65) (fun S s l => S.ig s l) := m_of ((line_keep hL2 V (by decide +kernel)).trans (hM.keep _ (by decide +kernel))) (h_v65 V₀ hA)
theorem k_v35 (hA : Args P V₀) (hM : Mid P V₀ V) : M P (Z2 V main_v35) (fun S s l => S.xc s l) := m_of ((line_keep hL2 V (by decide +kernel)).trans (hM.keep _ (by decide +kernel))) (h_v35 V₀ hA)
theorem k_v85 (hA : Args P V₀) (hM : Mid P V₀ V) : M P (Z2 V main_v85) (fun S s l => 1 / 2 / S.mu s l) := m_of ((line_keep hL2 V (by decide +kernel)).trans (hM.keep _ (by decide +kernel))) (h_v85 V₀ hA)
theorem k_v81 (hA : Args P V₀) (hM : Mid P V₀ V) : M P (Z2 V main_v81) (fun S s l => S.a s l * S.a s l) := m_of ((line_keep hL2 V (by decide +kernel)).trans (hM.keep _ (by decide +kernel))) (h_v81 V₀ hA)
theorem k_v77 (hA : Args P V₀) (hM : Mid P V₀ V) : M P (Z2 V main_v77) (fun S s l => S.a s l) := m_of ((line_keep hL2 V (by decide +kernel)).trans (hM.keep _ (by decide +kernel))) (h_v77 V₀ hA)
theorem k_v74 (hA : Args P V₀) (hM : Mid P V₀ V) : R1 P (Z2 V main_v74) (fun S l => -8 * S.sp l) := r_of ((line_keep hL2 V (by decide +kernel)).trans (hM.keep _ (by decide +kernel))) (h_v74 V₀ hA)
theorem k_v49 (hA : Args P V₀) (hM : Mid P V₀ V) : M P (Z2 V main_v49) (fun S s l => S.rg s l) := m_of ((line_keep hL2 V (by decide +kernel)).trans (hM.keep _ (by decide +kernel))) (h_v49 V₀ hA)
theorem k_v71_1 (hA : Args P V₀) (hM : Mid P V₀ V) : Vc P (Z2 V main_v71_1) (fun S l => sg (-S.LAM l)) := v_of ((line_keep hL2 V (by decide +kernel)).trans (hM.keep _ (by decide +kernel))) (h_v71_1 V₀ hA)
theorem k_v68 (hA : Args P V₀) (hM : Mid P V₀ V) : M P (Z2 V main_v68) (fun S s l => S.ig s l * (1 - S.ig s l)) := m_of ((line_keep hL2 V (by decide +kernel)).trans (hM.keep _ (by decide +kernel))) (h_v68 V₀ hA)
theorem k_arg7 (hA : Args P V₀) (hM : Mid P V₀ V) : W3 P (Z2 V main_arg7) (fun S k l => S.WI k l) := w3_of ((line_keep hL2 V (by decide +kernel)).trans (hM.keep _ (by decide +kernel))) (h_arg7 V₀ hA)
theorem k_v36 (hA : Args P V₀) (hM : Mid P V₀ V) : M3 P (Z2 V main_v36) (fun S s l => S.xc s l) := m3_of ((line_keep hL2 V (by decide +kernel)).trans (hM.keep _ (by decide +kernel))) (h_v36 V₀ hA)
theorem k_v52 (hA : Args P V₀) (hM : Mid P V₀ V) : M P (Z2 V main_v52) (fun S s l => S.rg s l * (1 - S.rg s l)) := m_of ((line_keep hL2 V (by decide +kernel)).trans (hM.keep _ (by decide +kernel))) (h_v52 V₀ hA)
theorem k_arg5 (hA : Args P V₀) (hM : Mid P V₀ V) : W3 P (Z2 V main_arg5) (fun S k l => S.WR k l) := w3_of ((line_keep hL2 V (by decide +kernel)).trans (hM.keep _ (by decide +kernel))) (h_arg5 V₀ hA)
theorem k_v32 (hA : Args P V₀) (hM : Mid P V₀ V) : R1 P (Z2 V main_v32) (fun S l => S.CW 3 l) := r_of ((line_keep hL2 V (by decide +kernel)).trans (hM.keep _ (by decide +kernel))) (h_v32 V₀ hA)
theorem k_v31 (hA : Args P V₀) (hM : Mid P V₀ V) : M P (Z2 V main_v31) (fun S s l => S.X s l) := m_of ((line_keep hL2 V (by decide +kernel)).trans (hM.keep _ (by decide +kernel))) (h_v31 V₀ hA)
theorem k_v25 (hA : Args P V₀) (hM : Mid P V₀ V) : R1 P (Z2 V main_v25) (fun S l => S.CW 2 l) := r_of ((line_keep hL2 V (by decide +kernel)).trans (hM.keep _ (by decide +kernel))) (h_v25 V₀ hA)
theorem k_v24 (hA : Args P V₀) (hM : Mid P V₀ V) : M P (Z2 V main_v24) (fun S s l => S.dn 1 s l) := m_of ((line_keep hL2 V (by decide +kernel)).trans (hM.keep _ (by decide +kernel))) (h_v24 V₀ hA)
theorem k_v18 (hA : Args P V₀) (hM : Mid P V₀ V) : R1 P (Z2 V main_v18) (fun S l => S.CW 1 l) := r_of ((line_keep hL2 V (by decide +kernel)).trans (hM.keep _ (by decide +kernel))) (h_v18 V₀ hA)
theorem k_v17 (hA : Args P V₀) (hM : Mid P V₀ V) : M P (Z2 V main_v17) (fun S s l => S.dn 2 s l) := m_of ((line_keep hL2 V (by decide +kernel)).trans (hM.keep _ (by decide +kernel))) (h_v17 V₀ hA)
theorem k_v9 (hA : Args P V₀) (hM : Mid P V₀ V) : R1 P (Z2 V main_v9) (fun S l => S.CW 0 l) := r_of ((line_keep hL2 V (by decide +kernel)).trans (hM.keep _ (by decide +kernel))) (h_v9 V₀ hA)
theorem k_v8 (hA : Args P V₀) (hM : Mid P V₀ V) : M P (Z2 V main_v8) (fun S s l => S.dn 3 s l) := m_of ((line_keep hL2 V (by decide +kernel)).trans (hM.keep _ (by decide +kernel))) (h_v8 V₀ hA)
theorem k_v134 (hA : Args P V₀) (hM : Mid P V₀ V) : M P (Z2 V main_v134) (fun S s l => S.dy s l) := m_of ((line_keep hL2 V (by decide +kernel)).trans (hM.keep _ (by decide +kernel))) (h_v134 V₀ hA)
theorem k_v140_4 (hM : Mid P V₀ V) : M P (Z2 V main_v140_4) (fun S s l => S.g s l) := m_of (line_keep hL2 V (by decide +kernel)) hM.g
theorem k_v143 (hA : Args P V₀) (hM : Mid P V₀ V) : M P (Z2 V main_v143) (fun S s l => S.g s l * S.hp s l) := by
  have h_v141 : M P (Z2 V main_v141) _ := m_of (line_unary hL2 V 0 rfl (by decide +kernel) (by decide +kernel)) (m_neg (k_v140_4 V hM))
  have h_v142 : M P (Z2 V main_v142) _ := m_of (line_unary hL2 V 1 rfl (by decide +kernel) (by decide +kernel)) (m_neg h_v141)
  have h_v143 : M P (Z2 V main_v143) _ := m_of (line_binary hL2 V 2 rfl (by decide +kernel) (by decide +kernel) (by decide +kernel)) (m_mul h_v142 (k_v91 V hA hM))
  exact m_congr h_v143 (fun S s l => by ring)
theorem k_v147 (hA : Args P V₀) (hM : Mid P V₀ V) : M P (Z2 V main_v147) (fun S s l => S.mu s l * S.g s l * S.xc s l) := by
  have h_v144 : M P (Z2 V main_v144) _ := m_of (line_binary hL2 V 3 rfl (by decide +kernel) (by decide +kernel) (by decide +kernel)) (m_mul (k_v83 V hA hM) (k_v140_4 V hM))
  have h_v147 : M P (Z2 V main_v147) _ := m_of (line_binary hL2 V 6 rfl (by decide +kernel) (by decide +kernel) (by decide +kernel)) (m_mul h_v144 (k_v35 V hA hM))
  exact h_v147
theorem k_v154 (hA : Args P V₀) (hM : Mid P V₀ V) : M P (Z2 V main_v154) (fun S s l => S.dla s l) := by
  have h_cst_27 := sc_word _ 2 (line_nullary hL2 V 10 rfl (by decide +kernel)) two_eq
  have h_v151 : M P (Z2 V main_v151) _ := m_of (line_unary hL2 V 11 rfl (by decide +kernel) (by decide +kernel)) (m_splat h_cst_27)
  have h_v145 : M P (Z2 V main_v145) _ := m_of (line_binary hL2 V 4 rfl (by decide +kernel) (by decide +kernel) (by decide +kernel)) (m_mul (k_v140_4 V hM) (k_v86 V hA hM))
  have h_v148 : M P (Z2 V main_v148) _ := m_of (line_binary hL2 V 7 rfl (by decide +kernel) (by decide +kernel) (by decide +kernel)) (m_mul h_v145 (k_v85 V hA hM))
  have h_v149 : M P (Z2 V main_v149) _ := m_of (line_unary hL2 V 8 rfl (by decide +kernel) (by decide +kernel)) (m_neg h_v148)
  have h_v150 : M P (Z2 V main_v150) _ := m_of (line_binary hL2 V 9 rfl (by decide +kernel) (by decide +kernel) (by decide +kernel)) (m_mul h_v149 (k_v81 V hA hM))
  have h_v152 : M P (Z2 V main_v152) _ := m_of (line_binary hL2 V 12 rfl (by decide +kernel) (by decide +kernel) (by decide +kernel)) (m_mul h_v151 h_v150)
  have h_v153 : M P (Z2 V main_v153) _ := m_of (line_binary hL2 V 13 rfl (by decide +kernel) (by decide +kernel) (by decide +kernel)) (m_mul (k_v143 V hA hM) (k_v77 V hA hM))
  have h_v154 : M P (Z2 V main_v154) _ := m_of (line_binary hL2 V 14 rfl (by decide +kernel) (by decide +kernel) (by decide +kernel)) (m_add h_v152 h_v153)
  exact m_congr h_v154 (fun S s l => by unfold Lane.dla; ring)
theorem k_v165 (hA : Args P V₀) (hM : Mid P V₀ V) : R1 P (Z2 V main_v165) (fun S l => -(-8 * (∑ s : Fin 8192, S.dla s l * S.rg s l) * sg (-S.LAM l))) := by
  have h_cst_30 := sc_word _ (-8) (line_nullary hL2 V 23 rfl (by decide +kernel)) neg8_eq
  have h_v161 : Vc P (Z2 V main_v161) _ := v_of (line_unary hL2 V 24 rfl (by decide +kernel) (by decide +kernel)) (v_splat h_cst_30)
  have h_v157 : M P (Z2 V main_v157) _ := m_of (line_binary hL2 V 17 rfl (by decide +kernel) (by decide +kernel) (by decide +kernel)) (m_mul (k_v154 V hA hM) (k_v49 V hA hM))
  have h_cst_28 := sc_zero (line_nullary hL2 V 18 rfl (by decide +kernel))
  have h_v158 : Vc P (Z2 V main_v158) _ := v_of (line_binary hL2 V 19 rfl (by decide +kernel) (by decide +kernel) (by decide +kernel)) (v_sum h_v157 h_cst_28)
  have h_v159 : R1 P (Z2 V main_v159) _ := r_of (line_reshape hL2 V 20 rfl (by decide +kernel) (by decide +kernel)) (r_shape h_v158)
  have h_cst_29 := sc_zero (line_nullary hL2 V 21 rfl (by decide +kernel))
  have h_v160 : Vc P (Z2 V main_v160) _ := v_of (line_binary hL2 V 22 rfl (by decide +kernel) (by decide +kernel) (by decide +kernel)) (v_sum1 h_v159 h_cst_29)
  have h_v162 : Vc P (Z2 V main_v162) _ := v_of (line_binary hL2 V 25 rfl (by decide +kernel) (by decide +kernel) (by decide +kernel)) (v_mul h_v161 h_v160)
  have h_v163 : Vc P (Z2 V main_v163) _ := v_of (line_binary hL2 V 26 rfl (by decide +kernel) (by decide +kernel) (by decide +kernel)) (v_mul h_v162 (k_v71_1 V hA hM))
  have h_v164 : Vc P (Z2 V main_v164) _ := v_of (line_unary hL2 V 27 rfl (by decide +kernel) (by decide +kernel)) (v_neg h_v163)
  have h_v165 : R1 P (Z2 V main_v165) _ := r_of (line_unary hL2 V 28 rfl (by decide +kernel) (by decide +kernel)) (r_bcast h_v164)
  exact h_v165
theorem k_v166 (hA : Args P V₀) (hM : Mid P V₀ V) : M P (Z2 V main_v166) (fun S s l => S.zi s l) := by
  have h_v166 : M P (Z2 V main_v166) _ := m_of (line_binary hL2 V 29 rfl (by decide +kernel) (by decide +kernel) (by decide +kernel)) (m_mul (k_v147 V hA hM) (k_v68 V hA hM))
  exact m_congr h_v166 (fun S s l => by unfold Lane.zi; ring)
theorem k_v170 (hA : Args P V₀) (hM : Mid P V₀ V) : R1 P (Z2 V main_v170) (fun S l => ∑ s : Fin 8192, S.zi s l) := by
  have h_cst_31 := sc_zero (line_nullary hL2 V 30 rfl (by decide +kernel))
  have h_v167 : Vc P (Z2 V main_v167) _ := v_of (line_binary hL2 V 31 rfl (by decide +kernel) (by decide +kernel) (by decide +kernel)) (v_sum (k_v166 V hA hM) h_cst_31)
  have h_v168 : R1 P (Z2 V main_v168) _ := r_of (line_reshape hL2 V 32 rfl (by decide +kernel) (by decide +kernel)) (r_shape h_v167)
  have h_cst_32 := sc_zero (line_nullary hL2 V 33 rfl (by decide +kernel))
  have h_v169 : Vc P (Z2 V main_v169) _ := v_of (line_binary hL2 V 34 rfl (by decide +kernel) (by decide +kernel) (by decide +kernel)) (v_sum1 h_v168 h_cst_32)
  have h_v170 : R1 P (Z2 V main_v170) _ := r_of (line_unary hL2 V 35 rfl (by decide +kernel) (by decide +kernel)) (r_bcast h_v169)
  exact h_v170
theorem k_v176 (hA : Args P V₀) (hM : Mid P V₀ V) : W3 P (Z2 V main_v176) (fun S k l => ∑ s : Fin 8192, S.zi s l * S.xc s k) := by
  have h_v171 : M3 P (Z2 V main_v171) _ := m3_of (line_reshape hL2 V 36 rfl (by decide +kernel) (by decide +kernel)) (m3_of_m (k_v166 V hA hM))
  have h_v172 : G P (Z2 V main_v172) _ := g_of (line_unary hL2 V 37 rfl (by decide +kernel) (by decide +kernel)) (g_turn h_v171)
  have h_v175 : W3 P (Z2 V main_v175) _ := w3_of (line_binary hL2 V 40 rfl (by decide +kernel) (by decide +kernel) (by decide +kernel)) (w3_dot h_v172 (k_v36 V hA hM))
  have h_v176 : W3 P (Z2 V main_v176) _ := w3_of (line_unary hL2 V 41 rfl (by decide +kernel) (by decide +kernel)) (w3_turn h_v175)
  exact h_v176
theorem k_v177 (hA : Args P V₀) (hM : Mid P V₀ V) : M P (Z2 V main_v177) (fun S s l => S.zr s l) := by
  have h_v155 : M P (Z2 V main_v155) _ := m_of (line_unary hL2 V 15 rfl (by decide +kernel) (by decide +kernel)) (m_row (k_v74 V hA hM))
  have h_v156 : M P (Z2 V main_v156) _ := m_of (line_binary hL2 V 16 rfl (by decide +kernel) (by decide +kernel) (by decide +kernel)) (m_mul h_v155 (k_v154 V hA hM))
  have h_v177 : M P (Z2 V main_v177) _ := m_of (line_binary hL2 V 42 rfl (by decide +kernel) (by decide +kernel) (by decide +kernel)) (m_mul h_v156 (k_v52 V hA hM))
  exact m_congr h_v177 (fun S s l => by unfold Lane.zr; ring)
theorem k_v181 (hA : Args P V₀) (hM : Mid P V₀ V) : R1 P (Z2 V main_v181) (fun S l => ∑ s : Fin 8192, S.zr s l) := by
  have h_cst_33 := sc_zero (line_nullary hL2 V 43 rfl (by decide +kernel))
  have h_v178 : Vc P (Z2 V main_v178) _ := v_of (line_binary hL2 V 44 rfl (by decide +kernel) (by decide +kernel) (by decide +kernel)) (v_sum (k_v177 V hA hM) h_cst_33)
  have h_v179 : R1 P (Z2 V main_v179) _ := r_of (line_reshape hL2 V 45 rfl (by decide +kernel) (by decide +kernel)) (r_shape h_v178)
  have h_cst_34 := sc_zero (line_nullary hL2 V 46 rfl (by decide +kernel))
  have h_v180 : Vc P (Z2 V main_v180) _ := v_of (line_binary hL2 V 47 rfl (by decide +kernel) (by decide +kernel) (by decide +kernel)) (v_sum1 h_v179 h_cst_34)
  have h_v181 : R1 P (Z2 V main_v181) _ := r_of (line_unary hL2 V 48 rfl (by decide +kernel) (by decide +kernel)) (r_bcast h_v180)
  exact h_v181
theorem k_v188 (hA : Args P V₀) (hM : Mid P V₀ V) : W3 P (Z2 V main_v188) (fun S k l => ∑ s : Fin 8192, S.zr s l * S.xc s k) := by
  have h_v182 : M3 P (Z2 V main_v182) _ := m3_of (line_reshape hL2 V 49 rfl (by decide +kernel) (by decide +kernel)) (m3_of_m (k_v177 V hA hM))
  have h_v183 : G P (Z2 V main_v183) _ := g_of (line_unary hL2 V 50 rfl (by decide +kernel) (by decide +kernel)) (g_turn h_v182)
  have h_v187 : W3 P (Z2 V main_v187) _ := w3_of (line_binary hL2 V 54 rfl (by decide +kernel) (by decide +kernel) (by decide +kernel)) (w3_dot h_v183 (k_v36 V hA hM))
  have h_v188 : W3 P (Z2 V main_v188) _ := w3_of (line_unary hL2 V 55 rfl (by decide +kernel) (by decide +kernel)) (w3_turn h_v187)
  exact h_v188
theorem k_v190 (hA : Args P V₀) (hM : Mid P V₀ V) : M P (Z2 V main_v190) (fun S s l => S.dxc s l) := by
  have h_v144 : M P (Z2 V main_v144) _ := m_of (line_binary hL2 V 3 rfl (by decide +kernel) (by decide +kernel) (by decide +kernel)) (m_mul (k_v83 V hA hM) (k_v140_4 V hM))
  have h_v146 : M P (Z2 V main_v146) _ := m_of (line_binary hL2 V 5 rfl (by decide +kernel) (by decide +kernel) (by decide +kernel)) (m_mul (k_v65 V hA hM) h_v144)
  have h_v171 : M3 P (Z2 V main_v171) _ := m3_of (line_reshape hL2 V 36 rfl (by decide +kernel) (by decide +kernel)) (m3_of_m (k_v166 V hA hM))
  have h_v172 : G P (Z2 V main_v172) _ := g_of (line_unary hL2 V 37 rfl (by decide +kernel) (by decide +kernel)) (g_turn h_v171)
  have h_v173 : B3 P (Z2 V main_v173) _ := b3_of (line_binary hL2 V 38 rfl (by decide +kernel) (by decide +kernel) (by decide +kernel)) (b3_dot h_v172 (k_arg7 V hA hM))
  have h_v174 : M3 P (Z2 V main_v174) _ := m3_of (line_unary hL2 V 39 rfl (by decide +kernel) (by decide +kernel)) (m3_turn h_v173)
  have h_v182 : M3 P (Z2 V main_v182) _ := m3_of (line_reshape hL2 V 49 rfl (by decide +kernel) (by decide +kernel)) (m3_of_m (k_v177 V hA hM))
  have h_v183 : G P (Z2 V main_v183) _ := g_of (line_unary hL2 V 50 rfl (by decide +kernel) (by decide +kernel)) (g_turn h_v182)
  have h_v184 : B3 P (Z2 V main_v184) _ := b3_of (line_binary hL2 V 51 rfl (by decide +kernel) (by decide +kernel) (by decide +kernel)) (b3_dot h_v183 (k_arg5 V hA hM))
  have h_v185 : M3 P (Z2 V main_v185) _ := m3_of (line_unary hL2 V 52 rfl (by decide +kernel) (by decide +kernel)) (m3_turn h_v184)
  have h_v186 : M3 P (Z2 V main_v186) _ := m3_of (line_binary hL2 V 53 rfl (by decide +kernel) (by decide +kernel) (by decide +kernel)) (m3_add h_v174 h_v185)
  have h_v189 : M P (Z2 V main_v189) _ := m_of (line_reshape hL2 V 56 rfl (by decide +kernel) (by decide +kernel)) (m_of_m3 h_v186)
  have h_v190 : M P (Z2 V main_v190) _ := m_of (line_binary hL2 V 57 rfl (by decide +kernel) (by decide +kernel) (by decide +kernel)) (m_add h_v146 h_v189)
  exact m_congr h_v190 (fun S s l => by unfold Lane.dxc; ring)
theorem k_v235 (hA : Args P V₀) (hM : Mid P V₀ V) : F4 P (Z2 V main_v235) (fun S j l => ∑ s : Fin 8192, S.dxc s l * S.dn (3 - j) s l) := by
  have h_v193 : M P (Z2 V main_v193) _ := m_of (line_binary hL2 V 60 rfl (by decide +kernel) (by decide +kernel) (by decide +kernel)) (m_mul (k_v190 V hA hM) (k_v31 V hA hM))
  have h_cst_35 := sc_zero (line_nullary hL2 V 61 rfl (by decide +kernel))
  have h_v194 : Vc P (Z2 V main_v194) _ := v_of (line_binary hL2 V 62 rfl (by decide +kernel) (by decide +kernel) (by decide +kernel)) (v_sum h_v193 h_cst_35)
  have h_v195 : R1 P (Z2 V main_v195) _ := r_of (line_reshape hL2 V 63 rfl (by decide +kernel) (by decide +kernel)) (r_shape h_v194)
  have h_cst_36 := sc_zero (line_nullary hL2 V 64 rfl (by decide +kernel))
  have h_v196 : Vc P (Z2 V main_v196) _ := v_of (line_binary hL2 V 65 rfl (by decide +kernel) (by decide +kernel) (by decide +kernel)) (v_sum1 h_v195 h_cst_36)
  have h_v198 : R1 P (Z2 V main_v198) _ := r_of (line_unary hL2 V 68 rfl (by decide +kernel) (by decide +kernel)) (r_bcast h_v196)
  have h_cst_38 := sc_zero (line_nullary hL2 V 69 rfl (by decide +kernel))
  have h_v199 : F4 P (Z2 V main_v199) _ := f4_of (line_binary hL2 V 70 rfl (by decide +kernel) (by decide +kernel) (by decide +kernel)) (f4_pad3 h_v198 h_cst_38)
  have h_v202 : M P (Z2 V main_v202) _ := m_of (line_binary hL2 V 73 rfl (by decide +kernel) (by decide +kernel) (by decide +kernel)) (m_mul (k_v190 V hA hM) (k_v24 V hA hM))
  have h_cst_39 := sc_zero (line_nullary hL2 V 74 rfl (by decide +kernel))
  have h_v203 : Vc P (Z2 V main_v203) _ := v_of (line_binary hL2 V 75 rfl (by decide +kernel) (by decide +kernel) (by decide +kernel)) (v_sum h_v202 h_cst_39)
  have h_v204 : R1 P (Z2 V main_v204) _ := r_of (line_reshape hL2 V 76 rfl (by decide +kernel) (by decide +kernel)) (r_shape h_v203)
  have h_cst_40 := sc_zero (line_nullary hL2 V 77 rfl (by decide +kernel))
  have h_v205 : Vc P (Z2 V main_v205) _ := v_of (line_binary hL2 V 78 rfl (by decide +kernel) (by decide +kernel) (by decide +kernel)) (v_sum1 h_v204 h_cst_40)
  have h_v208 : R1 P (Z2 V main_v208) _ := r_of (line_unary hL2 V 82 rfl (by decide +kernel) (by decide +kernel)) (r_bcast h_v205)
  have h_cst_42 := sc_zero (line_nullary hL2 V 83 rfl (by decide +kernel))
  have h_v209 : F4 P (Z2 V main_v209) _ := f4_of (line_binary hL2 V 84 rfl (by decide +kernel) (by decide +kernel) (by decide +kernel)) (f4_pad2 h_v208 h_cst_42)
  have h_v210 : F4 P (Z2 V main_v210) _ := f4_of (line_binary hL2 V 85 rfl (by decide +kernel) (by decide +kernel) (by decide +kernel)) (f4_add h_v199 h_v209)
  have h_v213 : M P (Z2 V main_v213) _ := m_of (line_binary hL2 V 88 rfl (by decide +kernel) (by decide +kernel) (by decide +kernel)) (m_mul (k_v190 V hA hM) (k_v17 V hA hM))
  have h_cst_43 := sc_zero (line_nullary hL2 V 89 rfl (by decide +kernel))
  have h_v214 : Vc P (Z2 V main_v214) _ := v_of (line_binary hL2 V 90 rfl (by decide +kernel) (by decide +kernel) (by decide +kernel)) (v_sum h_v213 h_cst_43)
  have h_v215 : R1 P (Z2 V main_v215) _ := r_of (line_reshape hL2 V 91 rfl (by decide +kernel) (by decide +kernel)) (r_shape h_v214)
  have h_cst_44 := sc_zero (line_nullary hL2 V 92 rfl (by decide +kernel))
  have h_v216 : Vc P (Z2 V main_v216) _ := v_of (line_binary hL2 V 93 rfl (by decide +kernel) (by decide +kernel) (by decide +kernel)) (v_sum1 h_v215 h_cst_44)
  have h_v219 : R1 P (Z2 V main_v219) _ := r_of (line_unary hL2 V 97 rfl (by decide +kernel) (by decide +kernel)) (r_bcast h_v216)
  have h_cst_46 := sc_zero (line_nullary hL2 V 98 rfl (by decide +kernel))
  have h_v220 : F4 P (Z2 V main_v220) _ := f4_of (line_binary hL2 V 99 rfl (by decide +kernel) (by decide +kernel) (by decide +kernel)) (f4_pad1 h_v219 h_cst_46)
  have h_v221 : F4 P (Z2 V main_v221) _ := f4_of (line_binary hL2 V 100 rfl (by decide +kernel) (by decide +kernel) (by decide +kernel)) (f4_add h_v210 h_v220)
  have h_v227 : M P (Z2 V main_v227) _ := m_of (line_binary hL2 V 108 rfl (by decide +kernel) (by decide +kernel) (by decide +kernel)) (m_mul (k_v190 V hA hM) (k_v8 V hA hM))
  have h_cst_49 := sc_zero (line_nullary hL2 V 109 rfl (by decide +kernel))
  have h_v228 : Vc P (Z2 V main_v228) _ := v_of (line_binary hL2 V 110 rfl (by decide +kernel) (by decide +kernel) (by decide +kernel)) (v_sum h_v227 h_cst_49)
  have h_v229 : R1 P (Z2 V main_v229) _ := r_of (line_reshape hL2 V 111 rfl (by decide +kernel) (by decide +kernel)) (r_shape h_v228)
  have h_cst_50 := sc_zero (line_nullary hL2 V 112 rfl (by decide +kernel))
  have h_v230 : Vc P (Z2 V main_v230) _ := v_of (line_binary hL2 V 113 rfl (by decide +kernel) (by decide +kernel) (by decide +kernel)) (v_sum1 h_v229 h_cst_50)
  have h_v233 : R1 P (Z2 V main_v233) _ := r_of (line_unary hL2 V 117 rfl (by decide +kernel) (by decide +kernel)) (r_bcast h_v230)
  have h_cst_52 := sc_zero (line_nullary hL2 V 118 rfl (by decide +kernel))
  have h_v234 : F4 P (Z2 V main_v234) _ := f4_of (line_binary hL2 V 119 rfl (by decide +kernel) (by decide +kernel) (by decide +kernel)) (f4_pad0 h_v233 h_cst_52)
  have h_v235 : F4 P (Z2 V main_v235) _ := f4_of (line_binary hL2 V 120 rfl (by decide +kernel) (by decide +kernel) (by decide +kernel)) (f4_add h_v221 h_v234)
  exact f4_congr h_v235 (fun S j l => by fin_cases j <;> simp [Lane.dn_zero])
theorem k_v236 (hA : Args P V₀) (hM : Mid P V₀ V) : R1 P (Z2 V main_v236) (fun S l => ∑ s : Fin 8192, S.dxc s l) := by
  have h_cst_47 := sc_zero (line_nullary hL2 V 101 rfl (by decide +kernel))
  have h_v222 : Vc P (Z2 V main_v222) _ := v_of (line_binary hL2 V 102 rfl (by decide +kernel) (by decide +kernel) (by decide +kernel)) (v_sum (k_v190 V hA hM) h_cst_47)
  have h_v223 : R1 P (Z2 V main_v223) _ := r_of (line_reshape hL2 V 103 rfl (by decide +kernel) (by decide +kernel)) (r_shape h_v222)
  have h_cst_48 := sc_zero (line_nullary hL2 V 104 rfl (by decide +kernel))
  have h_v224 : Vc P (Z2 V main_v224) _ := v_of (line_binary hL2 V 105 rfl (by decide +kernel) (by decide +kernel) (by decide +kernel)) (v_sum1 h_v223 h_cst_48)
  have h_v236 : R1 P (Z2 V main_v236) _ := r_of (line_unary hL2 V 121 rfl (by decide +kernel) (by decide +kernel)) (r_bcast h_v224)
  exact h_v236
theorem k_v239 (hA : Args P V₀) (hM : Mid P V₀ V) : M P (Z2 V main_v239) (fun S s l => S.dx s l) := by
  have h_v191 : M P (Z2 V main_v191) _ := m_of (line_unary hL2 V 58 rfl (by decide +kernel) (by decide +kernel)) (m_row (k_v32 V hA hM))
  have h_v192 : M P (Z2 V main_v192) _ := m_of (line_binary hL2 V 59 rfl (by decide +kernel) (by decide +kernel) (by decide +kernel)) (m_mul h_v191 (k_v190 V hA hM))
  have h_cst_37 := sc_zero (line_nullary hL2 V 66 rfl (by decide +kernel))
  have h_v197 : D P (Z2 V main_v197) _ := d_of (line_binary hL2 V 67 rfl (by decide +kernel) (by decide +kernel) (by decide +kernel)) (d_pad3 h_v192 h_cst_37)
  have h_v200 : M P (Z2 V main_v200) _ := m_of (line_unary hL2 V 71 rfl (by decide +kernel) (by decide +kernel)) (m_row (k_v25 V hA hM))
  have h_v201 : M P (Z2 V main_v201) _ := m_of (line_binary hL2 V 72 rfl (by decide +kernel) (by decide +kernel) (by decide +kernel)) (m_mul h_v200 (k_v190 V hA hM))
  have h_cst_41 := sc_zero (line_nullary hL2 V 79 rfl (by decide +kernel))
  have h_v206 : D P (Z2 V main_v206) _ := d_of (line_binary hL2 V 80 rfl (by decide +kernel) (by decide +kernel) (by decide +kernel)) (d_pad2 h_v201 h_cst_41)
  have h_v207 : D P (Z2 V main_v207) _ := d_of (line_binary hL2 V 81 rfl (by decide +kernel) (by decide +kernel) (by decide +kernel)) (d_add h_v197 h_v206)
  have h_v211 : M P (Z2 V main_v211) _ := m_of (line_unary hL2 V 86 rfl (by decide +kernel) (by decide +kernel)) (m_row (k_v18 V hA hM))
  have h_v212 : M P (Z2 V main_v212) _ := m_of (line_binary hL2 V 87 rfl (by decide +kernel) (by decide +kernel) (by decide +kernel)) (m_mul h_v211 (k_v190 V hA hM))
  have h_cst_45 := sc_zero (line_nullary hL2 V 94 rfl (by decide +kernel))
  have h_v217 : D P (Z2 V main_v217) _ := d_of (line_binary hL2 V 95 rfl (by decide +kernel) (by decide +kernel) (by decide +kernel)) (d_pad1 h_v212 h_cst_45)
  have h_v218 : D P (Z2 V main_v218) _ := d_of (line_binary hL2 V 96 rfl (by decide +kernel) (by decide +kernel) (by decide +kernel)) (d_add h_v207 h_v217)
  have h_v225 : M P (Z2 V main_v225) _ := m_of (line_unary hL2 V 106 rfl (by decide +kernel) (by decide +kernel)) (m_row (k_v9 V hA hM))
  have h_v226 : M P (Z2 V main_v226) _ := m_of (line_binary hL2 V 107 rfl (by decide +kernel) (by decide +kernel) (by decide +kernel)) (m_mul h_v225 (k_v190 V hA hM))
  have h_cst_51 := sc_zero (line_nullary hL2 V 114 rfl (by decide +kernel))
  have h_v231 : D P (Z2 V main_v231) _ := d_of (line_binary hL2 V 115 rfl (by decide +kernel) (by decide +kernel) (by decide +kernel)) (d_pad0 h_v226 h_cst_51)
  have h_v232 : D P (Z2 V main_v232) _ := d_of (line_binary hL2 V 116 rfl (by decide +kernel) (by decide +kernel) (by decide +kernel)) (d_add h_v218 h_v231)
  have h_v238 : M P (Z2 V main_v238) _ := m_of (line_unary hL2 V 123 rfl (by decide +kernel) (by decide +kernel)) (m_cut3 h_v232)
  have h_v239 : M P (Z2 V main_v239) _ := m_of (line_unary hL2 V 124 rfl (by decide +kernel) (by decide +kernel)) (m_narrow h_v238)
  exact m_congr h_v239 (fun S s l => S.dx_pads s l)
theorem k_v240 (hA : Args P V₀) (hM : Mid P V₀ V) : M P (Z2 V main_v240) (fun S s l => S.dy s l) := by
  have h_v240 : M P (Z2 V main_v240) _ := m_of (line_unary hL2 V 125 rfl (by decide +kernel) (by decide +kernel)) (m_narrow (k_v134 V hA hM))
  exact h_v240

end Cert.Reference3Ideal.Own

end
-- ==== Proof.LruLoop.lean ====
/- The reference's loop: after all its trips the carried array holds the recurrence's gradient. -/
module

public import proofs.«01_k».proof.Proof.LruPost
public import Idealize.ShloMosaic.Lib.WordCmp

@[expose] public section

set_option maxRecDepth 16384

noncomputable section

open scoped BigOperators

namespace Cert.Reference3Ideal.Own

open Idealize.ShloMosaic Idealize.ShloMosaic.TcCoe Idealize.ShloMosaic.StableHlo Cert.Own Cert.Lru Cert.Reference3Ideal Cert.Reference3Ideal.Gen Cert.Reference3Ideal.Value

theorem row_at (A : FVec Ideal S8192x1536 .f32) (start : Fin S8192x1536.rank → Int) (s : Fin 8192) (h0 : start 0 = (s.val : Int)) (h1 : start 1 = 0) (c : Fin 1536) :
    shapeCast S1536 (Host.dynamicSlice S1x1536 A start sliceFits_S8192x1536_S1x1536) shapeCasts_S1x1536_S1536 (ix1 c) = A (ix2 s c) := by
  have hk : S8192x1536.Slices ![s.val, 0] S1x1536 := ⟨rfl, fun a => by
    have := s.isLt
    fin_cases a
    · show s.val + 1 ≤ 8192; omega
    · show 0 + 1536 ≤ 1536; omega⟩
  rw [WordCmp.dynamicSlice_eq_extract S1x1536 A start sliceFits_S8192x1536_S1x1536 ![s.val, 0] hk (fun a => by fin_cases a; exacts [h0, h1])]
  pointwise []

theorem update_at (A : FVec Ideal S8192x1536 .f32) (U : FVec Ideal S1536 .f32) (start : Fin S8192x1536.rank → Int) (s : Fin 8192) (h0 : start 0 = (s.val : Int)) (h1 : start 1 = 0)
    (t : Fin 8192) (c : Fin 1536) :
    Host.dynamicUpdateSlice A (broadcastInDim S1x1536 ![1] bcast_S1536_S1x1536_1 U) start updateFits_S8192x1536_S1x1536 (ix2 t c)
      = if t = s then U (ix1 c) else A (ix2 t c) := by
  have hk : S8192x1536.Slices ![s.val, 0] S1x1536 := ⟨rfl, fun a => by
    have := s.isLt
    fin_cases a
    · show s.val + 1 ≤ 8192; omega
    · show 0 + 1536 ≤ 1536; omega⟩
  rw [WordCmp.dynamicUpdateSlice_eq_update A _ start updateFits_S8192x1536_S1x1536 ![s.val, 0] hk (fun a => by fin_cases a; exacts [h0, h1])]
  by_cases ht : t = s
  · subst ht
    rw [if_pos rfl]
    pointwise []
    exact dif_pos ⟨le_rfl, Nat.lt_succ_self _⟩
  · rw [if_neg ht]
    pointwise []
    exact dif_neg fun h => ht (Fin.ext (by omega))

theorem word_at (k : ℕ) (hk : k < 8192) : ((8192#32 - Scf.iv 0#32 1#32 k) - 1#32).toInt = ((8191 - k : ℕ) : Int) := by
  have h : (8192#32 - Scf.iv 0#32 1#32 k) - 1#32 = BitVec.ofNat 32 (8191 - k) := by
    unfold Scf.iv
    apply BitVec.eq_of_toNat_eq
    simp only [BitVec.toNat_sub, BitVec.toNat_add, BitVec.toNat_mul, BitVec.toNat_ofNat]
    omega
  rw [h, BitVec.toInt_eq_toNat_of_lt (by rw [BitVec.toNat_ofNat]; omega), BitVec.toNat_ofNat, Nat.mod_eq_of_lt (by omega)]

variable {P : ℕ → Lane} (m : (ℓ : Loc nD τ sig) → Buf (Elt Ideal) ℓ)

/-- The contents at the loop's entry. -/
theorem entry_eq (c : Dev nD) : entryContents preI m c = after L1 (launchContents m c) := by
  unfold L1
  rw [after_append, after_append]; rfl

/-- The carried buffers before the `k`-th trip. -/
structure Carried (P : ℕ → Lane) (k : ℕ) (W : Valuation τ sig (Elt Ideal)) : Prop where
  an : M P (W (Proc.devRef .tc main_v140_0)) (fun S s l => if s = 8191 then 0 else S.a (s + 1) l)
  bv : M P (W (Proc.devRef .tc main_v140_1)) (fun S s l => S.bv s l)
  ctr : W (Proc.devRef .tc main_v140_2) = fun _ => Scf.iv 0#32 1#32 k
  g : Vc P (W (Proc.devRef .tc main_v140_3)) (fun S l => S.gd l k)
  out : M P (W (Proc.devRef .tc main_v140_4)) (fun S s l => if 8192 ≤ s + k then S.g s l else 0)

/-- Where a trip's row lies. -/
def starts (W : Valuation τ sig (Elt Ideal)) : Fin S8192x1536.rank → Int :=
  fun k => (((![res_main_while0b_v242 W, constantI S_ 32 0#32] : Fin 2 → (⟨S_, .i32⟩ : BufTy).Contents (Elt Ideal))) k (Shape.Idx.first h_S_)).toInt

theorem starts_one (W : Valuation τ sig (Elt Ideal)) : starts W 1 = 0 := by
  show (0#32 : BitVec 32).toInt = 0
  decide

theorem starts_zero {k : ℕ} {W : Valuation τ sig (Elt Ideal)} (h : Carried P k W) (hk : k < 8192) :
    starts W 0 = (((⟨8191 - k, by omega⟩ : Fin 8192).val : ℕ) : Int) := by
  show ((res_main_while0b_v242 W) (Shape.Idx.first h_S_)).toInt = _
  unfold res_main_while0b_v242
  rw [h.ctr]
  exact word_at k hk

theorem res_eq (W : Valuation τ sig (Elt Ideal)) (c : Fin 1536) : res_main_while0b_v246 W (ix1 c)
    = ((shapeCast S1536 (Host.dynamicSlice S1x1536 (W (Proc.devRef .tc main_v140_1) : FVec Ideal S8192x1536 .f32) (starts W) sliceFits_S8192x1536_S1x1536) shapeCasts_S1x1536_S1536 (ix1 c) : EReal)
      + (shapeCast S1536 (Host.dynamicSlice S1x1536 (W (Proc.devRef .tc main_v140_0) : FVec Ideal S8192x1536 .f32) (starts W) sliceFits_S8192x1536_S1x1536) shapeCasts_S1x1536_S1536 (ix1 c) : EReal)
        * ((W (Proc.devRef .tc main_v140_3) : FVec Ideal S1536 .f32) (ix1 c) : EReal) : EReal) := rfl

theorem step_four_eq (W : Valuation τ sig (Elt Ideal)) : step_main_v140_4 W
    = (Host.dynamicUpdateSlice (W (Proc.devRef .tc main_v140_4) : FVec Ideal S8192x1536 .f32) (broadcastInDim S1x1536 ![1] bcast_S1536_S1x1536_1 (res_main_while0b_v246 W)) (starts W) updateFits_S8192x1536_S1x1536 : FVec Ideal S8192x1536 .f32) := by
  unfold step_main_v140_4 starts
  exact id_eq _

theorem res_at {k : ℕ} {W : Valuation τ sig (Elt Ideal)} (h : Carried P k W) (hk : k < 8192) :
    Vc P (res_main_while0b_v246 W) (fun S l => S.gd l (k + 1)) := fun c => by
  rw [res_eq, row_at _ (starts W) ⟨8191 - k, by omega⟩ (starts_zero h hk) (starts_one W) c, row_at _ (starts W) ⟨8191 - k, by omega⟩ (starts_zero h hk) (starts_one W) c]
  rw [h.an, h.bv, h.g c, ← EReal.coe_mul, ← EReal.coe_add]
  congr 1
  show _ + _ = Lane.gd _ _ (k + 1)
  rw [Lane.gd]
  show _ + (if 8191 - k = 8191 then 0 else Lane.a _ (8191 - k + 1) _) * _ = _
  by_cases h0 : k = 0
  · subst h0; rw [if_pos rfl, Lane.gd]; ring
  · rw [if_neg (by omega), show 8191 - k + 1 = 8192 - k by omega]

theorem carried_step {k : ℕ} {W : Valuation τ sig (Elt Ideal)} (h : Carried P k W) (hk : k < 8192) : Carried P (k + 1) (STEP W) where
  an := m_of (STEP_main_v140_0 W) h.an
  bv := m_of (STEP_main_v140_1 W) h.bv
  ctr := by
    rw [STEP_main_v140_2]
    unfold step_main_v140_2
    rw [h.ctr, Scf.iv_succ]; rfl
  g := v_of (STEP_main_v140_3 W) (by unfold step_main_v140_3; exact res_at h hk)
  out := m_of ((STEP_main_v140_4 W).trans (step_four_eq W)) (fun s c => by
    rw [update_at _ _ (starts W) ⟨8191 - k, by omega⟩ (starts_zero h hk) (starts_one W) s c]
    by_cases hs : s = ⟨8191 - k, by omega⟩
    · rw [if_pos hs, res_at h hk c, hs]
      congr 1
      show _ = if 8192 ≤ 8191 - k + (k + 1) then Lane.g _ (8191 - k) _ else 0
      rw [if_pos (by omega)]
      unfold Lane.g
      rw [show 8192 - (8191 - k) = k + 1 by omega]
    · rw [if_neg hs, h.out s c]
      have hs' : s.val ≠ 8191 - k := fun h => hs (Fin.ext h)
      have := s.isLt
      congr 1
      show (if 8192 ≤ s.val + k then Lane.g _ s.val _ else 0) = _
      by_cases h1 : 8192 ≤ s.val + k
      · rw [if_pos h1, if_pos (by omega)]
      · rw [if_neg h1, if_neg (by omega)])

theorem carried_entry (c : Dev nD) (hA : Args P (launchContents m c)) : Carried P 0 (entryContents preI m c) where
  an := by rw [entry_eq]; exact h_v140_0 _ hA
  bv := by rw [entry_eq]; exact h_v140_1 _ hA
  ctr := atK_ctr m c 0
  g := by rw [entry_eq]; exact h_v140_3 _ hA
  out := by
    rw [entry_eq]
    exact fun s cc => (h_v140_4 _ hA s cc).trans (by
      have := s.isLt
      congr 1
      exact (if_neg (by omega)).symm)

theorem carried_at (c : Dev nD) (hA : Args P (launchContents m c)) : ∀ k, k ≤ 8192 → Carried P k (STEP^[k] (entryContents preI m c))
  | 0, _ => carried_entry m c hA
  | k + 1, hk => by
    rw [Function.iterate_succ_apply']
    exact carried_step (carried_at c hA k (by omega)) (by omega)

/-- What one trip's operations write. -/
abbrev OB : List (Ref sig .tc) := while0Ops0_W ++ while0Ops0_1_W ++ while0Ops0_2_W ++ while0Ops0_3_W ++ while0Ops0_4_W ++ while0Ops0_5_W

theorem trip_keep (W : Valuation τ sig (Elt Ideal)) (r : Ref sig .tc) (h : r ∉ condOps_W ++ OB) :
    afterL bodyI (after condOps W) (Proc.devRef .tc r) = W (Proc.devRef .tc r) := by
  simp only [OB, List.mem_append, not_or] at h
  obtain ⟨hc, ⟨⟨⟨⟨h0, h1⟩, h2⟩, h3⟩, h4⟩, h5⟩ := h
  simp only [bodyI, afterL_cons, afterL_nil]
  rw [after_of_writes_sub _ _ while0Ops0_5_writes h5, after_of_writes_sub _ _ while0Ops0_4_writes h4, after_of_writes_sub _ _ while0Ops0_3_writes h3,
    after_of_writes_sub _ _ while0Ops0_2_writes h2, after_of_writes_sub _ _ while0Ops0_1_writes h1, after_of_writes_sub _ _ while0Ops0_writes h0,
    after_of_writes_sub _ _ condOps_writes hc]

theorem atK_keep (c : Dev nD) (r : Ref sig .tc) (h : r ∉ condOps_W ++ OB) : ∀ k, atK m k c (Proc.devRef .tc r) = after L1 (launchContents m c) (Proc.devRef .tc r)
  | 0 => by rw [← entry_eq]; rfl
  | k + 1 => (trip_keep _ r h).trans (atK_keep c r h k)

/-- The loop's result. -/
theorem mid (c : Dev nD) (hA : Args P (launchContents m c)) : Mid P (launchContents m c) (after condOps (atK m 8192 c)) where
  g := by
    refine m_of (after_of_writes_sub condOps _ condOps_writes (by decide +kernel)) (m_of (atK_agree m c 8192 main_v140_4 (by decide)) ?_)
    exact m_congr (carried_at m c hA 8192 le_rfl).out fun S s l => if_pos (by omega)
  keep := fun r hr => by
    have h : ∀ r ∈ kept, r ∉ condOps_W ++ OB := by decide +kernel
    have h' := h r hr
    rw [after_of_writes_sub condOps _ condOps_writes (fun hh => h' (List.mem_append_left _ hh))]
    exact atK_keep m c r h' 8192

/-- The contents at the end. -/
theorem final_eq (c : Dev nD) : finalContents condOps preI bodyI postI 8192 m c = after L2 (after condOps (atK m 8192 c)) := by
  unfold L2
  rw [after_append, after_append]; rfl

end Cert.Reference3Ideal.Own

end
-- ==== Proof.LruValue.lean ====
/- The recurrent branch's backward launch over its argument arrays: every channel block's tiles, last tile first, and the final arrays. -/
module

public import proofs.«01_k».proof.Proof.LruPoint
public import proofs.«01_k».proof.Proof.LruLoop
public import Idealize.ShloMosaic.Lib.Pointwise

@[expose] public section

set_option maxRecDepth 16384

noncomputable section

namespace Cert.Kernel3Ideal.Own

open Cert.Kernel3Ideal Cert.Kernel3Ideal.Gen Cert.Lru Cert.Own
open Idealize.ShloMosaic Idealize.ShloMosaic.TcCoe Idealize.ShloMosaic.Tactic
open Idealize.ShloMosaic.Pipeline (Dat Cfg Window)
open scoped BigOperators

theorem idx_in : ∀ t : Fin cfg0.N, win0_0.index t = ![15 - t.val % 16, 20 + t.val / 16] ∧ win0_1.index t = ![14 - t.val % 16, 20 + t.val / 16]
    ∧ win0_2.index t = ![15 - t.val % 16, 32 + t.val / 16] ∧ win0_3.index t = ![15 - t.val % 16, t.val / 16]
    ∧ win0_4.index t = ![64 * (15 - t.val % 16) - 1, t.val / 16] ∧ win0_5.index t = ![15 - t.val % 16, 4 + t.val / 16] :=
  (by decide +kernel : ∀ t : Fin grid0.N, _)

theorem idx_w : ∀ t : Fin cfg0.N, win0_6.index t = ![0, t.val / 16] ∧ win0_7.index t = ![0, t.val / 16]
    ∧ win0_8.index t = ![t.val / 16, 0, 0] ∧ win0_9.index t = ![0, t.val / 16]
    ∧ win0_10.index t = ![t.val / 16, 0, 0] ∧ win0_11.index t = ![0, t.val / 16] ∧ win0_12.index t = ![0, t.val / 16] :=
  (by decide +kernel : ∀ t : Fin grid0.N, _)

theorem idx_out : ∀ t : Fin cfg0.N, win0_13.index t = ![15 - t.val % 16, t.val / 16] ∧ win0_14.index t = ![15 - t.val % 16, t.val / 16]
    ∧ win0_15.index t = ![0, t.val / 16] ∧ win0_16.index t = ![0, t.val / 16] ∧ win0_17.index t = ![t.val / 16, 0, 0]
    ∧ win0_18.index t = ![0, t.val / 16] ∧ win0_19.index t = ![t.val / 16, 0, 0] ∧ win0_20.index t = ![0, t.val / 16] ∧ win0_21.index t = ![0, t.val / 16] :=
  (by decide +kernel : ∀ t : Fin grid0.N, _)

theorem coord : ∀ t : Fin cfg0.N, (grid0.coords t 1).val = t.val % 16 := (by decide +kernel : ∀ t : Fin grid0.N, _)

variable (m : (ℓ : Loc nD τ sig) → Buf (Elt Ideal) ℓ)

theorem blk0 (c : Dev nD) (t : Fin cfg0.N) (p : Fin 512) (l : Fin 128) (h : 512 * (15 - t.val % 16) + p.val < 8192) (h' : 2560 + (128 * (t.val / 16) + l.val) < 5632) :
    (iblk m c 0 t : Vec Ideal S512x128 .f32) (ix2 p l) = V m c main_arg0 (ix2 ⟨512 * (15 - t.val % 16) + p.val, h⟩ ⟨2560 + (128 * (t.val / 16) + l.val), h'⟩) := by
  obtain ⟨e0, e1, e2, e3, e4, e5⟩ := idx_in t
  blk_point [iblk, e0]

theorem blk1 (c : Dev nD) (t : Fin cfg0.N) (p : Fin 512) (l : Fin 128) (h : 512 * (14 - t.val % 16) + p.val < 8192) (h' : 2560 + (128 * (t.val / 16) + l.val) < 5632) :
    (iblk m c 1 t : Vec Ideal S512x128 .f32) (ix2 p l) = V m c main_arg0 (ix2 ⟨512 * (14 - t.val % 16) + p.val, h⟩ ⟨2560 + (128 * (t.val / 16) + l.val), h'⟩) := by
  obtain ⟨e0, e1, e2, e3, e4, e5⟩ := idx_in t
  blk_point [iblk, e1]

theorem blk2 (c : Dev nD) (t : Fin cfg0.N) (p : Fin 512) (l : Fin 128) (h : 512 * (15 - t.val % 16) + p.val < 8192) (h' : 4096 + (128 * (t.val / 16) + l.val) < 5632) :
    (iblk m c 2 t : Vec Ideal S512x128 .f32) (ix2 p l) = V m c main_arg0 (ix2 ⟨512 * (15 - t.val % 16) + p.val, h⟩ ⟨4096 + (128 * (t.val / 16) + l.val), h'⟩) := by
  obtain ⟨e0, e1, e2, e3, e4, e5⟩ := idx_in t
  blk_point [iblk, e2]

theorem blk3 (c : Dev nD) (t : Fin cfg0.N) (p : Fin 512) (l : Fin 128) (h : 512 * (15 - t.val % 16) + p.val < 8192) (h' : 128 * (t.val / 16) + l.val < 1536) :
    (iblk m c 3 t : Vec Ideal S512x128 .f32) (ix2 p l) = V m c main_arg1 (ix2 ⟨512 * (15 - t.val % 16) + p.val, h⟩ ⟨128 * (t.val / 16) + l.val, h'⟩) := by
  obtain ⟨e0, e1, e2, e3, e4, e5⟩ := idx_in t
  blk_point [iblk, e3]

theorem blk4 (c : Dev nD) (t : Fin cfg0.N) (p : Fin 8) (l : Fin 128) (h : 8 * (64 * (15 - t.val % 16) - 1) + p.val < 8192) (h' : 128 * (t.val / 16) + l.val < 1536) :
    (iblk m c 4 t : Vec Ideal S8x128 .f32) (ix2 p l) = V m c main_arg1 (ix2 ⟨8 * (64 * (15 - t.val % 16) - 1) + p.val, h⟩ ⟨128 * (t.val / 16) + l.val, h'⟩) := by
  obtain ⟨e0, e1, e2, e3, e4, e5⟩ := idx_in t
  blk_point [iblk, e4]

theorem blk5 (c : Dev nD) (t : Fin cfg0.N) (p : Fin 512) (l : Fin 128) (h : 512 * (15 - t.val % 16) + p.val < 8192) (h' : 512 + (128 * (t.val / 16) + l.val) < 2048) :
    (iblk m c 5 t : Vec Ideal S512x128 .f32) (ix2 p l) = V m c main_arg2 (ix2 ⟨512 * (15 - t.val % 16) + p.val, h⟩ ⟨512 + (128 * (t.val / 16) + l.val), h'⟩) := by
  obtain ⟨e0, e1, e2, e3, e4, e5⟩ := idx_in t
  blk_point [iblk, e5]

theorem blk6 (c : Dev nD) (t : Fin cfg0.N) (p : Fin 4) (l : Fin 128) (h : p.val < 4) (h' : 128 * (t.val / 16) + l.val < 1536) :
    (iblk m c 6 t : Vec Ideal S4x128 .f32) (ix2 p l) = V m c main_arg3 (ix2 ⟨p.val, h⟩ ⟨128 * (t.val / 16) + l.val, h'⟩) := by
  obtain ⟨e6, e7, e8, e9, e10, e11, e12⟩ := idx_w t
  blk_point [iblk, e6]

theorem blk7 (c : Dev nD) (t : Fin cfg0.N) (p : Fin 1) (l : Fin 128) (h : p.val < 1) (h' : 128 * (t.val / 16) + l.val < 1536) :
    (iblk m c 7 t : Vec Ideal S1x128 .f32) (ix2 p l) = V m c main_arg4 (ix2 ⟨p.val, h⟩ ⟨128 * (t.val / 16) + l.val, h'⟩) := by
  obtain ⟨e6, e7, e8, e9, e10, e11, e12⟩ := idx_w t
  blk_point [iblk, e7]

theorem blk9 (c : Dev nD) (t : Fin cfg0.N) (p : Fin 1) (l : Fin 128) (h : p.val < 1) (h' : 128 * (t.val / 16) + l.val < 1536) :
    (iblk m c 9 t : Vec Ideal S1x128 .f32) (ix2 p l) = V m c main_arg6 (ix2 ⟨p.val, h⟩ ⟨128 * (t.val / 16) + l.val, h'⟩) := by
  obtain ⟨e6, e7, e8, e9, e10, e11, e12⟩ := idx_w t
  blk_point [iblk, e9]

theorem blk11 (c : Dev nD) (t : Fin cfg0.N) (p : Fin 1) (l : Fin 128) (h : p.val < 1) (h' : 128 * (t.val / 16) + l.val < 1536) :
    (iblk m c 11 t : Vec Ideal S1x128 .f32) (ix2 p l) = V m c main_arg8 (ix2 ⟨p.val, h⟩ ⟨128 * (t.val / 16) + l.val, h'⟩) := by
  obtain ⟨e6, e7, e8, e9, e10, e11, e12⟩ := idx_w t
  blk_point [iblk, e11]

theorem blk12 (c : Dev nD) (t : Fin cfg0.N) (p : Fin 1) (l : Fin 128) (h : p.val < 1) (h' : 128 * (t.val / 16) + l.val < 1536) :
    (iblk m c 12 t : Vec Ideal S1x128 .f32) (ix2 p l) = V m c main_arg9 (ix2 ⟨p.val, h⟩ ⟨128 * (t.val / 16) + l.val, h'⟩) := by
  obtain ⟨e6, e7, e8, e9, e10, e11, e12⟩ := idx_w t
  blk_point [iblk, e12]

theorem blk8 (c : Dev nD) (t : Fin cfg0.N) (k l : Fin 128) (h : t.val / 16 < 12) :
    (iblk m c 8 t : Vec Ideal S1x128x128 .f32) (ix3 0 k l) = V m c main_arg5 (ix3 ⟨t.val / 16, h⟩ k l) := by
  obtain ⟨e6, e7, e8, e9, e10, e11, e12⟩ := idx_w t
  blk_point [iblk, e8]

theorem blk10 (c : Dev nD) (t : Fin cfg0.N) (k l : Fin 128) (h : t.val / 16 < 12) :
    (iblk m c 10 t : Vec Ideal S1x128x128 .f32) (ix3 0 k l) = V m c main_arg7 (ix3 ⟨t.val / 16, h⟩ k l) := by
  obtain ⟨e6, e7, e8, e9, e10, e11, e12⟩ := idx_w t
  blk_point [iblk, e10]

/-- Argument arrays holding the channel blocks `P`. -/
structure Made (P : ℕ → Lane) (A0 : FVec Ideal S8192x5632 .f32) (A1 : FVec Ideal S8192x1536 .f32) (A2 : FVec Ideal S8192x2048 .f32) (A3 : FVec Ideal S4x1536 .f32)
    (A4 : FVec Ideal S1x1536 .f32) (A5 : FVec Ideal S12x128x128 .f32) (A6 : FVec Ideal S1x1536 .f32) (A7 : FVec Ideal S12x128x128 .f32)
    (A8 A9 : FVec Ideal S1x1536 .f32) : Prop where
  x : Cut P A0 2560 (by decide) (fun S s l => S.X s l)
  y : Cut P A0 4096 (by decide) (fun S s l => S.Y s l)
  h : M P A1 (fun S s l => S.H s l)
  d : Cut P A2 512 (by decide) (fun S s l => S.D s l)
  cw : F4 P A3 (fun S j l => S.CW j l)
  cb : R1 P A4 (fun S l => S.CB l)
  wr : W3 P A5 (fun S k l => S.WR k l)
  br : R1 P A6 (fun S l => S.BR l)
  wi : W3 P A7 (fun S k l => S.WI k l)
  bi : R1 P A8 (fun S l => S.BI l)
  lam : R1 P A9 (fun S l => S.LAM l)

/-- The channel at place `l` of block `b`. -/
abbrev chan (b : ℕ) (hb : b < 12) (l : Fin 128) : Fin 1536 := ⟨128 * b + l.val, by omega⟩
theorem chan_block (b : ℕ) (hb : b < 12) (l : Fin 128) : (chan b hb l).val / 128 = b := by
  show (128 * b + l.val) / 128 = b; omega
theorem chan_place (b : ℕ) (hb : b < 12) (l : Fin 128) : ln (chan b hb l) = l := Fin.ext (by show (128 * b + l.val) % 128 = l.val; omega)

variable {P : ℕ → Lane}

theorem holds (c : Dev nD) (hM : Made P (V m c main_arg0) (V m c main_arg1) (V m c main_arg2) (V m c main_arg3) (V m c main_arg4) (V m c main_arg5)
    (V m c main_arg6) (V m c main_arg7) (V m c main_arg8) (V m c main_arg9)) (t : Fin cfg0.N) :
    Holds (P (t.val / 16)) (15 - t.val % 16) (tile m c t) := by
  have hb : t.val / 16 < 12 := by have : t.val < 192 := t.isLt; omega
  refine ⟨fun p l => ?_, fun h0 p l => ?_, fun p l => ?_, fun p l => ?_, fun h0 l => ?_, fun p l => ?_, fun j l => ?_, fun l => ?_, fun k l => ?_, fun l => ?_,
    fun k l => ?_, fun l => ?_, fun l => ?_⟩
  · refine (blk0 m c t p l (by omega) (by omega)).trans ((hM.x ⟨_, _⟩ (chan _ hb l)).trans ?_)
    rw [chan_block, chan_place]
  · refine (blk1 m c t p l (by omega) (by omega)).trans ((hM.x ⟨_, _⟩ (chan _ hb l)).trans ?_)
    rw [chan_block, chan_place, show 15 - t.val % 16 - 1 = 14 - t.val % 16 by omega]
  · refine (blk2 m c t p l (by omega) (by omega)).trans ((hM.y ⟨_, _⟩ (chan _ hb l)).trans ?_)
    rw [chan_block, chan_place]
  · refine (blk3 m c t p l (by omega) (by omega)).trans ((hM.h ⟨_, _⟩ (chan _ hb l)).trans ?_)
    rw [chan_block, chan_place]
  · refine (last_at _ l).trans ((blk4 m c t 7 l (by show 8 * _ + 7 < 8192; omega) (by omega)).trans ((hM.h ⟨_, _⟩ (chan _ hb l)).trans ?_))
    rw [chan_block, chan_place]
    show ((Lane.H _ (8 * (64 * (15 - t.val % 16) - 1) + 7) _ : ℝ) : EReal) = _
    rw [show 8 * (64 * (15 - t.val % 16) - 1) + 7 = 512 * (15 - t.val % 16) - 1 by omega]
  · refine (blk5 m c t p l (by omega) (by omega)).trans ((hM.d ⟨_, _⟩ (chan _ hb l)).trans ?_)
    rw [chan_block, chan_place]
  · refine (blk6 m c t j l (by omega) (by omega)).trans ((hM.cw j (chan _ hb l)).trans ?_)
    rw [chan_block, chan_place]
  · refine (blk7 m c t 0 l (by decide) (by omega)).trans ((hM.cb (chan _ hb l)).trans ?_)
    rw [chan_block, chan_place]
  · exact (blk8 m c t k l hb).trans (hM.wr ⟨_, hb⟩ k l)
  · refine (blk9 m c t 0 l (by decide) (by omega)).trans ((hM.br (chan _ hb l)).trans ?_)
    rw [chan_block, chan_place]
  · exact (blk10 m c t k l hb).trans (hM.wi ⟨_, hb⟩ k l)
  · refine (blk11 m c t 0 l (by decide) (by omega)).trans ((hM.bi (chan _ hb l)).trans ?_)
    rw [chan_block, chan_place]
  · refine (blk12 m c t 0 l (by decide) (by omega)).trans ((hM.lam (chan _ hb l)).trans ?_)
    rw [chan_block, chan_place]

end Cert.Kernel3Ideal.Own

end
-- ==== Proof.LruFinite.lean ====
/- The recurrent branch's precondition read off: every argument holds real values only. -/
module

public import proofs.«01_k».proof.Proof.Pre
public import proofs.«01_k».proof.Proof.Gen.Pre_finite3

@[expose] public section

set_option maxRecDepth 16384

noncomputable section

namespace Cert.Own

open Idealize.ShloMosaic Cert.Pre_finite3

/-- `reals_of_fold` at three axes. -/
theorem reals_of_fold3 {a b d : ℕ} (x : FVec Ideal (⟨3, ![a, b, d]⟩ : Shape) .f32)
    (h : Finset.fold IntOp.andi (1#1) (fun k : Fin a × Fin b × Fin d =>
      BitVec.ofBool (decide (FloatOps.absf (x (ix3 k.1 k.2.1 k.2.2)) < Ideal.ofBits FTy.f32 0x7F800000#32))) Finset.univ = 1#1) :
    Reals x := by
  refine reals_of fun i => ?_
  have e := fold_andi _ _ h (i 0, i 1, i 2) (Finset.mem_univ _)
  rw [inf_eq] at e
  have e2 : BitVec.ofBool (decide (FloatOps.absf (x i) < (⊤ : EReal))) = 1#1 := by
    rw [eq_ix3 i]; exact e
  have e' : FloatOps.absf (x i) < (⊤ : EReal) := by
    by_contra hn
    rw [decide_eq_false hn] at e2
    exact absurd e2 (by decide)
  exact real_of_abs_lt e'

theorem finite_reals3 (x0 : FVec Ideal S8192x5632 .f32) (x1 : FVec Ideal S8192x1536 .f32) (x2 : FVec Ideal S8192x2048 .f32) (x3 : FVec Ideal S4x1536 .f32)
    (x4 : FVec Ideal S1x1536 .f32) (x5 : FVec Ideal S12x128x128 .f32) (x6 : FVec Ideal S1x1536 .f32) (x7 : FVec Ideal S12x128x128 .f32) (x8 x9 : FVec Ideal S1x1536 .f32)
    (h : Cert.Pre_finite3.fn (F := Ideal) x0 x1 x2 x3 x4 x5 x6 x7 x8 x9 = fun _ => 1#1) :
    Reals x0 ∧ Reals x1 ∧ Reals x2 ∧ Reals x3 ∧ Reals x4 ∧ Reals x5 ∧ Reals x6 ∧ Reals x7 ∧ Reals x8 ∧ Reals x9 := by
  have h' := congrFun h ix0
  pointwise [Cert.Pre_finite3.fn, Cert.Pre_finite3.fn_part1, Cert.Pre_finite3.fn_part2] at h'
  obtain ⟨h', h9⟩ := andi_split h'
  obtain ⟨h', h8⟩ := andi_split h'
  obtain ⟨h', h7⟩ := andi_split h'
  obtain ⟨h', h6⟩ := andi_split h'
  obtain ⟨h', h5⟩ := andi_split h'
  obtain ⟨h', h4⟩ := andi_split h'
  obtain ⟨h', h3⟩ := andi_split h'
  obtain ⟨h', h2⟩ := andi_split h'
  obtain ⟨h0, h1⟩ := andi_split h'
  exact ⟨reals_of_fold x0 h0, reals_of_fold x1 h1, reals_of_fold x2 h2, reals_of_fold x3 h3, reals_of_fold x4 h4, reals_of_fold3 x5 h5, reals_of_fold x6 h6,
    reals_of_fold3 x7 h7, reals_of_fold x8 h8, reals_of_fold x9 h9⟩

end Cert.Own

end
-- ==== Proof.LruArgs.lean ====
/- Real arguments, cut into channel blocks. -/
module

public import proofs.«01_k».proof.Proof.LruValue
public import proofs.«01_k».proof.Proof.LruPre
public import proofs.«01_k».proof.Proof.LruFinite

@[expose] public section

set_option maxRecDepth 16384

noncomputable section

namespace Cert.Lru

open Idealize.ShloMosaic Cert.Own Cert.Reference3Ideal

variable (A0 : FVec Ideal S8192x5632 .f32) (A1 : FVec Ideal S8192x1536 .f32) (A2 : FVec Ideal S8192x2048 .f32) (A3 : FVec Ideal S4x1536 .f32)
  (A4 : FVec Ideal S1x1536 .f32) (A5 : FVec Ideal S12x128x128 .f32) (A6 : FVec Ideal S1x1536 .f32) (A7 : FVec Ideal S12x128x128 .f32) (A8 A9 : FVec Ideal S1x1536 .f32)

/-- A row number, a column number of an array with `n` columns. -/
abbrev at2 {a n : ℕ} (ha : 0 < a) (hn : 0 < n) (s k : ℕ) : (⟨2, ![a, n]⟩ : Shape).Idx := ix2 (⟨s % a, Nat.mod_lt _ ha⟩ : Fin a) (⟨k % n, Nat.mod_lt _ hn⟩ : Fin n)

theorem at2_eq {a n : ℕ} (ha : 0 < a) (hn : 0 < n) (s : Fin a) (k : Fin n) {s' k' : ℕ} (hs : s' = s.val) (hk : k' = k.val) : ix2 s k = at2 ha hn s' k' := by
  subst hs hk
  exact congrArg₂ ix2 (Fin.ext (Nat.mod_eq_of_lt s.isLt).symm) (Fin.ext (Nat.mod_eq_of_lt k.isLt).symm)

/-- The channel blocks of the arguments. -/
def laneOf (b : ℕ) : Lane where
  X s l := (A0 (at2 (by decide) (by decide) s (2560 + (128 * b + l.val)))).toReal
  Y s l := (A0 (at2 (by decide) (by decide) s (4096 + (128 * b + l.val)))).toReal
  H s l := (A1 (at2 (by decide) (by decide) s (128 * b + l.val))).toReal
  D s l := (A2 (at2 (by decide) (by decide) s (512 + (128 * b + l.val)))).toReal
  CW j l := (A3 (at2 (by decide) (by decide) j (128 * b + l.val))).toReal
  CB l := (A4 (at2 (by decide) (by decide) 0 (128 * b + l.val))).toReal
  WR k l := (A5 (ix3 (⟨b % 12, Nat.mod_lt _ (by decide)⟩ : Fin 12) k l)).toReal
  BR l := (A6 (at2 (by decide) (by decide) 0 (128 * b + l.val))).toReal
  WI k l := (A7 (ix3 (⟨b % 12, Nat.mod_lt _ (by decide)⟩ : Fin 12) k l)).toReal
  BI l := (A8 (at2 (by decide) (by decide) 0 (128 * b + l.val))).toReal
  LAM l := (A9 (at2 (by decide) (by decide) 0 (128 * b + l.val))).toReal

theorem real_at {s : Shape} {φ : FTy} {A : FVec Ideal s φ} (h : Reals A) {i j : s.Idx} (e : i = j) : A i = (((A j : EReal).toReal : ℝ) : EReal) := by
  subst e
  obtain ⟨r, rfl⟩ := h
  rfl

theorem whole_eq (c : Fin 1536) : 128 * (c.val / 128) + (ln c).val = c.val := Nat.div_add_mod c.val 128

theorem block_eq (b : Fin 12) (k l : Fin 128) : ix3 b k l = ix3 (⟨b.val % 12, Nat.mod_lt _ (by decide)⟩ : Fin 12) k l :=
  congrArg (fun z : Fin 12 => ix3 z k l) (Fin.ext (Nat.mod_eq_of_lt b.isLt).symm)

theorem made (h0 : Reals A0) (h1 : Reals A1) (h2 : Reals A2) (h3 : Reals A3) (h4 : Reals A4) (h5 : Reals A5) (h6 : Reals A6) (h7 : Reals A7) (h8 : Reals A8) (h9 : Reals A9) :
    Cert.Kernel3Ideal.Own.Made (laneOf A0 A1 A2 A3 A4 A5 A6 A7 A8 A9) A0 A1 A2 A3 A4 A5 A6 A7 A8 A9 where
  x s c := real_at h0 (at2_eq _ _ s _ rfl (congrArg (2560 + ·) (whole_eq c)))
  y s c := real_at h0 (at2_eq _ _ s _ rfl (congrArg (4096 + ·) (whole_eq c)))
  h s c := real_at h1 (at2_eq _ _ s _ rfl (whole_eq c))
  d s c := real_at h2 (at2_eq _ _ s _ rfl (congrArg (512 + ·) (whole_eq c)))
  cw s c := real_at h3 (at2_eq _ _ s _ rfl (whole_eq c))
  cb c := real_at h4 (at2_eq _ _ (0 : Fin 1) _ rfl (whole_eq c))
  wr b k l := real_at h5 (block_eq b k l)
  br c := real_at h6 (at2_eq _ _ (0 : Fin 1) _ rfl (whole_eq c))
  wi b k l := real_at h7 (block_eq b k l)
  bi c := real_at h8 (at2_eq _ _ (0 : Fin 1) _ rfl (whole_eq c))
  lam c := real_at h9 (at2_eq _ _ (0 : Fin 1) _ rfl (whole_eq c))

end Cert.Lru

end
-- ==== Proof.LruBodyA1.lean ====
/- What the body leaves at a channel block's first tile. -/
module

public import proofs.«01_k».proof.Proof.LruBody

@[expose] public section

set_option maxRecDepth 16384

noncomputable section

namespace Cert.Kernel3Ideal.Own

open Cert.Kernel3Ideal Cert.Kernel3Ideal.Gen Cert.Lru
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

set_option maxHeartbeats 2000000 in
theorem leftA_13 (c : Dev nD) (t : Fin cfg0.N) (hc : cond0_0 (grid0.coords t)) : (leftA m c t hc).1 = (bodyOut (grid0.coords t) (tile m c t) blank).1 := by
  show VO0_13.read (Elt Ideal) (VO0_13.writes (Elt Ideal) VO0_13.junk (runA m c t hc).1) = _
  unfold runA
  frame_open
  simp (disch := decide) only [↓ View.readCov_skip, ↓ View.readCov_cons_toLoadRect, ↓ View.readCov_fill]
  frame_out
  try simp only [read_unread_whole]
  rfl
set_option maxHeartbeats 2000000 in
theorem leftA_14 (c : Dev nD) (t : Fin cfg0.N) (hc : cond0_0 (grid0.coords t)) : (leftA m c t hc).2.1 = (bodyOut (grid0.coords t) (tile m c t) blank).2.1 := by
  show VO0_14.read (Elt Ideal) (VO0_14.writes (Elt Ideal) VO0_14.junk (runA m c t hc).2.1) = _
  unfold runA
  frame_open
  simp (disch := decide) only [↓ View.readCov_skip, ↓ View.readCov_cons_toLoadRect, ↓ View.readCov_fill]
  frame_out
  try simp only [read_unread_whole]
  rfl

end Cert.Kernel3Ideal.Own

end
-- ==== Proof.LruBodyA2.lean ====
/- What the body leaves at a channel block's first tile. -/
module

public import proofs.«01_k».proof.Proof.LruBody

@[expose] public section

set_option maxRecDepth 16384

noncomputable section

namespace Cert.Kernel3Ideal.Own

open Cert.Kernel3Ideal Cert.Kernel3Ideal.Gen Cert.Lru
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

set_option maxHeartbeats 2000000 in
theorem leftA_15 (c : Dev nD) (t : Fin cfg0.N) (hc : cond0_0 (grid0.coords t)) : (leftA m c t hc).2.2.1 = (bodyOut (grid0.coords t) (tile m c t) blank).2.2.1 := by
  show VO0_15.read (Elt Ideal) (VO0_15.writes (Elt Ideal) VO0_15.junk (runA m c t hc).2.2.1) = _
  unfold runA
  frame_open
  simp (disch := decide) only [↓ View.readCov_skip, ↓ View.readCov_cons_toLoadRect, ↓ View.readCov_fill]
  frame_out
  try simp only [read_unread_whole]
  rfl
set_option maxHeartbeats 2000000 in
theorem leftA_20 (c : Dev nD) (t : Fin cfg0.N) (hc : cond0_0 (grid0.coords t)) : (leftA m c t hc).2.2.2.2.2.2.2.1 = (bodyOut (grid0.coords t) (tile m c t) blank).2.2.2.2.2.2.2.1 := by
  show VO0_20.read (Elt Ideal) (VO0_20.writes (Elt Ideal) VO0_20.junk (runA m c t hc).2.2.2.2.2.2.2.1) = _
  unfold runA
  frame_open
  simp (disch := decide) only [↓ View.readCov_skip, ↓ View.readCov_cons_toLoadRect, ↓ View.readCov_fill]
  frame_out
  try simp only [read_unread_whole]
  rfl
set_option maxHeartbeats 2000000 in
theorem leftA_24 (c : Dev nD) (t : Fin cfg0.N) (hc : cond0_0 (grid0.coords t)) : (leftA m c t hc).2.2.2.2.2.2.2.2.2.2.2 = (bodyOut (grid0.coords t) (tile m c t) blank).2.2.2.2.2.2.2.2.2.2.2 := by
  show VS0_2.read (Elt Ideal) (VS0_2.writes (Elt Ideal) VS0_2.junk (runA m c t hc).2.2.2.2.2.2.2.2.2.2.2.1) = _
  unfold runA
  frame_open
  simp (disch := decide) only [↓ View.readCov_skip, ↓ View.readCov_cons_toLoadRect, ↓ View.readCov_fill]
  frame_out
  try simp only [read_unread_whole]
  rfl

end Cert.Kernel3Ideal.Own

end
-- ==== Proof.LruBodyA3.lean ====
/- What the body leaves at a channel block's first tile. -/
module

public import proofs.«01_k».proof.Proof.LruBody

@[expose] public section

set_option maxRecDepth 16384

noncomputable section

namespace Cert.Kernel3Ideal.Own

open Cert.Kernel3Ideal Cert.Kernel3Ideal.Gen Cert.Lru
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

set_option maxHeartbeats 2000000 in
theorem leftA_16 (c : Dev nD) (t : Fin cfg0.N) (hc : cond0_0 (grid0.coords t)) : (leftA m c t hc).2.2.2.1 = (bodyOut (grid0.coords t) (tile m c t) blank).2.2.2.1 := by
  show VO0_16.read (Elt Ideal) (VO0_16.writes (Elt Ideal) VO0_16.junk (runA m c t hc).2.2.2.1) = _
  unfold runA
  frame_open
  simp (disch := decide) only [↓ View.readCov_skip, ↓ View.readCov_cons_toLoadRect, ↓ View.readCov_fill]
  frame_out
  try simp only [read_unread_whole]
  rfl
set_option maxHeartbeats 2000000 in
theorem leftA_17 (c : Dev nD) (t : Fin cfg0.N) (hc : cond0_0 (grid0.coords t)) : (leftA m c t hc).2.2.2.2.1 = (bodyOut (grid0.coords t) (tile m c t) blank).2.2.2.2.1 := by
  show VO0_17.read (Elt Ideal) (VO0_17.writes (Elt Ideal) VO0_17.junk (runA m c t hc).2.2.2.2.1) = _
  unfold runA
  frame_open
  simp (disch := decide) only [↓ View.readCov_skip, ↓ View.readCov_cons_toLoadRect, ↓ View.readCov_fill]
  frame_out
  try simp only [read_unread_whole]
  rfl
set_option maxHeartbeats 2000000 in
theorem leftA_23 (c : Dev nD) (t : Fin cfg0.N) (hc : cond0_0 (grid0.coords t)) : (leftA m c t hc).2.2.2.2.2.2.2.2.2.2.1 = (bodyOut (grid0.coords t) (tile m c t) blank).2.2.2.2.2.2.2.2.2.2.1 := by
  show VS0_1.read (Elt Ideal) (VS0_1.writes (Elt Ideal) VS0_1.junk (runA m c t hc).2.2.2.2.2.2.2.2.2.2.1) = _
  unfold runA
  frame_open
  simp (disch := decide) only [↓ View.readCov_skip, ↓ View.readCov_cons_toLoadRect, ↓ View.readCov_fill]
  frame_out
  try simp only [read_unread_whole]
  rfl

end Cert.Kernel3Ideal.Own

end
-- ==== Proof.LruBodyA4.lean ====
/- What the body leaves at a channel block's first tile. -/
module

public import proofs.«01_k».proof.Proof.LruBody

@[expose] public section

set_option maxRecDepth 16384

noncomputable section

namespace Cert.Kernel3Ideal.Own

open Cert.Kernel3Ideal Cert.Kernel3Ideal.Gen Cert.Lru
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

set_option maxHeartbeats 2000000 in
theorem leftA_18 (c : Dev nD) (t : Fin cfg0.N) (hc : cond0_0 (grid0.coords t)) : (leftA m c t hc).2.2.2.2.2.1 = (bodyOut (grid0.coords t) (tile m c t) blank).2.2.2.2.2.1 := by
  show VO0_18.read (Elt Ideal) (VO0_18.writes (Elt Ideal) VO0_18.junk (runA m c t hc).2.2.2.2.2.1) = _
  unfold runA
  frame_open
  simp (disch := decide) only [↓ View.readCov_skip, ↓ View.readCov_cons_toLoadRect, ↓ View.readCov_fill]
  frame_out
  try simp only [read_unread_whole]
  rfl
set_option maxHeartbeats 2000000 in
theorem leftA_19 (c : Dev nD) (t : Fin cfg0.N) (hc : cond0_0 (grid0.coords t)) : (leftA m c t hc).2.2.2.2.2.2.1 = (bodyOut (grid0.coords t) (tile m c t) blank).2.2.2.2.2.2.1 := by
  show VO0_19.read (Elt Ideal) (VO0_19.writes (Elt Ideal) VO0_19.junk (runA m c t hc).2.2.2.2.2.2.1) = _
  unfold runA
  frame_open
  simp (disch := decide) only [↓ View.readCov_skip, ↓ View.readCov_cons_toLoadRect, ↓ View.readCov_fill]
  frame_out
  try simp only [read_unread_whole]
  rfl

end Cert.Kernel3Ideal.Own

end
-- ==== Proof.LruBodyA5.lean ====
/- What the body leaves at a channel block's first tile. -/
module

public import proofs.«01_k».proof.Proof.LruBody

@[expose] public section

set_option maxRecDepth 16384

noncomputable section

namespace Cert.Kernel3Ideal.Own

open Cert.Kernel3Ideal Cert.Kernel3Ideal.Gen Cert.Lru
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

set_option maxHeartbeats 2000000 in
theorem leftA_21 (c : Dev nD) (t : Fin cfg0.N) (hc : cond0_0 (grid0.coords t)) : (leftA m c t hc).2.2.2.2.2.2.2.2.1 = (bodyOut (grid0.coords t) (tile m c t) blank).2.2.2.2.2.2.2.2.1 := by
  show VO0_21.read (Elt Ideal) (VO0_21.writes (Elt Ideal) VO0_21.junk (runA m c t hc).2.2.2.2.2.2.2.2.1) = _
  unfold runA
  frame_open
  simp (disch := decide) only [↓ View.readCov_skip, ↓ View.readCov_cons_toLoadRect, ↓ View.readCov_fill]
  frame_out
  try simp only [read_unread_whole]
  rfl
set_option maxHeartbeats 2000000 in
theorem leftA_22 (c : Dev nD) (t : Fin cfg0.N) (hc : cond0_0 (grid0.coords t)) : (leftA m c t hc).2.2.2.2.2.2.2.2.2.1 = (bodyOut (grid0.coords t) (tile m c t) blank).2.2.2.2.2.2.2.2.2.1 := by
  show VS0_0.read (Elt Ideal) (VS0_0.writes (Elt Ideal) VS0_0.junk (runA m c t hc).2.2.2.2.2.2.2.2.2.1) = _
  unfold runA
  frame_open
  simp (disch := decide) only [↓ View.readCov_skip, ↓ View.readCov_cons_toLoadRect, ↓ View.readCov_fill]
  frame_out
  try simp only [read_unread_whole]
  rfl

end Cert.Kernel3Ideal.Own

end
-- ==== Proof.LruBodyA.lean ====
/- What the body leaves at a channel block's first tile. -/
module

public import proofs.«01_k».proof.Proof.LruBodyA1
public import proofs.«01_k».proof.Proof.LruBodyA2
public import proofs.«01_k».proof.Proof.LruBodyA3
public import proofs.«01_k».proof.Proof.LruBodyA4
public import proofs.«01_k».proof.Proof.LruBodyA5

@[expose] public section

set_option maxRecDepth 16384

noncomputable section

namespace Cert.Kernel3Ideal.Own

open Cert.Kernel3Ideal Cert.Kernel3Ideal.Gen Cert.Lru
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

theorem leftA_eq (c : Dev nD) (t : Fin cfg0.N) (hc : cond0_0 (grid0.coords t)) : leftA m c t hc = bodyOut (grid0.coords t) (tile m c t) blank :=
  Prod.ext (leftA_13 m c t hc) (Prod.ext (leftA_14 m c t hc) (Prod.ext (leftA_15 m c t hc) (Prod.ext (leftA_16 m c t hc) (Prod.ext (leftA_17 m c t hc) (Prod.ext (leftA_18 m c t hc) (Prod.ext (leftA_19 m c t hc) (Prod.ext (leftA_20 m c t hc) (Prod.ext (leftA_21 m c t hc) (Prod.ext (leftA_22 m c t hc) (Prod.ext (leftA_23 m c t hc) (leftA_24 m c t hc)))))))))))

end Cert.Kernel3Ideal.Own

end
-- ==== Proof.LruBodyB.lean ====
/- What the body leaves at a later tile. -/
module

public import proofs.«01_k».proof.Proof.LruBody

@[expose] public section

set_option maxRecDepth 16384

noncomputable section

namespace Cert.Kernel3Ideal.Own

open Cert.Kernel3Ideal Cert.Kernel3Ideal.Gen Cert.Lru
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

set_option maxHeartbeats 2000000 in
theorem leftB_13 (c : Dev nD) (t : Fin cfg0.N) (hc : ¬cond0_0 (grid0.coords t)) (p : Held Ideal) : (leftB m c t hc p).1 = (bodyOut (grid0.coords t) (tile m c t) p).1 := by
  show VO0_13.read (Elt Ideal) (VO0_13.writes (Elt Ideal) VO0_13.junk (runB m c t hc p).1) = _
  unfold runB kernelRun0_B
  frame_out
  try simp only [read_unread_whole]
  rfl
set_option maxHeartbeats 2000000 in
theorem leftB_14 (c : Dev nD) (t : Fin cfg0.N) (hc : ¬cond0_0 (grid0.coords t)) (p : Held Ideal) : (leftB m c t hc p).2.1 = (bodyOut (grid0.coords t) (tile m c t) p).2.1 := by
  show VO0_14.read (Elt Ideal) (VO0_14.writes (Elt Ideal) VO0_14.junk (runB m c t hc p).2.1) = _
  unfold runB kernelRun0_B
  frame_out
  try simp only [read_unread_whole]
  rfl
set_option maxHeartbeats 2000000 in
theorem leftB_15 (c : Dev nD) (t : Fin cfg0.N) (hc : ¬cond0_0 (grid0.coords t)) (p : Held Ideal) : (leftB m c t hc p).2.2.1 = (bodyOut (grid0.coords t) (tile m c t) p).2.2.1 := by
  show VO0_15.read (Elt Ideal) (VO0_15.writes (Elt Ideal) VO0_15.junk (runB m c t hc p).2.2.1) = _
  unfold runB kernelRun0_B
  frame_out
  try simp only [read_unread_whole]
  rfl
set_option maxHeartbeats 2000000 in
theorem leftB_16 (c : Dev nD) (t : Fin cfg0.N) (hc : ¬cond0_0 (grid0.coords t)) (p : Held Ideal) : (leftB m c t hc p).2.2.2.1 = (bodyOut (grid0.coords t) (tile m c t) p).2.2.2.1 := by
  show VO0_16.read (Elt Ideal) (VO0_16.writes (Elt Ideal) VO0_16.junk (runB m c t hc p).2.2.2.1) = _
  unfold runB kernelRun0_B
  frame_out
  try simp only [read_unread_whole]
  rfl
set_option maxHeartbeats 2000000 in
theorem leftB_17 (c : Dev nD) (t : Fin cfg0.N) (hc : ¬cond0_0 (grid0.coords t)) (p : Held Ideal) : (leftB m c t hc p).2.2.2.2.1 = (bodyOut (grid0.coords t) (tile m c t) p).2.2.2.2.1 := by
  show VO0_17.read (Elt Ideal) (VO0_17.writes (Elt Ideal) VO0_17.junk (runB m c t hc p).2.2.2.2.1) = _
  unfold runB kernelRun0_B
  frame_out
  try simp only [read_unread_whole]
  rfl
set_option maxHeartbeats 2000000 in
theorem leftB_18 (c : Dev nD) (t : Fin cfg0.N) (hc : ¬cond0_0 (grid0.coords t)) (p : Held Ideal) : (leftB m c t hc p).2.2.2.2.2.1 = (bodyOut (grid0.coords t) (tile m c t) p).2.2.2.2.2.1 := by
  show VO0_18.read (Elt Ideal) (VO0_18.writes (Elt Ideal) VO0_18.junk (runB m c t hc p).2.2.2.2.2.1) = _
  unfold runB kernelRun0_B
  frame_out
  try simp only [read_unread_whole]
  rfl
set_option maxHeartbeats 2000000 in
theorem leftB_19 (c : Dev nD) (t : Fin cfg0.N) (hc : ¬cond0_0 (grid0.coords t)) (p : Held Ideal) : (leftB m c t hc p).2.2.2.2.2.2.1 = (bodyOut (grid0.coords t) (tile m c t) p).2.2.2.2.2.2.1 := by
  show VO0_19.read (Elt Ideal) (VO0_19.writes (Elt Ideal) VO0_19.junk (runB m c t hc p).2.2.2.2.2.2.1) = _
  unfold runB kernelRun0_B
  frame_out
  try simp only [read_unread_whole]
  rfl
set_option maxHeartbeats 2000000 in
theorem leftB_20 (c : Dev nD) (t : Fin cfg0.N) (hc : ¬cond0_0 (grid0.coords t)) (p : Held Ideal) : (leftB m c t hc p).2.2.2.2.2.2.2.1 = (bodyOut (grid0.coords t) (tile m c t) p).2.2.2.2.2.2.2.1 := by
  show VO0_20.read (Elt Ideal) (VO0_20.writes (Elt Ideal) VO0_20.junk (runB m c t hc p).2.2.2.2.2.2.2.1) = _
  unfold runB kernelRun0_B
  frame_out
  try simp only [read_unread_whole]
  rfl
set_option maxHeartbeats 2000000 in
theorem leftB_21 (c : Dev nD) (t : Fin cfg0.N) (hc : ¬cond0_0 (grid0.coords t)) (p : Held Ideal) : (leftB m c t hc p).2.2.2.2.2.2.2.2.1 = (bodyOut (grid0.coords t) (tile m c t) p).2.2.2.2.2.2.2.2.1 := by
  show VO0_21.read (Elt Ideal) (VO0_21.writes (Elt Ideal) VO0_21.junk (runB m c t hc p).2.2.2.2.2.2.2.2.1) = _
  unfold runB kernelRun0_B
  frame_out
  try simp only [read_unread_whole]
  rfl
set_option maxHeartbeats 2000000 in
theorem leftB_22 (c : Dev nD) (t : Fin cfg0.N) (hc : ¬cond0_0 (grid0.coords t)) (p : Held Ideal) : (leftB m c t hc p).2.2.2.2.2.2.2.2.2.1 = (bodyOut (grid0.coords t) (tile m c t) p).2.2.2.2.2.2.2.2.2.1 := by
  show VS0_0.read (Elt Ideal) (VS0_0.writes (Elt Ideal) VS0_0.junk (runB m c t hc p).2.2.2.2.2.2.2.2.2.1) = _
  unfold runB kernelRun0_B
  frame_out
  try simp only [read_unread_whole]
  rfl
set_option maxHeartbeats 2000000 in
theorem leftB_23 (c : Dev nD) (t : Fin cfg0.N) (hc : ¬cond0_0 (grid0.coords t)) (p : Held Ideal) : (leftB m c t hc p).2.2.2.2.2.2.2.2.2.2.1 = (bodyOut (grid0.coords t) (tile m c t) p).2.2.2.2.2.2.2.2.2.2.1 := by
  show VS0_1.read (Elt Ideal) (VS0_1.writes (Elt Ideal) VS0_1.junk (runB m c t hc p).2.2.2.2.2.2.2.2.2.2.1) = _
  unfold runB kernelRun0_B
  frame_out
  try simp only [read_unread_whole]
  rfl
set_option maxHeartbeats 2000000 in
theorem leftB_24 (c : Dev nD) (t : Fin cfg0.N) (hc : ¬cond0_0 (grid0.coords t)) (p : Held Ideal) : (leftB m c t hc p).2.2.2.2.2.2.2.2.2.2.2 = (bodyOut (grid0.coords t) (tile m c t) p).2.2.2.2.2.2.2.2.2.2.2 := by
  show VS0_2.read (Elt Ideal) (VS0_2.writes (Elt Ideal) VS0_2.junk (runB m c t hc p).2.2.2.2.2.2.2.2.2.2.2.1) = _
  unfold runB kernelRun0_B
  frame_out
  try simp only [read_unread_whole]
  rfl

theorem leftB_eq (c : Dev nD) (t : Fin cfg0.N) (hc : ¬cond0_0 (grid0.coords t)) (p : Held Ideal) : leftB m c t hc p = bodyOut (grid0.coords t) (tile m c t) p :=
  Prod.ext (leftB_13 m c t hc p) (Prod.ext (leftB_14 m c t hc p) (Prod.ext (leftB_15 m c t hc p) (Prod.ext (leftB_16 m c t hc p) (Prod.ext (leftB_17 m c t hc p) (Prod.ext (leftB_18 m c t hc p) (Prod.ext (leftB_19 m c t hc p) (Prod.ext (leftB_20 m c t hc p) (Prod.ext (leftB_21 m c t hc p) (Prod.ext (leftB_22 m c t hc p) (Prod.ext (leftB_23 m c t hc p) (leftB_24 m c t hc p)))))))))))

end Cert.Kernel3Ideal.Own

end
-- ==== Proof.LruFinal.lean ====
/- The recurrent branch's backward launch: every tile's sums by induction, and the nine final arrays over the reals. -/
module

public import proofs.«01_k».proof.Proof.LruValue
public import proofs.«01_k».proof.Proof.LruBodyA
public import proofs.«01_k».proof.Proof.LruBodyB

@[expose] public section

set_option maxRecDepth 16384

noncomputable section

namespace Cert.Kernel3Ideal.Own

open Cert.Kernel3Ideal Cert.Kernel3Ideal.Gen Cert.Lru Cert.Own
open Idealize.ShloMosaic Idealize.ShloMosaic.TcCoe Idealize.ShloMosaic.Tactic
open Idealize.ShloMosaic.Pipeline (Dat Cfg Window)
open scoped BigOperators

variable (m : (ℓ : Loc nD τ sig) → Buf (Elt Ideal) ℓ) {P : ℕ → Lane}

/-- The arguments hold the channel blocks `P`. -/
abbrev MadeAt (P : ℕ → Lane) (c : Dev nD) : Prop := Made P (V m c main_arg0) (V m c main_arg1) (V m c main_arg2) (V m c main_arg3) (V m c main_arg4) (V m c main_arg5)
    (V m c main_arg6) (V m c main_arg7) (V m c main_arg8) (V m c main_arg9)

/-- One point, given the point before it. -/
theorem point_of (c : Dev nD) (t : Fin cfg0.N)
    (h : ¬ t.val % 16 = 0 → From (P (t.val / 16)) (512 * (15 - t.val % 16) + 512) (outsAt0 m c (t.val - 1) (Nat.lt_of_le_of_lt (Nat.sub_le _ _) t.isLt))) :
    ∃ p, outsAt0 m c t.val t.isLt = bodyOut (grid0.coords t) (tile m c t) p ∧ From (P (t.val / 16)) (512 * (15 - t.val % 16) + 512) p := by
  by_cases h0 : t.val % 16 = 0
  · refine ⟨blank, (outsAt0_A m c t h0).trans (leftA_eq m c t _), ?_⟩
    rw [h0]; exact from_blank
  · exact ⟨_, (outsAt0_B m c t h0).trans (leftB_eq m c t _ _), h h0⟩

theorem coord_at (t : Fin cfg0.N) : (grid0.coords t 1).val = 15 - (15 - t.val % 16) := by
  rw [coord]; omega

/-- What every point leaves. -/
theorem from_at (c : Dev nD) (hM : MadeAt m P c) : ∀ (n : ℕ) (hn : n < cfg0.N), From (P (n / 16)) (512 * (15 - n % 16)) (outsAt0 m c n hn) := fun n => by
  induction n using Nat.strong_induction_on with
  | _ n ih =>
    intro hn
    obtain ⟨p, e, hp⟩ := point_of (P := P) m c ⟨n, hn⟩ (fun h0 => by
      have h0' : ¬ n % 16 = 0 := h0
      have := ih (n - 1) (by omega) (Nat.lt_of_le_of_lt (Nat.sub_le _ _) hn)
      rw [show (n - 1) / 16 = n / 16 by omega, show 512 * (15 - (n - 1) % 16) = 512 * (15 - n % 16) + 512 by omega] at this
      exact this)
    rw [show outsAt0 m c n hn = _ from e]
    exact from_step (coord_at ⟨n, hn⟩) (by omega) (holds m c hM ⟨n, hn⟩) hp

theorem point (c : Dev nD) (hM : MadeAt m P c) (t : Fin cfg0.N) :
    ∃ p, outsAt0 m c t.val t.isLt = bodyOut (grid0.coords t) (tile m c t) p ∧ From (P (t.val / 16)) (512 * (15 - t.val % 16) + 512) p :=
  point_of m c t (fun h0 => by
    have := from_at m c hM (t.val - 1) (Nat.lt_of_le_of_lt (Nat.sub_le _ _) t.isLt)
    rw [show (t.val - 1) / 16 = t.val / 16 by omega, show 512 * (15 - (t.val - 1) % 16) = 512 * (15 - t.val % 16) + 512 by omega] at this
    exact this)

theorem dx_rows (c : Dev nD) (hM : MadeAt m P c) (t : Fin cfg0.N) : Rows (outsAt0 m c t.val t.isLt).1 (512 * (15 - t.val % 16)) (P (t.val / 16)).dx := by
  obtain ⟨p, e, hp⟩ := point m c hM t
  rw [e]; exact dx_at (coord_at t) (by omega) (holds m c hM t) hp

theorem dy_rows (c : Dev nD) (hM : MadeAt m P c) (t : Fin cfg0.N) : Rows (outsAt0 m c t.val t.isLt).2.1 (512 * (15 - t.val % 16)) (P (t.val / 16)).dy := by
  obtain ⟨p, e, hp⟩ := point m c hM t
  rw [e]; exact dy_at (holds m c hM t)

/-- The last tile's sums are over all rows. -/
theorem sum_all (f : ℕ → ℝ) : ∑ s ∈ Finset.Ico 0 8192, f s = ∑ s : Fin 8192, f s := by
  rw [← Finset.range_eq_Ico, Finset.sum_range]

theorem from_last (c : Dev nD) (hM : MadeAt m P c) (t : Fin cfg0.N) (ht : t.val % 16 = 15) : From (P (t.val / 16)) 0 (outsAt0 m c t.val t.isLt) := by
  have := from_at m c hM t.val t.isLt
  rw [ht] at this; exact this

/-! ## The final arrays -/

theorem rows_read {v : S512x128.Idx → EReal} {o : ℕ} {f : ℕ → Fin 128 → ℝ} (h : Rows v o f) (y : S512x128.Idx) : v y = ((f (o + (y 0).val) (y 1) : ℝ) : EReal) := by
  conv_lhs => rw [eq_ix2 y]
  exact h _ _
theorem four_read {v : S4x128.Idx → EReal} {f : ℕ → Fin 128 → ℝ} (h : Four v f) (y : S4x128.Idx) : v y = ((f (y 0).val (y 1) : ℝ) : EReal) := by
  conv_lhs => rw [eq_ix2 y]
  exact h _ _
theorem row_read {v : S1x128.Idx → EReal} {f : Fin 128 → ℝ} (h : Row v f) (y : S1x128.Idx) : v y = ((f (y 1) : ℝ) : EReal) := by
  conv_lhs => rw [eq_ix2 y, show y 0 = (0 : Fin 1) from Subsingleton.elim (α := Fin 1) _ _]
  exact h _
theorem sq_read {v : S1x128x128.Idx → EReal} {f : Fin 128 → Fin 128 → ℝ} (h : Sq v f) (y : S1x128x128.Idx) : v y = ((f (y 1) (y 2) : ℝ) : EReal) := by
  conv_lhs => rw [eq_ix3 y, show y 0 = (0 : Fin 1) from Subsingleton.elim (α := Fin 1) _ _]
  exact h _ _

/-- A number's place among 128. -/
abbrev pl (n : ℕ) : Fin 128 := ⟨n % 128, Nat.mod_lt _ (by decide)⟩
theorem pl_block (b : ℕ) (l : Fin 128) : pl (b * 128 + l.val) = l := Fin.ext (by have := l.isLt; show (b * 128 + l.val) % 128 = l.val; omega)
theorem blk_of (b : ℕ) (l : Fin 128) : (b * 128 + l.val) / 128 = b := by have := l.isLt; omega

theorem cell_rows (f : Lane → ℕ → Fin 128 → ℝ) (b k p : ℕ) (l : Fin 128) :
    f (P ((b * 128 + l.val) / 128)) (k * 512 + p) (pl (b * 128 + l.val)) = f (P b) (512 * k + p) l := by
  rw [pl_block, blk_of, Nat.mul_comm k]
theorem cell_four (f : Lane → ℕ → Fin 128 → ℝ) (b p : ℕ) (l : Fin 128) :
    f (P ((b * 128 + l.val) / 128)) (0 * 4 + p) (pl (b * 128 + l.val)) = f (P b) p l := by
  rw [pl_block, blk_of, Nat.zero_mul, Nat.zero_add]
theorem cell_row (f : Lane → Fin 128 → ℝ) (b : ℕ) (l : Fin 128) :
    f (P ((b * 128 + l.val) / 128)) (pl (b * 128 + l.val)) = f (P b) l := by
  rw [pl_block, blk_of]
theorem cell_sq (f : Lane → Fin 128 → Fin 128 → ℝ) (b : ℕ) (k l : Fin 128) :
    f (P b) (pl (0 * 128 + k.val)) (pl (0 * 128 + l.val)) = f (P b) k l := by
  rw [pl_block, pl_block]

theorem final13 (c : Dev nD) (hM : MadeAt m P c) : M P ((dats m 0 c).arrAt 13 cfg0.N) (fun S s l => S.dx s l) := by
  have e : (dats m 0 c).arrAt 13 cfg0.N = fun i : S8192x1536.Idx => (((P ((i 1).val / 128)).dx (i 0).val (pl (i 1).val) : ℝ) : EReal) := by
    refine (dats m 0 c).arrAt_eq_of_covers 13 _ (by decide +kernel) fun t hf y => ?_
    blk_simp
    rw [after0_13]
    obtain ⟨e13, e14, e15, e16, e17, e18, e19, e20, e21⟩ := idx_out t
    rw [e13]
    exact (rows_read (dx_rows m c hM t) y).trans (congrArg _ (cell_rows (P := P) (fun S s l => S.dx s l) _ _ _ _).symm)
  exact fun s cc => congrFun e (ix2 s cc)

theorem final14 (c : Dev nD) (hM : MadeAt m P c) : M P ((dats m 0 c).arrAt 14 cfg0.N) (fun S s l => S.dy s l) := by
  have e : (dats m 0 c).arrAt 14 cfg0.N = fun i : S8192x1536.Idx => (((P ((i 1).val / 128)).dy (i 0).val (pl (i 1).val) : ℝ) : EReal) := by
    refine (dats m 0 c).arrAt_eq_of_covers 14 _ (by decide +kernel) fun t hf y => ?_
    blk_simp
    rw [after0_14]
    obtain ⟨e13, e14, e15, e16, e17, e18, e19, e20, e21⟩ := idx_out t
    rw [e14]
    exact (rows_read (dy_rows m c hM t) y).trans (congrArg _ (cell_rows (P := P) (fun S s l => S.dy s l) _ _ _ _).symm)
  exact fun s cc => congrFun e (ix2 s cc)

theorem final15 (c : Dev nD) (hM : MadeAt m P c) : F4 P ((dats m 0 c).arrAt 15 cfg0.N) (fun S j l => ∑ s ∈ Finset.Ico 0 8192, S.dxc s l * S.dn (3 - j) s l) := by
  have e : (dats m 0 c).arrAt 15 cfg0.N = fun i : S4x1536.Idx => (((fun (S : Lane) (j : ℕ) (l : Fin 128) => ∑ s ∈ Finset.Ico 0 8192, S.dxc s l * S.dn (3 - j) s l) (P ((i 1).val / 128)) (i 0).val (pl (i 1).val) : ℝ) : EReal) := by
    refine (dats m 0 c).arrAt_eq_of_covers 15 _ (by decide +kernel) fun t hf y => ?_
    blk_simp
    rw [after0_15]
    obtain ⟨e13, e14, e15, e16, e17, e18, e19, e20, e21⟩ := idx_out t
    rw [e15]
    exact (four_read (from_last m c hM t ((flush0_15 t).mp hf)).dcw y).trans (congrArg _ (cell_four (P := P) (fun (S : Lane) (j : ℕ) (l : Fin 128) => ∑ s ∈ Finset.Ico 0 8192, S.dxc s l * S.dn (3 - j) s l) _ _ _).symm)
  exact fun s cc => congrFun e (ix2 s cc)

theorem final16 (c : Dev nD) (hM : MadeAt m P c) : R1 P ((dats m 0 c).arrAt 16 cfg0.N) (fun S l => ∑ s ∈ Finset.Ico 0 8192, S.dxc s l) := by
  have e : (dats m 0 c).arrAt 16 cfg0.N = fun i : S1x1536.Idx => (((fun (S : Lane) (l : Fin 128) => ∑ s ∈ Finset.Ico 0 8192, S.dxc s l) (P ((i 1).val / 128)) (pl (i 1).val) : ℝ) : EReal) := by
    refine (dats m 0 c).arrAt_eq_of_covers 16 _ (by decide +kernel) fun t hf y => ?_
    blk_simp
    rw [after0_16]
    obtain ⟨e13, e14, e15, e16, e17, e18, e19, e20, e21⟩ := idx_out t
    rw [e16]
    exact (row_read (from_last m c hM t ((flush0_16 t).mp hf)).dcb y).trans (congrArg _ (cell_row (P := P) (fun (S : Lane) (l : Fin 128) => ∑ s ∈ Finset.Ico 0 8192, S.dxc s l) _ _).symm)
  exact fun cc => congrFun e (ix2 0 cc)

theorem final17 (c : Dev nD) (hM : MadeAt m P c) : W3 P ((dats m 0 c).arrAt 17 cfg0.N) (fun S k l => ∑ s ∈ Finset.Ico 0 8192, S.xc s k * S.zr s l) := by
  have e : (dats m 0 c).arrAt 17 cfg0.N = fun i : S12x128x128.Idx => (((fun (S : Lane) (k l : Fin 128) => ∑ s ∈ Finset.Ico 0 8192, S.xc s k * S.zr s l) (P (i 0).val) (pl (i 1).val) (pl (i 2).val) : ℝ) : EReal) := by
    refine (dats m 0 c).arrAt_eq_of_covers 17 _ (by decide +kernel) fun t hf y => ?_
    blk_simp
    rw [after0_17]
    obtain ⟨e13, e14, e15, e16, e17, e18, e19, e20, e21⟩ := idx_out t
    rw [e17]
    exact (sq_read (from_last m c hM t ((flush0_17 t).mp hf)).dwr y).trans (congrArg _ (cell_sq (P := P) (fun (S : Lane) (k l : Fin 128) => ∑ s ∈ Finset.Ico 0 8192, S.xc s k * S.zr s l) _ _ _).symm)
  intro b k l
  refine (congrFun e (ix3 b k l)).trans ?_
  have hk : pl k.val = k := Fin.ext (Nat.mod_eq_of_lt k.isLt)
  have hl : pl l.val = l := Fin.ext (Nat.mod_eq_of_lt l.isLt)
  show (((fun (S : Lane) (k l : Fin 128) => ∑ s ∈ Finset.Ico 0 8192, S.xc s k * S.zr s l) (P b.val) (pl k.val) (pl l.val) : ℝ) : EReal) = _
  rw [hk, hl]

theorem final18 (c : Dev nD) (hM : MadeAt m P c) : R1 P ((dats m 0 c).arrAt 18 cfg0.N) (fun S l => ∑ s ∈ Finset.Ico 0 8192, S.zr s l) := by
  have e : (dats m 0 c).arrAt 18 cfg0.N = fun i : S1x1536.Idx => (((fun (S : Lane) (l : Fin 128) => ∑ s ∈ Finset.Ico 0 8192, S.zr s l) (P ((i 1).val / 128)) (pl (i 1).val) : ℝ) : EReal) := by
    refine (dats m 0 c).arrAt_eq_of_covers 18 _ (by decide +kernel) fun t hf y => ?_
    blk_simp
    rw [after0_18]
    obtain ⟨e13, e14, e15, e16, e17, e18, e19, e20, e21⟩ := idx_out t
    rw [e18]
    exact (row_read (from_last m c hM t ((flush0_18 t).mp hf)).dbr y).trans (congrArg _ (cell_row (P := P) (fun (S : Lane) (l : Fin 128) => ∑ s ∈ Finset.Ico 0 8192, S.zr s l) _ _).symm)
  exact fun cc => congrFun e (ix2 0 cc)

theorem final19 (c : Dev nD) (hM : MadeAt m P c) : W3 P ((dats m 0 c).arrAt 19 cfg0.N) (fun S k l => ∑ s ∈ Finset.Ico 0 8192, S.xc s k * S.zi s l) := by
  have e : (dats m 0 c).arrAt 19 cfg0.N = fun i : S12x128x128.Idx => (((fun (S : Lane) (k l : Fin 128) => ∑ s ∈ Finset.Ico 0 8192, S.xc s k * S.zi s l) (P (i 0).val) (pl (i 1).val) (pl (i 2).val) : ℝ) : EReal) := by
    refine (dats m 0 c).arrAt_eq_of_covers 19 _ (by decide +kernel) fun t hf y => ?_
    blk_simp
    rw [after0_19]
    obtain ⟨e13, e14, e15, e16, e17, e18, e19, e20, e21⟩ := idx_out t
    rw [e19]
    exact (sq_read (from_last m c hM t ((flush0_19 t).mp hf)).dwi y).trans (congrArg _ (cell_sq (P := P) (fun (S : Lane) (k l : Fin 128) => ∑ s ∈ Finset.Ico 0 8192, S.xc s k * S.zi s l) _ _ _).symm)
  intro b k l
  refine (congrFun e (ix3 b k l)).trans ?_
  have hk : pl k.val = k := Fin.ext (Nat.mod_eq_of_lt k.isLt)
  have hl : pl l.val = l := Fin.ext (Nat.mod_eq_of_lt l.isLt)
  show (((fun (S : Lane) (k l : Fin 128) => ∑ s ∈ Finset.Ico 0 8192, S.xc s k * S.zi s l) (P b.val) (pl k.val) (pl l.val) : ℝ) : EReal) = _
  rw [hk, hl]

theorem final20 (c : Dev nD) (hM : MadeAt m P c) : R1 P ((dats m 0 c).arrAt 20 cfg0.N) (fun S l => ∑ s ∈ Finset.Ico 0 8192, S.zi s l) := by
  have e : (dats m 0 c).arrAt 20 cfg0.N = fun i : S1x1536.Idx => (((fun (S : Lane) (l : Fin 128) => ∑ s ∈ Finset.Ico 0 8192, S.zi s l) (P ((i 1).val / 128)) (pl (i 1).val) : ℝ) : EReal) := by
    refine (dats m 0 c).arrAt_eq_of_covers 20 _ (by decide +kernel) fun t hf y => ?_
    blk_simp
    rw [after0_20]
    obtain ⟨e13, e14, e15, e16, e17, e18, e19, e20, e21⟩ := idx_out t
    rw [e20]
    exact (row_read (from_last m c hM t ((flush0_20 t).mp hf)).dbi y).trans (congrArg _ (cell_row (P := P) (fun (S : Lane) (l : Fin 128) => ∑ s ∈ Finset.Ico 0 8192, S.zi s l) _ _).symm)
  exact fun cc => congrFun e (ix2 0 cc)

theorem final21 (c : Dev nD) (hM : MadeAt m P c) : R1 P ((dats m 0 c).arrAt 21 cfg0.N) (fun S l => (∑ s ∈ Finset.Ico 0 8192, S.dla s l * S.rg s l) * -8 * (0 - sg (0 - S.LAM l))) := by
  have e : (dats m 0 c).arrAt 21 cfg0.N = fun i : S1x1536.Idx => (((fun (S : Lane) (l : Fin 128) => (∑ s ∈ Finset.Ico 0 8192, S.dla s l * S.rg s l) * -8 * (0 - sg (0 - S.LAM l))) (P ((i 1).val / 128)) (pl (i 1).val) : ℝ) : EReal) := by
    refine (dats m 0 c).arrAt_eq_of_covers 21 _ (by decide +kernel) fun t hf y => ?_
    blk_simp
    rw [after0_21]
    obtain ⟨e13, e14, e15, e16, e17, e18, e19, e20, e21⟩ := idx_out t
    rw [e21]
    exact (row_read (from_last m c hM t ((flush0_21 t).mp hf)).dlam y).trans (congrArg _ (cell_row (P := P) (fun (S : Lane) (l : Fin 128) => (∑ s ∈ Finset.Ico 0 8192, S.dla s l * S.rg s l) * -8 * (0 - sg (0 - S.LAM l))) _ _).symm)
  exact fun cc => congrFun e (ix2 0 cc)

end Cert.Kernel3Ideal.Own

end
-- ==== Proof.LruEqual.lean ====
/- The recurrent branch's backward launch and its reference end with equal arrays. -/
module

public import proofs.«01_k».proof.Proof.LruArgs
public import proofs.«01_k».proof.Proof.LruFinal
public import proofs.«01_k».proof.Proof.LruLoop

@[expose] public section

set_option maxRecDepth 16384

noncomputable section

open scoped BigOperators

namespace Cert.Lru

open Idealize.ShloMosaic Cert.Own Cert.Reference3Ideal

variable {P : ℕ → Lane}

theorem m_same {A B : FVec Ideal S8192x1536 .f32} {f : Lane → ℕ → Fin 128 → ℝ} (h : M P A f) (h' : M P B f) : A = B :=
  funext fun i => by rw [eq_ix2 i]; exact (h _ _).trans (h' _ _).symm
theorem f4_same {A B : FVec Ideal S4x1536 .f32} {f g : Lane → ℕ → Fin 128 → ℝ} (h : F4 P A f) (h' : F4 P B g) (e : ∀ S s l, f S s l = g S s l) : A = B :=
  funext fun i => by rw [eq_ix2 i]; exact (h _ _).trans (by rw [e]; exact (h' _ _).symm)
theorem r_same {A B : FVec Ideal S1x1536 .f32} {f g : Lane → Fin 128 → ℝ} (h : R1 P A f) (h' : R1 P B g) (e : ∀ S l, f S l = g S l) : A = B :=
  funext fun i => by
    rw [eq_ix2 i, show i 0 = (0 : Fin 1) from Subsingleton.elim (α := Fin 1) _ _]
    exact (h _).trans (by rw [e]; exact (h' _).symm)
theorem w3_same {A B : FVec Ideal S12x128x128 .f32} {f g : Lane → Fin 128 → Fin 128 → ℝ} (h : W3 P A f) (h' : W3 P B g) (e : ∀ S k l, f S k l = g S k l) : A = B :=
  funext fun i => by rw [eq_ix3 i]; exact (h _ _ _).trans ((congrArg (fun x : ℝ => (x : EReal)) (e _ _ _)).trans (h' _ _ _).symm)

theorem sum_comm {f g : ℕ → ℝ} : ∑ s : Fin 8192, f s * g s = ∑ s ∈ Finset.Ico 0 8192, g s * f s := by
  rw [Cert.Kernel3Ideal.Own.sum_all]
  exact Finset.sum_congr rfl fun s _ => mul_comm _ _

theorem lam_eq (x y : ℝ) : -(-8 * x * sg (-y)) = x * -8 * (0 - sg (0 - y)) := by
  rw [zero_sub, zero_sub]; ring

end Cert.Lru

namespace Cert.Reference3Ideal.Own

open Idealize.ShloMosaic Idealize.ShloMosaic.TcCoe Idealize.ShloMosaic.StableHlo Cert.Own Cert.Lru Cert.Reference3Ideal Cert.Reference3Ideal.Gen Cert.Reference3Ideal.Value

variable (m : (ℓ : Loc nD τ sig) → Buf (Elt Ideal) ℓ)

/-- The contents at the end, of a reference that no operation writes. -/
theorem final_keep (c : Dev nD) (r : Ref sig .tc) (h2 : r ∉ O2) (h : r ∉ condOps_W ++ OB) (h1 : r ∉ O1) :
    finalContents condOps preI bodyI postI 8192 m c (Proc.devRef .tc r) = m ((c.tc : Thread nD τ).loc r) := by
  rw [final_eq, line_keep hL2 _ h2, after_of_writes_sub condOps _ condOps_writes (fun hh => h (List.mem_append_left _ hh)), atK_keep m c r h 8192, line_keep hL1 _ h1]

/-- The reference's arguments hold the channel blocks. -/
theorem args_of {P : ℕ → Lane} {V : Valuation τ sig (Elt Ideal)}
    (h : Cert.Kernel3Ideal.Own.Made P (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7)) (V (Proc.devRef .tc main_arg8))
      (V (Proc.devRef .tc main_arg9))) : Args P V :=
  ⟨h.x, h.y, h.h, h.d, h.cw, h.cb, h.wr, h.br, h.wi, h.bi, h.lam⟩

variable {P : ℕ → Lane} (m₀ : (ℓ : Loc Cert.Kernel3Ideal.nD Cert.Kernel3Ideal.τ Cert.Kernel3Ideal.sig) → Buf (Elt Ideal) ℓ)
  (c : Dev nD) (hA : Args P (launchContents m c)) (hM : Cert.Kernel3Ideal.Own.MadeAt m₀ P c)

include hA hM

theorem equal0 : finalContents condOps preI bodyI postI 8192 m c (Proc.devRef .tc main_v239) = (Cert.Kernel3Ideal.Own.dats m₀ 0 c).arrAt 13 Cert.Kernel3Ideal.cfg0.N := by
  rw [final_eq]
  exact m_same (k_v239 _ hA (mid m c hA)) (Cert.Kernel3Ideal.Own.final13 m₀ c hM)
theorem equal1 : finalContents condOps preI bodyI postI 8192 m c (Proc.devRef .tc main_v240) = (Cert.Kernel3Ideal.Own.dats m₀ 0 c).arrAt 14 Cert.Kernel3Ideal.cfg0.N := by
  rw [final_eq]
  exact m_same (k_v240 _ hA (mid m c hA)) (Cert.Kernel3Ideal.Own.final14 m₀ c hM)
theorem equal2 : finalContents condOps preI bodyI postI 8192 m c (Proc.devRef .tc main_v235) = (Cert.Kernel3Ideal.Own.dats m₀ 0 c).arrAt 15 Cert.Kernel3Ideal.cfg0.N := by
  rw [final_eq]
  exact f4_same (k_v235 _ hA (mid m c hA)) (Cert.Kernel3Ideal.Own.final15 m₀ c hM) fun S j l => (Cert.Kernel3Ideal.Own.sum_all (fun s => S.dxc s l * S.dn (3 - j) s l)).symm
theorem equal3 : finalContents condOps preI bodyI postI 8192 m c (Proc.devRef .tc main_v236) = (Cert.Kernel3Ideal.Own.dats m₀ 0 c).arrAt 16 Cert.Kernel3Ideal.cfg0.N := by
  rw [final_eq]
  exact r_same (k_v236 _ hA (mid m c hA)) (Cert.Kernel3Ideal.Own.final16 m₀ c hM) fun S l => (Cert.Kernel3Ideal.Own.sum_all (fun s => S.dxc s l)).symm
theorem equal4 : finalContents condOps preI bodyI postI 8192 m c (Proc.devRef .tc main_v188) = (Cert.Kernel3Ideal.Own.dats m₀ 0 c).arrAt 17 Cert.Kernel3Ideal.cfg0.N := by
  rw [final_eq]
  exact w3_same (k_v188 _ hA (mid m c hA)) (Cert.Kernel3Ideal.Own.final17 m₀ c hM) fun S k l => sum_comm (f := fun s => S.zr s l) (g := fun s => S.xc s k)
theorem equal5 : finalContents condOps preI bodyI postI 8192 m c (Proc.devRef .tc main_v181) = (Cert.Kernel3Ideal.Own.dats m₀ 0 c).arrAt 18 Cert.Kernel3Ideal.cfg0.N := by
  rw [final_eq]
  exact r_same (k_v181 _ hA (mid m c hA)) (Cert.Kernel3Ideal.Own.final18 m₀ c hM) fun S l => (Cert.Kernel3Ideal.Own.sum_all (fun s => S.zr s l)).symm
theorem equal6 : finalContents condOps preI bodyI postI 8192 m c (Proc.devRef .tc main_v176) = (Cert.Kernel3Ideal.Own.dats m₀ 0 c).arrAt 19 Cert.Kernel3Ideal.cfg0.N := by
  rw [final_eq]
  exact w3_same (k_v176 _ hA (mid m c hA)) (Cert.Kernel3Ideal.Own.final19 m₀ c hM) fun S k l => sum_comm (f := fun s => S.zi s l) (g := fun s => S.xc s k)
theorem equal7 : finalContents condOps preI bodyI postI 8192 m c (Proc.devRef .tc main_v170) = (Cert.Kernel3Ideal.Own.dats m₀ 0 c).arrAt 20 Cert.Kernel3Ideal.cfg0.N := by
  rw [final_eq]
  exact r_same (k_v170 _ hA (mid m c hA)) (Cert.Kernel3Ideal.Own.final20 m₀ c hM) fun S l => (Cert.Kernel3Ideal.Own.sum_all (fun s => S.zi s l)).symm
theorem equal8 : finalContents condOps preI bodyI postI 8192 m c (Proc.devRef .tc main_v165) = (Cert.Kernel3Ideal.Own.dats m₀ 0 c).arrAt 21 Cert.Kernel3Ideal.cfg0.N := by
  rw [final_eq]
  refine r_same (k_v165 _ hA (mid m c hA)) (Cert.Kernel3Ideal.Own.final21 m₀ c hM) fun S l => ?_
  rw [Cert.Kernel3Ideal.Own.sum_all (fun s => S.dla s l * S.rg s l)]
  exact lam_eq _ _

end Cert.Reference3Ideal.Own

end
-- ==== Proof.Gemm.lean ====
/- What the six plain products leave: the two projections row against row, the four weight gradients token by token. -/
module

public import proofs.«01_k».proof.Proof.Gen.Kernel4Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Own

open Cert.Kernel4Ideal Cert.Kernel4Ideal.Gen

/-- The tokens' rows against the rows of the turned input weight. -/
def projOf (X : FVec Ideal S8192x2048 .bf16) (W : FVec Ideal S5632x2048 .bf16) : FVec Ideal S8192x5632 .f32 := fun i =>
  ∑ k : Fin 2048, X (ix2 (i 0) k) * W (ix2 (i 1) k)

/-- A cotangent's rows against the output weight's rows. -/
def backOf (D : FVec Ideal S8192x2048 .bf16) (W : FVec Ideal S2048x2048 .bf16) : FVec Ideal S8192x2048 .f32 := fun i =>
  ∑ k : Fin 2048, D (ix2 (i 0) k) * W (ix2 (i 1) k)

/-- A square weight's gradient: its input against the cotangent over the tokens. -/
def squareOf (X D : FVec Ideal S8192x2048 .bf16) : FVec Ideal S2048x2048 .bf16 := fun i =>
  ∑ k : Fin 8192, X (ix2 k (i 0)) * D (ix2 k (i 1))

/-- The embedding projection's gradient. -/
def narrowOf (X : FVec Ideal S8192x256 .f32) (D : FVec Ideal S8192x2048 .bf16) : FVec Ideal S256x2048 .bf16 := fun i =>
  ∑ k : Fin 8192, X (ix2 k (i 0)) * D (ix2 k (i 1))

/-- The input weight's gradient. -/
def wideOf (X : FVec Ideal S8192x2048 .bf16) (D : FVec Ideal S8192x5632 .bf16) : FVec Ideal S2048x5632 .bf16 := fun i =>
  ∑ k : Fin 8192, X (ix2 k (i 0)) * D (ix2 k (i 1))

variable (V : (c : Dev nD) → (b : Ref sig .tc) → Buf (Elt Ideal) ((c : Thread nD τ).loc b))

theorem idx0 : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

theorem point0_2 (c : Dev nD) (t : Fin cfg0.N) (y) : k0_pay1 (iblk0 V c 0 t) (iblk0 V c 1 t) y
    = projOf (V c main_v0) (V c main_v2) (((cfg0.win 2).blk t).view.emb y) := by
  pointwise [k0_pay1, projOf]
  blk_point [iblk0, idx0 t]

theorem final0_2 (c : Dev nD) : (dat0 V c).arrAt 2 cfg0.N = projOf (V c main_v0) (V c main_v2) := by
  refine (dat0 V c).arrAt_eq_of_covers 2 _ (by decide +kernel) fun t _ y => ?_
  blk_simp
  rw [after0_2]; frame_out
  exact point0_2 V c t y

theorem idx1 : ∀ t : Fin cfg1.N, win1_0.index t = ![0, (grid1.coords t 0).val] ∧ win1_1.index t = ![0, (grid1.coords t 1).val]
    ∧ win1_2.index t = ![(grid1.coords t 0).val, (grid1.coords t 1).val] :=
  (by decide +kernel : ∀ t : Fin grid1.N, _)

theorem point1_2 (c : Dev nD) (t : Fin cfg1.N) (y) : k1_pay1 (iblk1 V c 0 t) (iblk1 V c 1 t) y
    = squareOf (V c main_v7) (V c main_v8) (((cfg1.win 2).blk t).view.emb y) := by
  pointwise [k1_pay1, squareOf]
  blk_point [iblk1, idx1 t]

theorem final1_2 (c : Dev nD) : (dat1 V c).arrAt 2 cfg1.N = squareOf (V c main_v7) (V c main_v8) := by
  refine (dat1 V c).arrAt_eq_of_covers 2 _ (by decide +kernel) fun t _ y => ?_
  blk_simp
  rw [after1_2]; frame_out
  exact point1_2 V c t y

theorem idx2 : ∀ t : Fin cfg2.N, win2_0.index t = ![0, (grid2.coords t 0).val] ∧ win2_1.index t = ![0, (grid2.coords t 1).val]
    ∧ win2_2.index t = ![(grid2.coords t 0).val, (grid2.coords t 1).val] :=
  (by decide +kernel : ∀ t : Fin grid2.N, _)

theorem point2_2 (c : Dev nD) (t : Fin cfg2.N) (y) : k2_pay1 (iblk2 V c 0 t) (iblk2 V c 1 t) y
    = narrowOf (V c main_arg8) (V c main_v9) (((cfg2.win 2).blk t).view.emb y) := by
  pointwise [k2_pay1, narrowOf]
  blk_point [iblk2, idx2 t]

theorem final2_2 (c : Dev nD) : (dat2 V c).arrAt 2 cfg2.N = narrowOf (V c main_arg8) (V c main_v9) := by
  refine (dat2 V c).arrAt_eq_of_covers 2 _ (by decide +kernel) fun t _ y => ?_
  blk_simp
  rw [after2_2]; frame_out
  exact point2_2 V c t y

theorem idx3 : ∀ t : Fin cfg3.N, win3_0.index t = ![0, (grid3.coords t 0).val] ∧ win3_1.index t = ![0, (grid3.coords t 1).val]
    ∧ win3_2.index t = ![(grid3.coords t 0).val, (grid3.coords t 1).val] :=
  (by decide +kernel : ∀ t : Fin grid3.N, _)

theorem point3_2 (c : Dev nD) (t : Fin cfg3.N) (y) : k3_pay1 (iblk3 V c 0 t) (iblk3 V c 1 t) y
    = squareOf (V c main_v4) (V c main_v6) (((cfg3.win 2).blk t).view.emb y) := by
  pointwise [k3_pay1, squareOf]
  blk_point [iblk3, idx3 t]

theorem final3_2 (c : Dev nD) : (dat3 V c).arrAt 2 cfg3.N = squareOf (V c main_v4) (V c main_v6) := by
  refine (dat3 V c).arrAt_eq_of_covers 2 _ (by decide +kernel) fun t _ y => ?_
  blk_simp
  rw [after3_2]; frame_out
  exact point3_2 V c t y

theorem idx4 : ∀ t : Fin cfg4.N, win4_0.index t = ![(grid4.coords t 0).val, 0] ∧ win4_1.index t = ![(grid4.coords t 1).val, 0]
    ∧ win4_2.index t = ![(grid4.coords t 0).val, (grid4.coords t 1).val] :=
  (by decide +kernel : ∀ t : Fin grid4.N, _)

theorem point4_2 (c : Dev nD) (t : Fin cfg4.N) (y) : k4_pay1 (iblk4 V c 0 t) (iblk4 V c 1 t) y
    = backOf (V c main_v6) (V c main_v5) (((cfg4.win 2).blk t).view.emb y) := by
  pointwise [k4_pay1, backOf]
  blk_point [iblk4, idx4 t]

theorem final4_2 (c : Dev nD) : (dat4 V c).arrAt 2 cfg4.N = backOf (V c main_v6) (V c main_v5) := by
  refine (dat4 V c).arrAt_eq_of_covers 2 _ (by decide +kernel) fun t _ y => ?_
  blk_simp
  rw [after4_2]; frame_out
  exact point4_2 V c t y

theorem idx5 : ∀ t : Fin cfg5.N, win5_0.index t = ![0, (grid5.coords t 0).val] ∧ win5_1.index t = ![0, (grid5.coords t 1).val]
    ∧ win5_2.index t = ![(grid5.coords t 0).val, (grid5.coords t 1).val] :=
  (by decide +kernel : ∀ t : Fin grid5.N, _)

theorem point5_2 (c : Dev nD) (t : Fin cfg5.N) (y) : k5_pay1 (iblk5 V c 0 t) (iblk5 V c 1 t) y
    = wideOf (V c main_v0) (V c main_v3) (((cfg5.win 2).blk t).view.emb y) := by
  pointwise [k5_pay1, wideOf]
  blk_point [iblk5, idx5 t]

theorem final5_2 (c : Dev nD) : (dat5 V c).arrAt 2 cfg5.N = wideOf (V c main_v0) (V c main_v3) := by
  refine (dat5 V c).arrAt_eq_of_covers 2 _ (by decide +kernel) fun t _ y => ?_
  blk_simp
  rw [after5_2]; frame_out
  exact point5_2 V c t y

end Cert.Kernel4Ideal.Own

end
-- ==== Proof.GemmRun.lean ====
/- The six launches' run with its results read over the arguments, and the reference's terms met. -/
module

public import proofs.«01_k».proof.Proof.Gemm
public import proofs.«01_k».proof.Proof.Gen.Reference4Ideal

@[expose] public section

set_option maxRecDepth 16384

noncomputable section

namespace Cert.Kernel4Ideal.Own

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every unscoped buffer ends at the fold's last contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)

    (hQ := fun s h hz => h)

/-! ## The contents before the first launch -/

theorem at1_v0 (c : Dev nD) : V1 m ρ c main_v0 = (truncf .bf16 (m ((c : Thread nD τ).loc main_arg0) : FVec Ideal S8192x2048 .f32) bitsLt_bf16_f32 : FVec Ideal S8192x2048 .bf16) := by
  show StableHlo.after hostOps0 (W0 m ρ c) (Proc.devRef .tc main_v0) = _
  after_results_simp <;> rfl
theorem at1_v2 (c : Dev nD) : V1 m ρ c main_v2 = (truncf .bf16 (transpose S5632x2048 [1, 0] (m ((c : Thread nD τ).loc main_arg1) : FVec Ideal S2048x5632 .f32) transposes_S2048x5632_S5632x2048_1_0) bitsLt_bf16_f32 : FVec Ideal S5632x2048 .bf16) := by
  show StableHlo.after hostOps0 (W0 m ρ c) (Proc.devRef .tc main_v2) = _
  after_results_simp <;> rfl
theorem at1_v3 (c : Dev nD) : V1 m ρ c main_v3 = (truncf .bf16 (m ((c : Thread nD τ).loc main_arg2) : FVec Ideal S8192x5632 .f32) bitsLt_bf16_f32 : FVec Ideal S8192x5632 .bf16) := by
  show StableHlo.after hostOps0 (W0 m ρ c) (Proc.devRef .tc main_v3) = _
  after_results_simp <;> rfl
theorem at1_v4 (c : Dev nD) : V1 m ρ c main_v4 = (truncf .bf16 (m ((c : Thread nD τ).loc main_arg3) : FVec Ideal S8192x2048 .f32) bitsLt_bf16_f32 : FVec Ideal S8192x2048 .bf16) := by
  show StableHlo.after hostOps0 (W0 m ρ c) (Proc.devRef .tc main_v4) = _
  after_results_simp <;> rfl
theorem at1_v5 (c : Dev nD) : V1 m ρ c main_v5 = (truncf .bf16 (m ((c : Thread nD τ).loc main_arg4) : FVec Ideal S2048x2048 .f32) bitsLt_bf16_f32 : FVec Ideal S2048x2048 .bf16) := by
  show StableHlo.after hostOps0 (W0 m ρ c) (Proc.devRef .tc main_v5) = _
  after_results_simp <;> rfl
theorem at1_v6 (c : Dev nD) : V1 m ρ c main_v6 = (truncf .bf16 (m ((c : Thread nD τ).loc main_arg5) : FVec Ideal S8192x2048 .f32) bitsLt_bf16_f32 : FVec Ideal S8192x2048 .bf16) := by
  show StableHlo.after hostOps0 (W0 m ρ c) (Proc.devRef .tc main_v6) = _
  after_results_simp <;> rfl
theorem at1_v7 (c : Dev nD) : V1 m ρ c main_v7 = (truncf .bf16 (m ((c : Thread nD τ).loc main_arg6) : FVec Ideal S8192x2048 .f32) bitsLt_bf16_f32 : FVec Ideal S8192x2048 .bf16) := by
  show StableHlo.after hostOps0 (W0 m ρ c) (Proc.devRef .tc main_v7) = _
  after_results_simp <;> rfl
theorem at1_v8 (c : Dev nD) : V1 m ρ c main_v8 = (truncf .bf16 (m ((c : Thread nD τ).loc main_arg7) : FVec Ideal S8192x2048 .f32) bitsLt_bf16_f32 : FVec Ideal S8192x2048 .bf16) := by
  show StableHlo.after hostOps0 (W0 m ρ c) (Proc.devRef .tc main_v8) = _
  after_results_simp <;> rfl
theorem at1_v9 (c : Dev nD) : V1 m ρ c main_v9 = (truncf .bf16 (m ((c : Thread nD τ).loc main_arg9) : FVec Ideal S8192x2048 .f32) bitsLt_bf16_f32 : FVec Ideal S8192x2048 .bf16) := by
  show StableHlo.after hostOps0 (W0 m ρ c) (Proc.devRef .tc main_v9) = _
  after_results_simp <;> rfl
theorem at1_arg8 (c : Dev nD) : V1 m ρ c main_arg8 = (m ((c : Thread nD τ).loc main_arg8) : FVec Ideal S8192x256 .f32) := by
  show StableHlo.after hostOps0 (W0 m ρ c) (Proc.devRef .tc main_arg8) = _
  after_results_simp <;> rfl

/-! ## The arrays at the end -/

theorem end_v10 (c : Dev nD) : W7 m ρ c (Proc.devRef .tc main_v10) = projOf (truncf .bf16 (m ((c : Thread nD τ).loc main_arg0) : FVec Ideal S8192x2048 .f32) bitsLt_bf16_f32 : FVec Ideal S8192x2048 .bf16)
    (truncf .bf16 (transpose S5632x2048 [1, 0] (m ((c : Thread nD τ).loc main_arg1) : FVec Ideal S2048x5632 .f32) transposes_S2048x5632_S5632x2048_1_0) bitsLt_bf16_f32 : FVec Ideal S5632x2048 .bf16) :=
  (((W7_of m ρ c main_v10 (by decide)).trans ((W6_of m ρ c main_v10 (by decide)).trans ((W5_of m ρ c main_v10 (by decide)).trans ((W4_of m ρ c main_v10 (by decide)).trans (W3_of m ρ c main_v10 (by decide)))))).trans ((W2_arr m ρ c 2).trans (final0_2 (V1 m ρ) c))).trans
    (congrArg₂ projOf (at1_v0 m ρ c)
      (at1_v2 m ρ c))
theorem end_v11 (c : Dev nD) : W7 m ρ c (Proc.devRef .tc main_v11) = squareOf (truncf .bf16 (m ((c : Thread nD τ).loc main_arg6) : FVec Ideal S8192x2048 .f32) bitsLt_bf16_f32 : FVec Ideal S8192x2048 .bf16)
    (truncf .bf16 (m ((c : Thread nD τ).loc main_arg7) : FVec Ideal S8192x2048 .f32) bitsLt_bf16_f32 : FVec Ideal S8192x2048 .bf16) :=
  (((W7_of m ρ c main_v11 (by decide)).trans ((W6_of m ρ c main_v11 (by decide)).trans ((W5_of m ρ c main_v11 (by decide)).trans (W4_of m ρ c main_v11 (by decide))))).trans ((W3_arr m ρ c 2).trans (final1_2 (V2 m ρ) c))).trans
    (congrArg₂ squareOf (show V2 m ρ c main_v7 = _ from (W2_of m ρ c main_v7 (by decide)).trans (at1_v7 m ρ c))
      (show V2 m ρ c main_v8 = _ from (W2_of m ρ c main_v8 (by decide)).trans (at1_v8 m ρ c)))
theorem end_v12 (c : Dev nD) : W7 m ρ c (Proc.devRef .tc main_v12) = narrowOf (m ((c : Thread nD τ).loc main_arg8) : FVec Ideal S8192x256 .f32)
    (truncf .bf16 (m ((c : Thread nD τ).loc main_arg9) : FVec Ideal S8192x2048 .f32) bitsLt_bf16_f32 : FVec Ideal S8192x2048 .bf16) :=
  (((W7_of m ρ c main_v12 (by decide)).trans ((W6_of m ρ c main_v12 (by decide)).trans (W5_of m ρ c main_v12 (by decide)))).trans ((W4_arr m ρ c 2).trans (final2_2 (V3 m ρ) c))).trans
    (congrArg₂ narrowOf (show V3 m ρ c main_arg8 = _ from ((W3_of m ρ c main_arg8 (by decide)).trans (W2_of m ρ c main_arg8 (by decide))).trans (at1_arg8 m ρ c))
      (show V3 m ρ c main_v9 = _ from ((W3_of m ρ c main_v9 (by decide)).trans (W2_of m ρ c main_v9 (by decide))).trans (at1_v9 m ρ c)))
theorem end_v13 (c : Dev nD) : W7 m ρ c (Proc.devRef .tc main_v13) = squareOf (truncf .bf16 (m ((c : Thread nD τ).loc main_arg3) : FVec Ideal S8192x2048 .f32) bitsLt_bf16_f32 : FVec Ideal S8192x2048 .bf16)
    (truncf .bf16 (m ((c : Thread nD τ).loc main_arg5) : FVec Ideal S8192x2048 .f32) bitsLt_bf16_f32 : FVec Ideal S8192x2048 .bf16) :=
  (((W7_of m ρ c main_v13 (by decide)).trans (W6_of m ρ c main_v13 (by decide))).trans ((W5_arr m ρ c 2).trans (final3_2 (V4 m ρ) c))).trans
    (congrArg₂ squareOf (show V4 m ρ c main_v4 = _ from ((W4_of m ρ c main_v4 (by decide)).trans ((W3_of m ρ c main_v4 (by decide)).trans (W2_of m ρ c main_v4 (by decide)))).trans (at1_v4 m ρ c))
      (show V4 m ρ c main_v6 = _ from ((W4_of m ρ c main_v6 (by decide)).trans ((W3_of m ρ c main_v6 (by decide)).trans (W2_of m ρ c main_v6 (by decide)))).trans (at1_v6 m ρ c)))
theorem end_v14 (c : Dev nD) : W7 m ρ c (Proc.devRef .tc main_v14) = backOf (truncf .bf16 (m ((c : Thread nD τ).loc main_arg5) : FVec Ideal S8192x2048 .f32) bitsLt_bf16_f32 : FVec Ideal S8192x2048 .bf16)
    (truncf .bf16 (m ((c : Thread nD τ).loc main_arg4) : FVec Ideal S2048x2048 .f32) bitsLt_bf16_f32 : FVec Ideal S2048x2048 .bf16) :=
  ((W7_of m ρ c main_v14 (by decide)).trans ((W6_arr m ρ c 2).trans (final4_2 (V5 m ρ) c))).trans
    (congrArg₂ backOf (show V5 m ρ c main_v6 = _ from ((W5_of m ρ c main_v6 (by decide)).trans ((W4_of m ρ c main_v6 (by decide)).trans ((W3_of m ρ c main_v6 (by decide)).trans (W2_of m ρ c main_v6 (by decide))))).trans (at1_v6 m ρ c))
      (show V5 m ρ c main_v5 = _ from ((W5_of m ρ c main_v5 (by decide)).trans ((W4_of m ρ c main_v5 (by decide)).trans ((W3_of m ρ c main_v5 (by decide)).trans (W2_of m ρ c main_v5 (by decide))))).trans (at1_v5 m ρ c)))
theorem end_v15 (c : Dev nD) : W7 m ρ c (Proc.devRef .tc main_v15) = wideOf (truncf .bf16 (m ((c : Thread nD τ).loc main_arg0) : FVec Ideal S8192x2048 .f32) bitsLt_bf16_f32 : FVec Ideal S8192x2048 .bf16)
    (truncf .bf16 (m ((c : Thread nD τ).loc main_arg2) : FVec Ideal S8192x5632 .f32) bitsLt_bf16_f32 : FVec Ideal S8192x5632 .bf16) :=
  ((W7_arr m ρ c 2).trans (final5_2 (V6 m ρ) c)).trans
    (congrArg₂ wideOf (show V6 m ρ c main_v0 = _ from ((W6_of m ρ c main_v0 (by decide)).trans ((W5_of m ρ c main_v0 (by decide)).trans ((W4_of m ρ c main_v0 (by decide)).trans ((W3_of m ρ c main_v0 (by decide)).trans (W2_of m ρ c main_v0 (by decide)))))).trans (at1_v0 m ρ c))
      (show V6 m ρ c main_v3 = _ from ((W6_of m ρ c main_v3 (by decide)).trans ((W5_of m ρ c main_v3 (by decide)).trans ((W4_of m ρ c main_v3 (by decide)).trans ((W3_of m ρ c main_v3 (by decide)).trans (W2_of m ρ c main_v3 (by decide)))))).trans (at1_v3 m ρ c)))

end Cert.Kernel4Ideal.Own

namespace Cert.Own

open Idealize.ShloMosaic Cert.Reference4Ideal Cert.Reference4Ideal.Gen Cert.Kernel4Ideal.Own
open scoped BigOperators

theorem proj_eq (x : FVec Ideal S8192x2048 .f32) (w : FVec Ideal S2048x5632 .f32) :
    Host.dotGeneral dot_S8192x2048_S2048x5632_S8192x5632_1_0_0_1_n_n none x w
      = projOf (truncf .bf16 x Cert.Kernel4Ideal.Gen.bitsLt_bf16_f32)
        (truncf .bf16 (transpose S5632x2048 [1, 0] w Cert.Kernel4Ideal.Gen.transposes_S2048x5632_S5632x2048_1_0) Cert.Kernel4Ideal.Gen.bitsLt_bf16_f32) := by
  funext i
  pointwise [projOf]

theorem dcat_eq (x : FVec Ideal S8192x2048 .f32) (w : FVec Ideal S2048x2048 .f32) :
    Host.dotGeneral dot_S8192x2048_S2048x2048_S8192x2048_1_1_0_0_n_n none x w
      = backOf (truncf .bf16 x Cert.Kernel4Ideal.Gen.bitsLt_bf16_f32) (truncf .bf16 w Cert.Kernel4Ideal.Gen.bitsLt_bf16_f32) := by
  funext i
  pointwise [backOf]

theorem wide_eq (x : FVec Ideal S8192x2048 .f32) (d : FVec Ideal S8192x5632 .f32) :
    truncf .bf16 (transpose S2048x5632 [1, 0] (Host.dotGeneral dot_S8192x5632_S8192x2048_S5632x2048_0_0_1_1_n_n none d x)
        transposes_S5632x2048_S2048x5632_1_0) bitsLt_bf16_f32
      = wideOf (truncf .bf16 x Cert.Kernel4Ideal.Gen.bitsLt_bf16_f32) (truncf .bf16 d Cert.Kernel4Ideal.Gen.bitsLt_bf16_f32) := by
  funext i
  pointwise [wideOf]
  exact Finset.sum_congr rfl fun k _ => mul_comm _ _

theorem square_eq (x d : FVec Ideal S8192x2048 .f32) :
    truncf .bf16 (transpose S2048x2048 [1, 0] (Host.dotGeneral dot_S8192x2048_S8192x2048_S2048x2048_0_0_1_1_n_n none d x)
        transposes_S2048x2048_S2048x2048_1_0) bitsLt_bf16_f32
      = squareOf (truncf .bf16 x Cert.Kernel4Ideal.Gen.bitsLt_bf16_f32) (truncf .bf16 d Cert.Kernel4Ideal.Gen.bitsLt_bf16_f32) := by
  funext i
  pointwise [squareOf]
  exact Finset.sum_congr rfl fun k _ => mul_comm _ _

theorem narrow_eq (x : FVec Ideal S8192x256 .f32) (d : FVec Ideal S8192x2048 .f32) :
    truncf .bf16 (transpose S256x2048 [1, 0] (Host.dotGeneral dot_S8192x2048_S8192x256_S2048x256_0_0_1_1_n_n none d x)
        transposes_S2048x256_S256x2048_1_0) bitsLt_bf16_f32
      = narrowOf x (truncf .bf16 d Cert.Kernel4Ideal.Gen.bitsLt_bf16_f32) := by
  funext i
  pointwise [narrowOf]
  exact Finset.sum_congr rfl fun k _ => mul_comm _ _

end Cert.Own

end
-- ==== Proof.DownLoop.lean ====
/- The closing loop of the down projection's last column tile: sixty-four rows a trip, each trip's pieces read at the rows they land on. -/
module

public import proofs.«01_k».proof.Proof.Gen.Kernel5Ideal
public import proofs.«01_k».proof.Proof.Gen.Kernel5Ideal.Skeleton
public import proofs.«01_k».proof.Proof.Gen.Kernel5Ideal.Loops
public import Idealize.ShloMosaic.Lib.WritesUnit
public import Idealize.ShloMosaic.Lib.VecWindow
public import Idealize.ShloMosaic.Lib.Pointwise

@[expose] public section

set_option maxRecDepth 16384

noncomputable section

namespace Cert.Kernel5Ideal.Own

open Idealize.ShloMosaic Idealize.ShloMosaic.TcCoe Idealize.ShloMosaic.Tactic
open Cert.Kernel5Ideal.Gen

variable {F : FTy → Type} [FloatOps F]

theorem trips_eq : k0_t1_loop.trips = 8 := by decide +kernel

theorem offs : ∀ k : Fin k0_t1_loop.trips, k0_off2 k = ![64 * k.val, 0] ∧ k0_off7 k = ![64 * k.val, 0] ∧ k0_off3 k = ![0, 64 * k.val, 0]
    ∧ k0_off4 k = ![1, 64 * k.val, 0] ∧ k0_off5 k = ![2, 64 * k.val, 0] ∧ k0_off6 k = ![3, 64 * k.val, 0] := by decide +kernel

theorem trip_lt (k : Fin k0_t1_loop.trips) : k.val < 8 := Nat.lt_of_lt_of_eq k.isLt trips_eq

/-- The trip that handles row `r` of the tile. -/
def tripOf (r : Fin 512) : Fin k0_t1_loop.trips := ⟨r.val / 64, by rw [trips_eq]; omega⟩

/-- Row `r` within a trip's block. -/
def within (r : Fin 512) : Fin 64 := ⟨r.val % 64, Nat.mod_lt _ (by decide)⟩

/-- A trip's rows of the tile. -/
def rowsOf (x : Vec F S512x2048 .f32) (k : Fin k0_t1_loop.trips) : Vec F S64x2048 .f32 :=
  fun y => x (ix2 (⟨64 * k.val + (y 0).val, by have := trip_lt k; have h : (y 0).val < 64 := (y 0).isLt; omega⟩ : Fin 512) (y 1))

/-- A trip's rows of one slice of the carried buffer. -/
def sliceOf (S : Vec F S4x512x512 .f32) (j : Fin 4) (k : Fin k0_t1_loop.trips) : Vec F S1x64x512 .f32 :=
  fun y => S (ix3 j (⟨64 * k.val + (y 1).val, by have := trip_lt k; have h : (y 1).val < 64 := (y 1).isLt; omega⟩ : Fin 512) (y 2))

/-- A trip's normalised rows. -/
def xhOf (x : Vec F S512x2048 .f32) (S : Vec F S4x512x512 .f32) (k : Fin k0_t1_loop.trips) : Vec F S64x2048 .f32 :=
  k0_pay6 (rowsOf x k) (sliceOf S 0 k) (sliceOf S 1 k) (sliceOf S 2 k) (sliceOf S 3 k)

/-- A trip's inverse deviations. -/
def rsOf (x : Vec F S512x2048 .f32) (S : Vec F S4x512x512 .f32) (k : Fin k0_t1_loop.trips) : Vec F S64x1 .f32 :=
  k0_pay5 (rowsOf x k) (sliceOf S 0 k) (sliceOf S 1 k) (sliceOf S 2 k) (sliceOf S 3 k)

/-- The four tiles the loop leaves. -/
def yTile (x : Vec F S512x2048 .f32) (g b : Vec F S1x2048 .f32) (S : Vec F S4x512x512 .f32) : Vec F S512x2048 .f32 :=
  fun y => k0_pay2 (xhOf x S (tripOf (y 0))) (k0_pay7 g) b (ix2 (within (y 0)) (y 1))
def ybTile (x : Vec F S512x2048 .f32) (g b : Vec F S1x2048 .f32) (S : Vec F S4x512x512 .f32) : Vec F S512x2048 .bf16 :=
  fun y => k0_pay3 (xhOf x S (tripOf (y 0))) (k0_pay7 g) b (ix2 (within (y 0)) (y 1))
def xhTile (x : Vec F S512x2048 .f32) (S : Vec F S4x512x512 .f32) : Vec F S512x2048 .f32 :=
  fun y => xhOf x S (tripOf (y 0)) (ix2 (within (y 0)) (y 1))
def rsTile (x : Vec F S512x2048 .f32) (S : Vec F S4x512x512 .f32) : Vec F S512x1 .f32 :=
  fun y => rsOf x S (tripOf (y 0)) (ix2 (within (y 0)) (y 1))

/-! ## Pieces written block after block -/

/-- A block of sixty-four rows is written over earlier rows: rows below its end then read the wanted values. -/
theorem block_step {κ : Kind} {sp : Space} {n : ℕ} {t : EltTy} (v : View sig κ sp (⟨2, ![512, n]⟩ : Shape) t)
    (f : v.ty.Contents (Elt F)) (L : List (View.Piece (Elt F) (⟨2, ![512, n]⟩ : Shape) t)) (k : Fin k0_t1_loop.trips)
    (off : Fin 2 → ℕ) (hoff : off = ![64 * k.val, 0]) (hb) (val : Vec F (⟨2, ![64, n]⟩ : Shape) t) (Y : Vec F (⟨2, ![512, n]⟩ : Shape) t)
    (hY : ∀ y : (⟨2, ![512, n]⟩ : Shape).Idx, (y 0).val / 64 = k.val → Y y = val (ix2 (within (y 0)) (y 1)))
    (hprev : ∀ y : (⟨2, ![512, n]⟩ : Shape).Idx, (y 0).val < 64 * k.val → v.read (Elt F) (v.writes (Elt F) f L) y = Y y)
    (y : (⟨2, ![512, n]⟩ : Shape).Idx) (hy : (y 0).val < 64 * (k.val + 1)) :
    v.read (Elt F) (v.writes (Elt F) f ([⟨Rect.unit off ![64, n] hb, val⟩] ++ L)) y = Y y := by
  subst hoff
  rcases Nat.lt_or_ge (y 0).val (64 * k.val) with h | h
  · rw [List.singleton_append, View.read_writes_cons_unit_of_not_mem _ _ _ _ _ y rfl 0 (Or.inl h)]
    exact hprev y h
  · rw [List.singleton_append, hY y (by omega)]
    refine View.read_writes_cons_unit_of_mem _ _ _ _ _ y (ix2 (within (y 0)) (y 1)) rfl fun a => ?_
    fin_cases a
    · show (y 0).val = 64 * k.val + (y 0).val % 64
      omega
    · show (y 1).val = 0 + (y 1).val
      omega

section
variable (𝒱 : Variants) (c : Dev nD) (bd : Option 𝒱.V) (i : grid0.Coords) (arg2 : Memref sig .tc .vmem S512x5632 .bf16) (harg2 : arg2.IsWhole)
  (arg3 : Memref sig .tc .vmem S5632x512 .bf16) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .vmem S512x2048 .f32) (harg7 : arg7.IsWhole) (arg8 : Memref sig .tc .vmem S512x2048 .bf16) (harg8 : arg8.IsWhole)
  (arg9 : Memref sig .tc .vmem S512x2048 .f32) (harg9 : arg9.IsWhole) (arg10 : Memref sig .tc .vmem S512x1 .f32) (harg10 : arg10.IsWhole)
  (arg11 : Memref sig .tc .vmem S4x512x512 .f32) (harg11 : arg11.IsWhole) (h1 : k0_cond1 i = 1#1)
  (X4 : BufTy.Contents (Elt F) arg4.view.ty) (X5 : BufTy.Contents (Elt F) arg5.view.ty) (X6 : BufTy.Contents (Elt F) arg6.view.ty) (X11 : BufTy.Contents (Elt F) arg11.view.ty)
  (x : Vec F S512x2048 .f32) (g b : Vec F S1x2048 .f32) (S : Vec F S4x512x512 .f32)
  (hx : arg4.view.read (Elt F) X4 = x) (hg : arg5.view.read (Elt F) X5 = g) (hb : arg6.view.read (Elt F) X6 = b) (hS : arg11.view.read (Elt F) X11 = S)

include hx in
theorem load_rows (k : Fin k0_t1_loop.trips) (off : Fin 2 → ℕ) (ho : off = ![64 * k.val, 0]) (hk) :
    View.readAt (Elt F) arg4.view (Rect.unit (s := S512x2048) off ![64, 2048] hk).toLoadRect X4 = rowsOf x k := by
  subst hx; subst ho
  funext y
  refine congrArg (arg4.view.read (Elt F) X4) (funext fun a => Fin.ext ?_)
  fin_cases a
  · show 64 * k.val + 1 * (y 0).val = 64 * k.val + (y 0).val
    omega
  · show 0 + 1 * (y 1).val = (y 1).val
    omega

include hS in
theorem load_slice (k : Fin k0_t1_loop.trips) (j : Fin 4) (off : Fin 3 → ℕ) (ho : off = ![j.val, 64 * k.val, 0]) (hk) :
    View.readAt (Elt F) arg11.view (Rect.unit (s := S4x512x512) off ![1, 64, 512] hk).toLoadRect X11 = sliceOf S j k := by
  subst hS; subst ho
  funext y
  refine congrArg (arg11.view.read (Elt F) X11) (funext fun a => Fin.ext ?_)
  fin_cases a
  · have : (y 0).val < 1 := (y 0).isLt
    show j.val + 1 * (y 0).val = j.val
    omega
  · show 64 * k.val + 1 * (y 1).val = 64 * k.val + (y 1).val
    omega
  · show 0 + 1 * (y 2).val = (y 2).val
    omega

include hx hS in
theorem r1_eq (k : Fin k0_t1_loop.trips) : trip_k0_t1.sl.r_1 i arg4 arg11 h1 X4 X11 k = xhOf x S k := by
  unfold trip_k0_t1.sl.r_1
  rw [load_rows arg4 X4 x hx k _ (offs k).1, load_slice arg11 X11 S hS k 0 _ (offs k).2.2.1, load_slice arg11 X11 S hS k 1 _ (offs k).2.2.2.1,
    load_slice arg11 X11 S hS k 2 _ (offs k).2.2.2.2.1, load_slice arg11 X11 S hS k 3 _ (offs k).2.2.2.2.2]
  rfl

include hx hS in
theorem r_eq (k : Fin k0_t1_loop.trips) : trip_k0_t1.sl.r i arg4 arg11 h1 X4 X11 k = rsOf x S k := by
  unfold trip_k0_t1.sl.r
  rw [load_rows arg4 X4 x hx k _ (offs k).1, load_slice arg11 X11 S hS k 0 _ (offs k).2.2.1, load_slice arg11 X11 S hS k 1 _ (offs k).2.2.2.1,
    load_slice arg11 X11 S hS k 2 _ (offs k).2.2.2.2.1, load_slice arg11 X11 S hS k 3 _ (offs k).2.2.2.2.2]
  rfl

include hg in
theorem r2_eq : trip_k0_t1.sl.r_2 arg5 X5 = k0_pay7 g := by
  unfold trip_k0_t1.sl.r_2
  rw [View.readAt_full arg5.view, hg]

local notation "𝕋" => trip_k0_t1 (F := F) 𝒱 c bd i arg2 harg2 arg3 harg3 arg4 harg4 arg5 harg5 arg6 harg6 arg7 harg7 arg8 harg8 arg9 harg9 arg10 harg10 arg11 harg11 h1 X4 X5 X6 X11
local notation "𝕃" => pb_k0_t1 (F := F) 𝒱 c bd i arg2 harg2 arg3 harg3 arg4 harg4 arg5 harg5 arg6 harg6 arg7 harg7 arg8 harg8 arg9 harg9 arg10 harg10 arg11 harg11 h1 X4 X5 X6 X11

include hx hg hb hS in
theorem trip_pieces (k : Fin k0_t1_loop.trips) :
    (𝕋 k).1 = [⟨Rect.unit (k0_off2 k) ![64, 2048] (k0_off2_inb i k h1), k0_pay2 (xhOf x S k) (k0_pay7 g) b⟩]
    ∧ (𝕋 k).2.1 = [⟨Rect.unit (k0_off2 k) ![64, 2048] (k0_off2_inb i k h1), k0_pay3 (xhOf x S k) (k0_pay7 g) b⟩]
    ∧ (𝕋 k).2.2.1 = [⟨Rect.unit (k0_off2 k) ![64, 2048] (k0_off2_inb i k h1), xhOf x S k⟩]
    ∧ (𝕋 k).2.2.2.1 = [⟨Rect.unit (k0_off7 k) ![64, 1] (k0_off7_inb i k h1), rsOf x S k⟩] := by
  unfold trip_k0_t1
  dsimp only
  rw [r1_eq i arg4 arg11 h1 X4 X11 x S hx hS, r_eq i arg4 arg11 h1 X4 X11 x S hx hS, r2_eq arg5 X5 g hg, View.readAt_full arg6.view, hb]
  exact ⟨rfl, rfl, rfl, rfl⟩

theorem tripOf_eq {k : Fin k0_t1_loop.trips} {r : Fin 512} (h : r.val / 64 = k.val) : tripOf r = k := Fin.ext h

include hx hg hb hS in
theorem rows_upto (G7 : BufTy.Contents (Elt F) arg7.view.ty) (G8 : BufTy.Contents (Elt F) arg8.view.ty) (G9 : BufTy.Contents (Elt F) arg9.view.ty)
    (G10 : BufTy.Contents (Elt F) arg10.view.ty) : ∀ n : ℕ, n ≤ k0_t1_loop.trips →
      (∀ y : S512x2048.Idx, (y 0).val < 64 * n → arg7.view.read (Elt F) (arg7.view.writes (Elt F) G7 (𝕃 n).1) y = yTile x g b S y)
      ∧ (∀ y : S512x2048.Idx, (y 0).val < 64 * n → arg8.view.read (Elt F) (arg8.view.writes (Elt F) G8 (𝕃 n).2.1) y = ybTile x g b S y)
      ∧ (∀ y : S512x2048.Idx, (y 0).val < 64 * n → arg9.view.read (Elt F) (arg9.view.writes (Elt F) G9 (𝕃 n).2.2.1) y = xhTile x S y)
      ∧ (∀ y : S512x1.Idx, (y 0).val < 64 * n → arg10.view.read (Elt F) (arg10.view.writes (Elt F) G10 (𝕃 n).2.2.2) y = rsTile x S y) := by
  intro n
  induction n with
  | zero => exact fun _ => ⟨fun _ h => absurd h (Nat.not_lt_zero _), fun _ h => absurd h (Nat.not_lt_zero _),
      fun _ h => absurd h (Nat.not_lt_zero _), fun _ h => absurd h (Nat.not_lt_zero _)⟩
  | succ n ih =>
    intro hn
    obtain ⟨i7, i8, i9, i10⟩ := ih (Nat.le_of_succ_le hn)
    have hp := pb_k0_t1_succ (F := F) 𝒱 c bd i arg2 harg2 arg3 harg3 arg4 harg4 arg5 harg5 arg6 harg6 arg7 harg7 arg8 harg8 arg9 harg9 arg10 harg10 arg11 harg11 h1 X4 X5 X6 X11 ⟨n, hn⟩
    obtain ⟨t7, t8, t9, t10⟩ := trip_pieces 𝒱 c bd i arg2 harg2 arg3 harg3 arg4 harg4 arg5 harg5 arg6 harg6 arg7 harg7 arg8 harg8 arg9 harg9 arg10 harg10 arg11 harg11 h1 X4 X5 X6 X11 x g b S hx hg hb hS ⟨n, hn⟩
    have p7 := (congrArg (fun z => z.1) hp).trans (congrArg (· ++ _) t7)
    have p8 := (congrArg (fun z => z.2.1) hp).trans (congrArg (· ++ _) t8)
    have p9 := (congrArg (fun z => z.2.2.1) hp).trans (congrArg (· ++ _) t9)
    have p10 := (congrArg (fun z => z.2.2.2) hp).trans (congrArg (· ++ _) t10)
    refine ⟨fun y hy => (congrArg (fun L => arg7.view.read (Elt F) (arg7.view.writes (Elt F) G7 L) y) p7).trans ?_,
      fun y hy => (congrArg (fun L => arg8.view.read (Elt F) (arg8.view.writes (Elt F) G8 L) y) p8).trans ?_,
      fun y hy => (congrArg (fun L => arg9.view.read (Elt F) (arg9.view.writes (Elt F) G9 L) y) p9).trans ?_,
      fun y hy => (congrArg (fun L => arg10.view.read (Elt F) (arg10.view.writes (Elt F) G10 L) y) p10).trans ?_⟩
    · exact block_step arg7.view G7 _ ⟨n, hn⟩ _ (offs _).1 _ _ _ (fun y h => by unfold yTile; rw [tripOf_eq h]) i7 y hy
    · exact block_step arg8.view G8 _ ⟨n, hn⟩ _ (offs _).1 _ _ _ (fun y h => by unfold ybTile; rw [tripOf_eq h]) i8 y hy
    · exact block_step arg9.view G9 _ ⟨n, hn⟩ _ (offs _).1 _ _ _ (fun y h => by unfold xhTile; rw [tripOf_eq h]) i9 y hy
    · exact block_step arg10.view G10 _ ⟨n, hn⟩ _ (offs _).2.1 _ _ _ (fun y h => by unfold rsTile; rw [tripOf_eq h]) i10 y hy

include hx hg hb hS in
/-- After the loop the four tiles are whole. -/
theorem rows_all (G7 : BufTy.Contents (Elt F) arg7.view.ty) (G8 : BufTy.Contents (Elt F) arg8.view.ty) (G9 : BufTy.Contents (Elt F) arg9.view.ty)
    (G10 : BufTy.Contents (Elt F) arg10.view.ty) :
      arg7.view.read (Elt F) (arg7.view.writes (Elt F) G7 (𝕃 k0_t1_loop.trips).1) = yTile x g b S
      ∧ arg8.view.read (Elt F) (arg8.view.writes (Elt F) G8 (𝕃 k0_t1_loop.trips).2.1) = ybTile x g b S
      ∧ arg9.view.read (Elt F) (arg9.view.writes (Elt F) G9 (𝕃 k0_t1_loop.trips).2.2.1) = xhTile x S
      ∧ arg10.view.read (Elt F) (arg10.view.writes (Elt F) G10 (𝕃 k0_t1_loop.trips).2.2.2) = rsTile x S := by
  obtain ⟨a7, a8, a9, a10⟩ := rows_upto 𝒱 c bd i arg2 harg2 arg3 harg3 arg4 harg4 arg5 harg5 arg6 harg6 arg7 harg7 arg8 harg8 arg9 harg9 arg10 harg10 arg11 harg11 h1 X4 X5 X6 X11 x g b S hx hg hb hS G7 G8 G9 G10 _ (Nat.le_refl _)
  have hr : ∀ r : ℕ, r < 512 → r < 64 * k0_t1_loop.trips := fun r h => by rw [trips_eq]; omega
  exact ⟨funext fun y => a7 y (hr _ (y 0).isLt), funext fun y => a8 y (hr _ (y 0).isLt), funext fun y => a9 y (hr _ (y 0).isLt), funext fun y => a10 y (hr _ (y 0).isLt)⟩

end

end Cert.Kernel5Ideal.Own

end
-- ==== Proof.Down.lean ====
/- The down projection's launch: each column tile's product goes to its slice of the carried buffer; the last one also closes the rows. -/
module

public import proofs.«01_k».proof.Proof.DownLoop
public import proofs.«01_k».proof.Proof.Gen.Kernel5Ideal.Launch
public import proofs.«01_k».proof.Proof.Gen.Kernel5Ideal.Points
public import proofs.«01_k».proof.Proof.Gen.Kernel5Ideal.Frame
public import Idealize.ShloMosaic.Lib.Claim

@[expose] public section

set_option maxRecDepth 16384

noncomputable section

namespace Cert.Kernel5Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

/-- `S'` is the carried buffer `S` with slice `j` replaced by `p`. -/
def Filled (S S' : Vec F S4x512x512 .f32) (j : ℕ) (p : Vec F S1x512x512 .f32) : Prop :=
  (∀ y : S4x512x512.Idx, (y 0).val ≠ j → S' y = S y)
    ∧ ∀ (y : S4x512x512.Idx) (x : S1x512x512.Idx), (y 0).val = j → (y 1).val = (x 1).val → (y 2).val = (x 2).val → S' y = p x

set_option maxHeartbeats 1000000 in
/-- A point before the last column tile: the product goes to its slice of the carried buffer, the outputs are left alone. -/
theorem run_store (c : Dev nD) (i : grid0.Coords) (arg2 : Memref sig .tc .vmem S512x5632 .bf16) (h2 : arg2.IsWhole) (arg3 : Memref sig .tc .vmem S5632x512 .bf16) (h3 : arg3.IsWhole) (arg4 : Memref sig .tc .vmem S512x2048 .f32) (h4 : arg4.IsWhole) (arg5 : Memref sig .tc .vmem S1x2048 .f32) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .bf16) (h8 : arg8.IsWhole) (arg9 : Memref sig .tc .vmem S512x2048 .f32) (h9 : arg9.IsWhole) (arg10 : Memref sig .tc .vmem S512x1 .f32) (h10 : arg10.IsWhole) (arg11 : Memref sig .tc .vmem S4x512x512 .f32) (h11 : arg11.IsWhole)
    (hc1 : ¬ k0_cond1 i = 1#1) (x0 : Vec F S512x5632 .bf16) (x1 : Vec F S5632x512 .bf16) (x2 : Vec F S512x2048 .f32) (x3 x4 : Vec F S1x2048 .f32) (y5 : Vec F S512x2048 .f32) (y6 : Vec F S512x2048 .bf16) (y7 : Vec F S512x2048 .f32) (y8 : Vec F S512x1 .f32) (S : Vec F S4x512x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8
          ∗ (∃ S', ⌜Filled S S' (k0_off1 i 0) (k0_pay1 x0 x1)⌝ ∗ owns (c : Thread nD τ) arg11 fullShare S')) -∗ K ⟨⟩))
      ⊢ wp frame (wpE (defs₀ (F := F)) Variants.none c none) E (cc0_ffn_down_ln i arg2 h2 arg3 h3 arg4 h4 arg5 h5 arg6 h6 arg7 h7 arg8 h8 arg9 h9 arg10 h10 arg11 h11) K := by
  simp only [cc0_ffn_down_ln_eq_skeleton]; unfold cc0_ffn_down_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf0
  obtain rfl := h3.eq_unread hf1
  obtain rfl := h4.eq_unread hf2
  obtain rfl := h5.eq_unread hf3
  obtain rfl := h6.eq_unread hf4
  obtain rfl := h7.eq_unread hf5
  obtain rfl := h8.eq_unread hf6
  obtain rfl := h9.eq_unread hf7
  obtain rfl := h10.eq_unread hf8
  obtain rfl := h11.eq_unread hf9
  sl_exec (disch := first | sl_exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  iexists _; isplitr
  swap
  · iexists _; isplitr
    swap; · iexact H9
    ipureintro; rfl
  ipureintro
  rw [View.readAt_full arg2.view, View.readAt_full arg3.view, hf0, hf1]
  refine ⟨fun z hz => ?_, fun z x e0 e1 e2 => ?_⟩
  · rw [View.read_writes_cons_unit_of_not_mem _ _ _ _ _ z rfl 0 (by
      show (z 0).val < k0_off1 i 0 ∨ k0_off1 i 0 + 1 ≤ (z 0).val
      omega)]
    exact congrFun hf9 z
  · refine View.read_writes_cons_unit_of_mem _ _ _ _ _ z x rfl fun a => ?_
    fin_cases a
    · have : (x 0).val < 1 := (x 0).isLt
      show (z 0).val = k0_off1 i 0 + (x 0).val
      omega
    · show (z 1).val = 0 + (x 1).val
      omega
    · show (z 2).val = 0 + (x 2).val
      omega

set_option maxHeartbeats 4000000 in
/-- A last column tile: its product is stored, then the loop closes the tile's rows. -/
theorem run_last (c : Dev nD) (i : grid0.Coords) (arg2 : Memref sig .tc .vmem S512x5632 .bf16) (h2 : arg2.IsWhole) (arg3 : Memref sig .tc .vmem S5632x512 .bf16) (h3 : arg3.IsWhole) (arg4 : Memref sig .tc .vmem S512x2048 .f32) (h4 : arg4.IsWhole) (arg5 : Memref sig .tc .vmem S1x2048 .f32) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .bf16) (h8 : arg8.IsWhole) (arg9 : Memref sig .tc .vmem S512x2048 .f32) (h9 : arg9.IsWhole) (arg10 : Memref sig .tc .vmem S512x1 .f32) (h10 : arg10.IsWhole) (arg11 : Memref sig .tc .vmem S4x512x512 .f32) (h11 : arg11.IsWhole)
    (hc1 : k0_cond1 i = 1#1) (x0 : Vec F S512x5632 .bf16) (x1 : Vec F S5632x512 .bf16) (x2 : Vec F S512x2048 .f32) (x3 x4 : Vec F S1x2048 .f32) (y5 : Vec F S512x2048 .f32) (y6 : Vec F S512x2048 .bf16) (y7 : Vec F S512x2048 .f32) (y8 : Vec F S512x1 .f32) (S : Vec F S4x512x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ (∃ S', ⌜Filled S S' (k0_off1 i 0) (k0_pay1 x0 x1)⌝ ∗ owns (c : Thread nD τ) arg11 fullShare S'
            ∗ owns (c : Thread nD τ) arg7 fullShare (yTile x2 x3 x4 S') ∗ owns (c : Thread nD τ) arg8 fullShare (ybTile x2 x3 x4 S') ∗ owns (c : Thread nD τ) arg9 fullShare (xhTile x2 S') ∗ owns (c : Thread nD τ) arg10 fullShare (rsTile x2 S'))) -∗ K ⟨⟩))
      ⊢ wp frame (wpE (defs₀ (F := F)) Variants.none c none) E (cc0_ffn_down_ln i arg2 h2 arg3 h3 arg4 h4 arg5 h5 arg6 h6 arg7 h7 arg8 h8 arg9 h9 arg10 h10 arg11 h11) K := by
  simp only [cc0_ffn_down_ln_eq_skeleton]; unfold cc0_ffn_down_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf0
  obtain rfl := h3.eq_unread hf1
  obtain rfl := h4.eq_unread hf2
  obtain rfl := h5.eq_unread hf3
  obtain rfl := h6.eq_unread hf4
  obtain rfl := h7.eq_unread hf5
  obtain rfl := h8.eq_unread hf6
  obtain rfl := h9.eq_unread hf7
  obtain rfl := h10.eq_unread hf8
  obtain rfl := h11.eq_unread hf9
  sl_exec (disch := first | sl_exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  iexists _; isplitr
  swap
  isplitl [H9]
  · iexists _; isplitr
    swap; · iexact H9
    ipureintro; rfl
  isplitl [H5]
  · iexists _; isplitr
    swap; · iexact H5
    ipureintro
    exact (rows_all Variants.none c none i arg2 h2 arg3 h3 arg4 h4 arg5 h5 arg6 h6 arg7 h7 arg8 h8 arg9 h9 arg10 h10 arg11 h11 hc1 _ _ _ _ x2 x3 x4 _ hf2 hf3 hf4 rfl (h7.unread y5) (h8.unread y6) (h9.unread y7) (h10.unread y8)).1
  isplitl [H6]
  · iexists _; isplitr
    swap; · iexact H6
    ipureintro
    exact (rows_all Variants.none c none i arg2 h2 arg3 h3 arg4 h4 arg5 h5 arg6 h6 arg7 h7 arg8 h8 arg9 h9 arg10 h10 arg11 h11 hc1 _ _ _ _ x2 x3 x4 _ hf2 hf3 hf4 rfl (h7.unread y5) (h8.unread y6) (h9.unread y7) (h10.unread y8)).2.1
  isplitl [H7]
  · iexists _; isplitr
    swap; · iexact H7
    ipureintro
    exact (rows_all Variants.none c none i arg2 h2 arg3 h3 arg4 h4 arg5 h5 arg6 h6 arg7 h7 arg8 h8 arg9 h9 arg10 h10 arg11 h11 hc1 _ _ _ _ x2 x3 x4 _ hf2 hf3 hf4 rfl (h7.unread y5) (h8.unread y6) (h9.unread y7) (h10.unread y8)).2.2.1
  · iexists _; isplitr
    swap; · iexact H8
    ipureintro
    exact (rows_all Variants.none c none i arg2 h2 arg3 h3 arg4 h4 arg5 h5 arg6 h6 arg7 h7 arg8 h8 arg9 h9 arg10 h10 arg11 h11 hc1 _ _ _ _ x2 x3 x4 _ hf2 hf3 hf4 rfl (h7.unread y5) (h8.unread y6) (h9.unread y7) (h10.unread y8)).2.2.2
  ipureintro
  rw [View.readAt_full arg2.view, View.readAt_full arg3.view, hf0, hf1]
  refine ⟨fun z hz => ?_, fun z x e0 e1 e2 => ?_⟩
  · rw [View.read_writes_cons_unit_of_not_mem _ _ _ _ _ z rfl 0 (by
      show (z 0).val < k0_off1 i 0 ∨ k0_off1 i 0 + 1 ≤ (z 0).val
      omega)]
    exact congrFun hf9 z
  · refine View.read_writes_cons_unit_of_mem _ _ _ _ _ z x rfl fun a => ?_
    fin_cases a
    · have : (x 0).val < 1 := (x 0).isLt
      show (z 0).val = k0_off1 i 0 + (x 0).val
      omega
    · show (z 1).val = 0 + (x 1).val
      omega
    · show (z 2).val = 0 + (x 2).val
      omega

/-! ## The proof data -/

variable (m : (ℓ : Loc nD τ sig) → Buf (Elt F) ℓ) (ρ : Dev nD → PrngReg)

/-- The product of a point. -/
def part (c : Dev nD) (t : Fin cfg0.N) : Vec F S1x512x512 .f32 := k0_pay1 (iblk m c 0 t) (iblk m c 1 t)

/-- The point of the same rows and column tile `j`. -/
def mate (t : Fin cfg0.N) (j : Fin 4) : Fin cfg0.N := ⟨t.val / 4 * 4 + j.val, by have : t.val < 64 := t.isLt; show _ < 64; omega⟩

/-- The carried buffer after a last column tile. -/
def whole (c : Dev nD) (t : Fin cfg0.N) : Vec F S4x512x512 .f32 := fun z => part m c (mate t (z 0)) (ix3 0 (z 1) (z 2))

/-- What is known of the carried buffer before point `n`: the slices of the current rows' earlier points. -/
def Kept (c : Dev nD) (n : ℕ) (S : Vec F S4x512x512 .f32) : Prop :=
  ∀ t : Fin cfg0.N, t.val < n → n ≤ t.val / 4 * 4 + 4 → ∀ (z : S4x512x512.Idx) (x : S1x512x512.Idx),
    (z 0).val = t.val % 4 → (z 1).val = (x 1).val → (z 2).val = (x 2).val → S z = part m c t x

/-- The carried buffer whole. -/
abbrev carry : Memref sig .tc .vmem S4x512x512 .f32 := Memref.whole cc0_scratch0

/-- The invariant before point `n`. -/
def Inv (c : Dev nD) (n : ℕ) : sProp 𝕄 :=
  iprop((∃ S, ⌜Kept m c n S⌝ ∗ owns (c : Thread nD τ) carry fullShare S) ∗ (∃ r, prngReg c r))

theorem rest_eq (c : Dev nD) :
    (Pipeline.ΦA spec0 c : sProp 𝕄) = iprop((∃ d, owns (c : Thread nD τ) carry fullShare d) ∗ (∃ r, prngReg c r)) := by
  unfold Pipeline.ΦA; rw [scopedRest0_eq]; simp only [carry, owns_whole]; try rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yTile (iblk m c 2 t) (iblk m c 3 t) (iblk m c 4 t) (whole m c t)
    | ⟨6, _⟩ => ybTile (iblk m c 2 t) (iblk m c 3 t) (iblk m c 4 t) (whole m c t)
    | ⟨7, _⟩ => xhTile (iblk m c 2 t) (whole m c t)
    | ⟨8, _⟩ => rsTile (iblk m c 2 t) (whole m c t)
  Φ n := Inv m c n.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = yTile (iblk m c 2 t) (iblk m c 3 t) (iblk m c 4 t) (whole m c t) := by dsimp only [dats]
theorem after_6 (c : Dev nD) (t : Fin cfg0.N) : (dats m 0 c).after 6 t = ybTile (iblk m c 2 t) (iblk m c 3 t) (iblk m c 4 t) (whole m c t) := by dsimp only [dats]
theorem after_7 (c : Dev nD) (t : Fin cfg0.N) : (dats m 0 c).after 7 t = xhTile (iblk m c 2 t) (whole m c t) := by dsimp only [dats]
theorem after_8 (c : Dev nD) (t : Fin cfg0.N) : (dats m 0 c).after 8 t = rsTile (iblk m c 2 t) (whole m c t) := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d
theorem before_4 (c : Dev nD) (t : Fin cfg0.N) (d) : (dats m 0 c).before 4 t d = iblk m c 4 t := before0_4_of m _ (A_eq m c 4) (after_4 m c) t d

/-! ## The points' cases -/

theorem early_cases : ∀ t : Fin cfg0.N, t.val % 4 < 3 → ¬ k0_cond1 (grid0.coords t) = 1#1 ∧ k0_off1 (grid0.coords t) 0 = t.val % 4
    ∧ cfg0.idle 5 (cfg0.grid.coords t) = true ∧ cfg0.idle 6 (cfg0.grid.coords t) = true ∧ cfg0.idle 7 (cfg0.grid.coords t) = true ∧ cfg0.idle 8 (cfg0.grid.coords t) = true
    ∧ (cfg0.win 5).flush t = false ∧ (cfg0.win 6).flush t = false ∧ (cfg0.win 7).flush t = false ∧ (cfg0.win 8).flush t = false :=
  (by decide +kernel : ∀ t : Fin grid0.N, t.val % 4 < 3 → ¬ k0_cond1 (grid0.coords t) = 1#1 ∧ k0_off1 (grid0.coords t) 0 = t.val % 4
    ∧ idle0 5 (grid0.coords t) = true ∧ idle0 6 (grid0.coords t) = true ∧ idle0 7 (grid0.coords t) = true ∧ idle0 8 (grid0.coords t) = true
    ∧ win0_5.flush t = false ∧ win0_6.flush t = false ∧ win0_7.flush t = false ∧ win0_8.flush t = false)

theorem last_cases : ∀ t : Fin cfg0.N, ¬ t.val % 4 < 3 → k0_cond1 (grid0.coords t) = 1#1 ∧ k0_off1 (grid0.coords t) 0 = t.val % 4
    ∧ cfg0.idle 5 (cfg0.grid.coords t) = false ∧ cfg0.idle 6 (cfg0.grid.coords t) = false ∧ cfg0.idle 7 (cfg0.grid.coords t) = false ∧ cfg0.idle 8 (cfg0.grid.coords t) = false :=
  (by decide +kernel : ∀ t : Fin grid0.N, ¬ t.val % 4 < 3 → k0_cond1 (grid0.coords t) = 1#1 ∧ k0_off1 (grid0.coords t) 0 = t.val % 4
    ∧ idle0 5 (grid0.coords t) = false ∧ idle0 6 (grid0.coords t) = false ∧ idle0 7 (grid0.coords t) = false ∧ idle0 8 (grid0.coords t) = false)

/-- The invariant's step. -/
theorem Kept.step {c : Dev nD} {t : Fin cfg0.N} {S S' : Vec F S4x512x512 .f32} (h : Kept m c t.val S)
    (hS : Filled S S' (t.val % 4) (part m c t)) : Kept m c (t.val + 1) S' := by
  intro t' h1 h2 z x e0 e1 e2
  by_cases he : t' = t
  · subst he; exact hS.2 z x e0 e1 e2
  · have hne : t'.val ≠ t.val := fun h => he (Fin.ext h)
    rw [hS.1 z (by omega)]
    exact h t' (by omega) (by omega) z x e0 e1 e2

/-- At a last column tile the carried buffer is whole. -/
theorem Kept.whole {c : Dev nD} {t : Fin cfg0.N} (ht : ¬ t.val % 4 < 3) {S : Vec F S4x512x512 .f32} (h : Kept m c (t.val + 1) S) :
    S = whole m c t := by
  funext z
  have hz : (z 0).val < 4 := (z 0).isLt
  have hm : (mate t (z 0)).val = t.val / 4 * 4 + (z 0).val := rfl
  exact h (mate t (z 0)) (by omega) (by omega) z (ix3 0 (z 1) (z 2)) (by omega) rfl rfl

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t)
    ∗ (dats m 0 c).leavesExact 5 t ∗ (dats m 0 c).leavesExact 6 t ∗ (dats m 0 c).leavesExact 7 t ∗ (dats m 0 c).leavesExact 8 t)

theorem leaves_live_5 (c : Dev nD) (t : Fin cfg0.N) (h : cfg0.idle 5 (cfg0.grid.coords t) = false) :
    (dats m 0 c).leavesExact 5 t = owns (c : Thread nD τ) (st0_5 t) fullShare (yTile (iblk m c 2 t) (iblk m c 3 t) (iblk m c 4 t) (whole m c t)) := by
  unfold Dat.leavesExact; rw [h, ← after_5 m c t]

theorem leaves_live_6 (c : Dev nD) (t : Fin cfg0.N) (h : cfg0.idle 6 (cfg0.grid.coords t) = false) :
    (dats m 0 c).leavesExact 6 t = owns (c : Thread nD τ) (st0_6 t) fullShare (ybTile (iblk m c 2 t) (iblk m c 3 t) (iblk m c 4 t) (whole m c t)) := by
  unfold Dat.leavesExact; rw [h, ← after_6 m c t]

theorem leaves_live_7 (c : Dev nD) (t : Fin cfg0.N) (h : cfg0.idle 7 (cfg0.grid.coords t) = false) :
    (dats m 0 c).leavesExact 7 t = owns (c : Thread nD τ) (st0_7 t) fullShare (xhTile (iblk m c 2 t) (whole m c t)) := by
  unfold Dat.leavesExact; rw [h, ← after_7 m c t]

theorem leaves_live_8 (c : Dev nD) (t : Fin cfg0.N) (h : cfg0.idle 8 (cfg0.grid.coords t) = false) :
    (dats m 0 c).leavesExact 8 t = owns (c : Thread nD τ) (st0_8 t) fullShare (rsTile (iblk m c 2 t) (whole m c t)) := by
  unfold Dat.leavesExact; rw [h, ← after_8 m c t]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4,
    show (dats m 0 c).Φ t.castSucc = Inv m c t.val from rfl, show (dats m 0 c).Φ t.succ = Inv m c (t.val + 1) from rfl]
  unfold Inv
  by_cases ht : t.val % 4 < 3
  · obtain ⟨hc1, ho, i5, i6, i7, i8, g5, g6, g7, g8⟩ := early_cases t ht
    rw [Dat.leavesExact_idle _ _ _ i5 g5, Dat.leavesExact_idle _ _ _ i6 g6, Dat.leavesExact_idle _ _ _ i7 g7, Dat.leavesExact_idle _ _ _ i8 g8]
    iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_store c (grid0.coords t) _ _ _ _ _ _ _ _ _ _ _ _ _ _ _ _ _ _ _ _ hc1 (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) S Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, ⟨%S', %hS', HS⟩⟩
    isplitl [HS Hg]
    · isplitl [HS]
      · iexists S'; isplitr
        · ipureintro; exact Kept.step m hS (ho ▸ hS')
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexists d6; iexact H6
    isplitl [H7]; · iexists d7; iexact H7
    iexists d8; iexact H8
  · obtain ⟨hc1, ho, i5, i6, i7, i8⟩ := last_cases t ht
    rw [leaves_live_5 m c t i5, leaves_live_6 m c t i6, leaves_live_7 m c t i7, leaves_live_8 m c t i8]
    iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_last c (grid0.coords t) _ _ _ _ _ _ _ _ _ _ _ _ _ _ _ _ _ _ _ _ hc1 (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) S Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, ⟨%S', %hS', HS, H5, H6, H7, H8⟩⟩
    have hk : Kept m c (t.val + 1) S' := Kept.step m hS (ho ▸ hS')
    obtain rfl := Kept.whole m ht hk
    isplitl [HS Hg]
    · isplitl [HS]
      · iexists _; isplitr
        · ipureintro; exact hk
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem enter (c : Dev nD) : Pipeline.ΦA spec0 c ⊢ (dats m 0 c).Φ 0 := by
  rw [show (dats m 0 c).Φ 0 = Inv m c 0 from rfl, rest_eq]; unfold Inv
  iintro ⟨⟨%d, H⟩, Hg⟩
  isplitl [H]
  · iexists d; isplitr
    · ipureintro; exact fun _ h => absurd h (Nat.not_lt_zero _)
    iexact H
  iexact Hg

theorem leave (c : Dev nD) : (dats m 0 c).Φ (Fin.last cfg0.N) ⊢ Pipeline.ΦA spec0 c := by
  rw [show (dats m 0 c).Φ (Fin.last cfg0.N) = Inv m c cfg0.N from rfl, rest_eq]; unfold Inv
  iintro ⟨⟨%S, -, H⟩, Hg⟩
  isplitl [H]
  · iexists S; iexact H
  iexact Hg

/-- Every window holds its array whole. -/
theorem full_share (c : Dev nD) (w : Fin cfg0.W) : (dats m 0 c).share w = fullShare := by
  unfold Dat.share; split <;> rfl

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => full_share m c w)
    (howed := fun _ _ => rfl) (V := V m) (hmain := hmain m Variants.none) (hA := A_eq m) (hin := enter m) (hout := leave m)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel5Ideal.Own

end
-- ==== Proof.DownValue.lean ====
/- The down projection's final arrays: each row is the residual plus half the product, normalised over the row. -/
module

public import proofs.«01_k».proof.Proof.Down
public import Idealize.ShloMosaic.Lib.Pipeline.ValueKit
public import Idealize.ShloMosaic.Lib.Pointwise
public import proofs.«01_k».proof.Proof.Gen.Reference5Ideal.Run

@[expose] public section

set_option maxRecDepth 16384

noncomputable section

namespace Cert.Kernel5Ideal.Own

open Cert.Kernel5Ideal Cert.Kernel5Ideal.Gen
open Idealize.ShloMosaic Idealize.ShloMosaic.TcCoe Idealize.ShloMosaic.Tactic
open Idealize.SL Idealize.SL.Sem
open Idealize.ShloMosaic.Pipeline (Dat Cfg Window)
open scoped BigOperators

/-! ## One row -/

/-- A row less its mean. -/
def rowCent (f : Fin 2048 → EReal) (j : Fin 2048) : EReal := f j - Ideal.div (∑ k, f k) (Ideal.ofBits .f32 0x45000000#32)

/-- A row's inverse deviation. -/
def rowRs (f : Fin 2048 → EReal) : EReal :=
  Ideal.rsqrt (Ideal.div (∑ k, rowCent f k * rowCent f k) (Ideal.ofBits .f32 0x45000000#32) + Ideal.ofBits .f32 0x3727C5AC#32)

/-- A row normalised. -/
def rowXh (f : Fin 2048 → EReal) (j : Fin 2048) : EReal := rowCent f j * rowRs f

/-! ## A trip's rows -/

/-- The values a trip normalises. -/
def zT (v16 : Vec Ideal S64x2048 .f32) (v20 v23 v26 v29 : Vec Ideal S1x64x512 .f32) : FVec Ideal S64x2048 .f32 :=
  addf (mulf (broadcast S64x2048 (Scalar.ofBits .f32 0x3F9837F0#32)) v16)
    (mulf (broadcast S64x2048 (Scalar.ofBits .f32 0x3F000000#32))
      (concatenate S64x2048 1 [⟨S64x512, shapeCast S64x512 v20 shapeCasts_S1x64x512_S64x512⟩, ⟨S64x512, shapeCast S64x512 v23 shapeCasts_S1x64x512_S64x512⟩,
        ⟨S64x512, shapeCast S64x512 v26 shapeCasts_S1x64x512_S64x512⟩, ⟨S64x512, shapeCast S64x512 v29 shapeCasts_S1x64x512_S64x512⟩]
        concatenates_S64x512_S64x512_S64x512_S64x512_S64x2048_d1))

def centT (z : FVec Ideal S64x2048 .f32) : FVec Ideal S64x2048 .f32 :=
  subf z (broadcastTo S64x2048 (divf (shapeCast S64x1 (multiReduction .add [1] S64 z 0x00000000#32 reduces_S64x2048_S64 (.inl rfl) rfl) shapeCasts_S64_S64x1)
    (broadcast S64x1 (Scalar.ofBits .f32 0x45000000#32))) broadcasts_S64x1_S64x2048)

theorem pay4_eq (v16 v20 v23 v26 v29) : k0_pay4 (F := Ideal) v16 v20 v23 v26 v29 = centT (zT v16 v20 v23 v26 v29) := rfl

theorem centT_apply (z : FVec Ideal S64x2048 .f32) (y : S64x2048.Idx) : centT z y = rowCent (fun j => z (ix2 (y 0) j)) (y 1) := by
  pointwise [centT, rowCent]

theorem rs_apply (v16 v20 v23 v26 v29) (y : S64x1.Idx) :
    k0_pay5 (F := Ideal) v16 v20 v23 v26 v29 y = rowRs (fun j => zT v16 v20 v23 v26 v29 (ix2 (y 0) j)) := by
  unfold k0_pay5
  rw [pay4_eq]
  generalize zT v16 v20 v23 v26 v29 = z
  pointwise [rowRs, centT, rowCent]

theorem xh_apply (v16 v20 v23 v26 v29) (y : S64x2048.Idx) :
    k0_pay6 (F := Ideal) v16 v20 v23 v26 v29 y = rowXh (fun j => zT v16 v20 v23 v26 v29 (ix2 (y 0) j)) (y 1) := by
  unfold k0_pay6
  pointwise []
  rw [pay4_eq, centT_apply, rs_apply]
  rfl

/-- The value at row `r` and column `j` of a tile before the norm. -/
def zAt (x : Vec Ideal S512x2048 .f32) (S : Vec Ideal S4x512x512 .f32) (r : Fin 512) (j : Fin 2048) : EReal :=
  Ideal.ofBits .f32 0x3F9837F0#32 * x (ix2 r j)
    + Ideal.ofBits .f32 0x3F000000#32 * S (ix3 (⟨j.val / 512, by omega⟩ : Fin 4) r (⟨j.val % 512, Nat.mod_lt _ (by decide)⟩ : Fin 512))

theorem S_congr (S : Vec Ideal S4x512x512 .f32) {a a' : Fin 4} {b b' c c' : Fin 512} (h0 : a.val = a'.val) (h1 : b.val = b'.val) (h2 : c.val = c'.val) :
    S (ix3 a b c) = S (ix3 a' b' c') := by
  rw [Fin.ext h0, Fin.ext h1, Fin.ext h2]

theorem zT_apply (x : Vec Ideal S512x2048 .f32) (S : Vec Ideal S4x512x512 .f32) (r : Fin 512) (j : Fin 2048) :
    zT (rowsOf x (tripOf r)) (sliceOf S 0 (tripOf r)) (sliceOf S 1 (tripOf r)) (sliceOf S 2 (tripOf r)) (sliceOf S 3 (tripOf r)) (ix2 (within r) j)
      = zAt x S r j := by
  have hr : 64 * (tripOf r).val + (within r).val = r.val := Nat.div_add_mod r.val 64
  pointwise [zT, rowsOf, sliceOf, zAt]
  congr 1
  · exact congrArg (fun q : Fin 512 => Ideal.ofBits .f32 0x3F9837F0#32 * x (ix2 q j)) (Fin.ext hr)
  · refine congrArg (fun q => Ideal.ofBits .f32 0x3F000000#32 * q) ?_
    have hj := j.isLt
    split_ifs <;> exact S_congr S (by simp <;> omega) hr (by simp <;> omega)

theorem xhTile_apply (x : Vec Ideal S512x2048 .f32) (S : Vec Ideal S4x512x512 .f32) (y : S512x2048.Idx) : xhTile x S y = rowXh (zAt x S (y 0)) (y 1) := by
  unfold xhTile xhOf
  rw [xh_apply]
  exact congrArg (fun f => rowXh f (y 1)) (funext fun j => zT_apply x S (y 0) j)

theorem rsTile_apply (x : Vec Ideal S512x2048 .f32) (S : Vec Ideal S4x512x512 .f32) (y : S512x1.Idx) : rsTile x S y = rowRs (zAt x S (y 0)) := by
  unfold rsTile rsOf
  rw [rs_apply]
  exact congrArg rowRs (funext fun j => zT_apply x S (y 0) j)

theorem yTile_apply (x : Vec Ideal S512x2048 .f32) (g b : Vec Ideal S1x2048 .f32) (S : Vec Ideal S4x512x512 .f32) (y : S512x2048.Idx) :
    yTile x g b S y = rowXh (zAt x S (y 0)) (y 1) * g (ix2 0 (y 1)) + b (ix2 0 (y 1)) := by
  rw [← xhTile_apply]
  pointwise [yTile, k0_pay2, k0_pay7, xhTile]

theorem ybTile_apply (x : Vec Ideal S512x2048 .f32) (g b : Vec Ideal S1x2048 .f32) (S : Vec Ideal S4x512x512 .f32) (y : S512x2048.Idx) :
    ybTile x g b S y = rowXh (zAt x S (y 0)) (y 1) * g (ix2 0 (y 1)) + b (ix2 0 (y 1)) := by
  rw [← yTile_apply]
  rfl

/-! ## The launch's arrays -/

variable (m : (ℓ : Loc nD τ sig) → Buf (Elt Ideal) ℓ) (ρ : Dev nD → PrngReg)

/-- One product of the projection. -/
def dotAt (h : FVec Ideal S8192x5632 .bf16) (w : FVec Ideal S5632x2048 .bf16) (r : Fin 8192) (j : Fin 2048) : EReal :=
  ∑ k : Fin 5632, h (ix2 r k) * w (ix2 k j)

/-- The row before the norm, over the arrays the region finds. -/
def zRow (h : FVec Ideal S8192x5632 .bf16) (w : FVec Ideal S5632x2048 .bf16) (x : FVec Ideal S8192x2048 .f32) (r : Fin 8192) (j : Fin 2048) : EReal :=
  Ideal.ofBits .f32 0x3F9837F0#32 * x (ix2 r j) + Ideal.ofBits .f32 0x3F000000#32 * dotAt h w r j

theorem idx_mate : ∀ t : Fin cfg0.N, ∀ q : Fin 4, win0_0.index (mate t q) = ![t.val / 4, 0] ∧ win0_1.index (mate t q) = ![0, q.val] :=
  (by decide +kernel : ∀ t : Fin grid0.N, ∀ q : Fin 4, win0_0.index (mate t q) = ![t.val / 4, 0] ∧ win0_1.index (mate t q) = ![0, q.val])

theorem idx_rest : ∀ t : Fin cfg0.N, win0_2.index t = ![t.val / 4, 0] ∧ win0_3.index t = ![0, 0] ∧ win0_4.index t = ![0, 0]
    ∧ win0_5.index t = ![t.val / 4, 0] ∧ win0_6.index t = ![t.val / 4, 0] ∧ win0_7.index t = ![t.val / 4, 0] ∧ win0_8.index t = ![t.val / 4, 0] :=
  (by decide +kernel : ∀ t : Fin grid0.N, _)

/-- The tile's row `r` in the whole array. -/
def rowOf (t : Fin cfg0.N) (r : Fin 512) : Fin 8192 := ⟨512 * (t.val / 4) + r.val, by have : t.val < 64 := t.isLt; omega⟩

theorem part_apply (c : Dev nD) (t : Fin cfg0.N) (q : Fin 4) (r s : Fin 512) : part m c (mate t q) (ix3 0 r s)
    = dotAt (V m c main_v0) (V m c main_v1) (rowOf t r) ⟨512 * q.val + s.val, by omega⟩ := by
  pointwise [part, k0_pay1, dotAt, rowOf]
  obtain ⟨h0, h1⟩ := idx_mate t q
  blk_point [iblk, h0, h1]

theorem zAt_apply (c : Dev nD) (t : Fin cfg0.N) (r : Fin 512) :
    zAt (iblk m c 2 t) (whole m c t) r = zRow (V m c main_v0) (V m c main_v1) (V m c main_arg2) (rowOf t r) := by
  funext j
  have hj : (⟨512 * (j.val / 512) + j.val % 512, by omega⟩ : Fin 2048) = j := Fin.ext (Nat.div_add_mod j.val 512)
  have hp : whole m c t (ix3 (⟨j.val / 512, by omega⟩ : Fin 4) r (⟨j.val % 512, Nat.mod_lt _ (by decide)⟩ : Fin 512))
      = dotAt (V m c main_v0) (V m c main_v1) (rowOf t r) j :=
    (part_apply m c t ⟨j.val / 512, by omega⟩ r ⟨j.val % 512, Nat.mod_lt _ (by decide)⟩).trans (congrArg _ hj)
  unfold zAt zRow
  rw [hp]
  congr 1
  obtain ⟨h2, -⟩ := idx_rest t
  pointwise [rowOf]
  blk_point [iblk, h2]

/-- The four arrays over the arrays the region finds. -/
def yOf (h : FVec Ideal S8192x5632 .bf16) (w : FVec Ideal S5632x2048 .bf16) (x : FVec Ideal S8192x2048 .f32) (g b : FVec Ideal S1x2048 .f32) : FVec Ideal S8192x2048 .f32 :=
  fun i => rowXh (zRow h w x (i 0)) (i 1) * g (ix2 0 (i 1)) + b (ix2 0 (i 1))
def ybOf (h : FVec Ideal S8192x5632 .bf16) (w : FVec Ideal S5632x2048 .bf16) (x : FVec Ideal S8192x2048 .f32) (g b : FVec Ideal S1x2048 .f32) : FVec Ideal S8192x2048 .bf16 :=
  fun i => rowXh (zRow h w x (i 0)) (i 1) * g (ix2 0 (i 1)) + b (ix2 0 (i 1))
def xhOfAll (h : FVec Ideal S8192x5632 .bf16) (w : FVec Ideal S5632x2048 .bf16) (x : FVec Ideal S8192x2048 .f32) : FVec Ideal S8192x2048 .f32 :=
  fun i => rowXh (zRow h w x (i 0)) (i 1)
def rsOfAll (h : FVec Ideal S8192x5632 .bf16) (w : FVec Ideal S5632x2048 .bf16) (x : FVec Ideal S8192x2048 .f32) : FVec Ideal S8192x1 .f32 :=
  fun i => rowRs (zRow h w x (i 0))

theorem row_3 (c : Dev nD) (t : Fin cfg0.N) (j : Fin 2048) : (iblk m c 3 t : FVec Ideal S1x2048 .f32) (ix2 0 j) = (V m c main_arg3 : FVec Ideal S1x2048 .f32) (ix2 0 j) := by
  obtain ⟨h2, h3, h4, -⟩ := idx_rest t
  pointwise []
  blk_point [iblk, h3]

theorem row_4 (c : Dev nD) (t : Fin cfg0.N) (j : Fin 2048) : (iblk m c 4 t : FVec Ideal S1x2048 .f32) (ix2 0 j) = (V m c main_arg4 : FVec Ideal S1x2048 .f32) (ix2 0 j) := by
  obtain ⟨h2, h3, h4, -⟩ := idx_rest t
  pointwise []
  blk_point [iblk, h4]

/-! Where an entry of a tile lies in its array. -/

theorem place_5 (A : FVec Ideal S8192x2048 .f32) (t : Fin cfg0.N) (y : S512x2048.Idx) : A (ix2 (rowOf t (y 0)) (y 1)) = A (((cfg0.win 5).blk t).view.emb y) := by
  obtain ⟨-, -, -, h, -⟩ := idx_rest t
  pointwise [rowOf]
  blk_point [h]

theorem place_6 (A : FVec Ideal S8192x2048 .bf16) (t : Fin cfg0.N) (y : S512x2048.Idx) : A (ix2 (rowOf t (y 0)) (y 1)) = A (((cfg0.win 6).blk t).view.emb y) := by
  obtain ⟨-, -, -, -, h, -⟩ := idx_rest t
  pointwise [rowOf]
  blk_point [h]

theorem place_7 (A : FVec Ideal S8192x2048 .f32) (t : Fin cfg0.N) (y : S512x2048.Idx) : A (ix2 (rowOf t (y 0)) (y 1)) = A (((cfg0.win 7).blk t).view.emb y) := by
  obtain ⟨-, -, -, -, -, h, -⟩ := idx_rest t
  pointwise [rowOf]
  blk_point [h]

theorem place_8 (A : FVec Ideal S8192x1 .f32) (t : Fin cfg0.N) (y : S512x1.Idx) : A (ix2 (rowOf t (y 0)) (y 1)) = A (((cfg0.win 8).blk t).view.emb y) := by
  obtain ⟨-, -, -, -, -, -, h⟩ := idx_rest t
  pointwise [rowOf]
  blk_point [h]

theorem point_5 (c : Dev nD) (t : Fin cfg0.N) (y) : yTile (iblk m c 2 t) (iblk m c 3 t) (iblk m c 4 t) (whole m c t) y
    = yOf (V m c main_v0) (V m c main_v1) (V m c main_arg2) (V m c main_arg3) (V m c main_arg4) (((cfg0.win 5).blk t).view.emb y) := by
  refine (yTile_apply _ _ _ _ y).trans ?_
  refine (congrArg₂ (fun u v => u + v) (congrArg₂ (fun u v => u * v) (congrArg (fun f => rowXh f (y 1)) (zAt_apply m c t (y 0))) (row_3 m c t (y 1))) (row_4 m c t (y 1))).trans ?_
  exact place_5 (yOf (V m c main_v0) (V m c main_v1) (V m c main_arg2) (V m c main_arg3) (V m c main_arg4)) t y

theorem point_6 (c : Dev nD) (t : Fin cfg0.N) (y) : ybTile (iblk m c 2 t) (iblk m c 3 t) (iblk m c 4 t) (whole m c t) y
    = ybOf (V m c main_v0) (V m c main_v1) (V m c main_arg2) (V m c main_arg3) (V m c main_arg4) (((cfg0.win 6).blk t).view.emb y) := by
  refine (ybTile_apply _ _ _ _ y).trans ?_
  refine (congrArg₂ (fun u v => u + v) (congrArg₂ (fun u v => u * v) (congrArg (fun f => rowXh f (y 1)) (zAt_apply m c t (y 0))) (row_3 m c t (y 1))) (row_4 m c t (y 1))).trans ?_
  exact place_6 (ybOf (V m c main_v0) (V m c main_v1) (V m c main_arg2) (V m c main_arg3) (V m c main_arg4)) t y

theorem point_7 (c : Dev nD) (t : Fin cfg0.N) (y) : xhTile (iblk m c 2 t) (whole m c t) y
    = xhOfAll (V m c main_v0) (V m c main_v1) (V m c main_arg2) (((cfg0.win 7).blk t).view.emb y) := by
  refine (xhTile_apply _ _ y).trans ((congrArg (fun f => rowXh f (y 1)) (zAt_apply m c t (y 0))).trans ?_)
  exact place_7 (xhOfAll (V m c main_v0) (V m c main_v1) (V m c main_arg2)) t y

theorem point_8 (c : Dev nD) (t : Fin cfg0.N) (y) : rsTile (iblk m c 2 t) (whole m c t) y
    = rsOfAll (V m c main_v0) (V m c main_v1) (V m c main_arg2) (((cfg0.win 8).blk t).view.emb y) := by
  refine (rsTile_apply _ _ y).trans ((congrArg rowRs (zAt_apply m c t (y 0))).trans ?_)
  exact place_8 (rsOfAll (V m c main_v0) (V m c main_v1) (V m c main_arg2)) t y

theorem final_5 (c : Dev nD) : (dats m 0 c).arrAt 5 cfg0.N = yOf (V m c main_v0) (V m c main_v1) (V m c main_arg2) (V m c main_arg3) (V m c main_arg4) := by
  refine (dats m 0 c).arrAt_eq_of_covers 5 _ (by decide +kernel) fun t hf y => ?_
  blk_simp
  rw [after_5]
  exact point_5 m c t y

theorem final_6 (c : Dev nD) : (dats m 0 c).arrAt 6 cfg0.N = ybOf (V m c main_v0) (V m c main_v1) (V m c main_arg2) (V m c main_arg3) (V m c main_arg4) := by
  refine (dats m 0 c).arrAt_eq_of_covers 6 _ (by decide +kernel) fun t hf y => ?_
  blk_simp
  rw [after_6]
  exact point_6 m c t y

theorem final_7 (c : Dev nD) : (dats m 0 c).arrAt 7 cfg0.N = xhOfAll (V m c main_v0) (V m c main_v1) (V m c main_arg2) := by
  refine (dats m 0 c).arrAt_eq_of_covers 7 _ (by decide +kernel) fun t hf y => ?_
  blk_simp
  rw [after_7]
  exact point_7 m c t y

theorem final_8 (c : Dev nD) : (dats m 0 c).arrAt 8 cfg0.N = rsOfAll (V m c main_v0) (V m c main_v1) (V m c main_arg2) := by
  refine (dats m 0 c).arrAt_eq_of_covers 8 _ (by decide +kernel) fun t hf y => ?_
  blk_simp
  rw [after_8]
  exact point_8 m c t y

theorem at_v0 (c : Dev nD) : V m c main_v0 = (truncf .bf16 (m ((c : Thread nD τ).loc main_arg0) : FVec Ideal S8192x5632 .f32) Cert.Kernel5Ideal.Gen.bitsLt_bf16_f32 : FVec Ideal S8192x5632 .bf16) := by
  unfold V; after_results_simp <;> rfl
theorem at_v1 (c : Dev nD) : V m c main_v1 = (truncf .bf16 (m ((c : Thread nD τ).loc main_arg1) : FVec Ideal S5632x2048 .f32) Cert.Kernel5Ideal.Gen.bitsLt_bf16_f32 : FVec Ideal S5632x2048 .bf16) := by
  unfold V; after_results_simp <;> rfl

/-! ## The reference's terms -/

section
open Cert.Reference5Ideal Cert.Reference5Ideal.Gen
variable (x0 : FVec Ideal S8192x5632 .f32) (x1 : FVec Ideal S5632x2048 .f32) (x2 : FVec Ideal S8192x2048 .f32) (x3 x4 : FVec Ideal S1x2048 .f32)

abbrev refZ : FVec Ideal S8192x2048 .f32 :=
  addf (mulf (broadcastInDim S8192x2048 ![] bcast_S_S8192x2048 (constant S_ .f32 0x3F9837F0#32)) x2)
    (mulf (broadcastInDim S8192x2048 ![] bcast_S_S8192x2048 (constant S_ .f32 0x3F000000#32)) (Host.dotGeneral dot_S8192x5632_S5632x2048_S8192x2048_1_0_0_1_n_n none x0 x1))

abbrev meanOf (z : FVec Ideal S8192x2048 .f32) : FVec Ideal S8192x1 .f32 :=
  Host.divf (broadcastInDim S8192x1 ![0] bcast_S8192_S8192x1_0 (Host.reduceAdd z (constant S_ .f32 0x00000000#32) reducesTo_S8192x2048_S8192_d1 h_S_))
    (broadcastInDim S8192x1 ![] bcast_S_S8192x1 (constant S_ .f32 0x45000000#32))

abbrev centOf (z : FVec Ideal S8192x2048 .f32) : FVec Ideal S8192x2048 .f32 := subf z (broadcastInDim S8192x2048 ![0, 1] bcast_S8192x1_S8192x2048_0_1 (meanOf z))

abbrev refRsOf (z : FVec Ideal S8192x2048 .f32) : FVec Ideal S8192x1 .f32 :=
  Host.rsqrt (addf (meanOf (mulf (centOf z) (centOf z))) (broadcastInDim S8192x1 ![] bcast_S_S8192x1 (constant S_ .f32 0x3727C5AC#32)))

abbrev refXhOf (z : FVec Ideal S8192x2048 .f32) : FVec Ideal S8192x2048 .f32 :=
  mulf (centOf z) (broadcastInDim S8192x2048 ![0, 1] bcast_S8192x1_S8192x2048_0_1 (refRsOf z))

abbrev scaled (q : FVec Ideal S8192x2048 .f32) : FVec Ideal S8192x2048 .f32 :=
  addf (mulf q (broadcastInDim S8192x2048 ![0, 1] bcast_S1x2048_S8192x2048_0_1 x3)) (broadcastInDim S8192x2048 ![0, 1] bcast_S1x2048_S8192x2048_0_1 x4)

abbrev refYOf (z : FVec Ideal S8192x2048 .f32) : FVec Ideal S8192x2048 .f32 := scaled x3 x4 (refXhOf z)

theorem scaled_apply (q : FVec Ideal S8192x2048 .f32) (i : S8192x2048.Idx) : scaled x3 x4 q i = q i * x3 (ix2 0 (i 1)) + x4 (ix2 0 (i 1)) := by
  pointwise [scaled]

theorem refZ_apply (r : Fin 8192) (j : Fin 2048) : refZ x0 x1 x2 (ix2 r j) = zRow (truncf .bf16 x0 Cert.Kernel5Ideal.Gen.bitsLt_bf16_f32) (truncf .bf16 x1 Cert.Kernel5Ideal.Gen.bitsLt_bf16_f32) x2 r j := by
  pointwise [refZ, zRow, dotAt]

theorem refRs_apply (z : FVec Ideal S8192x2048 .f32) (i : S8192x1.Idx) : refRsOf z i = rowRs (fun j => z (ix2 (i 0) j)) := by
  pointwise [refRsOf, centOf, meanOf, rowRs, rowCent]

theorem refXh_apply (z : FVec Ideal S8192x2048 .f32) (i : S8192x2048.Idx) : refXhOf z i = rowXh (fun j => z (ix2 (i 0) j)) (i 1) := by
  pointwise [refXhOf, refRsOf, centOf, meanOf, rowXh, rowRs, rowCent]

theorem y_eq : yOf (truncf .bf16 x0 Cert.Kernel5Ideal.Gen.bitsLt_bf16_f32) (truncf .bf16 x1 Cert.Kernel5Ideal.Gen.bitsLt_bf16_f32) x2 x3 x4 = refYOf x3 x4 (refZ x0 x1 x2) := by
  funext i
  have h : refXhOf (refZ x0 x1 x2) i = rowXh (zRow (truncf .bf16 x0 Cert.Kernel5Ideal.Gen.bitsLt_bf16_f32) (truncf .bf16 x1 Cert.Kernel5Ideal.Gen.bitsLt_bf16_f32) x2 (i 0)) (i 1) :=
    (refXh_apply _ i).trans (congrArg (fun f => rowXh f (i 1)) (funext fun j => refZ_apply x0 x1 x2 (i 0) j))
  exact ((scaled_apply x3 x4 _ i).trans (congrArg (fun u => u * x3 (ix2 0 (i 1)) + x4 (ix2 0 (i 1))) h)).symm

theorem yb_eq : ybOf (truncf .bf16 x0 Cert.Kernel5Ideal.Gen.bitsLt_bf16_f32) (truncf .bf16 x1 Cert.Kernel5Ideal.Gen.bitsLt_bf16_f32) x2 x3 x4 = truncf .bf16 (refYOf x3 x4 (refZ x0 x1 x2)) Cert.Kernel5Ideal.Gen.bitsLt_bf16_f32 := by
  rw [← y_eq]
  rfl

theorem xh_eq : xhOfAll (truncf .bf16 x0 Cert.Kernel5Ideal.Gen.bitsLt_bf16_f32) (truncf .bf16 x1 Cert.Kernel5Ideal.Gen.bitsLt_bf16_f32) x2 = refXhOf (refZ x0 x1 x2) := by
  funext i
  exact ((refXh_apply _ i).trans (congrArg (fun f => rowXh f (i 1)) (funext fun j => refZ_apply x0 x1 x2 (i 0) j))).symm

theorem rs_eq : rsOfAll (truncf .bf16 x0 Cert.Kernel5Ideal.Gen.bitsLt_bf16_f32) (truncf .bf16 x1 Cert.Kernel5Ideal.Gen.bitsLt_bf16_f32) x2 = refRsOf (refZ x0 x1 x2) := by
  funext i
  exact ((refRs_apply _ i).trans (congrArg rowRs (funext fun j => refZ_apply x0 x1 x2 (i 0) j))).symm

end

/-! ## The final arrays over the arguments -/

theorem args_5 (c : Dev nD) : (dats m 0 c).arrAt 5 cfg0.N = refYOf (m ((c : Thread nD τ).loc main_arg3)) (m ((c : Thread nD τ).loc main_arg4))
    (refZ (m ((c : Thread nD τ).loc main_arg0)) (m ((c : Thread nD τ).loc main_arg1)) (m ((c : Thread nD τ).loc main_arg2))) := by
  rw [final_5, at_v0, at_v1, V_main_arg2, V_main_arg3, V_main_arg4]
  exact y_eq _ _ _ _ _

theorem args_6 (c : Dev nD) : (dats m 0 c).arrAt 6 cfg0.N = truncf .bf16 (refYOf (m ((c : Thread nD τ).loc main_arg3)) (m ((c : Thread nD τ).loc main_arg4))
    (refZ (m ((c : Thread nD τ).loc main_arg0)) (m ((c : Thread nD τ).loc main_arg1)) (m ((c : Thread nD τ).loc main_arg2)))) Cert.Kernel5Ideal.Gen.bitsLt_bf16_f32 := by
  rw [final_6, at_v0, at_v1, V_main_arg2, V_main_arg3, V_main_arg4]
  exact yb_eq _ _ _ _ _

theorem args_7 (c : Dev nD) : (dats m 0 c).arrAt 7 cfg0.N
    = refXhOf (refZ (m ((c : Thread nD τ).loc main_arg0)) (m ((c : Thread nD τ).loc main_arg1)) (m ((c : Thread nD τ).loc main_arg2))) := by
  rw [final_7, at_v0, at_v1, V_main_arg2]
  exact xh_eq _ _ _

theorem args_8 (c : Dev nD) : (dats m 0 c).arrAt 8 cfg0.N
    = refRsOf (refZ (m ((c : Thread nD τ).loc main_arg0)) (m ((c : Thread nD τ).loc main_arg1)) (m ((c : Thread nD τ).loc main_arg2))) := by
  rw [final_8, at_v0, at_v1, V_main_arg2]
  exact rs_eq _ _ _

end Cert.Kernel5Ideal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.DxValue
public import proofs.«01_k».proof.Proof.DxPrinted
public import proofs.«01_k».proof.Proof.Gen.Pre_finite
public import proofs.«01_k».proof.Proof.Run
public import proofs.«01_k».proof.Proof.Equal
public import Idealize.ShloMosaic.Adequacy
public import Idealize.ShloMosaic.Init
public import Idealize.ShloMosaic.Lib.Quiescent
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Pre_finite3
public import proofs.«01_k».proof.Proof.LruFramePrinted
public import proofs.«01_k».proof.Proof.LruEqual
public import proofs.«01_k».proof.Proof.GemmRun
public import proofs.«01_k».proof.Proof.DownValue
public import proofs.«01_k».proof.Proof.DownPrinted
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5.Loops
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Loops
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run

@[expose] public section

set_option maxRecDepth 16384

noncomputable section

namespace Cert.Proof

open Idealize.ShloMosaic Idealize.SL.Sem Cert.Kernel

/-- The reference's frame: its generated run read at the arguments; it declares no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

open Cert.KernelIdeal.Own Cert.Own in
/-- The value claim: the shared values are the kernel's last contents; the reference's terms meet them by the equations over
    real arguments. -/
theorem value : Cert.algebraic_KernelIdeal_ReferenceIdeal_pre_finite := by
  intro m g m' g' hpre hag
  refine ⟨fun c => Cert.KernelIdeal.Gen.W6 m g c (Proc.devRef .tc Cert.KernelIdeal.main_v10),
    fun c => Cert.KernelIdeal.Gen.W6 m g c (Proc.devRef .tc Cert.KernelIdeal.main_v11),
    fun c => Cert.KernelIdeal.Gen.W6 m g c (Proc.devRef .tc Cert.KernelIdeal.main_v8), ?_, ?_⟩
  · exact (θ_run Cert.KernelIdeal.defs _ _).mono (fun r h c =>
      ⟨h c _ (Cert.KernelIdeal.Gen.mem_uc Cert.KernelIdeal.main_v10 (by decide)),
       h c _ (Cert.KernelIdeal.Gen.mem_uc Cert.KernelIdeal.main_v11 (by decide)),
       h c _ (Cert.KernelIdeal.Gen.mem_uc Cert.KernelIdeal.main_v8 (by decide)),
       (h c _ (Cert.KernelIdeal.Gen.mem_uc Cert.KernelIdeal.main_arg0 (by decide))).trans (Cert.KernelIdeal.Gen.W6_main_arg0 m g c),
       (h c _ (Cert.KernelIdeal.Gen.mem_uc Cert.KernelIdeal.main_arg1 (by decide))).trans (Cert.KernelIdeal.Gen.W6_main_arg1 m g c),
       (h c _ (Cert.KernelIdeal.Gen.mem_uc Cert.KernelIdeal.main_arg2 (by decide))).trans (Cert.KernelIdeal.Gen.W6_main_arg2 m g c),
       (h c _ (Cert.KernelIdeal.Gen.mem_uc Cert.KernelIdeal.main_arg3 (by decide))).trans (Cert.KernelIdeal.Gen.W6_main_arg3 m g c),
       (h c _ (Cert.KernelIdeal.Gen.mem_uc Cert.KernelIdeal.main_arg4 (by decide))).trans (Cert.KernelIdeal.Gen.W6_main_arg4 m g c)⟩)
      (run_all m g)
  · refine (θ_run Cert.ReferenceIdeal.defs _ _).mono (fun r h c => ?_) (Cert.ReferenceIdeal.Value.run (F := Ideal) m' g')
    obtain ⟨r0, r1, r2, r3, r4⟩ := finite_reals _ _ _ _ _ (hpre c)
    obtain ⟨a0, a1, a2, a3, a4⟩ := hag c
    obtain ⟨e0, e1, e2, e3⟩ := h c
    rw [a0, a1, a2, a3, a4] at e0
    rw [a0, a1, a2, a4] at e1
    rw [a0, a1, a2, a3] at e2
    refine ⟨e0.trans ?_, e1.trans ?_, e2.trans ?_, e3⟩
    · dsimp only
      rw [end_v10, at1_v0, at1_v1, at1_v3, at1_v5, at1_v6]
      exact (gate_final _ _ _ _ _ r0 r1 r2 r3 r4).symm
    · dsimp only
      rw [end_v11, at1_v0, at1_v1, at1_v3, at1_v6]
      exact (up_final _ _ _ _ r0 r1 r2 r4).symm
    · dsimp only
      rw [end_v8, at1_v0, at1_v1, at1_v3, at1_v5]
      exact (down_eq _ _ _ _ r0 r1 r2 r3).symm

/-- The input gradient's reference: its generated run read at the arguments. -/
theorem frame2_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

open Cert.Kernel2Ideal.Own in
/-- The input gradient's value claim. -/
theorem value2 : Cert.algebraic_Kernel2Ideal_Reference2Ideal := by
  intro m g m' g' _ hag
  refine ⟨fun c => (dats m 0 c).arrAt 5 Cert.Kernel2Ideal.cfg0.N, ?_, ?_⟩
  · exact (θ_run Cert.Kernel2Ideal.defs _ _).mono (fun r h c => ⟨(h.1.1 c).1 5, h.2.1 c⟩)
      (θ_run_and (run_quiescent m g) (frame m g))
  · refine (θ_run Cert.Reference2Ideal.defs _ _).mono (fun r h c => ?_) (Cert.Reference2Ideal.Value.run (F := Ideal) m' g')
    obtain ⟨a0, a1, a2, a3, a4⟩ := hag c
    obtain ⟨e0, e1⟩ := h c
    rw [a0, a1, a2, a3, a4] at e0
    exact ⟨e0.trans (final_args m c).symm, e1⟩

open Cert.Reference3Ideal.Own in
/-- The recurrent branch's reference: its generated run read at the arguments. -/
theorem kept3 (m : (ℓ : Loc Cert.Reference3Ideal.nD Cert.Reference3Ideal.τ Cert.Reference3Ideal.sig) → Buf (Elt Ideal) ℓ)
    (μ : (ℓ : Loc Cert.Reference3Ideal.nD Cert.Reference3Ideal.τ Cert.Reference3Ideal.sig) → Buf (Elt Ideal) ℓ) (c : Dev Cert.Reference3Ideal.nD)
    (h : ∀ b : Ref Cert.Reference3Ideal.sig .tc, (Proc.devRef .tc b : DevRef Cert.Reference3Ideal.τ Cert.Reference3Ideal.sig).isScoped = false →
      μ ((c.tc : Thread Cert.Reference3Ideal.nD Cert.Reference3Ideal.τ).loc b)
        = StableHlo.finalContents Cert.Reference3Ideal.Value.condOps Cert.Reference3Ideal.Value.preI Cert.Reference3Ideal.Value.bodyI Cert.Reference3Ideal.Value.postI 8192 m c (Proc.devRef .tc b)) :
    μ ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
    ∧ μ ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
    ∧ μ ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
    ∧ μ ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
    ∧ μ ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
    ∧ μ ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
    ∧ μ ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
    ∧ μ ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
    ∧ μ ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
    ∧ μ ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9) :=
  ⟨(h _ rfl).trans (final_keep m c _ (by decide +kernel) (by decide +kernel) (by decide +kernel)),
    (h _ rfl).trans (final_keep m c _ (by decide +kernel) (by decide +kernel) (by decide +kernel)),
    (h _ rfl).trans (final_keep m c _ (by decide +kernel) (by decide +kernel) (by decide +kernel)),
    (h _ rfl).trans (final_keep m c _ (by decide +kernel) (by decide +kernel) (by decide +kernel)),
    (h _ rfl).trans (final_keep m c _ (by decide +kernel) (by decide +kernel) (by decide +kernel)),
    (h _ rfl).trans (final_keep m c _ (by decide +kernel) (by decide +kernel) (by decide +kernel)),
    (h _ rfl).trans (final_keep m c _ (by decide +kernel) (by decide +kernel) (by decide +kernel)),
    (h _ rfl).trans (final_keep m c _ (by decide +kernel) (by decide +kernel) (by decide +kernel)),
    (h _ rfl).trans (final_keep m c _ (by decide +kernel) (by decide +kernel) (by decide +kernel)),
    (h _ rfl).trans (final_keep m c _ (by decide +kernel) (by decide +kernel) (by decide +kernel))⟩

theorem frame3_reference : Cert.quiescent_Reference3Ideal := fun m ρ _ =>
  (θ_run Cert.Reference3Ideal.defs _ _).mono (fun r h => ⟨fun c => kept3 m r.2.mem c (h c),
      Idealize.ShloMosaic.sem_eq_zero_of_no_sems (by decide) r.2⟩)
    (Cert.Reference3Ideal.Value.run_fold (F := Ideal) m ρ)

open Cert.Kernel3Ideal.Own Cert.Reference3Ideal.Own Cert.Own Cert.Lru in
/-- The recurrent branch's value claim. -/
theorem value3 : Cert.algebraic_Kernel3Ideal_Reference3Ideal_pre_finite3 := by
  intro m g m' g' hpre hag
  refine ⟨fun c => (dats m 0 c).arrAt 13 Cert.Kernel3Ideal.cfg0.N, fun c => (dats m 0 c).arrAt 14 Cert.Kernel3Ideal.cfg0.N, fun c => (dats m 0 c).arrAt 15 Cert.Kernel3Ideal.cfg0.N, fun c => (dats m 0 c).arrAt 16 Cert.Kernel3Ideal.cfg0.N, fun c => (dats m 0 c).arrAt 17 Cert.Kernel3Ideal.cfg0.N, fun c => (dats m 0 c).arrAt 18 Cert.Kernel3Ideal.cfg0.N, fun c => (dats m 0 c).arrAt 19 Cert.Kernel3Ideal.cfg0.N, fun c => (dats m 0 c).arrAt 20 Cert.Kernel3Ideal.cfg0.N, fun c => (dats m 0 c).arrAt 21 Cert.Kernel3Ideal.cfg0.N, ?_, ?_⟩
  · exact (θ_run Cert.Kernel3Ideal.defs _ _).mono (fun r h c => ⟨(h.1.1 c).1 13, (h.1.1 c).1 14, (h.1.1 c).1 15, (h.1.1 c).1 16, (h.1.1 c).1 17, (h.1.1 c).1 18, (h.1.1 c).1 19, (h.1.1 c).1 20, (h.1.1 c).1 21, h.2.1 c⟩)
      (θ_run_and (run_main_quiescent m g) (frame m g))
  · refine (θ_run Cert.Reference3Ideal.defs _ _).mono (fun r h c => ?_) (Cert.Reference3Ideal.Value.run_fold (F := Ideal) m' g')
    obtain ⟨r0, r1, r2, r3, r4, r5, r6, r7, r8, r9⟩ := finite_reals3 _ _ _ _ _ _ _ _ _ _ (hpre c)
    obtain ⟨a0, a1, a2, a3, a4, a5, a6, a7, a8, a9⟩ := hag c
    have hM := made _ _ _ _ _ _ _ _ _ _ r0 r1 r2 r3 r4 r5 r6 r7 r8 r9
    generalize laneOf _ _ _ _ _ _ _ _ _ _ = P at hM
    have hA : Args P (StableHlo.launchContents m' c) := args_of (by
      rw [← a0, ← a1, ← a2, ← a3, ← a4, ← a5, ← a6, ← a7, ← a8, ← a9] at hM
      exact hM)
    exact ⟨(h c _ rfl).trans (equal0 m' m c hA hM), (h c _ rfl).trans (equal1 m' m c hA hM), (h c _ rfl).trans (equal2 m' m c hA hM), (h c _ rfl).trans (equal3 m' m c hA hM), (h c _ rfl).trans (equal4 m' m c hA hM), (h c _ rfl).trans (equal5 m' m c hA hM), (h c _ rfl).trans (equal6 m' m c hA hM), (h c _ rfl).trans (equal7 m' m c hA hM), (h c _ rfl).trans (equal8 m' m c hA hM), kept3 m' r.2.mem c (h c)⟩

/-- The plain projections' reference: its generated run read at the arguments. -/
theorem frame4_reference : Cert.quiescent_Reference4Ideal := fun m ρ _ =>
  (θ_run Cert.Reference4Ideal.defs _ _).mono (fun r h => ⟨fun c => (h c).2.2.2.2.2.2,
      Idealize.ShloMosaic.sem_eq_zero_of_no_sems (by decide) r.2⟩)
    (Cert.Reference4Ideal.Value.run (F := Ideal) m ρ)

open Cert.Kernel4Ideal.Own Cert.Own in
/-- The plain projections' value claim. -/
theorem value4 : Cert.algebraic_Kernel4Ideal_Reference4Ideal := by
  intro m g m' g' _ hag
  refine ⟨fun c => Cert.Kernel4Ideal.Gen.W7 m g c (Proc.devRef .tc Cert.Kernel4Ideal.main_v10),
    fun c => Cert.Kernel4Ideal.Gen.W7 m g c (Proc.devRef .tc Cert.Kernel4Ideal.main_v15),
    fun c => Cert.Kernel4Ideal.Gen.W7 m g c (Proc.devRef .tc Cert.Kernel4Ideal.main_v14),
    fun c => Cert.Kernel4Ideal.Gen.W7 m g c (Proc.devRef .tc Cert.Kernel4Ideal.main_v13),
    fun c => Cert.Kernel4Ideal.Gen.W7 m g c (Proc.devRef .tc Cert.Kernel4Ideal.main_v11),
    fun c => Cert.Kernel4Ideal.Gen.W7 m g c (Proc.devRef .tc Cert.Kernel4Ideal.main_v12), ?_, ?_⟩
  · exact (θ_run Cert.Kernel4Ideal.defs _ _).mono (fun r h c =>
      ⟨h c _ (Cert.Kernel4Ideal.Gen.mem_uc Cert.Kernel4Ideal.main_v10 (by decide)),
       h c _ (Cert.Kernel4Ideal.Gen.mem_uc Cert.Kernel4Ideal.main_v15 (by decide)),
       h c _ (Cert.Kernel4Ideal.Gen.mem_uc Cert.Kernel4Ideal.main_v14 (by decide)),
       h c _ (Cert.Kernel4Ideal.Gen.mem_uc Cert.Kernel4Ideal.main_v13 (by decide)),
       h c _ (Cert.Kernel4Ideal.Gen.mem_uc Cert.Kernel4Ideal.main_v11 (by decide)),
       h c _ (Cert.Kernel4Ideal.Gen.mem_uc Cert.Kernel4Ideal.main_v12 (by decide)),
       (h c _ (Cert.Kernel4Ideal.Gen.mem_uc Cert.Kernel4Ideal.main_arg0 (by decide))).trans (Cert.Kernel4Ideal.Gen.W7_main_arg0 m g c),
       (h c _ (Cert.Kernel4Ideal.Gen.mem_uc Cert.Kernel4Ideal.main_arg1 (by decide))).trans (Cert.Kernel4Ideal.Gen.W7_main_arg1 m g c),
       (h c _ (Cert.Kernel4Ideal.Gen.mem_uc Cert.Kernel4Ideal.main_arg2 (by decide))).trans (Cert.Kernel4Ideal.Gen.W7_main_arg2 m g c),
       (h c _ (Cert.Kernel4Ideal.Gen.mem_uc Cert.Kernel4Ideal.main_arg3 (by decide))).trans (Cert.Kernel4Ideal.Gen.W7_main_arg3 m g c),
       (h c _ (Cert.Kernel4Ideal.Gen.mem_uc Cert.Kernel4Ideal.main_arg4 (by decide))).trans (Cert.Kernel4Ideal.Gen.W7_main_arg4 m g c),
       (h c _ (Cert.Kernel4Ideal.Gen.mem_uc Cert.Kernel4Ideal.main_arg5 (by decide))).trans (Cert.Kernel4Ideal.Gen.W7_main_arg5 m g c),
       (h c _ (Cert.Kernel4Ideal.Gen.mem_uc Cert.Kernel4Ideal.main_arg6 (by decide))).trans (Cert.Kernel4Ideal.Gen.W7_main_arg6 m g c),
       (h c _ (Cert.Kernel4Ideal.Gen.mem_uc Cert.Kernel4Ideal.main_arg7 (by decide))).trans (Cert.Kernel4Ideal.Gen.W7_main_arg7 m g c),
       (h c _ (Cert.Kernel4Ideal.Gen.mem_uc Cert.Kernel4Ideal.main_arg8 (by decide))).trans (Cert.Kernel4Ideal.Gen.W7_main_arg8 m g c),
       (h c _ (Cert.Kernel4Ideal.Gen.mem_uc Cert.Kernel4Ideal.main_arg9 (by decide))).trans (Cert.Kernel4Ideal.Gen.W7_main_arg9 m g c)⟩)
      (run_all m g)
  · refine (θ_run Cert.Reference4Ideal.defs _ _).mono (fun r h c => ?_) (Cert.Reference4Ideal.Value.run (F := Ideal) m' g')
    obtain ⟨a0, a1, a2, a3, a4, a5, a6, a7, a8, a9⟩ := hag c
    obtain ⟨e0, e1, e2, e3, e4, e5, e6⟩ := h c
    rw [a0, a1] at e0
    rw [a0, a2] at e1
    rw [a4, a5] at e2
    rw [a3, a5] at e3
    rw [a6, a7] at e4
    rw [a8, a9] at e5
    exact ⟨e0.trans ((proj_eq _ _).trans (end_v10 m g c).symm), e1.trans ((wide_eq _ _).trans (end_v15 m g c).symm),
      e2.trans ((dcat_eq _ _).trans (end_v14 m g c).symm), e3.trans ((square_eq _ _).trans (end_v13 m g c).symm),
      e4.trans ((square_eq _ _).trans (end_v11 m g c).symm), e5.trans ((narrow_eq _ _).trans (end_v12 m g c).symm), e6⟩

/-- The down projection's reference: its generated run read at the arguments. -/
theorem frame5_reference : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

open Cert.Kernel5Ideal.Own in
/-- The down projection's value claim. -/
theorem value5 : Cert.algebraic_Kernel5Ideal_Reference5Ideal := by
  intro m g m' g' _ hag
  refine ⟨fun c => (dats m 0 c).arrAt 5 Cert.Kernel5Ideal.cfg0.N, fun c => (dats m 0 c).arrAt 6 Cert.Kernel5Ideal.cfg0.N,
    fun c => (dats m 0 c).arrAt 7 Cert.Kernel5Ideal.cfg0.N, fun c => (dats m 0 c).arrAt 8 Cert.Kernel5Ideal.cfg0.N, ?_, ?_⟩
  · exact (θ_run Cert.Kernel5Ideal.defs _ _).mono (fun r h c => ⟨(h.1.1 c).1 5, (h.1.1 c).1 6, (h.1.1 c).1 7, (h.1.1 c).1 8, h.2.1 c⟩)
      (θ_run_and (run_quiescent m g) (frame m g))
  · refine (θ_run Cert.Reference5Ideal.defs _ _).mono (fun r h c => ?_) (Cert.Reference5Ideal.Value.run (F := Ideal) m' g')
    obtain ⟨a0, a1, a2, a3, a4⟩ := hag c
    obtain ⟨e0, e1, e2, e3, e4⟩ := h c
    rw [a0, a1, a2, a3, a4] at e0 e1
    rw [a0, a1, a2] at e2 e3
    exact ⟨e0.trans (args_5 m c).symm, e1.trans (args_6 m c).symm, e2.trans (args_7 m c).symm, e3.trans (args_8 m c).symm, e4⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite3.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  fun m ρ _ => Cert.Kernel2.Own.frame m ρ,
  fun m ρ _ => Cert.Kernel2Ideal.Own.frame m ρ,
  fun m ρ _ => frame2_reference m ρ trivial,
  fun m ρ _ => Cert.Kernel3.Own.frame m ρ,
  fun m ρ _ => Cert.Kernel3Ideal.Own.frame m ρ,
  fun m ρ _ => Cert.Kernel3Ideal.Own.frame m ρ,
  fun m ρ _ => frame3_reference m ρ trivial,
  fun m ρ _ => frame3_reference m ρ trivial,
  fun m ρ _ => Cert.Kernel4.Gen.frame m ρ,
  fun m ρ _ => Cert.Kernel4Ideal.Gen.frame m ρ,
  fun m ρ _ => frame4_reference m ρ trivial,
  fun m ρ _ => Cert.Kernel5.Own.frame m ρ,
  fun m ρ _ => Cert.Kernel5Ideal.Own.frame m ρ,
  fun m ρ _ => frame5_reference m ρ trivial,
  trivial,
  value,
  trivial,
  value2,
  ⟨IdealRules.named_const.statement Cert.Kernel3Ideal.κ "gelu_c1" .f32 0x3D372713#32 ((8943 / 200000 : ℝ) : EReal) rfl,
    IdealRules.named_const.statement Cert.Kernel3Ideal.κ "gelu_3c1" .f32 0x3E095D4F#32 ((26829 / 200000 : ℝ) : EReal) rfl⟩,
  value3,
  trivial,
  value4,
  trivial,
  value5⟩

end Cert.Proof

end
